-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite2 [hPre_finite2 : Cert.Pre_finite2.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite2.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3))).1 = (fun _ => 1#1)
    ∧ (Cert.Pre_finite2.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3))).2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite2 [hPre_finite2 : Cert.Pre_finite2.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite2.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3))).1 = (fun _ => 1#1)
    ∧ (Cert.Pre_finite2.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3))).2 = (fun _ => 1#1)

def Pre_AttnInDw (m : (ℓ : Loc Cert.AttnInDw.nD Cert.AttnInDw.τ Cert.AttnInDw.sig) → Buf (Elt Bits) ℓ) : Prop :=
  True

def Pre_AttnInDwIdeal (m : (ℓ : Loc Cert.AttnInDwIdeal.nD Cert.AttnInDwIdeal.τ Cert.AttnInDwIdeal.sig) → Buf (Elt Ideal) ℓ) : Prop :=
  True

def Pre_AttnInDwRefIdeal (m : (ℓ : Loc Cert.AttnInDwRefIdeal.nD Cert.AttnInDwRefIdeal.τ Cert.AttnInDwRefIdeal.sig) → Buf (Elt Ideal) ℓ) : Prop :=
  True

def Pre_AttnInDx (m : (ℓ : Loc Cert.AttnInDx.nD Cert.AttnInDx.τ Cert.AttnInDx.sig) → Buf (Elt Bits) ℓ) : Prop :=
  True

def Pre_AttnInDxIdeal (m : (ℓ : Loc Cert.AttnInDxIdeal.nD Cert.AttnInDxIdeal.τ Cert.AttnInDxIdeal.sig) → Buf (Elt Ideal) ℓ) : Prop :=
  True

def Pre_AttnInDxRefIdeal (m : (ℓ : Loc Cert.AttnInDxRefIdeal.nD Cert.AttnInDxRefIdeal.τ Cert.AttnInDxRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwRefIdeal (m : (ℓ : Loc Cert.SsmInDwRefIdeal.nD Cert.SsmInDwRefIdeal.τ Cert.SsmInDwRefIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxRefIdeal (m : (ℓ : Loc Cert.SsmInDxRefIdeal.nD Cert.SsmInDxRefIdeal.τ Cert.SsmInDxRefIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwRefIdeal (m : (ℓ : Loc Cert.SsmOutDwRefIdeal.nD Cert.SsmOutDwRefIdeal.τ Cert.SsmOutDwRefIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxRefIdeal (m : (ℓ : Loc Cert.SsmOutDxRefIdeal.nD Cert.SsmOutDxRefIdeal.τ Cert.SsmOutDxRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmGlu (m : (ℓ : Loc Cert.SsmGlu.nD Cert.SsmGlu.τ Cert.SsmGlu.sig) → Buf (Elt Bits) ℓ) : Prop :=
  True

def Pre_SsmGluIdeal (m : (ℓ : Loc Cert.SsmGluIdeal.nD Cert.SsmGluIdeal.τ Cert.SsmGluIdeal.sig) → Buf (Elt Ideal) ℓ) : Prop :=
  True

def Pre_SsmGluRefIdeal (m : (ℓ : Loc Cert.SsmGluRefIdeal.nD Cert.SsmGluRefIdeal.τ Cert.SsmGluRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_ModDx (m : (ℓ : Loc Cert.ModDx.nD Cert.ModDx.τ Cert.ModDx.sig) → Buf (Elt Bits) ℓ) : Prop :=
  True

def Pre_ModDxIdeal (m : (ℓ : Loc Cert.ModDxIdeal.nD Cert.ModDxIdeal.τ Cert.ModDxIdeal.sig) → Buf (Elt Ideal) ℓ) : Prop :=
  True

def Pre_ModDxRefIdeal (m : (ℓ : Loc Cert.ModDxRefIdeal.nD Cert.ModDxRefIdeal.τ Cert.ModDxRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_CondSilu (m : (ℓ : Loc Cert.CondSilu.nD Cert.CondSilu.τ Cert.CondSilu.sig) → Buf (Elt Bits) ℓ) : Prop :=
  True

def Pre_CondSiluIdeal (m : (ℓ : Loc Cert.CondSiluIdeal.nD Cert.CondSiluIdeal.τ Cert.CondSiluIdeal.sig) → Buf (Elt Ideal) ℓ) : Prop :=
  True

def Pre_CondSiluRefIdeal (m : (ℓ : Loc Cert.CondSiluRefIdeal.nD Cert.CondSiluRefIdeal.τ Cert.CondSiluRefIdeal.sig) → Buf (Elt Ideal) ℓ) : Prop :=
  True

def Pre_AdamSsmIn (m : (ℓ : Loc Cert.AdamSsmIn.nD Cert.AdamSsmIn.τ Cert.AdamSsmIn.sig) → Buf (Elt Bits) ℓ) : Prop :=
  True

def Pre_AdamSsmInIdeal (m : (ℓ : Loc Cert.AdamSsmInIdeal.nD Cert.AdamSsmInIdeal.τ Cert.AdamSsmInIdeal.sig) → Buf (Elt Ideal) ℓ) : Prop :=
  True

def Pre_AdamSsmInRefIdeal (m : (ℓ : Loc Cert.AdamSsmInRefIdeal.nD Cert.AdamSsmInRefIdeal.τ Cert.AdamSsmInRefIdeal.sig) → Buf (Elt Ideal) ℓ) : Prop :=
  True

def Pre_AdamAttnIn (m : (ℓ : Loc Cert.AdamAttnIn.nD Cert.AdamAttnIn.τ Cert.AdamAttnIn.sig) → Buf (Elt Bits) ℓ) : Prop :=
  True

def Pre_AdamAttnInIdeal (m : (ℓ : Loc Cert.AdamAttnInIdeal.nD Cert.AdamAttnInIdeal.τ Cert.AdamAttnInIdeal.sig) → Buf (Elt Ideal) ℓ) : Prop :=
  True

def Pre_AdamAttnInRefIdeal (m : (ℓ : Loc Cert.AdamAttnInRefIdeal.nD Cert.AdamAttnInRefIdeal.τ Cert.AdamAttnInRefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardIdeal_pre_finite2 [hForwardIdeal : Cert.ForwardIdeal.Facts] [hPre_finite2 : Cert.Pre_finite2.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite2 m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3))
      ∧ r.2.sem = fun _ => 0)

def quiescent_ForwardReferenceIdeal_pre_finite2 [hForwardReferenceIdeal : Cert.ForwardReferenceIdeal.Facts] [hPre_finite2 : Cert.Pre_finite2.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite2 m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3))
      ∧ r.2.sem = fun _ => 0)

def quiescent_AttnInDw [hAttnInDw : Cert.AttnInDw.Facts] : Prop :=
  ∀ (m : (ℓ : Loc Cert.AttnInDw.nD Cert.AttnInDw.τ Cert.AttnInDw.sig) → Buf (Elt Bits) ℓ) (g : Dev Cert.AttnInDw.nD → PrngReg), Pre_AttnInDw m →
    θ_run (Cert.AttnInDw.defs (F := Bits)) (onTc (τ := Cert.AttnInDw.τ) (Cert.AttnInDw.main (F := Bits))) ⟨m, fun _ => 0, g⟩ (fun r => (∀ c : Dev Cert.AttnInDw.nD,
      r.2.mem ((c.tc : Thread Cert.AttnInDw.nD Cert.AttnInDw.τ).loc Cert.AttnInDw.main_arg0) = m ((c.tc : Thread Cert.AttnInDw.nD Cert.AttnInDw.τ).loc Cert.AttnInDw.main_arg0)
      ∧ r.2.mem ((c.tc : Thread Cert.AttnInDw.nD Cert.AttnInDw.τ).loc Cert.AttnInDw.main_arg1) = m ((c.tc : Thread Cert.AttnInDw.nD Cert.AttnInDw.τ).loc Cert.AttnInDw.main_arg1))
      ∧ r.2.sem = fun _ => 0)

def quiescent_AttnInDwIdeal [hAttnInDwIdeal : Cert.AttnInDwIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg), Pre_AttnInDwIdeal m →
    θ_run (Cert.AttnInDwIdeal.defs (F := Ideal)) (onTc (τ := Cert.AttnInDwIdeal.τ) (Cert.AttnInDwIdeal.main (F := Ideal))) ⟨m, fun _ => 0, g⟩ (fun r => (∀ c : Dev Cert.AttnInDwIdeal.nD,
      r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
      ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ r.2.sem = fun _ => 0)

def quiescent_AttnInDwRefIdeal [hAttnInDwRefIdeal : Cert.AttnInDwRefIdeal.Facts] : Prop :=
  ∀ (m : (ℓ : Loc Cert.AttnInDwRefIdeal.nD Cert.AttnInDwRefIdeal.τ Cert.AttnInDwRefIdeal.sig) → Buf (Elt Ideal) ℓ) (g : Dev Cert.AttnInDwRefIdeal.nD → PrngReg), Pre_AttnInDwRefIdeal m →
    θ_run (Cert.AttnInDwRefIdeal.defs (F := Ideal)) (onTc (τ := Cert.AttnInDwRefIdeal.τ) (Cert.AttnInDwRefIdeal.main (F := Ideal))) ⟨m, fun _ => 0, g⟩ (fun r => (∀ c : Dev Cert.AttnInDwRefIdeal.nD,
      r.2.mem ((c.tc : Thread Cert.AttnInDwRefIdeal.nD Cert.AttnInDwRefIdeal.τ).loc Cert.AttnInDwRefIdeal.main_arg0) = m ((c.tc : Thread Cert.AttnInDwRefIdeal.nD Cert.AttnInDwRefIdeal.τ).loc Cert.AttnInDwRefIdeal.main_arg0)
      ∧ r.2.mem ((c.tc : Thread Cert.AttnInDwRefIdeal.nD Cert.AttnInDwRefIdeal.τ).loc Cert.AttnInDwRefIdeal.main_arg1) = m ((c.tc : Thread Cert.AttnInDwRefIdeal.nD Cert.AttnInDwRefIdeal.τ).loc Cert.AttnInDwRefIdeal.main_arg1))
      ∧ r.2.sem = fun _ => 0)

def quiescent_AttnInDx [hAttnInDx : Cert.AttnInDx.Facts] : Prop :=
  ∀ (m : (ℓ : Loc Cert.AttnInDx.nD Cert.AttnInDx.τ Cert.AttnInDx.sig) → Buf (Elt Bits) ℓ) (g : Dev Cert.AttnInDx.nD → PrngReg), Pre_AttnInDx m →
    θ_run (Cert.AttnInDx.defs (F := Bits)) (onTc (τ := Cert.AttnInDx.τ) (Cert.AttnInDx.main (F := Bits))) ⟨m, fun _ => 0, g⟩ (fun r => (∀ c : Dev Cert.AttnInDx.nD,
      r.2.mem ((c.tc : Thread Cert.AttnInDx.nD Cert.AttnInDx.τ).loc Cert.AttnInDx.main_arg0) = m ((c.tc : Thread Cert.AttnInDx.nD Cert.AttnInDx.τ).loc Cert.AttnInDx.main_arg0)
      ∧ r.2.mem ((c.tc : Thread Cert.AttnInDx.nD Cert.AttnInDx.τ).loc Cert.AttnInDx.main_arg1) = m ((c.tc : Thread Cert.AttnInDx.nD Cert.AttnInDx.τ).loc Cert.AttnInDx.main_arg1))
      ∧ r.2.sem = fun _ => 0)

def quiescent_AttnInDxIdeal [hAttnInDxIdeal : Cert.AttnInDxIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg), Pre_AttnInDxIdeal m →
    θ_run (Cert.AttnInDxIdeal.defs (F := Ideal)) (onTc (τ := Cert.AttnInDxIdeal.τ) (Cert.AttnInDxIdeal.main (F := Ideal))) ⟨m, fun _ => 0, g⟩ (fun r => (∀ c : Dev Cert.AttnInDxIdeal.nD,
      r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
      ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1))
      ∧ r.2.sem = fun _ => 0)

def quiescent_AttnInDxRefIdeal [hAttnInDxRefIdeal : Cert.AttnInDxRefIdeal.Facts] : Prop :=
  ∀ (m : (ℓ : Loc Cert.AttnInDxRefIdeal.nD Cert.AttnInDxRefIdeal.τ Cert.AttnInDxRefIdeal.sig) → Buf (Elt Ideal) ℓ) (g : Dev Cert.AttnInDxRefIdeal.nD → PrngReg), Pre_AttnInDxRefIdeal m →
    θ_run (Cert.AttnInDxRefIdeal.defs (F := Ideal)) (onTc (τ := Cert.AttnInDxRefIdeal.τ) (Cert.AttnInDxRefIdeal.main (F := Ideal))) ⟨m, fun _ => 0, g⟩ (fun r => (∀ c : Dev Cert.AttnInDxRefIdeal.nD,
      r.2.mem ((c.tc : Thread Cert.AttnInDxRefIdeal.nD Cert.AttnInDxRefIdeal.τ).loc Cert.AttnInDxRefIdeal.main_arg0) = m ((c.tc : Thread Cert.AttnInDxRefIdeal.nD Cert.AttnInDxRefIdeal.τ).loc Cert.AttnInDxRefIdeal.main_arg0)
      ∧ r.2.mem ((c.tc : Thread Cert.AttnInDxRefIdeal.nD Cert.AttnInDxRefIdeal.τ).loc Cert.AttnInDxRefIdeal.main_arg1) = m ((c.tc : Thread Cert.AttnInDxRefIdeal.nD Cert.AttnInDxRefIdeal.τ).loc Cert.AttnInDxRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwRefIdeal [hSsmInDwRefIdeal : Cert.SsmInDwRefIdeal.Facts] : Prop :=
  ∀ (m : (ℓ : Loc Cert.SsmInDwRefIdeal.nD Cert.SsmInDwRefIdeal.τ Cert.SsmInDwRefIdeal.sig) → Buf (Elt Ideal) ℓ) (g : Dev Cert.SsmInDwRefIdeal.nD → PrngReg), Pre_SsmInDwRefIdeal m →
    θ_run (Cert.SsmInDwRefIdeal.defs (F := Ideal)) (onTc (τ := Cert.SsmInDwRefIdeal.τ) (Cert.SsmInDwRefIdeal.main (F := Ideal))) ⟨m, fun _ => 0, g⟩ (fun r => (∀ c : Dev Cert.SsmInDwRefIdeal.nD,
      r.2.mem ((c.tc : Thread Cert.SsmInDwRefIdeal.nD Cert.SsmInDwRefIdeal.τ).loc Cert.SsmInDwRefIdeal.main_arg0) = m ((c.tc : Thread Cert.SsmInDwRefIdeal.nD Cert.SsmInDwRefIdeal.τ).loc Cert.SsmInDwRefIdeal.main_arg0)
      ∧ r.2.mem ((c.tc : Thread Cert.SsmInDwRefIdeal.nD Cert.SsmInDwRefIdeal.τ).loc Cert.SsmInDwRefIdeal.main_arg1) = m ((c.tc : Thread Cert.SsmInDwRefIdeal.nD Cert.SsmInDwRefIdeal.τ).loc Cert.SsmInDwRefIdeal.main_arg1))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ r.2.sem = fun _ => 0)

def quiescent_SsmInDxRefIdeal [hSsmInDxRefIdeal : Cert.SsmInDxRefIdeal.Facts] : Prop :=
  ∀ (m : (ℓ : Loc Cert.SsmInDxRefIdeal.nD Cert.SsmInDxRefIdeal.τ Cert.SsmInDxRefIdeal.sig) → Buf (Elt Ideal) ℓ) (g : Dev Cert.SsmInDxRefIdeal.nD → PrngReg), Pre_SsmInDxRefIdeal m →
    θ_run (Cert.SsmInDxRefIdeal.defs (F := Ideal)) (onTc (τ := Cert.SsmInDxRefIdeal.τ) (Cert.SsmInDxRefIdeal.main (F := Ideal))) ⟨m, fun _ => 0, g⟩ (fun r => (∀ c : Dev Cert.SsmInDxRefIdeal.nD,
      r.2.mem ((c.tc : Thread Cert.SsmInDxRefIdeal.nD Cert.SsmInDxRefIdeal.τ).loc Cert.SsmInDxRefIdeal.main_arg0) = m ((c.tc : Thread Cert.SsmInDxRefIdeal.nD Cert.SsmInDxRefIdeal.τ).loc Cert.SsmInDxRefIdeal.main_arg0)
      ∧ r.2.mem ((c.tc : Thread Cert.SsmInDxRefIdeal.nD Cert.SsmInDxRefIdeal.τ).loc Cert.SsmInDxRefIdeal.main_arg1) = m ((c.tc : Thread Cert.SsmInDxRefIdeal.nD Cert.SsmInDxRefIdeal.τ).loc Cert.SsmInDxRefIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwRefIdeal [hSsmOutDwRefIdeal : Cert.SsmOutDwRefIdeal.Facts] : Prop :=
  ∀ (m : (ℓ : Loc Cert.SsmOutDwRefIdeal.nD Cert.SsmOutDwRefIdeal.τ Cert.SsmOutDwRefIdeal.sig) → Buf (Elt Ideal) ℓ) (g : Dev Cert.SsmOutDwRefIdeal.nD → PrngReg), Pre_SsmOutDwRefIdeal m →
    θ_run (Cert.SsmOutDwRefIdeal.defs (F := Ideal)) (onTc (τ := Cert.SsmOutDwRefIdeal.τ) (Cert.SsmOutDwRefIdeal.main (F := Ideal))) ⟨m, fun _ => 0, g⟩ (fun r => (∀ c : Dev Cert.SsmOutDwRefIdeal.nD,
      r.2.mem ((c.tc : Thread Cert.SsmOutDwRefIdeal.nD Cert.SsmOutDwRefIdeal.τ).loc Cert.SsmOutDwRefIdeal.main_arg0) = m ((c.tc : Thread Cert.SsmOutDwRefIdeal.nD Cert.SsmOutDwRefIdeal.τ).loc Cert.SsmOutDwRefIdeal.main_arg0)
      ∧ r.2.mem ((c.tc : Thread Cert.SsmOutDwRefIdeal.nD Cert.SsmOutDwRefIdeal.τ).loc Cert.SsmOutDwRefIdeal.main_arg1) = m ((c.tc : Thread Cert.SsmOutDwRefIdeal.nD Cert.SsmOutDwRefIdeal.τ).loc Cert.SsmOutDwRefIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxRefIdeal [hSsmOutDxRefIdeal : Cert.SsmOutDxRefIdeal.Facts] : Prop :=
  ∀ (m : (ℓ : Loc Cert.SsmOutDxRefIdeal.nD Cert.SsmOutDxRefIdeal.τ Cert.SsmOutDxRefIdeal.sig) → Buf (Elt Ideal) ℓ) (g : Dev Cert.SsmOutDxRefIdeal.nD → PrngReg), Pre_SsmOutDxRefIdeal m →
    θ_run (Cert.SsmOutDxRefIdeal.defs (F := Ideal)) (onTc (τ := Cert.SsmOutDxRefIdeal.τ) (Cert.SsmOutDxRefIdeal.main (F := Ideal))) ⟨m, fun _ => 0, g⟩ (fun r => (∀ c : Dev Cert.SsmOutDxRefIdeal.nD,
      r.2.mem ((c.tc : Thread Cert.SsmOutDxRefIdeal.nD Cert.SsmOutDxRefIdeal.τ).loc Cert.SsmOutDxRefIdeal.main_arg0) = m ((c.tc : Thread Cert.SsmOutDxRefIdeal.nD Cert.SsmOutDxRefIdeal.τ).loc Cert.SsmOutDxRefIdeal.main_arg0)
      ∧ r.2.mem ((c.tc : Thread Cert.SsmOutDxRefIdeal.nD Cert.SsmOutDxRefIdeal.τ).loc Cert.SsmOutDxRefIdeal.main_arg1) = m ((c.tc : Thread Cert.SsmOutDxRefIdeal.nD Cert.SsmOutDxRefIdeal.τ).loc Cert.SsmOutDxRefIdeal.main_arg1))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_SsmGlu [hSsmGlu : Cert.SsmGlu.Facts] : Prop :=
  ∀ (m : (ℓ : Loc Cert.SsmGlu.nD Cert.SsmGlu.τ Cert.SsmGlu.sig) → Buf (Elt Bits) ℓ) (g : Dev Cert.SsmGlu.nD → PrngReg), Pre_SsmGlu m →
    θ_run (Cert.SsmGlu.defs (F := Bits)) (onTc (τ := Cert.SsmGlu.τ) (Cert.SsmGlu.main (F := Bits))) ⟨m, fun _ => 0, g⟩ (fun r => (∀ c : Dev Cert.SsmGlu.nD,
      r.2.mem ((c.tc : Thread Cert.SsmGlu.nD Cert.SsmGlu.τ).loc Cert.SsmGlu.main_arg0) = m ((c.tc : Thread Cert.SsmGlu.nD Cert.SsmGlu.τ).loc Cert.SsmGlu.main_arg0)
      ∧ r.2.mem ((c.tc : Thread Cert.SsmGlu.nD Cert.SsmGlu.τ).loc Cert.SsmGlu.main_arg1) = m ((c.tc : Thread Cert.SsmGlu.nD Cert.SsmGlu.τ).loc Cert.SsmGlu.main_arg1))
      ∧ r.2.sem = fun _ => 0)

def quiescent_SsmGluIdeal [hSsmGluIdeal : Cert.SsmGluIdeal.Facts] : Prop :=
  ∀ (m : (ℓ : Loc Cert.SsmGluIdeal.nD Cert.SsmGluIdeal.τ Cert.SsmGluIdeal.sig) → Buf (Elt Ideal) ℓ) (g : Dev Cert.SsmGluIdeal.nD → PrngReg), Pre_SsmGluIdeal m →
    θ_run (Cert.SsmGluIdeal.defs (F := Ideal)) (onTc (τ := Cert.SsmGluIdeal.τ) (Cert.SsmGluIdeal.main (F := Ideal))) ⟨m, fun _ => 0, g⟩ (fun r => (∀ c : Dev Cert.SsmGluIdeal.nD,
      r.2.mem ((c.tc : Thread Cert.SsmGluIdeal.nD Cert.SsmGluIdeal.τ).loc Cert.SsmGluIdeal.main_arg0) = m ((c.tc : Thread Cert.SsmGluIdeal.nD Cert.SsmGluIdeal.τ).loc Cert.SsmGluIdeal.main_arg0)
      ∧ r.2.mem ((c.tc : Thread Cert.SsmGluIdeal.nD Cert.SsmGluIdeal.τ).loc Cert.SsmGluIdeal.main_arg1) = m ((c.tc : Thread Cert.SsmGluIdeal.nD Cert.SsmGluIdeal.τ).loc Cert.SsmGluIdeal.main_arg1))
      ∧ r.2.sem = fun _ => 0)

def quiescent_SsmGluRefIdeal [hSsmGluRefIdeal : Cert.SsmGluRefIdeal.Facts] : Prop :=
  ∀ (m : (ℓ : Loc Cert.SsmGluRefIdeal.nD Cert.SsmGluRefIdeal.τ Cert.SsmGluRefIdeal.sig) → Buf (Elt Ideal) ℓ) (g : Dev Cert.SsmGluRefIdeal.nD → PrngReg), Pre_SsmGluRefIdeal m →
    θ_run (Cert.SsmGluRefIdeal.defs (F := Ideal)) (onTc (τ := Cert.SsmGluRefIdeal.τ) (Cert.SsmGluRefIdeal.main (F := Ideal))) ⟨m, fun _ => 0, g⟩ (fun r => (∀ c : Dev Cert.SsmGluRefIdeal.nD,
      r.2.mem ((c.tc : Thread Cert.SsmGluRefIdeal.nD Cert.SsmGluRefIdeal.τ).loc Cert.SsmGluRefIdeal.main_arg0) = m ((c.tc : Thread Cert.SsmGluRefIdeal.nD Cert.SsmGluRefIdeal.τ).loc Cert.SsmGluRefIdeal.main_arg0)
      ∧ r.2.mem ((c.tc : Thread Cert.SsmGluRefIdeal.nD Cert.SsmGluRefIdeal.τ).loc Cert.SsmGluRefIdeal.main_arg1) = m ((c.tc : Thread Cert.SsmGluRefIdeal.nD Cert.SsmGluRefIdeal.τ).loc Cert.SsmGluRefIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1))
      ∧ r.2.sem = fun _ => 0)

def quiescent_ModDx [hModDx : Cert.ModDx.Facts] : Prop :=
  ∀ (m : (ℓ : Loc Cert.ModDx.nD Cert.ModDx.τ Cert.ModDx.sig) → Buf (Elt Bits) ℓ) (g : Dev Cert.ModDx.nD → PrngReg), Pre_ModDx m →
    θ_run (Cert.ModDx.defs (F := Bits)) (onTc (τ := Cert.ModDx.τ) (Cert.ModDx.main (F := Bits))) ⟨m, fun _ => 0, g⟩ (fun r => (∀ c : Dev Cert.ModDx.nD,
      r.2.mem ((c.tc : Thread Cert.ModDx.nD Cert.ModDx.τ).loc Cert.ModDx.main_arg0) = m ((c.tc : Thread Cert.ModDx.nD Cert.ModDx.τ).loc Cert.ModDx.main_arg0)
      ∧ r.2.mem ((c.tc : Thread Cert.ModDx.nD Cert.ModDx.τ).loc Cert.ModDx.main_arg1) = m ((c.tc : Thread Cert.ModDx.nD Cert.ModDx.τ).loc Cert.ModDx.main_arg1))
      ∧ r.2.sem = fun _ => 0)

def quiescent_ModDxIdeal [hModDxIdeal : Cert.ModDxIdeal.Facts] : Prop :=
  ∀ (m : (ℓ : Loc Cert.ModDxIdeal.nD Cert.ModDxIdeal.τ Cert.ModDxIdeal.sig) → Buf (Elt Ideal) ℓ) (g : Dev Cert.ModDxIdeal.nD → PrngReg), Pre_ModDxIdeal m →
    θ_run (Cert.ModDxIdeal.defs (F := Ideal)) (onTc (τ := Cert.ModDxIdeal.τ) (Cert.ModDxIdeal.main (F := Ideal))) ⟨m, fun _ => 0, g⟩ (fun r => (∀ c : Dev Cert.ModDxIdeal.nD,
      r.2.mem ((c.tc : Thread Cert.ModDxIdeal.nD Cert.ModDxIdeal.τ).loc Cert.ModDxIdeal.main_arg0) = m ((c.tc : Thread Cert.ModDxIdeal.nD Cert.ModDxIdeal.τ).loc Cert.ModDxIdeal.main_arg0)
      ∧ r.2.mem ((c.tc : Thread Cert.ModDxIdeal.nD Cert.ModDxIdeal.τ).loc Cert.ModDxIdeal.main_arg1) = m ((c.tc : Thread Cert.ModDxIdeal.nD Cert.ModDxIdeal.τ).loc Cert.ModDxIdeal.main_arg1))
      ∧ r.2.sem = fun _ => 0)

def quiescent_ModDxRefIdeal [hModDxRefIdeal : Cert.ModDxRefIdeal.Facts] : Prop :=
  ∀ (m : (ℓ : Loc Cert.ModDxRefIdeal.nD Cert.ModDxRefIdeal.τ Cert.ModDxRefIdeal.sig) → Buf (Elt Ideal) ℓ) (g : Dev Cert.ModDxRefIdeal.nD → PrngReg), Pre_ModDxRefIdeal m →
    θ_run (Cert.ModDxRefIdeal.defs (F := Ideal)) (onTc (τ := Cert.ModDxRefIdeal.τ) (Cert.ModDxRefIdeal.main (F := Ideal))) ⟨m, fun _ => 0, g⟩ (fun r => (∀ c : Dev Cert.ModDxRefIdeal.nD,
      r.2.mem ((c.tc : Thread Cert.ModDxRefIdeal.nD Cert.ModDxRefIdeal.τ).loc Cert.ModDxRefIdeal.main_arg0) = m ((c.tc : Thread Cert.ModDxRefIdeal.nD Cert.ModDxRefIdeal.τ).loc Cert.ModDxRefIdeal.main_arg0)
      ∧ r.2.mem ((c.tc : Thread Cert.ModDxRefIdeal.nD Cert.ModDxRefIdeal.τ).loc Cert.ModDxRefIdeal.main_arg1) = m ((c.tc : Thread Cert.ModDxRefIdeal.nD Cert.ModDxRefIdeal.τ).loc Cert.ModDxRefIdeal.main_arg1))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3))
      ∧ r.2.sem = fun _ => 0)

def quiescent_CondSilu [hCondSilu : Cert.CondSilu.Facts] : Prop :=
  ∀ (m : (ℓ : Loc Cert.CondSilu.nD Cert.CondSilu.τ Cert.CondSilu.sig) → Buf (Elt Bits) ℓ) (g : Dev Cert.CondSilu.nD → PrngReg), Pre_CondSilu m →
    θ_run (Cert.CondSilu.defs (F := Bits)) (onTc (τ := Cert.CondSilu.τ) (Cert.CondSilu.main (F := Bits))) ⟨m, fun _ => 0, g⟩ (fun r => (∀ c : Dev Cert.CondSilu.nD,
      r.2.mem ((c.tc : Thread Cert.CondSilu.nD Cert.CondSilu.τ).loc Cert.CondSilu.main_arg0) = m ((c.tc : Thread Cert.CondSilu.nD Cert.CondSilu.τ).loc Cert.CondSilu.main_arg0))
      ∧ r.2.sem = fun _ => 0)

def quiescent_CondSiluIdeal [hCondSiluIdeal : Cert.CondSiluIdeal.Facts] : Prop :=
  ∀ (m : (ℓ : Loc Cert.CondSiluIdeal.nD Cert.CondSiluIdeal.τ Cert.CondSiluIdeal.sig) → Buf (Elt Ideal) ℓ) (g : Dev Cert.CondSiluIdeal.nD → PrngReg), Pre_CondSiluIdeal m →
    θ_run (Cert.CondSiluIdeal.defs (F := Ideal)) (onTc (τ := Cert.CondSiluIdeal.τ) (Cert.CondSiluIdeal.main (F := Ideal))) ⟨m, fun _ => 0, g⟩ (fun r => (∀ c : Dev Cert.CondSiluIdeal.nD,
      r.2.mem ((c.tc : Thread Cert.CondSiluIdeal.nD Cert.CondSiluIdeal.τ).loc Cert.CondSiluIdeal.main_arg0) = m ((c.tc : Thread Cert.CondSiluIdeal.nD Cert.CondSiluIdeal.τ).loc Cert.CondSiluIdeal.main_arg0))
      ∧ r.2.sem = fun _ => 0)

def quiescent_CondSiluRefIdeal [hCondSiluRefIdeal : Cert.CondSiluRefIdeal.Facts] : Prop :=
  ∀ (m : (ℓ : Loc Cert.CondSiluRefIdeal.nD Cert.CondSiluRefIdeal.τ Cert.CondSiluRefIdeal.sig) → Buf (Elt Ideal) ℓ) (g : Dev Cert.CondSiluRefIdeal.nD → PrngReg), Pre_CondSiluRefIdeal m →
    θ_run (Cert.CondSiluRefIdeal.defs (F := Ideal)) (onTc (τ := Cert.CondSiluRefIdeal.τ) (Cert.CondSiluRefIdeal.main (F := Ideal))) ⟨m, fun _ => 0, g⟩ (fun r => (∀ c : Dev Cert.CondSiluRefIdeal.nD,
      r.2.mem ((c.tc : Thread Cert.CondSiluRefIdeal.nD Cert.CondSiluRefIdeal.τ).loc Cert.CondSiluRefIdeal.main_arg0) = m ((c.tc : Thread Cert.CondSiluRefIdeal.nD Cert.CondSiluRefIdeal.τ).loc Cert.CondSiluRefIdeal.main_arg0))
      ∧ r.2.sem = fun _ => 0)

def quiescent_AdamSsmIn [hAdamSsmIn : Cert.AdamSsmIn.Facts] : Prop :=
  ∀ (m : (ℓ : Loc Cert.AdamSsmIn.nD Cert.AdamSsmIn.τ Cert.AdamSsmIn.sig) → Buf (Elt Bits) ℓ) (g : Dev Cert.AdamSsmIn.nD → PrngReg), Pre_AdamSsmIn m →
    θ_run (Cert.AdamSsmIn.defs (F := Bits)) (onTc (τ := Cert.AdamSsmIn.τ) (Cert.AdamSsmIn.main (F := Bits))) ⟨m, fun _ => 0, g⟩ (fun r => (∀ c : Dev Cert.AdamSsmIn.nD,
      r.2.mem ((c.tc : Thread Cert.AdamSsmIn.nD Cert.AdamSsmIn.τ).loc Cert.AdamSsmIn.main_arg0) = m ((c.tc : Thread Cert.AdamSsmIn.nD Cert.AdamSsmIn.τ).loc Cert.AdamSsmIn.main_arg0)
      ∧ r.2.mem ((c.tc : Thread Cert.AdamSsmIn.nD Cert.AdamSsmIn.τ).loc Cert.AdamSsmIn.main_arg1) = m ((c.tc : Thread Cert.AdamSsmIn.nD Cert.AdamSsmIn.τ).loc Cert.AdamSsmIn.main_arg1)
      ∧ r.2.mem ((c.tc : Thread Cert.AdamSsmIn.nD Cert.AdamSsmIn.τ).loc Cert.AdamSsmIn.main_arg2) = m ((c.tc : Thread Cert.AdamSsmIn.nD Cert.AdamSsmIn.τ).loc Cert.AdamSsmIn.main_arg2)
      ∧ r.2.mem ((c.tc : Thread Cert.AdamSsmIn.nD Cert.AdamSsmIn.τ).loc Cert.AdamSsmIn.main_arg3) = m ((c.tc : Thread Cert.AdamSsmIn.nD Cert.AdamSsmIn.τ).loc Cert.AdamSsmIn.main_arg3))
      ∧ r.2.sem = fun _ => 0)

def quiescent_AdamSsmInIdeal [hAdamSsmInIdeal : Cert.AdamSsmInIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg), Pre_AdamSsmInIdeal m →
    θ_run (Cert.AdamSsmInIdeal.defs (F := Ideal)) (onTc (τ := Cert.AdamSsmInIdeal.τ) (Cert.AdamSsmInIdeal.main (F := Ideal))) ⟨m, fun _ => 0, g⟩ (fun r => (∀ c : Dev Cert.AdamSsmInIdeal.nD,
      r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
      ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
      ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
      ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3))
      ∧ r.2.sem = fun _ => 0)

def quiescent_AdamSsmInRefIdeal [hAdamSsmInRefIdeal : Cert.AdamSsmInRefIdeal.Facts] : Prop :=
  ∀ (m : (ℓ : Loc Cert.AdamSsmInRefIdeal.nD Cert.AdamSsmInRefIdeal.τ Cert.AdamSsmInRefIdeal.sig) → Buf (Elt Ideal) ℓ) (g : Dev Cert.AdamSsmInRefIdeal.nD → PrngReg), Pre_AdamSsmInRefIdeal m →
    θ_run (Cert.AdamSsmInRefIdeal.defs (F := Ideal)) (onTc (τ := Cert.AdamSsmInRefIdeal.τ) (Cert.AdamSsmInRefIdeal.main (F := Ideal))) ⟨m, fun _ => 0, g⟩ (fun r => (∀ c : Dev Cert.AdamSsmInRefIdeal.nD,
      r.2.mem ((c.tc : Thread Cert.AdamSsmInRefIdeal.nD Cert.AdamSsmInRefIdeal.τ).loc Cert.AdamSsmInRefIdeal.main_arg0) = m ((c.tc : Thread Cert.AdamSsmInRefIdeal.nD Cert.AdamSsmInRefIdeal.τ).loc Cert.AdamSsmInRefIdeal.main_arg0)
      ∧ r.2.mem ((c.tc : Thread Cert.AdamSsmInRefIdeal.nD Cert.AdamSsmInRefIdeal.τ).loc Cert.AdamSsmInRefIdeal.main_arg1) = m ((c.tc : Thread Cert.AdamSsmInRefIdeal.nD Cert.AdamSsmInRefIdeal.τ).loc Cert.AdamSsmInRefIdeal.main_arg1)
      ∧ r.2.mem ((c.tc : Thread Cert.AdamSsmInRefIdeal.nD Cert.AdamSsmInRefIdeal.τ).loc Cert.AdamSsmInRefIdeal.main_arg2) = m ((c.tc : Thread Cert.AdamSsmInRefIdeal.nD Cert.AdamSsmInRefIdeal.τ).loc Cert.AdamSsmInRefIdeal.main_arg2)
      ∧ r.2.mem ((c.tc : Thread Cert.AdamSsmInRefIdeal.nD Cert.AdamSsmInRefIdeal.τ).loc Cert.AdamSsmInRefIdeal.main_arg3) = m ((c.tc : Thread Cert.AdamSsmInRefIdeal.nD Cert.AdamSsmInRefIdeal.τ).loc Cert.AdamSsmInRefIdeal.main_arg3))
      ∧ r.2.sem = fun _ => 0)

def quiescent_AdamAttnIn [hAdamAttnIn : Cert.AdamAttnIn.Facts] : Prop :=
  ∀ (m : (ℓ : Loc Cert.AdamAttnIn.nD Cert.AdamAttnIn.τ Cert.AdamAttnIn.sig) → Buf (Elt Bits) ℓ) (g : Dev Cert.AdamAttnIn.nD → PrngReg), Pre_AdamAttnIn m →
    θ_run (Cert.AdamAttnIn.defs (F := Bits)) (onTc (τ := Cert.AdamAttnIn.τ) (Cert.AdamAttnIn.main (F := Bits))) ⟨m, fun _ => 0, g⟩ (fun r => (∀ c : Dev Cert.AdamAttnIn.nD,
      r.2.mem ((c.tc : Thread Cert.AdamAttnIn.nD Cert.AdamAttnIn.τ).loc Cert.AdamAttnIn.main_arg0) = m ((c.tc : Thread Cert.AdamAttnIn.nD Cert.AdamAttnIn.τ).loc Cert.AdamAttnIn.main_arg0)
      ∧ r.2.mem ((c.tc : Thread Cert.AdamAttnIn.nD Cert.AdamAttnIn.τ).loc Cert.AdamAttnIn.main_arg1) = m ((c.tc : Thread Cert.AdamAttnIn.nD Cert.AdamAttnIn.τ).loc Cert.AdamAttnIn.main_arg1)
      ∧ r.2.mem ((c.tc : Thread Cert.AdamAttnIn.nD Cert.AdamAttnIn.τ).loc Cert.AdamAttnIn.main_arg2) = m ((c.tc : Thread Cert.AdamAttnIn.nD Cert.AdamAttnIn.τ).loc Cert.AdamAttnIn.main_arg2)
      ∧ r.2.mem ((c.tc : Thread Cert.AdamAttnIn.nD Cert.AdamAttnIn.τ).loc Cert.AdamAttnIn.main_arg3) = m ((c.tc : Thread Cert.AdamAttnIn.nD Cert.AdamAttnIn.τ).loc Cert.AdamAttnIn.main_arg3))
      ∧ r.2.sem = fun _ => 0)

def quiescent_AdamAttnInIdeal [hAdamAttnInIdeal : Cert.AdamAttnInIdeal.Facts] : Prop :=
  ∀ (m : (ℓ : Loc Cert.AdamAttnInIdeal.nD Cert.AdamAttnInIdeal.τ Cert.AdamAttnInIdeal.sig) → Buf (Elt Ideal) ℓ) (g : Dev Cert.AdamAttnInIdeal.nD → PrngReg), Pre_AdamAttnInIdeal m →
    θ_run (Cert.AdamAttnInIdeal.defs (F := Ideal)) (onTc (τ := Cert.AdamAttnInIdeal.τ) (Cert.AdamAttnInIdeal.main (F := Ideal))) ⟨m, fun _ => 0, g⟩ (fun r => (∀ c : Dev Cert.AdamAttnInIdeal.nD,
      r.2.mem ((c.tc : Thread Cert.AdamAttnInIdeal.nD Cert.AdamAttnInIdeal.τ).loc Cert.AdamAttnInIdeal.main_arg0) = m ((c.tc : Thread Cert.AdamAttnInIdeal.nD Cert.AdamAttnInIdeal.τ).loc Cert.AdamAttnInIdeal.main_arg0)
      ∧ r.2.mem ((c.tc : Thread Cert.AdamAttnInIdeal.nD Cert.AdamAttnInIdeal.τ).loc Cert.AdamAttnInIdeal.main_arg1) = m ((c.tc : Thread Cert.AdamAttnInIdeal.nD Cert.AdamAttnInIdeal.τ).loc Cert.AdamAttnInIdeal.main_arg1)
      ∧ r.2.mem ((c.tc : Thread Cert.AdamAttnInIdeal.nD Cert.AdamAttnInIdeal.τ).loc Cert.AdamAttnInIdeal.main_arg2) = m ((c.tc : Thread Cert.AdamAttnInIdeal.nD Cert.AdamAttnInIdeal.τ).loc Cert.AdamAttnInIdeal.main_arg2)
      ∧ r.2.mem ((c.tc : Thread Cert.AdamAttnInIdeal.nD Cert.AdamAttnInIdeal.τ).loc Cert.AdamAttnInIdeal.main_arg3) = m ((c.tc : Thread Cert.AdamAttnInIdeal.nD Cert.AdamAttnInIdeal.τ).loc Cert.AdamAttnInIdeal.main_arg3))
      ∧ r.2.sem = fun _ => 0)

def quiescent_AdamAttnInRefIdeal [hAdamAttnInRefIdeal : Cert.AdamAttnInRefIdeal.Facts] : Prop :=
  ∀ (m : (ℓ : Loc Cert.AdamAttnInRefIdeal.nD Cert.AdamAttnInRefIdeal.τ Cert.AdamAttnInRefIdeal.sig) → Buf (Elt Ideal) ℓ) (g : Dev Cert.AdamAttnInRefIdeal.nD → PrngReg), Pre_AdamAttnInRefIdeal m →
    θ_run (Cert.AdamAttnInRefIdeal.defs (F := Ideal)) (onTc (τ := Cert.AdamAttnInRefIdeal.τ) (Cert.AdamAttnInRefIdeal.main (F := Ideal))) ⟨m, fun _ => 0, g⟩ (fun r => (∀ c : Dev Cert.AdamAttnInRefIdeal.nD,
      r.2.mem ((c.tc : Thread Cert.AdamAttnInRefIdeal.nD Cert.AdamAttnInRefIdeal.τ).loc Cert.AdamAttnInRefIdeal.main_arg0) = m ((c.tc : Thread Cert.AdamAttnInRefIdeal.nD Cert.AdamAttnInRefIdeal.τ).loc Cert.AdamAttnInRefIdeal.main_arg0)
      ∧ r.2.mem ((c.tc : Thread Cert.AdamAttnInRefIdeal.nD Cert.AdamAttnInRefIdeal.τ).loc Cert.AdamAttnInRefIdeal.main_arg1) = m ((c.tc : Thread Cert.AdamAttnInRefIdeal.nD Cert.AdamAttnInRefIdeal.τ).loc Cert.AdamAttnInRefIdeal.main_arg1)
      ∧ r.2.mem ((c.tc : Thread Cert.AdamAttnInRefIdeal.nD Cert.AdamAttnInRefIdeal.τ).loc Cert.AdamAttnInRefIdeal.main_arg2) = m ((c.tc : Thread Cert.AdamAttnInRefIdeal.nD Cert.AdamAttnInRefIdeal.τ).loc Cert.AdamAttnInRefIdeal.main_arg2)
      ∧ r.2.mem ((c.tc : Thread Cert.AdamAttnInRefIdeal.nD Cert.AdamAttnInRefIdeal.τ).loc Cert.AdamAttnInRefIdeal.main_arg3) = m ((c.tc : Thread Cert.AdamAttnInRefIdeal.nD Cert.AdamAttnInRefIdeal.τ).loc Cert.AdamAttnInRefIdeal.main_arg3))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Forward_ForwardIdeal : Prop :=
  True

def algebraic_ForwardIdeal_ForwardReferenceIdeal_pre_finite2 [hForwardIdeal : Cert.ForwardIdeal.Facts] [hForwardReferenceIdeal : Cert.ForwardReferenceIdeal.Facts] [hPre_finite2 : Cert.Pre_finite2.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite2 m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)) →
    ∃ (v0 : (c : Dev Cert.ForwardIdeal.nD) → Buf (Elt Ideal) ((c.tc : Thread Cert.ForwardIdeal.nD Cert.ForwardIdeal.τ).loc Cert.ForwardIdeal.main_v0_0)) (v1 : (c : Dev Cert.ForwardIdeal.nD) → Buf (Elt Ideal) ((c.tc : Thread Cert.ForwardIdeal.nD Cert.ForwardIdeal.τ).loc Cert.ForwardIdeal.main_v0_1)) (v2 : (c : Dev Cert.ForwardIdeal.nD) → Buf (Elt Ideal) ((c.tc : Thread Cert.ForwardIdeal.nD Cert.ForwardIdeal.τ).loc Cert.ForwardIdeal.main_v0_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0_0) = v0 c
          ∧ r.2.mem ((c.tc : Thread Cert.ForwardIdeal.nD Cert.ForwardIdeal.τ).loc Cert.ForwardIdeal.main_v0_1) = v1 c
          ∧ r.2.mem ((c.tc : Thread Cert.ForwardIdeal.nD Cert.ForwardIdeal.τ).loc Cert.ForwardIdeal.main_v0_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v29) = v0 c
          ∧ r.2.mem ((c.tc : Thread Cert.ForwardReferenceIdeal.nD Cert.ForwardReferenceIdeal.τ).loc Cert.ForwardReferenceIdeal.main_v31) = v1 c
          ∧ r.2.mem ((c.tc : Thread Cert.ForwardReferenceIdeal.nD Cert.ForwardReferenceIdeal.τ).loc Cert.ForwardReferenceIdeal.main_v36) = v2 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3))

def preserves_AttnInDw_AttnInDwIdeal : Prop :=
  True

def algebraic_AttnInDwIdeal_AttnInDwRefIdeal [hAttnInDwIdeal : Cert.AttnInDwIdeal.Facts] [hAttnInDwRefIdeal : Cert.AttnInDwRefIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg)
    (m' : (ℓ : Loc Cert.AttnInDwRefIdeal.nD Cert.AttnInDwRefIdeal.τ Cert.AttnInDwRefIdeal.sig) → Buf (Elt Ideal) ℓ) (g' : Dev Cert.AttnInDwRefIdeal.nD → PrngReg), Pre_AttnInDwIdeal m →
    (∀ c : Dev Cert.AttnInDwIdeal.nD,
      m' ((c.tc : Thread Cert.AttnInDwRefIdeal.nD Cert.AttnInDwRefIdeal.τ).loc Cert.AttnInDwRefIdeal.main_arg0) = m ((c.tc : Thread Cert.AttnInDwIdeal.nD Cert.AttnInDwIdeal.τ).loc Cert.AttnInDwIdeal.main_arg0)
      ∧ m' ((c.tc : Thread Cert.AttnInDwRefIdeal.nD Cert.AttnInDwRefIdeal.τ).loc Cert.AttnInDwRefIdeal.main_arg1) = m ((c.tc : Thread Cert.AttnInDwIdeal.nD Cert.AttnInDwIdeal.τ).loc Cert.AttnInDwIdeal.main_arg1)) →
    ∃ (v0 : (c : Dev Cert.AttnInDwIdeal.nD) → Buf (Elt Ideal) ((c.tc : Thread Cert.AttnInDwIdeal.nD Cert.AttnInDwIdeal.τ).loc Cert.AttnInDwIdeal.main_v0)),
      θ_run (Cert.AttnInDwIdeal.defs (F := Ideal)) (onTc (τ := Cert.AttnInDwIdeal.τ) (Cert.AttnInDwIdeal.main (F := Ideal))) ⟨m, fun _ => 0, g⟩ (fun r => ∀ c : Dev Cert.AttnInDwIdeal.nD,
          r.2.mem ((c.tc : Thread Cert.AttnInDwIdeal.nD Cert.AttnInDwIdeal.τ).loc Cert.AttnInDwIdeal.main_v0) = v0 c
          ∧ r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
          ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ θ_run (Cert.AttnInDwRefIdeal.defs (F := Ideal)) (onTc (τ := Cert.AttnInDwRefIdeal.τ) (Cert.AttnInDwRefIdeal.main (F := Ideal))) ⟨m', fun _ => 0, g'⟩ (fun r => ∀ c : Dev Cert.AttnInDwRefIdeal.nD,
          r.2.mem ((c.tc : Thread Cert.AttnInDwRefIdeal.nD Cert.AttnInDwRefIdeal.τ).loc Cert.AttnInDwRefIdeal.main_v6) = v0 c
          ∧ r.2.mem ((c.tc : Thread Cert.AttnInDwRefIdeal.nD Cert.AttnInDwRefIdeal.τ).loc Cert.AttnInDwRefIdeal.main_arg0) = m' ((c.tc : Thread Cert.AttnInDwRefIdeal.nD Cert.AttnInDwRefIdeal.τ).loc Cert.AttnInDwRefIdeal.main_arg0)
          ∧ r.2.mem ((c.tc : Thread Cert.AttnInDwRefIdeal.nD Cert.AttnInDwRefIdeal.τ).loc Cert.AttnInDwRefIdeal.main_arg1) = m' ((c.tc : Thread Cert.AttnInDwRefIdeal.nD Cert.AttnInDwRefIdeal.τ).loc Cert.AttnInDwRefIdeal.main_arg1))

def preserves_AttnInDx_AttnInDxIdeal : Prop :=
  True

def algebraic_AttnInDxIdeal_AttnInDxRefIdeal [hAttnInDxIdeal : Cert.AttnInDxIdeal.Facts] [hAttnInDxRefIdeal : Cert.AttnInDxRefIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg)
    (m' : (ℓ : Loc Cert.AttnInDxRefIdeal.nD Cert.AttnInDxRefIdeal.τ Cert.AttnInDxRefIdeal.sig) → Buf (Elt Ideal) ℓ) (g' : Dev Cert.AttnInDxRefIdeal.nD → PrngReg), Pre_AttnInDxIdeal m →
    (∀ c : Dev Cert.AttnInDxIdeal.nD,
      m' ((c.tc : Thread Cert.AttnInDxRefIdeal.nD Cert.AttnInDxRefIdeal.τ).loc Cert.AttnInDxRefIdeal.main_arg0) = m ((c.tc : Thread Cert.AttnInDxIdeal.nD Cert.AttnInDxIdeal.τ).loc Cert.AttnInDxIdeal.main_arg0)
      ∧ m' ((c.tc : Thread Cert.AttnInDxRefIdeal.nD Cert.AttnInDxRefIdeal.τ).loc Cert.AttnInDxRefIdeal.main_arg1) = m ((c.tc : Thread Cert.AttnInDxIdeal.nD Cert.AttnInDxIdeal.τ).loc Cert.AttnInDxIdeal.main_arg1)) →
    ∃ (v0 : (c : Dev Cert.AttnInDxIdeal.nD) → Buf (Elt Ideal) ((c.tc : Thread Cert.AttnInDxIdeal.nD Cert.AttnInDxIdeal.τ).loc Cert.AttnInDxIdeal.main_v0)),
      θ_run (Cert.AttnInDxIdeal.defs (F := Ideal)) (onTc (τ := Cert.AttnInDxIdeal.τ) (Cert.AttnInDxIdeal.main (F := Ideal))) ⟨m, fun _ => 0, g⟩ (fun r => ∀ c : Dev Cert.AttnInDxIdeal.nD,
          r.2.mem ((c.tc : Thread Cert.AttnInDxIdeal.nD Cert.AttnInDxIdeal.τ).loc Cert.AttnInDxIdeal.main_v0) = v0 c
          ∧ r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
          ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1))
      ∧ θ_run (Cert.AttnInDxRefIdeal.defs (F := Ideal)) (onTc (τ := Cert.AttnInDxRefIdeal.τ) (Cert.AttnInDxRefIdeal.main (F := Ideal))) ⟨m', fun _ => 0, g'⟩ (fun r => ∀ c : Dev Cert.AttnInDxRefIdeal.nD,
          r.2.mem ((c.tc : Thread Cert.AttnInDxRefIdeal.nD Cert.AttnInDxRefIdeal.τ).loc Cert.AttnInDxRefIdeal.main_v5) = v0 c
          ∧ r.2.mem ((c.tc : Thread Cert.AttnInDxRefIdeal.nD Cert.AttnInDxRefIdeal.τ).loc Cert.AttnInDxRefIdeal.main_arg0) = m' ((c.tc : Thread Cert.AttnInDxRefIdeal.nD Cert.AttnInDxRefIdeal.τ).loc Cert.AttnInDxRefIdeal.main_arg0)
          ∧ r.2.mem ((c.tc : Thread Cert.AttnInDxRefIdeal.nD Cert.AttnInDxRefIdeal.τ).loc Cert.AttnInDxRefIdeal.main_arg1) = m' ((c.tc : Thread Cert.AttnInDxRefIdeal.nD Cert.AttnInDxRefIdeal.τ).loc Cert.AttnInDxRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v6) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v5) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_SsmInDw_SsmInDwIdeal : Prop :=
  True

def algebraic_SsmInDwIdeal_SsmInDwRefIdeal [hSsmInDwIdeal : Cert.SsmInDwIdeal.Facts] [hSsmInDwRefIdeal : Cert.SsmInDwRefIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwRefIdeal.nD Cert.SsmInDwRefIdeal.τ Cert.SsmInDwRefIdeal.sig) → Buf (Elt Ideal) ℓ) (g' : Dev Cert.SsmInDwRefIdeal.nD → PrngReg), Pre_SsmInDwIdeal m →
    (∀ c : Dev Cert.SsmInDwIdeal.nD,
      m' ((c.tc : Thread Cert.SsmInDwRefIdeal.nD Cert.SsmInDwRefIdeal.τ).loc Cert.SsmInDwRefIdeal.main_arg0) = m ((c.tc : Thread Cert.SsmInDwIdeal.nD Cert.SsmInDwIdeal.τ).loc Cert.SsmInDwIdeal.main_arg0)
      ∧ m' ((c.tc : Thread Cert.SsmInDwRefIdeal.nD Cert.SsmInDwRefIdeal.τ).loc Cert.SsmInDwRefIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwRefIdeal.defs (F := Ideal)) (onTc (τ := Cert.SsmInDwRefIdeal.τ) (Cert.SsmInDwRefIdeal.main (F := Ideal))) ⟨m', fun _ => 0, g'⟩ (fun r => ∀ c : Dev Cert.SsmInDwRefIdeal.nD,
          r.2.mem ((c.tc : Thread Cert.SsmInDwRefIdeal.nD Cert.SsmInDwRefIdeal.τ).loc Cert.SsmInDwRefIdeal.main_v6) = v0 c
          ∧ r.2.mem ((c.tc : Thread Cert.SsmInDwRefIdeal.nD Cert.SsmInDwRefIdeal.τ).loc Cert.SsmInDwRefIdeal.main_arg0) = m' ((c.tc : Thread Cert.SsmInDwRefIdeal.nD Cert.SsmInDwRefIdeal.τ).loc Cert.SsmInDwRefIdeal.main_arg0)
          ∧ r.2.mem ((c.tc : Thread Cert.SsmInDwRefIdeal.nD Cert.SsmInDwRefIdeal.τ).loc Cert.SsmInDwRefIdeal.main_arg1) = m' ((c.tc : Thread Cert.SsmInDwRefIdeal.nD Cert.SsmInDwRefIdeal.τ).loc Cert.SsmInDwRefIdeal.main_arg1))

def preserves_SsmInDx_SsmInDxIdeal : Prop :=
  True

def algebraic_SsmInDxIdeal_SsmInDxRefIdeal [hSsmInDxIdeal : Cert.SsmInDxIdeal.Facts] [hSsmInDxRefIdeal : Cert.SsmInDxRefIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxRefIdeal.nD Cert.SsmInDxRefIdeal.τ Cert.SsmInDxRefIdeal.sig) → Buf (Elt Ideal) ℓ) (g' : Dev Cert.SsmInDxRefIdeal.nD → PrngReg), Pre_SsmInDxIdeal m →
    (∀ c : Dev Cert.SsmInDxIdeal.nD,
      m' ((c.tc : Thread Cert.SsmInDxRefIdeal.nD Cert.SsmInDxRefIdeal.τ).loc Cert.SsmInDxRefIdeal.main_arg0) = m ((c.tc : Thread Cert.SsmInDxIdeal.nD Cert.SsmInDxIdeal.τ).loc Cert.SsmInDxIdeal.main_arg0)
      ∧ m' ((c.tc : Thread Cert.SsmInDxRefIdeal.nD Cert.SsmInDxRefIdeal.τ).loc Cert.SsmInDxRefIdeal.main_arg1) = m ((c.tc : Thread Cert.SsmInDxIdeal.nD Cert.SsmInDxIdeal.τ).loc Cert.SsmInDxIdeal.main_arg1)) →
    ∃ (v0 : (c : Dev Cert.SsmInDxIdeal.nD) → Buf (Elt Ideal) ((c.tc : Thread Cert.SsmInDxIdeal.nD Cert.SsmInDxIdeal.τ).loc Cert.SsmInDxIdeal.main_v0)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0) = v0 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ θ_run (Cert.SsmInDxRefIdeal.defs (F := Ideal)) (onTc (τ := Cert.SsmInDxRefIdeal.τ) (Cert.SsmInDxRefIdeal.main (F := Ideal))) ⟨m', fun _ => 0, g'⟩ (fun r => ∀ c : Dev Cert.SsmInDxRefIdeal.nD,
          r.2.mem ((c.tc : Thread Cert.SsmInDxRefIdeal.nD Cert.SsmInDxRefIdeal.τ).loc Cert.SsmInDxRefIdeal.main_v5) = v0 c
          ∧ r.2.mem ((c.tc : Thread Cert.SsmInDxRefIdeal.nD Cert.SsmInDxRefIdeal.τ).loc Cert.SsmInDxRefIdeal.main_arg0) = m' ((c.tc : Thread Cert.SsmInDxRefIdeal.nD Cert.SsmInDxRefIdeal.τ).loc Cert.SsmInDxRefIdeal.main_arg0)
          ∧ r.2.mem ((c.tc : Thread Cert.SsmInDxRefIdeal.nD Cert.SsmInDxRefIdeal.τ).loc Cert.SsmInDxRefIdeal.main_arg1) = m' ((c.tc : Thread Cert.SsmInDxRefIdeal.nD Cert.SsmInDxRefIdeal.τ).loc Cert.SsmInDxRefIdeal.main_arg1))

def preserves_SsmOutDw_SsmOutDwIdeal : Prop :=
  True

def algebraic_SsmOutDwIdeal_SsmOutDwRefIdeal [hSsmOutDwIdeal : Cert.SsmOutDwIdeal.Facts] [hSsmOutDwRefIdeal : Cert.SsmOutDwRefIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwRefIdeal.nD Cert.SsmOutDwRefIdeal.τ Cert.SsmOutDwRefIdeal.sig) → Buf (Elt Ideal) ℓ) (g' : Dev Cert.SsmOutDwRefIdeal.nD → PrngReg), Pre_SsmOutDwIdeal m →
    (∀ c : Dev Cert.SsmOutDwIdeal.nD,
      m' ((c.tc : Thread Cert.SsmOutDwRefIdeal.nD Cert.SsmOutDwRefIdeal.τ).loc Cert.SsmOutDwRefIdeal.main_arg0) = m ((c.tc : Thread Cert.SsmOutDwIdeal.nD Cert.SsmOutDwIdeal.τ).loc Cert.SsmOutDwIdeal.main_arg0)
      ∧ m' ((c.tc : Thread Cert.SsmOutDwRefIdeal.nD Cert.SsmOutDwRefIdeal.τ).loc Cert.SsmOutDwRefIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v0)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v0) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwRefIdeal.defs (F := Ideal)) (onTc (τ := Cert.SsmOutDwRefIdeal.τ) (Cert.SsmOutDwRefIdeal.main (F := Ideal))) ⟨m', fun _ => 0, g'⟩ (fun r => ∀ c : Dev Cert.SsmOutDwRefIdeal.nD,
          r.2.mem ((c.tc : Thread Cert.SsmOutDwRefIdeal.nD Cert.SsmOutDwRefIdeal.τ).loc Cert.SsmOutDwRefIdeal.main_v6) = v0 c
          ∧ r.2.mem ((c.tc : Thread Cert.SsmOutDwRefIdeal.nD Cert.SsmOutDwRefIdeal.τ).loc Cert.SsmOutDwRefIdeal.main_arg0) = m' ((c.tc : Thread Cert.SsmOutDwRefIdeal.nD Cert.SsmOutDwRefIdeal.τ).loc Cert.SsmOutDwRefIdeal.main_arg0)
          ∧ r.2.mem ((c.tc : Thread Cert.SsmOutDwRefIdeal.nD Cert.SsmOutDwRefIdeal.τ).loc Cert.SsmOutDwRefIdeal.main_arg1) = m' ((c.tc : Thread Cert.SsmOutDwRefIdeal.nD Cert.SsmOutDwRefIdeal.τ).loc Cert.SsmOutDwRefIdeal.main_arg1))

def preserves_SsmOutDx_SsmOutDxIdeal : Prop :=
  True

def algebraic_SsmOutDxIdeal_SsmOutDxRefIdeal [hSsmOutDxIdeal : Cert.SsmOutDxIdeal.Facts] [hSsmOutDxRefIdeal : Cert.SsmOutDxRefIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxRefIdeal.nD Cert.SsmOutDxRefIdeal.τ Cert.SsmOutDxRefIdeal.sig) → Buf (Elt Ideal) ℓ) (g' : Dev Cert.SsmOutDxRefIdeal.nD → PrngReg), Pre_SsmOutDxIdeal m →
    (∀ c : Dev Cert.SsmOutDxIdeal.nD,
      m' ((c.tc : Thread Cert.SsmOutDxRefIdeal.nD Cert.SsmOutDxRefIdeal.τ).loc Cert.SsmOutDxRefIdeal.main_arg0) = m ((c.tc : Thread Cert.SsmOutDxIdeal.nD Cert.SsmOutDxIdeal.τ).loc Cert.SsmOutDxIdeal.main_arg0)
      ∧ m' ((c.tc : Thread Cert.SsmOutDxRefIdeal.nD Cert.SsmOutDxRefIdeal.τ).loc Cert.SsmOutDxRefIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxRefIdeal.defs (F := Ideal)) (onTc (τ := Cert.SsmOutDxRefIdeal.τ) (Cert.SsmOutDxRefIdeal.main (F := Ideal))) ⟨m', fun _ => 0, g'⟩ (fun r => ∀ c : Dev Cert.SsmOutDxRefIdeal.nD,
          r.2.mem ((c.tc : Thread Cert.SsmOutDxRefIdeal.nD Cert.SsmOutDxRefIdeal.τ).loc Cert.SsmOutDxRefIdeal.main_v5) = v0 c
          ∧ r.2.mem ((c.tc : Thread Cert.SsmOutDxRefIdeal.nD Cert.SsmOutDxRefIdeal.τ).loc Cert.SsmOutDxRefIdeal.main_arg0) = m' ((c.tc : Thread Cert.SsmOutDxRefIdeal.nD Cert.SsmOutDxRefIdeal.τ).loc Cert.SsmOutDxRefIdeal.main_arg0)
          ∧ r.2.mem ((c.tc : Thread Cert.SsmOutDxRefIdeal.nD Cert.SsmOutDxRefIdeal.τ).loc Cert.SsmOutDxRefIdeal.main_arg1) = m' ((c.tc : Thread Cert.SsmOutDxRefIdeal.nD Cert.SsmOutDxRefIdeal.τ).loc Cert.SsmOutDxRefIdeal.main_arg1))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v3) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v2) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v2) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_SsmGlu_SsmGluIdeal : Prop :=
  True

def algebraic_SsmGluIdeal_SsmGluRefIdeal [hSsmGluIdeal : Cert.SsmGluIdeal.Facts] [hSsmGluRefIdeal : Cert.SsmGluRefIdeal.Facts] : Prop :=
  ∀ (m : (ℓ : Loc Cert.SsmGluIdeal.nD Cert.SsmGluIdeal.τ Cert.SsmGluIdeal.sig) → Buf (Elt Ideal) ℓ) (g : Dev Cert.SsmGluIdeal.nD → PrngReg)
    (m' : (ℓ : Loc Cert.SsmGluRefIdeal.nD Cert.SsmGluRefIdeal.τ Cert.SsmGluRefIdeal.sig) → Buf (Elt Ideal) ℓ) (g' : Dev Cert.SsmGluRefIdeal.nD → PrngReg), Pre_SsmGluIdeal m →
    (∀ c : Dev Cert.SsmGluIdeal.nD,
      m' ((c.tc : Thread Cert.SsmGluRefIdeal.nD Cert.SsmGluRefIdeal.τ).loc Cert.SsmGluRefIdeal.main_arg0) = m ((c.tc : Thread Cert.SsmGluIdeal.nD Cert.SsmGluIdeal.τ).loc Cert.SsmGluIdeal.main_arg0)
      ∧ m' ((c.tc : Thread Cert.SsmGluRefIdeal.nD Cert.SsmGluRefIdeal.τ).loc Cert.SsmGluRefIdeal.main_arg1) = m ((c.tc : Thread Cert.SsmGluIdeal.nD Cert.SsmGluIdeal.τ).loc Cert.SsmGluIdeal.main_arg1)) →
    ∃ (v0 : (c : Dev Cert.SsmGluIdeal.nD) → Buf (Elt Ideal) ((c.tc : Thread Cert.SsmGluIdeal.nD Cert.SsmGluIdeal.τ).loc Cert.SsmGluIdeal.main_v0)),
      θ_run (Cert.SsmGluIdeal.defs (F := Ideal)) (onTc (τ := Cert.SsmGluIdeal.τ) (Cert.SsmGluIdeal.main (F := Ideal))) ⟨m, fun _ => 0, g⟩ (fun r => ∀ c : Dev Cert.SsmGluIdeal.nD,
          r.2.mem ((c.tc : Thread Cert.SsmGluIdeal.nD Cert.SsmGluIdeal.τ).loc Cert.SsmGluIdeal.main_v0) = v0 c
          ∧ r.2.mem ((c.tc : Thread Cert.SsmGluIdeal.nD Cert.SsmGluIdeal.τ).loc Cert.SsmGluIdeal.main_arg0) = m ((c.tc : Thread Cert.SsmGluIdeal.nD Cert.SsmGluIdeal.τ).loc Cert.SsmGluIdeal.main_arg0)
          ∧ r.2.mem ((c.tc : Thread Cert.SsmGluIdeal.nD Cert.SsmGluIdeal.τ).loc Cert.SsmGluIdeal.main_arg1) = m ((c.tc : Thread Cert.SsmGluIdeal.nD Cert.SsmGluIdeal.τ).loc Cert.SsmGluIdeal.main_arg1))
      ∧ θ_run (Cert.SsmGluRefIdeal.defs (F := Ideal)) (onTc (τ := Cert.SsmGluRefIdeal.τ) (Cert.SsmGluRefIdeal.main (F := Ideal))) ⟨m', fun _ => 0, g'⟩ (fun r => ∀ c : Dev Cert.SsmGluRefIdeal.nD,
          r.2.mem ((c.tc : Thread Cert.SsmGluRefIdeal.nD Cert.SsmGluRefIdeal.τ).loc Cert.SsmGluRefIdeal.main_v3) = v0 c
          ∧ r.2.mem ((c.tc : Thread Cert.SsmGluRefIdeal.nD Cert.SsmGluRefIdeal.τ).loc Cert.SsmGluRefIdeal.main_arg0) = m' ((c.tc : Thread Cert.SsmGluRefIdeal.nD Cert.SsmGluRefIdeal.τ).loc Cert.SsmGluRefIdeal.main_arg0)
          ∧ r.2.mem ((c.tc : Thread Cert.SsmGluRefIdeal.nD Cert.SsmGluRefIdeal.τ).loc Cert.SsmGluRefIdeal.main_arg1) = m' ((c.tc : Thread Cert.SsmGluRefIdeal.nD Cert.SsmGluRefIdeal.τ).loc Cert.SsmGluRefIdeal.main_arg1))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v2) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v1) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1))

def preserves_ModDx_ModDxIdeal : Prop :=
  True

def algebraic_ModDxIdeal_ModDxRefIdeal [hModDxIdeal : Cert.ModDxIdeal.Facts] [hModDxRefIdeal : Cert.ModDxRefIdeal.Facts] : Prop :=
  ∀ (m : (ℓ : Loc Cert.ModDxIdeal.nD Cert.ModDxIdeal.τ Cert.ModDxIdeal.sig) → Buf (Elt Ideal) ℓ) (g : Dev Cert.ModDxIdeal.nD → PrngReg)
    (m' : (ℓ : Loc Cert.ModDxRefIdeal.nD Cert.ModDxRefIdeal.τ Cert.ModDxRefIdeal.sig) → Buf (Elt Ideal) ℓ) (g' : Dev Cert.ModDxRefIdeal.nD → PrngReg), Pre_ModDxIdeal m →
    (∀ c : Dev Cert.ModDxIdeal.nD,
      m' ((c.tc : Thread Cert.ModDxRefIdeal.nD Cert.ModDxRefIdeal.τ).loc Cert.ModDxRefIdeal.main_arg0) = m ((c.tc : Thread Cert.ModDxIdeal.nD Cert.ModDxIdeal.τ).loc Cert.ModDxIdeal.main_arg0)
      ∧ m' ((c.tc : Thread Cert.ModDxRefIdeal.nD Cert.ModDxRefIdeal.τ).loc Cert.ModDxRefIdeal.main_arg1) = m ((c.tc : Thread Cert.ModDxIdeal.nD Cert.ModDxIdeal.τ).loc Cert.ModDxIdeal.main_arg1)) →
    ∃ (v0 : (c : Dev Cert.ModDxIdeal.nD) → Buf (Elt Ideal) ((c.tc : Thread Cert.ModDxIdeal.nD Cert.ModDxIdeal.τ).loc Cert.ModDxIdeal.main_v0)),
      θ_run (Cert.ModDxIdeal.defs (F := Ideal)) (onTc (τ := Cert.ModDxIdeal.τ) (Cert.ModDxIdeal.main (F := Ideal))) ⟨m, fun _ => 0, g⟩ (fun r => ∀ c : Dev Cert.ModDxIdeal.nD,
          r.2.mem ((c.tc : Thread Cert.ModDxIdeal.nD Cert.ModDxIdeal.τ).loc Cert.ModDxIdeal.main_v0) = v0 c
          ∧ r.2.mem ((c.tc : Thread Cert.ModDxIdeal.nD Cert.ModDxIdeal.τ).loc Cert.ModDxIdeal.main_arg0) = m ((c.tc : Thread Cert.ModDxIdeal.nD Cert.ModDxIdeal.τ).loc Cert.ModDxIdeal.main_arg0)
          ∧ r.2.mem ((c.tc : Thread Cert.ModDxIdeal.nD Cert.ModDxIdeal.τ).loc Cert.ModDxIdeal.main_arg1) = m ((c.tc : Thread Cert.ModDxIdeal.nD Cert.ModDxIdeal.τ).loc Cert.ModDxIdeal.main_arg1))
      ∧ θ_run (Cert.ModDxRefIdeal.defs (F := Ideal)) (onTc (τ := Cert.ModDxRefIdeal.τ) (Cert.ModDxRefIdeal.main (F := Ideal))) ⟨m', fun _ => 0, g'⟩ (fun r => ∀ c : Dev Cert.ModDxRefIdeal.nD,
          r.2.mem ((c.tc : Thread Cert.ModDxRefIdeal.nD Cert.ModDxRefIdeal.τ).loc Cert.ModDxRefIdeal.main_v3) = v0 c
          ∧ r.2.mem ((c.tc : Thread Cert.ModDxRefIdeal.nD Cert.ModDxRefIdeal.τ).loc Cert.ModDxRefIdeal.main_arg0) = m' ((c.tc : Thread Cert.ModDxRefIdeal.nD Cert.ModDxRefIdeal.τ).loc Cert.ModDxRefIdeal.main_arg0)
          ∧ r.2.mem ((c.tc : Thread Cert.ModDxRefIdeal.nD Cert.ModDxRefIdeal.τ).loc Cert.ModDxRefIdeal.main_arg1) = m' ((c.tc : Thread Cert.ModDxRefIdeal.nD Cert.ModDxRefIdeal.τ).loc Cert.ModDxRefIdeal.main_arg1))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v5) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3))

def preserves_CondSilu_CondSiluIdeal : Prop :=
  True

def algebraic_CondSiluIdeal_CondSiluRefIdeal [hCondSiluIdeal : Cert.CondSiluIdeal.Facts] [hCondSiluRefIdeal : Cert.CondSiluRefIdeal.Facts] : Prop :=
  ∀ (m : (ℓ : Loc Cert.CondSiluIdeal.nD Cert.CondSiluIdeal.τ Cert.CondSiluIdeal.sig) → Buf (Elt Ideal) ℓ) (g : Dev Cert.CondSiluIdeal.nD → PrngReg)
    (m' : (ℓ : Loc Cert.CondSiluRefIdeal.nD Cert.CondSiluRefIdeal.τ Cert.CondSiluRefIdeal.sig) → Buf (Elt Ideal) ℓ) (g' : Dev Cert.CondSiluRefIdeal.nD → PrngReg), Pre_CondSiluIdeal m →
    (∀ c : Dev Cert.CondSiluIdeal.nD,
      m' ((c.tc : Thread Cert.CondSiluRefIdeal.nD Cert.CondSiluRefIdeal.τ).loc Cert.CondSiluRefIdeal.main_arg0) = m ((c.tc : Thread Cert.CondSiluIdeal.nD Cert.CondSiluIdeal.τ).loc Cert.CondSiluIdeal.main_arg0)) →
    ∃ (v0 : (c : Dev Cert.CondSiluIdeal.nD) → Buf (Elt Ideal) ((c.tc : Thread Cert.CondSiluIdeal.nD Cert.CondSiluIdeal.τ).loc Cert.CondSiluIdeal.main_v0_0)) (v1 : (c : Dev Cert.CondSiluIdeal.nD) → Buf (Elt Ideal) ((c.tc : Thread Cert.CondSiluIdeal.nD Cert.CondSiluIdeal.τ).loc Cert.CondSiluIdeal.main_v0_1)),
      θ_run (Cert.CondSiluIdeal.defs (F := Ideal)) (onTc (τ := Cert.CondSiluIdeal.τ) (Cert.CondSiluIdeal.main (F := Ideal))) ⟨m, fun _ => 0, g⟩ (fun r => ∀ c : Dev Cert.CondSiluIdeal.nD,
          r.2.mem ((c.tc : Thread Cert.CondSiluIdeal.nD Cert.CondSiluIdeal.τ).loc Cert.CondSiluIdeal.main_v0_0) = v0 c
          ∧ r.2.mem ((c.tc : Thread Cert.CondSiluIdeal.nD Cert.CondSiluIdeal.τ).loc Cert.CondSiluIdeal.main_v0_1) = v1 c
          ∧ r.2.mem ((c.tc : Thread Cert.CondSiluIdeal.nD Cert.CondSiluIdeal.τ).loc Cert.CondSiluIdeal.main_arg0) = m ((c.tc : Thread Cert.CondSiluIdeal.nD Cert.CondSiluIdeal.τ).loc Cert.CondSiluIdeal.main_arg0))
      ∧ θ_run (Cert.CondSiluRefIdeal.defs (F := Ideal)) (onTc (τ := Cert.CondSiluRefIdeal.τ) (Cert.CondSiluRefIdeal.main (F := Ideal))) ⟨m', fun _ => 0, g'⟩ (fun r => ∀ c : Dev Cert.CondSiluRefIdeal.nD,
          r.2.mem ((c.tc : Thread Cert.CondSiluRefIdeal.nD Cert.CondSiluRefIdeal.τ).loc Cert.CondSiluRefIdeal.main_v0_0) = v0 c
          ∧ r.2.mem ((c.tc : Thread Cert.CondSiluRefIdeal.nD Cert.CondSiluRefIdeal.τ).loc Cert.CondSiluRefIdeal.main_v2) = v1 c
          ∧ r.2.mem ((c.tc : Thread Cert.CondSiluRefIdeal.nD Cert.CondSiluRefIdeal.τ).loc Cert.CondSiluRefIdeal.main_arg0) = m' ((c.tc : Thread Cert.CondSiluRefIdeal.nD Cert.CondSiluRefIdeal.τ).loc Cert.CondSiluRefIdeal.main_arg0))

def preserves_AdamSsmIn_AdamSsmInIdeal : Prop :=
  IdealRules.named_const.Statement Cert.AdamSsmInIdeal.κ "factor1" .f32 0x3FC48605#32 ((8388608 / 5463681 : ℝ) : EReal)
  ∧ IdealRules.named_const.Statement Cert.AdamSsmInIdeal.κ "factor2" .f32 0x42C8E6D3#32 ((268435456 / 2672307 : ℝ) : EReal)

def algebraic_AdamSsmInIdeal_AdamSsmInRefIdeal [hAdamSsmInIdeal : Cert.AdamSsmInIdeal.Facts] [hAdamSsmInRefIdeal : Cert.AdamSsmInRefIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg)
    (m' : (ℓ : Loc Cert.AdamSsmInRefIdeal.nD Cert.AdamSsmInRefIdeal.τ Cert.AdamSsmInRefIdeal.sig) → Buf (Elt Ideal) ℓ) (g' : Dev Cert.AdamSsmInRefIdeal.nD → PrngReg), Pre_AdamSsmInIdeal m →
    (∀ c : Dev Cert.AdamSsmInIdeal.nD,
      m' ((c.tc : Thread Cert.AdamSsmInRefIdeal.nD Cert.AdamSsmInRefIdeal.τ).loc Cert.AdamSsmInRefIdeal.main_arg0) = m ((c.tc : Thread Cert.AdamSsmInIdeal.nD Cert.AdamSsmInIdeal.τ).loc Cert.AdamSsmInIdeal.main_arg0)
      ∧ m' ((c.tc : Thread Cert.AdamSsmInRefIdeal.nD Cert.AdamSsmInRefIdeal.τ).loc Cert.AdamSsmInRefIdeal.main_arg1) = m ((c.tc : Thread Cert.AdamSsmInIdeal.nD Cert.AdamSsmInIdeal.τ).loc Cert.AdamSsmInIdeal.main_arg1)
      ∧ m' ((c.tc : Thread Cert.AdamSsmInRefIdeal.nD Cert.AdamSsmInRefIdeal.τ).loc Cert.AdamSsmInRefIdeal.main_arg2) = m ((c.tc : Thread Cert.AdamSsmInIdeal.nD Cert.AdamSsmInIdeal.τ).loc Cert.AdamSsmInIdeal.main_arg2)
      ∧ m' ((c.tc : Thread Cert.AdamSsmInRefIdeal.nD Cert.AdamSsmInRefIdeal.τ).loc Cert.AdamSsmInRefIdeal.main_arg3) = m ((c.tc : Thread Cert.AdamSsmInIdeal.nD Cert.AdamSsmInIdeal.τ).loc Cert.AdamSsmInIdeal.main_arg3)) →
    ∃ (v0 : (c : Dev Cert.AdamSsmInIdeal.nD) → Buf (Elt Ideal) ((c.tc : Thread Cert.AdamSsmInIdeal.nD Cert.AdamSsmInIdeal.τ).loc Cert.AdamSsmInIdeal.main_v0_0)) (v1 : (c : Dev Cert.AdamSsmInIdeal.nD) → Buf (Elt Ideal) ((c.tc : Thread Cert.AdamSsmInIdeal.nD Cert.AdamSsmInIdeal.τ).loc Cert.AdamSsmInIdeal.main_v0_1)) (v2 : (c : Dev Cert.AdamSsmInIdeal.nD) → Buf (Elt Ideal) ((c.tc : Thread Cert.AdamSsmInIdeal.nD Cert.AdamSsmInIdeal.τ).loc Cert.AdamSsmInIdeal.main_v0_2)),
      θ_run (Cert.AdamSsmInIdeal.defs (F := Ideal)) (onTc (τ := Cert.AdamSsmInIdeal.τ) (Cert.AdamSsmInIdeal.main (F := Ideal))) ⟨m, fun _ => 0, g⟩ (fun r => ∀ c : Dev Cert.AdamSsmInIdeal.nD,
          r.2.mem ((c.tc : Thread Cert.AdamSsmInIdeal.nD Cert.AdamSsmInIdeal.τ).loc Cert.AdamSsmInIdeal.main_v0_0) = v0 c
          ∧ r.2.mem ((c.tc : Thread Cert.AdamSsmInIdeal.nD Cert.AdamSsmInIdeal.τ).loc Cert.AdamSsmInIdeal.main_v0_1) = v1 c
          ∧ r.2.mem ((c.tc : Thread Cert.AdamSsmInIdeal.nD Cert.AdamSsmInIdeal.τ).loc Cert.AdamSsmInIdeal.main_v0_2) = v2 c
          ∧ r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
          ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
          ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
          ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3))
      ∧ θ_run (Cert.AdamSsmInRefIdeal.defs (F := Ideal)) (onTc (τ := Cert.AdamSsmInRefIdeal.τ) (Cert.AdamSsmInRefIdeal.main (F := Ideal))) ⟨m', fun _ => 0, g'⟩ (fun r => ∀ c : Dev Cert.AdamSsmInRefIdeal.nD,
          r.2.mem ((c.tc : Thread Cert.AdamSsmInRefIdeal.nD Cert.AdamSsmInRefIdeal.τ).loc Cert.AdamSsmInRefIdeal.main_v23) = v0 c
          ∧ r.2.mem ((c.tc : Thread Cert.AdamSsmInRefIdeal.nD Cert.AdamSsmInRefIdeal.τ).loc Cert.AdamSsmInRefIdeal.main_v4) = v1 c
          ∧ r.2.mem ((c.tc : Thread Cert.AdamSsmInRefIdeal.nD Cert.AdamSsmInRefIdeal.τ).loc Cert.AdamSsmInRefIdeal.main_v10) = v2 c
          ∧ r.2.mem ((c.tc : Thread Cert.AdamSsmInRefIdeal.nD Cert.AdamSsmInRefIdeal.τ).loc Cert.AdamSsmInRefIdeal.main_arg0) = m' ((c.tc : Thread Cert.AdamSsmInRefIdeal.nD Cert.AdamSsmInRefIdeal.τ).loc Cert.AdamSsmInRefIdeal.main_arg0)
          ∧ r.2.mem ((c.tc : Thread Cert.AdamSsmInRefIdeal.nD Cert.AdamSsmInRefIdeal.τ).loc Cert.AdamSsmInRefIdeal.main_arg1) = m' ((c.tc : Thread Cert.AdamSsmInRefIdeal.nD Cert.AdamSsmInRefIdeal.τ).loc Cert.AdamSsmInRefIdeal.main_arg1)
          ∧ r.2.mem ((c.tc : Thread Cert.AdamSsmInRefIdeal.nD Cert.AdamSsmInRefIdeal.τ).loc Cert.AdamSsmInRefIdeal.main_arg2) = m' ((c.tc : Thread Cert.AdamSsmInRefIdeal.nD Cert.AdamSsmInRefIdeal.τ).loc Cert.AdamSsmInRefIdeal.main_arg2)
          ∧ r.2.mem ((c.tc : Thread Cert.AdamSsmInRefIdeal.nD Cert.AdamSsmInRefIdeal.τ).loc Cert.AdamSsmInRefIdeal.main_arg3) = m' ((c.tc : Thread Cert.AdamSsmInRefIdeal.nD Cert.AdamSsmInRefIdeal.τ).loc Cert.AdamSsmInRefIdeal.main_arg3))

def preserves_AdamAttnIn_AdamAttnInIdeal : Prop :=
  IdealRules.named_const.Statement Cert.AdamAttnInIdeal.κ "factor1" .f32 0x3FC48605#32 ((8388608 / 5463681 : ℝ) : EReal)
  ∧ IdealRules.named_const.Statement Cert.AdamAttnInIdeal.κ "factor2" .f32 0x42C8E6D3#32 ((268435456 / 2672307 : ℝ) : EReal)

def algebraic_AdamAttnInIdeal_AdamAttnInRefIdeal [hAdamAttnInIdeal : Cert.AdamAttnInIdeal.Facts] [hAdamAttnInRefIdeal : Cert.AdamAttnInRefIdeal.Facts] : Prop :=
  ∀ (m : (ℓ : Loc Cert.AdamAttnInIdeal.nD Cert.AdamAttnInIdeal.τ Cert.AdamAttnInIdeal.sig) → Buf (Elt Ideal) ℓ) (g : Dev Cert.AdamAttnInIdeal.nD → PrngReg)
    (m' : (ℓ : Loc Cert.AdamAttnInRefIdeal.nD Cert.AdamAttnInRefIdeal.τ Cert.AdamAttnInRefIdeal.sig) → Buf (Elt Ideal) ℓ) (g' : Dev Cert.AdamAttnInRefIdeal.nD → PrngReg), Pre_AdamAttnInIdeal m →
    (∀ c : Dev Cert.AdamAttnInIdeal.nD,
      m' ((c.tc : Thread Cert.AdamAttnInRefIdeal.nD Cert.AdamAttnInRefIdeal.τ).loc Cert.AdamAttnInRefIdeal.main_arg0) = m ((c.tc : Thread Cert.AdamAttnInIdeal.nD Cert.AdamAttnInIdeal.τ).loc Cert.AdamAttnInIdeal.main_arg0)
      ∧ m' ((c.tc : Thread Cert.AdamAttnInRefIdeal.nD Cert.AdamAttnInRefIdeal.τ).loc Cert.AdamAttnInRefIdeal.main_arg1) = m ((c.tc : Thread Cert.AdamAttnInIdeal.nD Cert.AdamAttnInIdeal.τ).loc Cert.AdamAttnInIdeal.main_arg1)
      ∧ m' ((c.tc : Thread Cert.AdamAttnInRefIdeal.nD Cert.AdamAttnInRefIdeal.τ).loc Cert.AdamAttnInRefIdeal.main_arg2) = m ((c.tc : Thread Cert.AdamAttnInIdeal.nD Cert.AdamAttnInIdeal.τ).loc Cert.AdamAttnInIdeal.main_arg2)
      ∧ m' ((c.tc : Thread Cert.AdamAttnInRefIdeal.nD Cert.AdamAttnInRefIdeal.τ).loc Cert.AdamAttnInRefIdeal.main_arg3) = m ((c.tc : Thread Cert.AdamAttnInIdeal.nD Cert.AdamAttnInIdeal.τ).loc Cert.AdamAttnInIdeal.main_arg3)) →
    ∃ (v0 : (c : Dev Cert.AdamAttnInIdeal.nD) → Buf (Elt Ideal) ((c.tc : Thread Cert.AdamAttnInIdeal.nD Cert.AdamAttnInIdeal.τ).loc Cert.AdamAttnInIdeal.main_v0_0)) (v1 : (c : Dev Cert.AdamAttnInIdeal.nD) → Buf (Elt Ideal) ((c.tc : Thread Cert.AdamAttnInIdeal.nD Cert.AdamAttnInIdeal.τ).loc Cert.AdamAttnInIdeal.main_v0_1)) (v2 : (c : Dev Cert.AdamAttnInIdeal.nD) → Buf (Elt Ideal) ((c.tc : Thread Cert.AdamAttnInIdeal.nD Cert.AdamAttnInIdeal.τ).loc Cert.AdamAttnInIdeal.main_v0_2)),
      θ_run (Cert.AdamAttnInIdeal.defs (F := Ideal)) (onTc (τ := Cert.AdamAttnInIdeal.τ) (Cert.AdamAttnInIdeal.main (F := Ideal))) ⟨m, fun _ => 0, g⟩ (fun r => ∀ c : Dev Cert.AdamAttnInIdeal.nD,
          r.2.mem ((c.tc : Thread Cert.AdamAttnInIdeal.nD Cert.AdamAttnInIdeal.τ).loc Cert.AdamAttnInIdeal.main_v0_0) = v0 c
          ∧ r.2.mem ((c.tc : Thread Cert.AdamAttnInIdeal.nD Cert.AdamAttnInIdeal.τ).loc Cert.AdamAttnInIdeal.main_v0_1) = v1 c
          ∧ r.2.mem ((c.tc : Thread Cert.AdamAttnInIdeal.nD Cert.AdamAttnInIdeal.τ).loc Cert.AdamAttnInIdeal.main_v0_2) = v2 c
          ∧ r.2.mem ((c.tc : Thread Cert.AdamAttnInIdeal.nD Cert.AdamAttnInIdeal.τ).loc Cert.AdamAttnInIdeal.main_arg0) = m ((c.tc : Thread Cert.AdamAttnInIdeal.nD Cert.AdamAttnInIdeal.τ).loc Cert.AdamAttnInIdeal.main_arg0)
          ∧ r.2.mem ((c.tc : Thread Cert.AdamAttnInIdeal.nD Cert.AdamAttnInIdeal.τ).loc Cert.AdamAttnInIdeal.main_arg1) = m ((c.tc : Thread Cert.AdamAttnInIdeal.nD Cert.AdamAttnInIdeal.τ).loc Cert.AdamAttnInIdeal.main_arg1)
          ∧ r.2.mem ((c.tc : Thread Cert.AdamAttnInIdeal.nD Cert.AdamAttnInIdeal.τ).loc Cert.AdamAttnInIdeal.main_arg2) = m ((c.tc : Thread Cert.AdamAttnInIdeal.nD Cert.AdamAttnInIdeal.τ).loc Cert.AdamAttnInIdeal.main_arg2)
          ∧ r.2.mem ((c.tc : Thread Cert.AdamAttnInIdeal.nD Cert.AdamAttnInIdeal.τ).loc Cert.AdamAttnInIdeal.main_arg3) = m ((c.tc : Thread Cert.AdamAttnInIdeal.nD Cert.AdamAttnInIdeal.τ).loc Cert.AdamAttnInIdeal.main_arg3))
      ∧ θ_run (Cert.AdamAttnInRefIdeal.defs (F := Ideal)) (onTc (τ := Cert.AdamAttnInRefIdeal.τ) (Cert.AdamAttnInRefIdeal.main (F := Ideal))) ⟨m', fun _ => 0, g'⟩ (fun r => ∀ c : Dev Cert.AdamAttnInRefIdeal.nD,
          r.2.mem ((c.tc : Thread Cert.AdamAttnInRefIdeal.nD Cert.AdamAttnInRefIdeal.τ).loc Cert.AdamAttnInRefIdeal.main_v23) = v0 c
          ∧ r.2.mem ((c.tc : Thread Cert.AdamAttnInRefIdeal.nD Cert.AdamAttnInRefIdeal.τ).loc Cert.AdamAttnInRefIdeal.main_v4) = v1 c
          ∧ r.2.mem ((c.tc : Thread Cert.AdamAttnInRefIdeal.nD Cert.AdamAttnInRefIdeal.τ).loc Cert.AdamAttnInRefIdeal.main_v10) = v2 c
          ∧ r.2.mem ((c.tc : Thread Cert.AdamAttnInRefIdeal.nD Cert.AdamAttnInRefIdeal.τ).loc Cert.AdamAttnInRefIdeal.main_arg0) = m' ((c.tc : Thread Cert.AdamAttnInRefIdeal.nD Cert.AdamAttnInRefIdeal.τ).loc Cert.AdamAttnInRefIdeal.main_arg0)
          ∧ r.2.mem ((c.tc : Thread Cert.AdamAttnInRefIdeal.nD Cert.AdamAttnInRefIdeal.τ).loc Cert.AdamAttnInRefIdeal.main_arg1) = m' ((c.tc : Thread Cert.AdamAttnInRefIdeal.nD Cert.AdamAttnInRefIdeal.τ).loc Cert.AdamAttnInRefIdeal.main_arg1)
          ∧ r.2.mem ((c.tc : Thread Cert.AdamAttnInRefIdeal.nD Cert.AdamAttnInRefIdeal.τ).loc Cert.AdamAttnInRefIdeal.main_arg2) = m' ((c.tc : Thread Cert.AdamAttnInRefIdeal.nD Cert.AdamAttnInRefIdeal.τ).loc Cert.AdamAttnInRefIdeal.main_arg2)
          ∧ r.2.mem ((c.tc : Thread Cert.AdamAttnInRefIdeal.nD Cert.AdamAttnInRefIdeal.τ).loc Cert.AdamAttnInRefIdeal.main_arg3) = m' ((c.tc : Thread Cert.AdamAttnInRefIdeal.nD Cert.AdamAttnInRefIdeal.τ).loc Cert.AdamAttnInRefIdeal.main_arg3))

def preserves_AdamRows_AdamRowsIdeal : Prop :=
  IdealRules.named_const.Statement Cert.AdamRowsIdeal.κ "factor1" .f32 0x3FC48605#32 ((8388608 / 5463681 : ℝ) : EReal)
  ∧ IdealRules.named_const.Statement Cert.AdamRowsIdeal.κ "factor2" .f32 0x42C8E6D3#32 ((268435456 / 2672307 : ℝ) : EReal)

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v0_0)) (v1 : (c : Dev Cert.AdamRowsIdeal.nD) → Buf (Elt Ideal) ((c.tc : Thread Cert.AdamRowsIdeal.nD Cert.AdamRowsIdeal.τ).loc Cert.AdamRowsIdeal.main_v0_1)) (v2 : (c : Dev Cert.AdamRowsIdeal.nD) → Buf (Elt Ideal) ((c.tc : Thread Cert.AdamRowsIdeal.nD Cert.AdamRowsIdeal.τ).loc Cert.AdamRowsIdeal.main_v0_2)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v0_0) = v0 c
          ∧ r.2.mem ((c.tc : Thread Cert.AdamRowsIdeal.nD Cert.AdamRowsIdeal.τ).loc Cert.AdamRowsIdeal.main_v0_1) = v1 c
          ∧ r.2.mem ((c.tc : Thread Cert.AdamRowsIdeal.nD Cert.AdamRowsIdeal.τ).loc Cert.AdamRowsIdeal.main_v0_2) = v2 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v23) = v0 c
          ∧ r.2.mem ((c.tc : Thread Cert.AdamRowsRefIdeal.nD Cert.AdamRowsRefIdeal.τ).loc Cert.AdamRowsRefIdeal.main_v4) = v1 c
          ∧ r.2.mem ((c.tc : Thread Cert.AdamRowsRefIdeal.nD Cert.AdamRowsRefIdeal.τ).loc Cert.AdamRowsRefIdeal.main_v10) = v2 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamMod_AdamModIdeal : Prop :=
  IdealRules.named_const.Statement Cert.AdamModIdeal.κ "factor1" .f32 0x3FC48605#32 ((8388608 / 5463681 : ℝ) : EReal)
  ∧ IdealRules.named_const.Statement Cert.AdamModIdeal.κ "factor2" .f32 0x42C8E6D3#32 ((268435456 / 2672307 : ℝ) : EReal)

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v23) = v0 c
          ∧ r.2.mem ((c.tc : Thread Cert.AdamModRefIdeal.nD Cert.AdamModRefIdeal.τ).loc Cert.AdamModRefIdeal.main_v4) = v1 c
          ∧ r.2.mem ((c.tc : Thread Cert.AdamModRefIdeal.nD Cert.AdamModRefIdeal.τ).loc Cert.AdamModRefIdeal.main_v10) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamSmall_AdamSmallIdeal : Prop :=
  IdealRules.named_const.Statement Cert.AdamSmallIdeal.κ "factor1" .f32 0x3FC48605#32 ((8388608 / 5463681 : ℝ) : EReal)
  ∧ IdealRules.named_const.Statement Cert.AdamSmallIdeal.κ "factor2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hAttnInDw : Cert.AttnInDw.Facts) (hAttnInDwIdeal : Cert.AttnInDwIdeal.Facts) (hAttnInDwRefIdeal : Cert.AttnInDwRefIdeal.Facts) (hAttnInDx : Cert.AttnInDx.Facts) (hAttnInDxIdeal : Cert.AttnInDxIdeal.Facts) (hAttnInDxRefIdeal : Cert.AttnInDxRefIdeal.Facts) (hAttnOutDw : Cert.AttnOutDw.Facts) (hAttnOutDwIdeal : Cert.AttnOutDwIdeal.Facts) (hAttnOutDwRefIdeal : Cert.AttnOutDwRefIdeal.Facts) (hAttnOutDx : Cert.AttnOutDx.Facts) (hAttnOutDxIdeal : Cert.AttnOutDxIdeal.Facts) (hAttnOutDxRefIdeal : Cert.AttnOutDxRefIdeal.Facts) (hSsmInDw : Cert.SsmInDw.Facts) (hSsmInDwIdeal : Cert.SsmInDwIdeal.Facts) (hSsmInDwRefIdeal : Cert.SsmInDwRefIdeal.Facts) (hSsmInDx : Cert.SsmInDx.Facts) (hSsmInDxIdeal : Cert.SsmInDxIdeal.Facts) (hSsmInDxRefIdeal : Cert.SsmInDxRefIdeal.Facts) (hSsmOutDw : Cert.SsmOutDw.Facts) (hSsmOutDwIdeal : Cert.SsmOutDwIdeal.Facts) (hSsmOutDwRefIdeal : Cert.SsmOutDwRefIdeal.Facts) (hSsmOutDx : Cert.SsmOutDx.Facts) (hSsmOutDxIdeal : Cert.SsmOutDxIdeal.Facts) (hSsmOutDxRefIdeal : Cert.SsmOutDxRefIdeal.Facts) (hAttnIn : Cert.AttnIn.Facts) (hAttnInIdeal : Cert.AttnInIdeal.Facts) (hAttnInRefIdeal : Cert.AttnInRefIdeal.Facts) (hAttnOut : Cert.AttnOut.Facts) (hAttnOutIdeal : Cert.AttnOutIdeal.Facts) (hAttnOutRefIdeal : Cert.AttnOutRefIdeal.Facts) (hSsmIn : Cert.SsmIn.Facts) (hSsmInIdeal : Cert.SsmInIdeal.Facts) (hSsmInRefIdeal : Cert.SsmInRefIdeal.Facts) (hSsmGlu : Cert.SsmGlu.Facts) (hSsmGluIdeal : Cert.SsmGluIdeal.Facts) (hSsmGluRefIdeal : Cert.SsmGluRefIdeal.Facts) (hSsmOut : Cert.SsmOut.Facts) (hSsmOutIdeal : Cert.SsmOutIdeal.Facts) (hSsmOutRefIdeal : Cert.SsmOutRefIdeal.Facts) (hMod : Cert.Mod.Facts) (hModIdeal : Cert.ModIdeal.Facts) (hModRefIdeal : Cert.ModRefIdeal.Facts) (hModDx : Cert.ModDx.Facts) (hModDxIdeal : Cert.ModDxIdeal.Facts) (hModDxRefIdeal : Cert.ModDxRefIdeal.Facts) (hModDw : Cert.ModDw.Facts) (hModDwIdeal : Cert.ModDwIdeal.Facts) (hModDwRefIdeal : Cert.ModDwRefIdeal.Facts) (hGate : Cert.Gate.Facts) (hGateIdeal : Cert.GateIdeal.Facts) (hGateRefIdeal : Cert.GateRefIdeal.Facts) (hInGrad : Cert.InGrad.Facts) (hInGradIdeal : Cert.InGradIdeal.Facts) (hInGradRefIdeal : Cert.InGradRefIdeal.Facts) (hCondSilu : Cert.CondSilu.Facts) (hCondSiluIdeal : Cert.CondSiluIdeal.Facts) (hCondSiluRefIdeal : Cert.CondSiluRefIdeal.Facts) (hAdamSsmIn : Cert.AdamSsmIn.Facts) (hAdamSsmInIdeal : Cert.AdamSsmInIdeal.Facts) (hAdamSsmInRefIdeal : Cert.AdamSsmInRefIdeal.Facts) (hAdamAttnIn : Cert.AdamAttnIn.Facts) (hAdamAttnInIdeal : Cert.AdamAttnInIdeal.Facts) (hAdamAttnInRefIdeal : Cert.AdamAttnInRefIdeal.Facts) (hAdamRows : Cert.AdamRows.Facts) (hAdamRowsIdeal : Cert.AdamRowsIdeal.Facts) (hAdamRowsRefIdeal : Cert.AdamRowsRefIdeal.Facts) (hAdamMod : Cert.AdamMod.Facts) (hAdamModIdeal : Cert.AdamModIdeal.Facts) (hAdamModRefIdeal : Cert.AdamModRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite2 (hForwardIdeal := hForwardIdeal) (hPre_finite2 := hPre_finite2)
    ∧ quiescent_ForwardReferenceIdeal (hForwardReferenceIdeal := hForwardReferenceIdeal)
    ∧ quiescent_ForwardReferenceIdeal_pre_finite2 (hForwardReferenceIdeal := hForwardReferenceIdeal) (hPre_finite2 := hPre_finite2)
    ∧ quiescent_AttnInDw (hAttnInDw := hAttnInDw)
    ∧ quiescent_AttnInDwIdeal (hAttnInDwIdeal := hAttnInDwIdeal)
    ∧ quiescent_AttnInDwRefIdeal (hAttnInDwRefIdeal := hAttnInDwRefIdeal)
    ∧ quiescent_AttnInDx (hAttnInDx := hAttnInDx)
    ∧ quiescent_AttnInDxIdeal (hAttnInDxIdeal := hAttnInDxIdeal)
    ∧ quiescent_AttnInDxRefIdeal (hAttnInDxRefIdeal := hAttnInDxRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_SsmInDw (hSsmInDw := hSsmInDw)
    ∧ quiescent_SsmInDwIdeal (hSsmInDwIdeal := hSsmInDwIdeal)
    ∧ quiescent_SsmInDwRefIdeal (hSsmInDwRefIdeal := hSsmInDwRefIdeal)
    ∧ quiescent_SsmInDx (hSsmInDx := hSsmInDx)
    ∧ quiescent_SsmInDxIdeal (hSsmInDxIdeal := hSsmInDxIdeal)
    ∧ quiescent_SsmInDxRefIdeal (hSsmInDxRefIdeal := hSsmInDxRefIdeal)
    ∧ quiescent_SsmOutDw (hSsmOutDw := hSsmOutDw)
    ∧ quiescent_SsmOutDwIdeal (hSsmOutDwIdeal := hSsmOutDwIdeal)
    ∧ quiescent_SsmOutDwRefIdeal (hSsmOutDwRefIdeal := hSsmOutDwRefIdeal)
    ∧ quiescent_SsmOutDx (hSsmOutDx := hSsmOutDx)
    ∧ quiescent_SsmOutDxIdeal (hSsmOutDxIdeal := hSsmOutDxIdeal)
    ∧ quiescent_SsmOutDxRefIdeal (hSsmOutDxRefIdeal := hSsmOutDxRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmGlu (hSsmGlu := hSsmGlu)
    ∧ quiescent_SsmGluIdeal (hSsmGluIdeal := hSsmGluIdeal)
    ∧ quiescent_SsmGluRefIdeal (hSsmGluRefIdeal := hSsmGluRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_Mod (hMod := hMod)
    ∧ quiescent_ModIdeal (hModIdeal := hModIdeal)
    ∧ quiescent_ModRefIdeal (hModRefIdeal := hModRefIdeal)
    ∧ quiescent_ModDx (hModDx := hModDx)
    ∧ quiescent_ModDxIdeal (hModDxIdeal := hModDxIdeal)
    ∧ quiescent_ModDxRefIdeal (hModDxRefIdeal := hModDxRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_Gate (hGate := hGate)
    ∧ quiescent_GateIdeal (hGateIdeal := hGateIdeal)
    ∧ quiescent_GateRefIdeal (hGateRefIdeal := hGateRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_CondSilu (hCondSilu := hCondSilu)
    ∧ quiescent_CondSiluIdeal (hCondSiluIdeal := hCondSiluIdeal)
    ∧ quiescent_CondSiluRefIdeal (hCondSiluRefIdeal := hCondSiluRefIdeal)
    ∧ quiescent_AdamSsmIn (hAdamSsmIn := hAdamSsmIn)
    ∧ quiescent_AdamSsmInIdeal (hAdamSsmInIdeal := hAdamSsmInIdeal)
    ∧ quiescent_AdamSsmInRefIdeal (hAdamSsmInRefIdeal := hAdamSsmInRefIdeal)
    ∧ quiescent_AdamAttnIn (hAdamAttnIn := hAdamAttnIn)
    ∧ quiescent_AdamAttnInIdeal (hAdamAttnInIdeal := hAdamAttnInIdeal)
    ∧ quiescent_AdamAttnInRefIdeal (hAdamAttnInRefIdeal := hAdamAttnInRefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite2 (hForwardIdeal := hForwardIdeal) (hForwardReferenceIdeal := hForwardReferenceIdeal) (hPre_finite2 := hPre_finite2)
    ∧ preserves_AttnInDw_AttnInDwIdeal
    ∧ algebraic_AttnInDwIdeal_AttnInDwRefIdeal (hAttnInDwIdeal := hAttnInDwIdeal) (hAttnInDwRefIdeal := hAttnInDwRefIdeal)
    ∧ preserves_AttnInDx_AttnInDxIdeal
    ∧ algebraic_AttnInDxIdeal_AttnInDxRefIdeal (hAttnInDxIdeal := hAttnInDxIdeal) (hAttnInDxRefIdeal := hAttnInDxRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_SsmInDw_SsmInDwIdeal
    ∧ algebraic_SsmInDwIdeal_SsmInDwRefIdeal (hSsmInDwIdeal := hSsmInDwIdeal) (hSsmInDwRefIdeal := hSsmInDwRefIdeal)
    ∧ preserves_SsmInDx_SsmInDxIdeal
    ∧ algebraic_SsmInDxIdeal_SsmInDxRefIdeal (hSsmInDxIdeal := hSsmInDxIdeal) (hSsmInDxRefIdeal := hSsmInDxRefIdeal)
    ∧ preserves_SsmOutDw_SsmOutDwIdeal
    ∧ algebraic_SsmOutDwIdeal_SsmOutDwRefIdeal (hSsmOutDwIdeal := hSsmOutDwIdeal) (hSsmOutDwRefIdeal := hSsmOutDwRefIdeal)
    ∧ preserves_SsmOutDx_SsmOutDxIdeal
    ∧ algebraic_SsmOutDxIdeal_SsmOutDxRefIdeal (hSsmOutDxIdeal := hSsmOutDxIdeal) (hSsmOutDxRefIdeal := hSsmOutDxRefIdeal)
    ∧ preserves_AttnIn_AttnInIdeal
    ∧ algebraic_AttnInIdeal_AttnInRefIdeal (hAttnInIdeal := hAttnInIdeal) (hAttnInRefIdeal := hAttnInRefIdeal)
    ∧ preserves_AttnOut_AttnOutIdeal
    ∧ algebraic_AttnOutIdeal_AttnOutRefIdeal (hAttnOutIdeal := hAttnOutIdeal) (hAttnOutRefIdeal := hAttnOutRefIdeal)
    ∧ preserves_SsmIn_SsmInIdeal
    ∧ algebraic_SsmInIdeal_SsmInRefIdeal (hSsmInIdeal := hSsmInIdeal) (hSsmInRefIdeal := hSsmInRefIdeal)
    ∧ preserves_SsmGlu_SsmGluIdeal
    ∧ algebraic_SsmGluIdeal_SsmGluRefIdeal (hSsmGluIdeal := hSsmGluIdeal) (hSsmGluRefIdeal := hSsmGluRefIdeal)
    ∧ preserves_SsmOut_SsmOutIdeal
    ∧ algebraic_SsmOutIdeal_SsmOutRefIdeal (hSsmOutIdeal := hSsmOutIdeal) (hSsmOutRefIdeal := hSsmOutRefIdeal)
    ∧ preserves_Mod_ModIdeal
    ∧ algebraic_ModIdeal_ModRefIdeal (hModIdeal := hModIdeal) (hModRefIdeal := hModRefIdeal)
    ∧ preserves_ModDx_ModDxIdeal
    ∧ algebraic_ModDxIdeal_ModDxRefIdeal (hModDxIdeal := hModDxIdeal) (hModDxRefIdeal := hModDxRefIdeal)
    ∧ preserves_ModDw_ModDwIdeal
    ∧ algebraic_ModDwIdeal_ModDwRefIdeal (hModDwIdeal := hModDwIdeal) (hModDwRefIdeal := hModDwRefIdeal)
    ∧ preserves_Gate_GateIdeal
    ∧ algebraic_GateIdeal_GateRefIdeal (hGateIdeal := hGateIdeal) (hGateRefIdeal := hGateRefIdeal)
    ∧ preserves_InGrad_InGradIdeal
    ∧ algebraic_InGradIdeal_InGradRefIdeal (hInGradIdeal := hInGradIdeal) (hInGradRefIdeal := hInGradRefIdeal)
    ∧ preserves_CondSilu_CondSiluIdeal
    ∧ algebraic_CondSiluIdeal_CondSiluRefIdeal (hCondSiluIdeal := hCondSiluIdeal) (hCondSiluRefIdeal := hCondSiluRefIdeal)
    ∧ preserves_AdamSsmIn_AdamSsmInIdeal
    ∧ algebraic_AdamSsmInIdeal_AdamSsmInRefIdeal (hAdamSsmInIdeal := hAdamSsmInIdeal) (hAdamSsmInRefIdeal := hAdamSsmInRefIdeal)
    ∧ preserves_AdamAttnIn_AdamAttnInIdeal
    ∧ algebraic_AdamAttnInIdeal_AdamAttnInRefIdeal (hAdamAttnInIdeal := hAdamAttnInIdeal) (hAdamAttnInRefIdeal := hAdamAttnInRefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamMod_AdamModIdeal
    ∧ algebraic_AdamModIdeal_AdamModRefIdeal (hAdamModIdeal := hAdamModIdeal) (hAdamModRefIdeal := hAdamModRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S8192x1024 : Shape := ⟨2, ![8192, 1024]⟩
abbrev S8448x256 : Shape := ⟨2, ![8448, 256]⟩
abbrev S8448x2560 : Shape := ⟨2, ![8448, 2560]⟩
abbrev S_ : Shape := ⟨0, ![]⟩

class Facts : Prop where
  slices_S8448x2560_S8192x1024_0_1024 : S8448x2560.Slices ![0, 1024] S8192x1024
  bitsLt_bf16_f32 : FTy.bits .bf16 < FTy.bits .f32
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn_part1 {F : FTy → Type} [FloatOps F] (main_v4 : IVec S8192x1024 1) (main_v8 : IVec S8448x256 1) (main_v12 : IVec S8448x256 1) (main_v16 : IVec S8192x1024 1) (main_v18 : FVec F S8192x1024 .f32) (main_cst_3 : FVec F S_ .f32) : IVec S8192x1024 1 × IVec S8448x256 1 × IVec S8448x256 1 × IVec S8192x1024 1 × IVec S8192x1024 1 :=
  let main_v19 : FVec F S8192x1024 .f32 := broadcastInDim S8192x1024 ![] bcast_S_S8192x1024 main_cst_3
  let main_v20 : IVec S8192x1024 1 := cmpf .olt main_v18 main_v19
  (main_v4, main_v8, main_v12, main_v16, main_v20)

def fn {F : FTy → Type} [FloatOps F] (main_arg0 : FVec F S8192x1024 .bf16) (main_arg1 : FVec F S8448x256 .bf16) (main_arg2 : FVec F S8448x256 .bf16) (main_arg3 : FVec F S8448x2560 .bf16) (main_arg4 : FVec F S8192x1024 .bf16) : IVec S8192x1024 1 × IVec S8448x256 1 × IVec S8448x256 1 × IVec S8192x1024 1 × IVec S8192x1024 1 :=
  let main_v0 : FVec F S8192x1024 .bf16 := (extractStridedSlice S8192x1024 ![0, 1024] · slices_S8448x2560_S8192x1024_0_1024) main_arg3
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8448x256 .f32 := (extf .f32 · bitsLt_bf16_f32) main_arg1
  let main_v6 : FVec F S8448x256 .f32 := Host.absf main_v5
  let main_cst_0 : FVec F S_ .f32 := constant S_ .f32 0x7F800000#32
  let main_v7 : FVec F S8448x256 .f32 := broadcastInDim S8448x256 ![] bcast_S_S8448x256 main_cst_0
  let main_v8 : IVec S8448x256 1 := cmpf .olt main_v6 main_v7
  let main_v9 : FVec F S8448x256 .f32 := (extf .f32 · bitsLt_bf16_f32) main_arg2
  let main_v10 : FVec F S8448x256 .f32 := Host.absf main_v9
  let main_cst_1 : FVec F S_ .f32 := constant S_ .f32 0x7F800000#32
  let main_v11 : FVec F S8448x256 .f32 := broadcastInDim S8448x256 ![] bcast_S_S8448x256 main_cst_1
  let main_v12 : IVec S8448x256 1 := cmpf .olt main_v10 main_v11
  let main_v13 : FVec F S8192x1024 .f32 := (extf .f32 · bitsLt_bf16_f32) main_v0
  let main_v14 : FVec F S8192x1024 .f32 := Host.absf main_v13
  let main_cst_2 : FVec F S_ .f32 := constant S_ .f32 0x7F800000#32
  let main_v15 : FVec F S8192x1024 .f32 := broadcastInDim S8192x1024 ![] bcast_S_S8192x1024 main_cst_2
  let main_v16 : IVec S8192x1024 1 := cmpf .olt main_v14 main_v15
  let main_v17 : FVec F S8192x1024 .f32 := (extf .f32 · bitsLt_bf16_f32) main_arg4
  let main_v18 : FVec F S8192x1024 .f32 := Host.absf main_v17
  let main_cst_3 : FVec F S_ .f32 := constant S_ .f32 0x7F800000#32
  fn_part1 (F := F) main_v4 main_v8 main_v12 main_v16 main_v18 main_cst_3
-- ==== Pre_finite2.lean ====
abbrev S8192x1024 : Shape := ⟨2, ![8192, 1024]⟩
abbrev S8448x256 : Shape := ⟨2, ![8448, 256]⟩
abbrev S8448x2560 : Shape := ⟨2, ![8448, 2560]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .bf16) (main_arg1 : FVec F S8448x256 .bf16) (main_arg2 : FVec F S8448x256 .bf16) (main_arg3 : FVec F S8448x2560 .bf16) : IVec S8192x1024 1 × IVec S8448x256 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8448x256 .f32 := (extf .f32 · bitsLt_bf16_f32) main_arg1
  let main_v5 : FVec F S8448x256 .f32 := Host.absf main_v4
  let main_cst_0 : FVec F S_ .f32 := constant S_ .f32 0x7F800000#32
  let main_v6 : FVec F S8448x256 .f32 := broadcastInDim S8448x256 ![] bcast_S_S8448x256 main_cst_0
  let main_v7 : IVec S8448x256 1 := cmpf .olt main_v5 main_v6
  (main_v3, main_v7)
-- ==== Kernel.lean ====
abbrev S8192x1024 : Shape := ⟨2, ![8192, 1024]⟩
abbrev S8448x256 : Shape := ⟨2, ![8448, 256]⟩
abbrev S8448x2560 : Shape := ⟨2, ![8448, 2560]⟩
abbrev S8192x4x4x64 : Shape := ⟨4, ![8192, 4, 4, 64]⟩
abbrev S8448x4x64 : Shape := ⟨3, ![8448, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S2x8x8192 : Shape := ⟨3, ![2, 8, 8192]⟩
abbrev S2x8192x8 : Shape := ⟨3, ![2, 8192, 8]⟩
abbrev S512x512 : Shape := ⟨2, ![512, 512]⟩
abbrev S8448x128 : Shape := ⟨2, ![8448, 128]⟩
abbrev S1x512x8 : Shape := ⟨3, ![1, 512, 8]⟩
abbrev S2x512x64 : Shape := ⟨3, ![2, 512, 64]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩
abbrev S1x512x64 : Shape := ⟨3, ![1, 512, 64]⟩
abbrev S768x64 : Shape := ⟨2, ![768, 64]⟩
abbrev S512x768 : Shape := ⟨2, ![512, 768]⟩

abbrev nBuf : Space → Nat
  | .hbm => 46
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8448x256, .bf16⟩
  | .hbm, ⟨2, _⟩ => ⟨S8448x256, .bf16⟩
  | .hbm, ⟨3, _⟩ => ⟨S8448x2560, .bf16⟩
  | .hbm, ⟨4, _⟩ => ⟨S8192x1024, .bf16⟩
  | .hbm, ⟨5, _⟩ => ⟨S8192x1024, .f32⟩
  | .hbm, ⟨6, _⟩ => ⟨S8192x4x4x64, .f32⟩
  | .hbm, ⟨7, _⟩ => ⟨S8448x256, .f32⟩
  | .hbm, ⟨8, _⟩ => ⟨S8448x4x64, .f32⟩
  | .hbm, ⟨9, _⟩ => ⟨S8448x256, .f32⟩
  | .hbm, ⟨10, _⟩ => ⟨S8448x4x64, .f32⟩
  | .hbm, ⟨11, _⟩ => ⟨S4x8448x8192x4, .f32⟩
  | .hbm, ⟨12, _⟩ => ⟨S4x4x8192x8448, .f32⟩
  | .hbm, ⟨13, _⟩ => ⟨S_, .f32⟩
  | .hbm, ⟨14, _⟩ => ⟨S4x4x8192, .f32⟩
  | .hbm, ⟨15, _⟩ => ⟨S_, .f32⟩
  | .hbm, ⟨16, _⟩ => ⟨S4x4x8192, .f32⟩
  | .hbm, ⟨17, _⟩ => ⟨S4x4x8192, .f32⟩
  | .hbm, ⟨18, _⟩ => ⟨S4x4x8192x1, .f32⟩
  | .hbm, ⟨19, _⟩ => ⟨S4x4x8192x8448, .f32⟩
  | .hbm, ⟨20, _⟩ => ⟨S4x4x8192x8448, .f32⟩
  | .hbm, ⟨21, _⟩ => ⟨S4x4x8192x8448, .f32⟩
  | .hbm, ⟨22, _⟩ => ⟨S_, .f32⟩
  | .hbm, ⟨23, _⟩ => ⟨S4x4x8192, .f32⟩
  | .hbm, ⟨24, _⟩ => ⟨S4x4x8192x1, .f32⟩
  | .hbm, ⟨25, _⟩ => ⟨S4x4x8192x8448, .f32⟩
  | .hbm, ⟨26, _⟩ => ⟨S4x4x8192x8448, .f32⟩
  | .hbm, ⟨27, _⟩ => ⟨S4x64x4x8192, .f32⟩
  | .hbm, ⟨28, _⟩ => ⟨S8192x4x4x64, .f32⟩
  | .hbm, ⟨29, _⟩ => ⟨S_, .f32⟩
  | .hbm, ⟨30, _⟩ => ⟨S4x4x8192, .f32⟩
  | .hbm, ⟨31, _⟩ => ⟨S4x4x8192x1, .f32⟩
  | .hbm, ⟨32, _⟩ => ⟨S4x4x8192x8448, .f32⟩
  | .hbm, ⟨33, _⟩ => ⟨S4x4x8192x8448, .f32⟩
  | .hbm, ⟨34, _⟩ => ⟨S4x4x8192x8448, .f32⟩
  | .hbm, ⟨35, _⟩ => ⟨S_, .f32⟩
  | .hbm, ⟨36, _⟩ => ⟨S4x4x8192, .f32⟩
  | .hbm, ⟨37, _⟩ => ⟨S4x4x8192, .f32⟩
  | .hbm, ⟨38, _⟩ => ⟨S4x4x8192, .f32⟩
  | .hbm, ⟨39, _⟩ => ⟨S8192x1024, .f32⟩
  | .hbm, ⟨40, _⟩ => ⟨S2x8x8192, .f32⟩
  | .hbm, ⟨41, _⟩ => ⟨S2x8192x8, .f32⟩
  | .hbm, ⟨42, _⟩ => ⟨S8192x1024, .bf16⟩
  | .hbm, ⟨43, _⟩ => ⟨S8448x256, .f32⟩
  | .hbm, ⟨44, _⟩ => ⟨S8448x256, .f32⟩
  | .hbm, ⟨45, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S1x512x8, .f32⟩
  | .local _ .vmem, ⟨13, _⟩ => ⟨S1x512x8, .f32⟩
  | .local _ .vmem, ⟨14, _⟩ => ⟨S512x512, .bf16⟩
  | .local _ .vmem, ⟨15, _⟩ => ⟨S512x512, .bf16⟩
  | .local _ .vmem, ⟨16, _⟩ => ⟨S8448x128, .f32⟩
  | .local _ .vmem, ⟨17, _⟩ => ⟨S8448x128, .f32⟩
  | .local _ .vmem, ⟨18, _⟩ => ⟨S8448x128, .f32⟩
  | .local _ .vmem, ⟨19, _⟩ => ⟨S8448x128, .f32⟩
  | .local _ .vmem, ⟨20, _⟩ => ⟨S512x512, .bf16⟩
  | .local _ .vmem, ⟨21, _⟩ => ⟨S512x512, .bf16⟩
  | .local _ .vmem, ⟨22, _⟩ => ⟨S2x512x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_49 : BitVec 32 := 0#32
  let c11_i32 : BitVec 32 := 11#32
  let v91 : BitVec 32 := Scalar.addi c0_i32_49 c11_i32
  let c1_i32 : BitVec 32 := 1#32
  ⟨c0_i32_49, v91, c1_i32⟩
def k0_mult1 (k0_t1 : Fin k0_t1_loop.trips) : BitVec 32 :=
  let c0_i32_49 : BitVec 32 := 0#32
  let c1_i32 : BitVec 32 := 1#32
  let arg14 : BitVec 32 := Scf.iv c0_i32_49 c1_i32 k0_t1
  let c768_i32 : BitVec 32 := 768#32
  let v391 : BitVec 32 := Scalar.muli arg14 c768_i32
  v391
def k0_off1 (k0_t1 : Fin k0_t1_loop.trips) : Fin 2 → Nat :=
  let c0_i32_49 : BitVec 32 := 0#32
  let c1_i32 : BitVec 32 := 1#32
  let arg14 : BitVec 32 := Scf.iv c0_i32_49 c1_i32 k0_t1
  let c768_i32 : BitVec 32 := 768#32
  let v391 : BitVec 32 := Scalar.muli arg14 c768_i32
  let v392 : BitVec 32 := v391
  let v393 : Index := Scalar.indexCast v392
  let c0_247 : Index := 0#32
  ![v393.toNat, 0]
@[reducible] def k0_t2_loop : Scf.Loop 32 :=
  let c0_i32_109 : BitVec 32 := 0#32
  let c11_i32_110 : BitVec 32 := 11#32
  let v188 : BitVec 32 := Scalar.addi c0_i32_109 c11_i32_110
  let c1_i32_111 : BitVec 32 := 1#32
  ⟨c0_i32_109, v188, c1_i32_111⟩
def k0_mult2 (k0_t2 : Fin k0_t2_loop.trips) : BitVec 32 :=
  let c0_i32_109 : BitVec 32 := 0#32
  let c1_i32_111 : BitVec 32 := 1#32
  let arg14 : BitVec 32 := Scf.iv c0_i32_109 c1_i32_111 k0_t2
  let c768_i32 : BitVec 32 := 768#32
  let v391 : BitVec 32 := Scalar.muli arg14 c768_i32
  v391
def k0_off2 (k0_t2 : Fin k0_t2_loop.trips) : Fin 2 → Nat :=
  let c0_i32_109 : BitVec 32 := 0#32
  let c1_i32_111 : BitVec 32 := 1#32
  let arg14 : BitVec 32 := Scf.iv c0_i32_109 c1_i32_111 k0_t2
  let c768_i32 : BitVec 32 := 768#32
  let v391 : BitVec 32 := Scalar.muli arg14 c768_i32
  let v392 : BitVec 32 := v391
  let v393 : Index := Scalar.indexCast v392
  let c0_247 : Index := 0#32
  ![v393.toNat, 0]
@[reducible] def k0_t3_loop : Scf.Loop 32 :=
  let c0_i32_171 : BitVec 32 := 0#32
  let c11_i32_172 : BitVec 32 := 11#32
  let v285 : BitVec 32 := Scalar.addi c0_i32_171 c11_i32_172
  let c1_i32_173 : BitVec 32 := 1#32
  ⟨c0_i32_171, v285, c1_i32_173⟩
def k0_mult3 (k0_t3 : Fin k0_t3_loop.trips) : BitVec 32 :=
  let c0_i32_171 : BitVec 32 := 0#32
  let c1_i32_173 : BitVec 32 := 1#32
  let arg14 : BitVec 32 := Scf.iv c0_i32_171 c1_i32_173 k0_t3
  let c768_i32 : BitVec 32 := 768#32
  let v391 : BitVec 32 := Scalar.muli arg14 c768_i32
  v391
def k0_off3 (k0_t3 : Fin k0_t3_loop.trips) : Fin 2 → Nat :=
  let c0_i32_171 : BitVec 32 := 0#32
  let c1_i32_173 : BitVec 32 := 1#32
  let arg14 : BitVec 32 := Scf.iv c0_i32_171 c1_i32_173 k0_t3
  let c768_i32 : BitVec 32 := 768#32
  let v391 : BitVec 32 := Scalar.muli arg14 c768_i32
  let v392 : BitVec 32 := v391
  let v393 : Index := Scalar.indexCast v392
  let c64_247 : Index := 64#32
  ![v393.toNat, 64]
@[reducible] def k0_t4_loop : Scf.Loop 32 :=
  let c0_i32_233 : BitVec 32 := 0#32
  let c11_i32_234 : BitVec 32 := 11#32
  let v382 : BitVec 32 := Scalar.addi c0_i32_233 c11_i32_234
  let c1_i32_235 : BitVec 32 := 1#32
  ⟨c0_i32_233, v382, c1_i32_235⟩
def k0_mult4 (k0_t4 : Fin k0_t4_loop.trips) : BitVec 32 :=
  let c0_i32_233 : BitVec 32 := 0#32
  let c1_i32_235 : BitVec 32 := 1#32
  let arg14 : BitVec 32 := Scf.iv c0_i32_233 c1_i32_235 k0_t4
  let c768_i32 : BitVec 32 := 768#32
  let v391 : BitVec 32 := Scalar.muli arg14 c768_i32
  v391
def k0_off4 (k0_t4 : Fin k0_t4_loop.trips) : Fin 2 → Nat :=
  let c0_i32_233 : BitVec 32 := 0#32
  let c1_i32_235 : BitVec 32 := 1#32
  let arg14 : BitVec 32 := Scf.iv c0_i32_233 c1_i32_235 k0_t4
  let c768_i32 : BitVec 32 := 768#32
  let v391 : BitVec 32 := Scalar.muli arg14 c768_i32
  let v392 : BitVec 32 := v391
  let v393 : Index := Scalar.indexCast v392
  let c64_247 : Index := 64#32
  ![v393.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8448x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x1024 : Shape := ⟨2, ![8192, 1024]⟩
abbrev S8448x256 : Shape := ⟨2, ![8448, 256]⟩
abbrev S8448x2560 : Shape := ⟨2, ![8448, 2560]⟩
abbrev S8192x4x4x64 : Shape := ⟨4, ![8192, 4, 4, 64]⟩
abbrev S8448x4x64 : Shape := ⟨3, ![8448, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S4x64x8448 : Shape := ⟨3, ![4, 64, 8448]⟩
abbrev S4x8192x4x64 : Shape := ⟨4, ![4, 8192, 4, 64]⟩
abbrev S4x8448x64 : Shape := ⟨3, ![4, 8448, 64]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8448x256, .bf16⟩
  | .hbm, ⟨2, _⟩ => ⟨S8448x256, .bf16⟩
  | .hbm, ⟨3, _⟩ => ⟨S8448x2560, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8448x256, .f32⟩
  | .hbm, ⟨9, _⟩ => ⟨S8448x256, .f32⟩
  | .hbm, ⟨10, _⟩ => ⟨S8192x4x4x64, .f32⟩
  | .hbm, ⟨11, _⟩ => ⟨S8448x4x64, .f32⟩
  | .hbm, ⟨12, _⟩ => ⟨S8448x4x64, .f32⟩
  | .hbm, ⟨13, _⟩ => ⟨S4x8448x8192x4, .f32⟩
  | .hbm, ⟨14, _⟩ => ⟨S4x4x8192x8448, .f32⟩
  | .hbm, ⟨15, _⟩ => ⟨S_, .f32⟩
  | .hbm, ⟨16, _⟩ => ⟨S4x4x8192, .f32⟩
  | .hbm, ⟨17, _⟩ => ⟨S4x4x8192x1, .f32⟩
  | .hbm, ⟨18, _⟩ => ⟨S4x4x8192x8448, .f32⟩
  | .hbm, ⟨19, _⟩ => ⟨S4x4x8192x8448, .i1⟩
  | .hbm, ⟨20, _⟩ => ⟨S4x4x8192x8448, .f32⟩
  | .hbm, ⟨21, _⟩ => ⟨S_, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .f32⟩
  | .hbm, ⟨26, _⟩ => ⟨S_, .f32⟩
  | .hbm, ⟨27, _⟩ => ⟨S4x4x8192, .f32⟩
  | .hbm, ⟨28, _⟩ => ⟨S4x4x8192, .i1⟩
  | .hbm, ⟨29, _⟩ => ⟨S_, .f32⟩
  | .hbm, ⟨30, _⟩ => ⟨S4x4x8192, .f32⟩
  | .hbm, ⟨31, _⟩ => ⟨S4x4x8192, .i1⟩
  | .hbm, ⟨32, _⟩ => ⟨S_, .f32⟩
  | .hbm, ⟨33, _⟩ => ⟨S4x4x8192, .f32⟩
  | .hbm, ⟨34, _⟩ => ⟨S_, .f32⟩
  | .hbm, ⟨35, _⟩ => ⟨S4x4x8192, .f32⟩
  | .hbm, ⟨36, _⟩ => ⟨S_, .f32⟩
  | .hbm, ⟨37, _⟩ => ⟨S4x4x8192, .f32⟩
  | .hbm, ⟨38, _⟩ => ⟨S4x4x8192, .f32⟩
  | .hbm, ⟨39, _⟩ => ⟨S4x4x8192, .f32⟩
  | .hbm, ⟨40, _⟩ => ⟨S4x4x8192x1, .f32⟩
  | .hbm, ⟨41, _⟩ => ⟨S4x4x8192x8448, .f32⟩
  | .hbm, ⟨42, _⟩ => ⟨S4x4x8192x8448, .f32⟩
  | .hbm, ⟨43, _⟩ => ⟨S4x4x8192x8448, .f32⟩
  | .hbm, ⟨44, _⟩ => ⟨S_, .f32⟩
  | .hbm, ⟨45, _⟩ => ⟨S4x4x8192, .f32⟩
  | .hbm, ⟨46, _⟩ => ⟨S4x4x8192x1, .f32⟩
  | .hbm, ⟨47, _⟩ => ⟨S4x4x8192x8448, .f32⟩
  | .hbm, ⟨48, _⟩ => ⟨S4x4x8192x8448, .f32⟩
  | .hbm, ⟨49, _⟩ => ⟨S4x4x8192x1, .f32⟩
  | .hbm, ⟨50, _⟩ => ⟨S_, .f32⟩
  | .hbm, ⟨51, _⟩ => ⟨S4x4x8192x1, .f32⟩
  | .hbm, ⟨52, _⟩ => ⟨S4x4x8192x1, .f32⟩
  | .hbm, ⟨53, _⟩ => ⟨S4x64x4x8192, .f32⟩
  | .hbm, ⟨54, _⟩ => ⟨S8192x4x4x64, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x4x4x64, .f32⟩
  | .hbm, ⟨78, _⟩ => ⟨S4x64x4x8192, .f32⟩
  | .hbm, ⟨79, _⟩ => ⟨S4x4x8192x8448, .f32⟩
  | .hbm, ⟨80, _⟩ => ⟨S4x64x8448, .f32⟩
  | .hbm, ⟨81, _⟩ => ⟨S8448x4x64, .f32⟩
  | .hbm, ⟨82, _⟩ => ⟨S4x4x8192x8448, .f32⟩
  | .hbm, ⟨83, _⟩ => ⟨S4x4x8192x8448, .f32⟩
  | .hbm, ⟨84, _⟩ => ⟨S4x4x8192x8448, .f32⟩
  | .hbm, ⟨85, _⟩ => ⟨S_, .f32⟩
  | .hbm, ⟨86, _⟩ => ⟨S4x4x8192, .f32⟩
  | .hbm, ⟨87, _⟩ => ⟨S4x4x8192x1, .f32⟩
  | .hbm, ⟨88, _⟩ => ⟨S4x4x8192x1, .f32⟩
  | .hbm, ⟨89, _⟩ => ⟨S4x4x8192x8448, .f32⟩
  | .hbm, ⟨90, _⟩ => ⟨S4x4x8192x8448, .f32⟩
  | .hbm, ⟨91, _⟩ => ⟨S_, .f32⟩
  | .hbm, ⟨92, _⟩ => ⟨S4x4x8192, .f32⟩
  | .hbm, ⟨93, _⟩ => ⟨S4x4x8192x8448, .f32⟩
  | .hbm, ⟨94, _⟩ => ⟨S4x4x8192x8448, .f32⟩
  | .hbm, ⟨95, _⟩ => ⟨S4x4x8192x8448, .f32⟩
  | .hbm, ⟨96, _⟩ => ⟨S4x8448x8192x4, .f32⟩
  | .hbm, ⟨97, _⟩ => ⟨S4x8192x4x64, .f32⟩
  | .hbm, ⟨98, _⟩ => ⟨S8192x4x4x64, .f32⟩
  | .hbm, ⟨99, _⟩ => ⟨S4x8448x64, .f32⟩
  | .hbm, ⟨100, _⟩ => ⟨S8448x4x64, .f32⟩
  | .hbm, ⟨101, _⟩ => ⟨S8448x256, .f32⟩
  | .hbm, ⟨102, _⟩ => ⟨S8448x256, .f32⟩
  | .hbm, ⟨103, _⟩ => ⟨S8192x1024, .f32⟩
  | .hbm, ⟨104, _⟩ => ⟨S8192x1024, .bf16⟩
  | .hbm, ⟨105, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v41_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v41_1 : Ref sig .tc := ⟨.hbm, 67, rfl⟩
abbrev main_v41_0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Forward.lean ====
abbrev S8192x1024 : Shape := ⟨2, ![8192, 1024]⟩
abbrev S8448x256 : Shape := ⟨2, ![8448, 256]⟩
abbrev S8448x2560 : Shape := ⟨2, ![8448, 2560]⟩
abbrev S2x8192x8 : Shape := ⟨3, ![2, 8192, 8]⟩
abbrev S512x512 : Shape := ⟨2, ![512, 512]⟩
abbrev S8448x128 : Shape := ⟨2, ![8448, 128]⟩
abbrev S1x512x8 : Shape := ⟨3, ![1, 512, 8]⟩
abbrev S2x256x8448 : Shape := ⟨3, ![2, 256, 8448]⟩
abbrev S2x256x128 : Shape := ⟨3, ![2, 256, 128]⟩
abbrev S256x128 : Shape := ⟨2, ![256, 128]⟩
abbrev S256x64 : Shape := ⟨2, ![256, 64]⟩
abbrev S1x256x128 : Shape := ⟨3, ![1, 256, 128]⟩
abbrev S2816x64 : Shape := ⟨2, ![2816, 64]⟩
abbrev S256x2816 : Shape := ⟨2, ![256, 2816]⟩
abbrev S1x256x2816 : Shape := ⟨3, ![1, 256, 2816]⟩
abbrev S256 : Shape := ⟨1, ![256]⟩
abbrev S256x1 : Shape := ⟨2, ![256, 1]⟩
abbrev S2816x128 : Shape := ⟨2, ![2816, 128]⟩
abbrev S1x256x1 : Shape := ⟨3, ![1, 256, 1]⟩

abbrev nBuf : Space → Nat
  | .hbm => 7
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8448x256, .bf16⟩
  | .hbm, ⟨2, _⟩ => ⟨S8448x256, .bf16⟩
  | .hbm, ⟨3, _⟩ => ⟨S8448x2560, .bf16⟩
  | .hbm, ⟨4, _⟩ => ⟨S8192x1024, .f32⟩
  | .hbm, ⟨5, _⟩ => ⟨S2x8192x8, .f32⟩
  | .hbm, ⟨6, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1x512x8, .f32⟩
  | .local _ .vmem, ⟨11, _⟩ => ⟨S1x512x8, .f32⟩
  | .local _ .vmem, ⟨12, _⟩ => ⟨S512x512, .bf16⟩
  | .local _ .vmem, ⟨13, _⟩ => ⟨S512x512, .bf16⟩
  | .local _ .vmem, ⟨14, _⟩ => ⟨S2x256x8448, .f32⟩
  | .local _ .vmem, ⟨15, _⟩ => ⟨S2x256x128, .f32⟩
  | .local _ .vmem, ⟨16, _⟩ => ⟨S256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  let c2816_i32 : BitVec 32 := 2816#32
  let v5 : BitVec 32 := Scalar.muli c0_i32 c2816_i32
  v5
def k0_off1 (c0_i32 : BitVec 32) : Fin 2 → Nat :=
  let c2816_i32 : BitVec 32 := 2816#32
  let v5 : BitVec 32 := Scalar.muli c0_i32 c2816_i32
  let v6 : BitVec 32 := v5
  let v7 : Index := Scalar.indexCast v6
  let c0_4 : Index := 0#32
  ![v7.toNat, 0]
def k0_off2 (c0_i32 : BitVec 32) : Fin 3 → Nat :=
  let c0_6 : Index := 0#32
  let c0_7 : Index := 0#32
  let c2816_i32 : BitVec 32 := 2816#32
  let v5 : BitVec 32 := Scalar.muli c0_i32 c2816_i32
  let v6 : BitVec 32 := v5
  let v10 : Index := Scalar.indexCast v6
  ![0, 0, v10.toNat]
def k0_mult2 : BitVec 32 :=
  let c1_i32 : BitVec 32 := 1#32
  let c2816_i32_14 : BitVec 32 := 2816#32
  let v63 : BitVec 32 := Scalar.muli c1_i32 c2816_i32_14
  v63
def k0_mult3 : BitVec 32 :=
  let c2_i32 : BitVec 32 := 2#32
  let c2816_i32_25 : BitVec 32 := 2816#32
  let v121 : BitVec 32 := Scalar.muli c2_i32 c2816_i32_25
  v121
def k0_mult4 : BitVec 32 :=
  let c0_i32_47 : BitVec 32 := 0#32
  let c2816_i32_48 : BitVec 32 := 2816#32
  let v192 : BitVec 32 := Scalar.muli c0_i32_47 c2816_i32_48
  v192
def k0_off3 (c0_i32_47 : BitVec 32) : Fin 3 → Nat :=
  let c1_51 : Index := 1#32
  let c0_52 : Index := 0#32
  let c2816_i32_48 : BitVec 32 := 2816#32
  let v192 : BitVec 32 := Scalar.muli c0_i32_47 c2816_i32_48
  let v193 : BitVec 32 := v192
  let v197 : Index := Scalar.indexCast v193
  ![1, 0, v197.toNat]
def k0_mult5 : BitVec 32 :=
  let c1_i32_68 : BitVec 32 := 1#32
  let c2816_i32_69 : BitVec 32 := 2816#32
  let v267 : BitVec 32 := Scalar.muli c1_i32_68 c2816_i32_69
  v267
def k0_mult6 : BitVec 32 :=
  let c2_i32_89 : BitVec 32 := 2#32
  let c2816_i32_90 : BitVec 32 := 2816#32
  let v342 : BitVec 32 := Scalar.muli c2_i32_89 c2816_i32_90
  v342
def k0_mult7 : BitVec 32 :=
  let c0_i32_139 : BitVec 32 := 0#32
  let c2816_i32_140 : BitVec 32 := 2816#32
  let v453 : BitVec 32 := Scalar.muli c0_i32_139 c2816_i32_140
  v453
def k0_mult8 : BitVec 32 :=
  let c1_i32_160 : BitVec 32 := 1#32
  let c2816_i32_161 : BitVec 32 := 2816#32
  let v528 : BitVec 32 := Scalar.muli c1_i32_160 c2816_i32_161
  v528
def k0_mult9 : BitVec 32 :=
  let c2_i32_181 : BitVec 32 := 2#32
  let c2816_i32_182 : BitVec 32 := 2816#32
  let v603 : BitVec 32 := Scalar.muli c2_i32_181 c2816_i32_182
  v603
def k0_mult10 : BitVec 32 :=
  let c0_i32_231 : BitVec 32 := 0#32
  let c2816_i32_232 : BitVec 32 := 2816#32
  let v714 : BitVec 32 := Scalar.muli c0_i32_231 c2816_i32_232
  v714
def k0_mult11 : BitVec 32 :=
  let c1_i32_252 : BitVec 32 := 1#32
  let c2816_i32_253 : BitVec 32 := 2816#32
  let v789 : BitVec 32 := Scalar.muli c1_i32_252 c2816_i32_253
  v789
def k0_mult12 : BitVec 32 :=
  let c2_i32_273 : BitVec 32 := 2#32
  let c2816_i32_274 : BitVec 32 := 2816#32
  let v864 : BitVec 32 := Scalar.muli c2_i32_273 c2816_i32_274
  v864
def k0_mult13 : BitVec 32 :=
  let c0_i32_322 : BitVec 32 := 0#32
  let c2816_i32_323 : BitVec 32 := 2816#32
  let v975 : BitVec 32 := Scalar.muli c0_i32_322 c2816_i32_323
  v975
def k0_off4 (c0_i32_322 : BitVec 32) : Fin 2 → Nat :=
  let c2816_i32_323 : BitVec 32 := 2816#32
  let v975 : BitVec 32 := Scalar.muli c0_i32_322 c2816_i32_323
  let v976 : BitVec 32 := v975
  let v977 : Index := Scalar.indexCast v976
  let c64_324 : Index := 64#32
  ![v977.toNat, 64]
def k0_mult14 : BitVec 32 :=
  let c1_i32_343 : BitVec 32 := 1#32
  let c2816_i32_344 : BitVec 32 := 2816#32
  let v1050 : BitVec 32 := Scalar.muli c1_i32_343 c2816_i32_344
  v1050
def k0_mult15 : BitVec 32 :=
  let c2_i32_364 : BitVec 32 := 2#32
  let c2816_i32_365 : BitVec 32 := 2816#32
  let v1125 : BitVec 32 := Scalar.muli c2_i32_364 c2816_i32_365
  v1125
def k0_mult16 : BitVec 32 :=
  let c0_i32_413 : BitVec 32 := 0#32
  let c2816_i32_414 : BitVec 32 := 2816#32
  let v1236 : BitVec 32 := Scalar.muli c0_i32_413 c2816_i32_414
  v1236
def k0_mult17 : BitVec 32 :=
  let c1_i32_434 : BitVec 32 := 1#32
  let c2816_i32_435 : BitVec 32 := 2816#32
  let v1311 : BitVec 32 := Scalar.muli c1_i32_434 c2816_i32_435
  v1311
def k0_mult18 : BitVec 32 :=
  let c2_i32_455 : BitVec 32 := 2#32
  let c2816_i32_456 : BitVec 32 := 2816#32
  let v1386 : BitVec 32 := Scalar.muli c2_i32_455 c2816_i32_456
  v1386
def k0_mult19 : BitVec 32 :=
  let c0_i32_504 : BitVec 32 := 0#32
  let c2816_i32_505 : BitVec 32 := 2816#32
  let v1497 : BitVec 32 := Scalar.muli c0_i32_504 c2816_i32_505
  v1497
def k0_mult20 : BitVec 32 :=
  let c1_i32_525 : BitVec 32 := 1#32
  let c2816_i32_526 : BitVec 32 := 2816#32
  let v1572 : BitVec 32 := Scalar.muli c1_i32_525 c2816_i32_526
  v1572
def k0_mult21 : BitVec 32 :=
  let c2_i32_546 : BitVec 32 := 2#32
  let c2816_i32_547 : BitVec 32 := 2816#32
  let v1647 : BitVec 32 := Scalar.muli c2_i32_546 c2816_i32_547
  v1647
def k0_mult22 : BitVec 32 :=
  let c0_i32_595 : BitVec 32 := 0#32
  let c2816_i32_596 : BitVec 32 := 2816#32
  let v1758 : BitVec 32 := Scalar.muli c0_i32_595 c2816_i32_596
  v1758
def k0_mult23 : BitVec 32 :=
  let c1_i32_616 : BitVec 32 := 1#32
  let c2816_i32_617 : BitVec 32 := 2816#32
  let v1833 : BitVec 32 := Scalar.muli c1_i32_616 c2816_i32_617
  v1833
def k0_mult24 : BitVec 32 :=
  let c2_i32_637 : BitVec 32 := 2#32
  let c2816_i32_638 : BitVec 32 := 2816#32
  let v1908 : BitVec 32 := Scalar.muli c2_i32_637 c2816_i32_638
  v1908
def k0_mult25 : BitVec 32 :=
  let c0_i32_687 : BitVec 32 := 0#32
  let c2816_i32_688 : BitVec 32 := 2816#32
  let v2019 : BitVec 32 := Scalar.muli c0_i32_687 c2816_i32_688
  v2019
def k0_mult26 : BitVec 32 :=
  let c1_i32_708 : BitVec 32 := 1#32
  let c2816_i32_709 : BitVec 32 := 2816#32
  let v2094 : BitVec 32 := Scalar.muli c1_i32_708 c2816_i32_709
  v2094
def k0_mult27 : BitVec 32 :=
  let c2_i32_729 : BitVec 32 := 2#32
  let c2816_i32_730 : BitVec 32 := 2816#32
  let v2169 : BitVec 32 := Scalar.muli c2_i32_729 c2816_i32_730
  v2169
def k0_mult28 : BitVec 32 :=
  let c0_i32_779 : BitVec 32 := 0#32
  let c2816_i32_780 : BitVec 32 := 2816#32
  let v2280 : BitVec 32 := Scalar.muli c0_i32_779 c2816_i32_780
  v2280
def k0_mult29 : BitVec 32 :=
  let c1_i32_800 : BitVec 32 := 1#32
  let c2816_i32_801 : BitVec 32 := 2816#32
  let v2355 : BitVec 32 := Scalar.muli c1_i32_800 c2816_i32_801
  v2355
def k0_mult30 : BitVec 32 :=
  let c2_i32_821 : BitVec 32 := 2#32
  let c2816_i32_822 : BitVec 32 := 2816#32
  let v2430 : BitVec 32 := Scalar.muli c2_i32_821 c2816_i32_822
  v2430
def k0_mult31 : BitVec 32 :=
  let c0_i32_872 : BitVec 32 := 0#32
  let c2816_i32_873 : BitVec 32 := 2816#32
  let v2541 : BitVec 32 := Scalar.muli c0_i32_872 c2816_i32_873
  v2541
def k0_mult32 : BitVec 32 :=
  let c1_i32_893 : BitVec 32 := 1#32
  let c2816_i32_894 : BitVec 32 := 2816#32
  let v2616 : BitVec 32 := Scalar.muli c1_i32_893 c2816_i32_894
  v2616
def k0_mult33 : BitVec 32 :=
  let c2_i32_914 : BitVec 32 := 2#32
  let c2816_i32_915 : BitVec 32 := 2816#32
  let v2691 : BitVec 32 := Scalar.muli c2_i32_914 c2816_i32_915
  v2691
def k0_mult34 : BitVec 32 :=
  let c0_i32_965 : BitVec 32 := 0#32
  let c2816_i32_966 : BitVec 32 := 2816#32
  let v2802 : BitVec 32 := Scalar.muli c0_i32_965 c2816_i32_966
  v2802
def k0_mult35 : BitVec 32 :=
  let c1_i32_986 : BitVec 32 := 1#32
  let c2816_i32_987 : BitVec 32 := 2816#32
  let v2877 : BitVec 32 := Scalar.muli c1_i32_986 c2816_i32_987
  v2877
def k0_mult36 : BitVec 32 :=
  let c2_i32_1007 : BitVec 32 := 2#32
  let c2816_i32_1008 : BitVec 32 := 2816#32
  let v2952 : BitVec 32 := Scalar.muli c2_i32_1007 c2816_i32_1008
  v2952
def k0_mult37 : BitVec 32 :=
  let c0_i32_1058 : BitVec 32 := 0#32
  let c2816_i32_1059 : BitVec 32 := 2816#32
  let v3063 : BitVec 32 := Scalar.muli c0_i32_1058 c2816_i32_1059
  v3063
def k0_mult38 : BitVec 32 :=
  let c1_i32_1079 : BitVec 32 := 1#32
  let c2816_i32_1080 : BitVec 32 := 2816#32
  let v3138 : BitVec 32 := Scalar.muli c1_i32_1079 c2816_i32_1080
  v3138
def k0_mult39 : BitVec 32 :=
  let c2_i32_1100 : BitVec 32 := 2#32
  let c2816_i32_1101 : BitVec 32 := 2816#32
  let v3213 : BitVec 32 := Scalar.muli c2_i32_1100 c2816_i32_1101
  v3213
def k0_mult40 : BitVec 32 :=
  let c0_i32_1151 : BitVec 32 := 0#32
  let c2816_i32_1152 : BitVec 32 := 2816#32
  let v3324 : BitVec 32 := Scalar.muli c0_i32_1151 c2816_i32_1152
  v3324
def k0_mult41 : BitVec 32 :=
  let c1_i32_1172 : BitVec 32 := 1#32
  let c2816_i32_1173 : BitVec 32 := 2816#32
  let v3399 : BitVec 32 := Scalar.muli c1_i32_1172 c2816_i32_1173
  v3399
def k0_mult42 : BitVec 32 :=
  let c2_i32_1193 : BitVec 32 := 2#32
  let c2816_i32_1194 : BitVec 32 := 2816#32
  let v3474 : BitVec 32 := Scalar.muli c2_i32_1193 c2816_i32_1194
  v3474
def k0_mult43 : BitVec 32 :=
  let c0_i32_1244 : BitVec 32 := 0#32
  let c2816_i32_1245 : BitVec 32 := 2816#32
  let v3585 : BitVec 32 := Scalar.muli c0_i32_1244 c2816_i32_1245
  v3585
def k0_mult44 : BitVec 32 :=
  let c1_i32_1265 : BitVec 32 := 1#32
  let c2816_i32_1266 : BitVec 32 := 2816#32
  let v3660 : BitVec 32 := Scalar.muli c1_i32_1265 c2816_i32_1266
  v3660
def k0_mult45 : BitVec 32 :=
  let c2_i32_1286 : BitVec 32 := 2#32
  let c2816_i32_1287 : BitVec 32 := 2816#32
  let v3735 : BitVec 32 := Scalar.muli c2_i32_1286 c2816_i32_1287
  v3735
def k0_mult46 : BitVec 32 :=
  let c0_i32_1337 : BitVec 32 := 0#32
  let c2816_i32_1338 : BitVec 32 := 2816#32
  let v3846 : BitVec 32 := Scalar.muli c0_i32_1337 c2816_i32_1338
  v3846
def k0_mult47 : BitVec 32 :=
  let c1_i32_1358 : BitVec 32 := 1#32
  let c2816_i32_1359 : BitVec 32 := 2816#32
  let v3921 : BitVec 32 := Scalar.muli c1_i32_1358 c2816_i32_1359
  v3921
def k0_mult48 : BitVec 32 :=
  let c2_i32_1379 : BitVec 32 := 2#32
  let c2816_i32_1380 : BitVec 32 := 2816#32
  let v3996 : BitVec 32 := Scalar.muli c2_i32_1379 c2816_i32_1380
  v3996
def k0_mult49 : BitVec 32 :=
  let c0_i32_1424 : BitVec 32 := 0#32
  let c2816_i32_1425 : BitVec 32 := 2816#32
  let v4102 : BitVec 32 := Scalar.muli c0_i32_1424 c2816_i32_1425
  v4102
def k0_mult50 : BitVec 32 :=
  let c1_i32_1435 : BitVec 32 := 1#32
  let c2816_i32_1436 : BitVec 32 := 2816#32
  let v4121 : BitVec 32 := Scalar.muli c1_i32_1435 c2816_i32_1436
  v4121
def k0_mult51 : BitVec 32 :=
  let c2_i32_1446 : BitVec 32 := 2#32
  let c2816_i32_1447 : BitVec 32 := 2816#32
  let v4140 : BitVec 32 := Scalar.muli c2_i32_1446 c2816_i32_1447
  v4140
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ForwardReferenceIdeal.lean ====
abbrev S8192x1024 : Shape := ⟨2, ![8192, 1024]⟩
abbrev S8448x256 : Shape := ⟨2, ![8448, 256]⟩
abbrev S8448x2560 : Shape := ⟨2, ![8448, 2560]⟩
abbrev S8192x4x4x64 : Shape := ⟨4, ![8192, 4, 4, 64]⟩
abbrev S8448x4x64 : Shape := ⟨3, ![8448, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S2x8x8192 : Shape := ⟨3, ![2, 8, 8192]⟩
abbrev S2x8192x8 : Shape := ⟨3, ![2, 8192, 8]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8448x256, .bf16⟩
  | .hbm, ⟨2, _⟩ => ⟨S8448x256, .bf16⟩
  | .hbm, ⟨3, _⟩ => ⟨S8448x2560, .bf16⟩
  | .hbm, ⟨4, _⟩ => ⟨S8192x1024, .f32⟩
  | .hbm, ⟨5, _⟩ => ⟨S8192x4x4x64, .f32⟩
  | .hbm, ⟨6, _⟩ => ⟨S8448x256, .f32⟩
  | .hbm, ⟨7, _⟩ => ⟨S8448x4x64, .f32⟩
  | .hbm, ⟨8, _⟩ => ⟨S8448x256, .f32⟩
  | .hbm, ⟨9, _⟩ => ⟨S8448x4x64, .f32⟩
  | .hbm, ⟨10, _⟩ => ⟨S4x8448x8192x4, .f32⟩
  | .hbm, ⟨11, _⟩ => ⟨S4x4x8192x8448, .f32⟩
  | .hbm, ⟨12, _⟩ => ⟨S_, .f32⟩
  | .hbm, ⟨13, _⟩ => ⟨S4x4x8192, .f32⟩
  | .hbm, ⟨14, _⟩ => ⟨S_, .f32⟩
  | .hbm, ⟨15, _⟩ => ⟨S4x4x8192, .f32⟩
  | .hbm, ⟨16, _⟩ => ⟨S4x4x8192, .f32⟩
  | .hbm, ⟨17, _⟩ => ⟨S4x4x8192x1, .f32⟩
  | .hbm, ⟨18, _⟩ => ⟨S4x4x8192x8448, .f32⟩
  | .hbm, ⟨19, _⟩ => ⟨S4x4x8192x8448, .f32⟩
  | .hbm, ⟨20, _⟩ => ⟨S4x4x8192x8448, .f32⟩
  | .hbm, ⟨21, _⟩ => ⟨S_, .f32⟩
  | .hbm, ⟨22, _⟩ => ⟨S4x4x8192, .f32⟩
  | .hbm, ⟨23, _⟩ => ⟨S4x4x8192x1, .f32⟩
  | .hbm, ⟨24, _⟩ => ⟨S4x4x8192x8448, .f32⟩
  | .hbm, ⟨25, _⟩ => ⟨S4x4x8192x8448, .f32⟩
  | .hbm, ⟨26, _⟩ => ⟨S4x64x4x8192, .f32⟩
  | .hbm, ⟨27, _⟩ => ⟨S8192x4x4x64, .f32⟩
  | .hbm, ⟨28, _⟩ => ⟨S_, .f32⟩
  | .hbm, ⟨29, _⟩ => ⟨S4x4x8192, .f32⟩
  | .hbm, ⟨30, _⟩ => ⟨S4x4x8192x1, .f32⟩
  | .hbm, ⟨31, _⟩ => ⟨S4x4x8192x8448, .f32⟩
  | .hbm, ⟨32, _⟩ => ⟨S4x4x8192x8448, .f32⟩
  | .hbm, ⟨33, _⟩ => ⟨S4x4x8192x8448, .f32⟩
  | .hbm, ⟨34, _⟩ => ⟨S_, .f32⟩
  | .hbm, ⟨35, _⟩ => ⟨S4x4x8192, .f32⟩
  | .hbm, ⟨36, _⟩ => ⟨S4x4x8192, .f32⟩
  | .hbm, ⟨37, _⟩ => ⟨S4x4x8192, .f32⟩
  | .hbm, ⟨38, _⟩ => ⟨S8192x1024, .f32⟩
  | .hbm, ⟨39, _⟩ => ⟨S2x8x8192, .f32⟩
  | .hbm, ⟨40, _⟩ => ⟨S2x8192x8, .f32⟩
  | .hbm, ⟨41, _⟩ => ⟨S8192x1024, .bf16⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== AttnInDw.lean ====
abbrev S8448x1024 : Shape := ⟨2, ![8448, 1024]⟩
abbrev S8448x2560 : Shape := ⟨2, ![8448, 2560]⟩
abbrev S1024x2560 : Shape := ⟨2, ![1024, 2560]⟩
abbrev S768x1024 : Shape := ⟨2, ![768, 1024]⟩
abbrev S768x640 : Shape := ⟨2, ![768, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2560, .bf16⟩
  | .hbm, ⟨2, _⟩ => ⟨S1024x2560, .bf16⟩
  | .local _ .vmem, ⟨0, _⟩ => ⟨S768x1024, .bf16⟩
  | .local _ .vmem, ⟨1, _⟩ => ⟨S768x1024, .bf16⟩
  | .local _ .vmem, ⟨2, _⟩ => ⟨S768x640, .bf16⟩
  | .local _ .vmem, ⟨3, _⟩ => ⟨S768x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v9 : BitVec 1 := Scalar.cmpi .eq arg1 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AttnInDwRefIdeal.lean ====
abbrev S8448x1024 : Shape := ⟨2, ![8448, 1024]⟩
abbrev S8448x2560 : Shape := ⟨2, ![8448, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2560, .bf16⟩
  | .hbm, ⟨2, _⟩ => ⟨S_, .f32⟩
  | .hbm, ⟨3, _⟩ => ⟨S1024x2560, .f32⟩
  | .hbm, ⟨4, _⟩ => ⟨S8448x1024, .f32⟩
  | .hbm, ⟨5, _⟩ => ⟨S8448x2560, .f32⟩
  | .hbm, ⟨6, _⟩ => ⟨S8448x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnInDx.lean ====
abbrev S8448x2560 : Shape := ⟨2, ![8448, 2560]⟩
abbrev S1024x2560 : Shape := ⟨2, ![1024, 2560]⟩
abbrev S8448x1024 : Shape := ⟨2, ![8448, 1024]⟩
abbrev S768x2560 : Shape := ⟨2, ![768, 2560]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x2560, .bf16⟩
  | .hbm, ⟨1, _⟩ => ⟨S1024x2560, .bf16⟩
  | .hbm, ⟨2, _⟩ => ⟨S8448x1024, .bf16⟩
  | .local _ .vmem, ⟨0, _⟩ => ⟨S768x2560, .bf16⟩
  | .local _ .vmem, ⟨1, _⟩ => ⟨S768x2560, .bf16⟩
  | .local _ .vmem, ⟨2, _⟩ => ⟨S1024x2560, .bf16⟩
  | .local _ .vmem, ⟨3, _⟩ => ⟨S768x1024, .bf16⟩
  | .local _ .vmem, ⟨4, _⟩ => ⟨S768x1024, .bf16⟩
  | _, _ => ⟨S8448x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnInDxRefIdeal.lean ====
abbrev S8448x2560 : Shape := ⟨2, ![8448, 2560]⟩
abbrev S1024x2560 : Shape := ⟨2, ![1024, 2560]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x2560, .bf16⟩
  | .hbm, ⟨1, _⟩ => ⟨S1024x2560, .bf16⟩
  | .hbm, ⟨2, _⟩ => ⟨S_, .f32⟩
  | .hbm, ⟨3, _⟩ => ⟨S8448x1024, .f32⟩
  | .hbm, ⟨4, _⟩ => ⟨S1024x2560, .f32⟩
  | .hbm, ⟨5, _⟩ => ⟨S8448x2560, .f32⟩
  | .hbm, ⟨6, _⟩ => ⟨S8448x2560, .f32⟩
  | .hbm, ⟨7, _⟩ => ⟨S8448x1024, .f32⟩
  | .hbm, ⟨8, _⟩ => ⟨S8448x1024, .bf16⟩
  | _, _ => ⟨S8448x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AttnOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmInDw.lean ====
abbrev S8448x1024 : Shape := ⟨2, ![8448, 1024]⟩
abbrev S8448x2048 : Shape := ⟨2, ![8448, 2048]⟩
abbrev S1024x2048 : Shape := ⟨2, ![1024, 2048]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S1024x2048, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond3 (i : grid0.Coords) : BitVec 1 :=
  let arg1 : BitVec 32 := BitVec.ofNat 32 (i 1).val
  let c10_i32 : BitVec 32 := 10#32
  let v9 : BitVec 1 := Scalar.cmpi .eq arg1 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsmInDwRefIdeal.lean ====
abbrev S8448x1024 : Shape := ⟨2, ![8448, 1024]⟩
abbrev S8448x2048 : Shape := ⟨2, ![8448, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S_, .f32⟩
  | .hbm, ⟨3, _⟩ => ⟨S1024x2048, .f32⟩
  | .hbm, ⟨4, _⟩ => ⟨S8448x1024, .f32⟩
  | .hbm, ⟨5, _⟩ => ⟨S8448x2048, .f32⟩
  | .hbm, ⟨6, _⟩ => ⟨S8448x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDx.lean ====
abbrev S8448x2048 : Shape := ⟨2, ![8448, 2048]⟩
abbrev S1024x2048 : Shape := ⟨2, ![1024, 2048]⟩
abbrev S8448x1024 : Shape := ⟨2, ![8448, 1024]⟩
abbrev S768x2048 : Shape := ⟨2, ![768, 2048]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S1024x2048, .bf16⟩
  | .hbm, ⟨2, _⟩ => ⟨S8448x1024, .bf16⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S768x1024, .bf16⟩
  | .local _ .vmem, ⟨4, _⟩ => ⟨S768x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInDxRefIdeal.lean ====
abbrev S8448x2048 : Shape := ⟨2, ![8448, 2048]⟩
abbrev S1024x2048 : Shape := ⟨2, ![1024, 2048]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1024x2048, .bf16⟩
  | .hbm, ⟨2, _⟩ => ⟨S_, .f32⟩
  | .hbm, ⟨3, _⟩ => ⟨S8448x1024, .f32⟩
  | .hbm, ⟨4, _⟩ => ⟨S1024x2048, .f32⟩
  | .hbm, ⟨5, _⟩ => ⟨S8448x2048, .f32⟩
  | .hbm, ⟨6, _⟩ => ⟨S8448x2048, .f32⟩
  | .hbm, ⟨7, _⟩ => ⟨S8448x1024, .f32⟩
  | .hbm, ⟨8, _⟩ => ⟨S8448x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmOutDw.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond3 (i : grid0.Coords) : BitVec 1 :=
  let arg1 : BitVec 32 := BitVec.ofNat 32 (i 1).val
  let c10_i32 : BitVec 32 := 10#32
  let v9 : BitVec 1 := Scalar.cmpi .eq arg1 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsmOutDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmOutDx.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmOutDxRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnIn.lean ====
abbrev S8448x1024 : Shape := ⟨2, ![8448, 1024]⟩
abbrev S1024x2560 : Shape := ⟨2, ![1024, 2560]⟩
abbrev S8448x2560 : Shape := ⟨2, ![8448, 2560]⟩
abbrev S768x1024 : Shape := ⟨2, ![768, 1024]⟩
abbrev S1024x640 : Shape := ⟨2, ![1024, 640]⟩
abbrev S768x640 : Shape := ⟨2, ![768, 640]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x2560, .bf16⟩
  | .hbm, ⟨2, _⟩ => ⟨S8448x2560, .bf16⟩
  | .local _ .vmem, ⟨0, _⟩ => ⟨S768x1024, .bf16⟩
  | .local _ .vmem, ⟨1, _⟩ => ⟨S768x1024, .bf16⟩
  | .local _ .vmem, ⟨2, _⟩ => ⟨S1024x640, .bf16⟩
  | .local _ .vmem, ⟨3, _⟩ => ⟨S1024x640, .bf16⟩
  | .local _ .vmem, ⟨4, _⟩ => ⟨S768x640, .bf16⟩
  | .local _ .vmem, ⟨5, _⟩ => ⟨S768x640, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnInRefIdeal.lean ====
abbrev S8448x1024 : Shape := ⟨2, ![8448, 1024]⟩
abbrev S1024x2560 : Shape := ⟨2, ![1024, 2560]⟩
abbrev S8448x2560 : Shape := ⟨2, ![8448, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2560, .bf16⟩
  | .hbm, ⟨2, _⟩ => ⟨S8448x1024, .f32⟩
  | .hbm, ⟨3, _⟩ => ⟨S1024x2560, .f32⟩
  | .hbm, ⟨4, _⟩ => ⟨S8448x2560, .f32⟩
  | .hbm, ⟨5, _⟩ => ⟨S8448x2560, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmIn.lean ====
abbrev S8448x1024 : Shape := ⟨2, ![8448, 1024]⟩
abbrev S1024x2048 : Shape := ⟨2, ![1024, 2048]⟩
abbrev S8448x2048 : Shape := ⟨2, ![8448, 2048]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S8448x1024 : Shape := ⟨2, ![8448, 1024]⟩
abbrev S1024x2048 : Shape := ⟨2, ![1024, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x1024, .f32⟩
  | .hbm, ⟨3, _⟩ => ⟨S1024x2048, .f32⟩
  | .hbm, ⟨4, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmGlu.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmGluRefIdeal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmOut.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmOutRefIdeal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mod.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1024x768, .bf16⟩
  | .hbm, ⟨2, _⟩ => ⟨S16x768, .f32⟩
  | .local _ .vmem, ⟨0, _⟩ => ⟨S16x1024, .f32⟩
  | .local _ .vmem, ⟨1, _⟩ => ⟨S1024x768, .bf16⟩
  | .local _ .vmem, ⟨2, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ModRefIdeal.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .bf16⟩
  | .hbm, ⟨2, _⟩ => ⟨S1024x768, .f32⟩
  | .hbm, ⟨3, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ModDx.lean ====
abbrev S16x768 : Shape := ⟨2, ![16, 768]⟩
abbrev S1024x768 : Shape := ⟨2, ![1024, 768]⟩
abbrev S16x1024 : Shape := ⟨2, ![16, 1024]⟩

abbrev nBuf : Space → Nat
  | .hbm => 3
  | .vmem => 3
  | .smem => 0
  | _ => 0

abbrev bufTy : (tb : Table) → Fin (tcTables nBuf tb) → BufTy
  | .hbm, ⟨0, _⟩ => ⟨S16x768, .f32⟩
  | .hbm, ⟨1, _⟩ => ⟨S1024x768, .bf16⟩
  | .hbm, ⟨2, _⟩ => ⟨S16x1024, .f32⟩
  | .local _ .vmem, ⟨0, _⟩ => ⟨S16x768, .f32⟩
  | .local _ .vmem, ⟨1, _⟩ => ⟨S1024x768, .bf16⟩
  | .local _ .vmem, ⟨2, _⟩ => ⟨S16x1024, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ModDxRefIdeal.lean ====
abbrev S16x768 : Shape := ⟨2, ![16, 768]⟩
abbrev S1024x768 : Shape := ⟨2, ![1024, 768]⟩
abbrev S_ : Shape := ⟨0, ![]⟩
abbrev S16x1024 : Shape := ⟨2, ![16, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S1024x768, .bf16⟩
  | .hbm, ⟨2, _⟩ => ⟨S_, .f32⟩
  | .hbm, ⟨3, _⟩ => ⟨S16x1024, .f32⟩
  | .hbm, ⟨4, _⟩ => ⟨S1024x768, .f32⟩
  | .hbm, ⟨5, _⟩ => ⟨S16x768, .f32⟩
  | .hbm, ⟨6, _⟩ => ⟨S16x1024, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModDw.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | .local _ .vmem, ⟨3, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond3 (i : grid0.Coords) : BitVec 1 :=
  let arg1 : BitVec 32 := BitVec.ofNat 32 (i 1).val
  let c0_i32_6 : BitVec 32 := 0#32
  let v11 : BitVec 1 := Scalar.cmpi .eq arg1 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ModDwRefIdeal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x768, .f32⟩
  | .hbm, ⟨5, _⟩ => ⟨S768x1024, .f32⟩
  | .hbm, ⟨6, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gate.lean ====
abbrev S8448x1024 : Shape := ⟨2, ![8448, 1024]⟩
abbrev S8448x2048 : Shape := ⟨2, ![8448, 2048]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x2048, .f32⟩
  | .hbm, ⟨3, _⟩ => ⟨S1x1x1024, .f32⟩
  | .hbm, ⟨4, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x1024, .bf16⟩
  | .local _ .vmem, ⟨8, _⟩ => ⟨S256x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S8448x1024 : Shape := ⟨2, ![8448, 1024]⟩
abbrev S8448x2048 : Shape := ⟨2, ![8448, 2048]⟩
abbrev S1x1x1024 : Shape := ⟨3, ![1, 1, 1024]⟩
abbrev S1x1024 : Shape := ⟨2, ![1, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x2048, .f32⟩
  | .hbm, ⟨3, _⟩ => ⟨S1x1x1024, .f32⟩
  | .hbm, ⟨4, _⟩ => ⟨S8448x1024, .f32⟩
  | .hbm, ⟨5, _⟩ => ⟨S8448x1024, .f32⟩
  | .hbm, ⟨6, _⟩ => ⟨S1x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== InGrad.lean ====
abbrev S8448x1024 : Shape := ⟨2, ![8448, 1024]⟩
abbrev S8448x2048 : Shape := ⟨2, ![8448, 2048]⟩
abbrev S256x1024 : Shape := ⟨2, ![256, 1024]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S8448x1024, .f32⟩
  | .hbm, ⟨3, _⟩ => ⟨S8448x1024, .bf16⟩
  | .hbm, ⟨4, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InGradRefIdeal.lean ====
abbrev S8448x1024 : Shape := ⟨2, ![8448, 1024]⟩
abbrev S8448x2048 : Shape := ⟨2, ![8448, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S8448x1024, .f32⟩
  | .hbm, ⟨3, _⟩ => ⟨S8448x1024, .bf16⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x2048, .f32⟩
  | .hbm, ⟨9, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== CondSilu.lean ====
abbrev S16x1024 : Shape := ⟨2, ![16, 1024]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== CondSiluRefIdeal.lean ====
abbrev S16x1024 : Shape := ⟨2, ![16, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_v0_2 : Ref sig .tc := ⟨.hbm, 8, rfl⟩
abbrev main_call0_cst_1 : Ref sig .tc := ⟨.hbm, 9, rfl⟩
abbrev main_call0_v6 : Ref sig .tc := ⟨.hbm, 10, rfl⟩
abbrev main_call0_v7 : Ref sig .tc := ⟨.hbm, 11, rfl⟩
abbrev main_v0_1 : Ref sig .tc := ⟨.hbm, 12, rfl⟩
abbrev main_v0_0 : Ref sig .tc := ⟨.hbm, 13, rfl⟩
abbrev main_cst : Ref sig .tc := ⟨.hbm, 14, rfl⟩
abbrev main_v1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩

abbrev nD : Nat := 1
abbrev τ : Topo := Topo.v7x

variable {F : FTy → Type} [FloatOps F]
-- ==== AdamSsmIn.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmInIdeal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "factor1" => some ((8388608 / 5463681 : ℝ) : EReal)
  | "factor2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmInRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttnIn.lean ====
abbrev S1024x640 : Shape := ⟨2, ![1024, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAttnInIdeal.lean ====
abbrev S1024x640 : Shape := ⟨2, ![1024, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "factor1" => some ((8388608 / 5463681 : ℝ) : EReal)
  | "factor2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAttnInRefIdeal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRows.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowsIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "factor1" => some ((8388608 / 5463681 : ℝ) : EReal)
  | "factor2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowsRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModIdeal.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "factor1" => some ((8388608 / 5463681 : ℝ) : EReal)
  | "factor2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S544x1024 : Shape := ⟨2, ![544, 1024]⟩
abbrev S136x1024 : Shape := ⟨2, ![136, 1024]⟩

abbrev nBuf : Space → Nat
  | .hbm => 7
  | .vmem => 14
  | .smem => 0
  | _ => 0

abbrev bufTy : (tb : Table) → Fin (tcTables nBuf tb) → BufTy
  | .hbm, ⟨0, _⟩ => ⟨S544x1024, .f32⟩
  | .hbm, ⟨1, _⟩ => ⟨S544x1024, .f32⟩
  | .hbm, ⟨2, _⟩ => ⟨S544x1024, .f32⟩
  | .hbm, ⟨3, _⟩ => ⟨S544x1024, .f32⟩
  | .hbm, ⟨4, _⟩ => ⟨S544x1024, .f32⟩
  | .hbm, ⟨5, _⟩ => ⟨S544x1024, .f32⟩
  | .hbm, ⟨6, _⟩ => ⟨S544x1024, .f32⟩
  | .local _ .vmem, ⟨0, _⟩ => ⟨S136x1024, .f32⟩
  | .local _ .vmem, ⟨1, _⟩ => ⟨S136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | _, _ => ⟨S544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "factor1" => some ((8388608 / 5463681 : ℝ) : EReal)
  | "factor2" => some ((268435456 / 2672307 : ℝ) : EReal)
  | _ => none
-- ==== AdamSmallRefIdeal.lean ====
abbrev S544x1024 : Shape := ⟨2, ![544, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S544x1024, .f32⟩
  | .hbm, ⟨1, _⟩ => ⟨S544x1024, .f32⟩
  | .hbm, ⟨2, _⟩ => ⟨S544x1024, .f32⟩
  | .hbm, ⟨3, _⟩ => ⟨S544x1024, .f32⟩
  | .hbm, ⟨4, _⟩ => ⟨S_, .f32⟩
  | .hbm, ⟨5, _⟩ => ⟨S544x1024, .f32⟩
  | .hbm, ⟨6, _⟩ => ⟨S544x1024, .f32⟩
  | .hbm, ⟨7, _⟩ => ⟨S_, .f32⟩
  | .hbm, ⟨8, _⟩ => ⟨S544x1024, .f32⟩
  | .hbm, ⟨9, _⟩ => ⟨S544x1024, .f32⟩
  | .hbm, ⟨10, _⟩ => ⟨S544x1024, .f32⟩
  | .hbm, ⟨11, _⟩ => ⟨S_, .f32⟩
  | .hbm, ⟨12, _⟩ => ⟨S544x1024, .f32⟩
  | .hbm, ⟨13, _⟩ => ⟨S544x1024, .f32⟩
  | .hbm, ⟨14, _⟩ => ⟨S544x1024, .f32⟩
  | .hbm, ⟨15, _⟩ => ⟨S_, .f32⟩
  | .hbm, ⟨16, _⟩ => ⟨S544x1024, .f32⟩
  | .hbm, ⟨17, _⟩ => ⟨S544x1024, .f32⟩
  | .hbm, ⟨18, _⟩ => ⟨S544x1024, .f32⟩
  | .hbm, ⟨19, _⟩ => ⟨S_, .f32⟩
  | .hbm, ⟨20, _⟩ => ⟨S544x1024, .f32⟩
  | .hbm, ⟨21, _⟩ => ⟨S544x1024, .f32⟩
  | .hbm, ⟨22, _⟩ => ⟨S_, .f32⟩
  | .hbm, ⟨23, _⟩ => ⟨S544x1024, .f32⟩
  | .hbm, ⟨24, _⟩ => ⟨S544x1024, .f32⟩
  | .hbm, ⟨25, _⟩ => ⟨S544x1024, .f32⟩
  | .hbm, ⟨26, _⟩ => ⟨S_, .f32⟩
  | .hbm, ⟨27, _⟩ => ⟨S544x1024, .f32⟩
  | .hbm, ⟨28, _⟩ => ⟨S544x1024, .f32⟩
  | .hbm, ⟨29, _⟩ => ⟨S544x1024, .f32⟩
  | .hbm, ⟨30, _⟩ => ⟨S_, .f32⟩
  | .hbm, ⟨31, _⟩ => ⟨S544x1024, .f32⟩
  | .hbm, ⟨32, _⟩ => ⟨S544x1024, .f32⟩
  | .hbm, ⟨33, _⟩ => ⟨S544x1024, .f32⟩
  | .hbm, ⟨34, _⟩ => ⟨S_, .f32⟩
  | .hbm, ⟨35, _⟩ => ⟨S544x1024, .f32⟩
  | .hbm, ⟨36, _⟩ => ⟨S544x1024, .f32⟩
  | _, _ => ⟨S544x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Product.lean ====
/- Products of matrices of extended reals, over natural indices: by blocks of the result, and summed by blocks of rows. -/
module

public import Idealize.ShloMosaic.Lib.Pointwise
public import Idealize.ShloMosaic.Lib.ValueLayout
public import Idealize.ShloMosaic.PureOps.Ideal

@[expose] public section

noncomputable section

namespace Cert.Product

open Finset Idealize.ShloMosaic Idealize.ShloMosaic.Tactic

/-- An index of a matrix. -/
abbrev Ix (a b : ℕ) := (⟨2, ![a, b]⟩ : Shape).Idx

/-- The matrix with the given entries. -/
def tab {a b : ℕ} (f : ℕ → ℕ → EReal) : Ix a b → EReal := fun j => f (j 0).val (j 1).val

/-- The entries of a matrix, with zeros outside it. -/
def ent {a b : ℕ} (x : Ix a b → EReal) (i j : ℕ) : EReal := if h : i < a ∧ j < b then x (ix2 ⟨i, h.1⟩ ⟨j, h.2⟩) else 0

/-- Entries from a given row and column on. -/
def off (r s : ℕ) (f : ℕ → ℕ → EReal) (i j : ℕ) : EReal := f (r + i) (s + j)

/-- Entry (i, j) of the product of two matrices, the sum over n. -/
def nn (n : ℕ) (f g : ℕ → ℕ → EReal) (i j : ℕ) : EReal := ∑ k ∈ range n, f i k * g k j

/-- Entry (i, j) of the product with the second matrix transposed. -/
def nt (n : ℕ) (f g : ℕ → ℕ → EReal) (i j : ℕ) : EReal := ∑ k ∈ range n, f i k * g j k

/-- Entry (i, j) of the product with the first matrix transposed. -/
def tn (n : ℕ) (f g : ℕ → ℕ → EReal) (i j : ℕ) : EReal := ∑ k ∈ range n, f k i * g k j

theorem tab_ix2 {a b : ℕ} (f : ℕ → ℕ → EReal) (i : Fin a) (j : Fin b) : tab f (ix2 i j) = f i.val j.val := rfl

/-- A matrix has its own entries. -/
theorem tab_ent {a b : ℕ} (x : Ix a b → EReal) : tab (ent x) = x := by
  funext j
  obtain ⟨p, q, rfl⟩ : ∃ p q, j = ix2 p q := ⟨j 0, j 1, eq_ix2 j⟩
  exact dif_pos ⟨p.isLt, q.isLt⟩

/-- A block of a matrix, at places r and s in blocks, has the entries from there on. -/
theorem block {a b M N : ℕ} (x : Ix M N → EReal) (e : Ix a b → Ix M N) (r s : ℕ)
    (h0 : ∀ j, (e j 0).val = r * a + 1 * (j 0).val) (h1 : ∀ j, (e j 1).val = s * b + 1 * (j 1).val) :
    (fun j => x (e j)) = tab (off (a * r) (b * s) (ent x)) := by
  funext j
  refine (congrFun (tab_ent x) (e j)).symm.trans ?_
  show ent x (e j 0).val (e j 1).val = ent x (a * r + (j 0).val) (b * s + (j 1).val)
  rw [h0, h1, Nat.one_mul, Nat.one_mul, Nat.mul_comm r, Nat.mul_comm s]

/-- A block of the matrix with given entries. -/
theorem block_tab {a b M N : ℕ} (f : ℕ → ℕ → EReal) (e : Ix a b → Ix M N) (r s : ℕ)
    (h0 : ∀ j, (e j 0).val = r * a + 1 * (j 0).val) (h1 : ∀ j, (e j 1).val = s * b + 1 * (j 1).val) :
    (tab (off (a * r) (b * s) f) : Ix a b → EReal) = fun j => (tab f : Ix M N → EReal) (e j) := by
  funext j
  show f (a * r + (j 0).val) (b * s + (j 1).val) = f (e j 0).val (e j 1).val
  rw [h0, h1, Nat.one_mul, Nat.one_mul, Nat.mul_comm r, Nat.mul_comm s]

/-- A block of a product is the product of a block of rows and a block of columns. -/
theorem nn_off (n r s : ℕ) (f g : ℕ → ℕ → EReal) : nn n (off r 0 f) (off 0 s g) = off r s (nn n f g) := by
  funext i j
  refine sum_congr rfl fun k _ => ?_
  show f (r + i) (0 + k) * g (0 + k) (s + j) = _
  rw [Nat.zero_add]

/-- The same with the second matrix transposed. -/
theorem nt_off (n r s : ℕ) (f g : ℕ → ℕ → EReal) : nt n (off r 0 f) (off s 0 g) = off r s (nt n f g) := by
  funext i j
  refine sum_congr rfl fun k _ => ?_
  show f (r + i) (0 + k) * g (s + j) (0 + k) = _
  rw [Nat.zero_add]

/-- The matrix product contracting the first factor's columns with the second's rows, added to zeros. -/
theorem nn_dot {M K N : ℕ} (wf : DotDims.WF ⟨2, ![M, K]⟩ ⟨2, ![K, N]⟩ ⟨2, ![M, N]⟩ [1] [0] [0] [1] [] []) (f g : ℕ → ℕ → EReal)
    (z : Ix M N → EReal) (hz : ∀ j, z j = 0) :
    Ideal.matmul ⟨[1], [0], [0], [1], [], [], wf⟩ (tab f) (tab g) z = tab (nn K f g) := by
  funext j
  refine (Ideal.matmul_apply₁ _ (a := 1) rfl (K := K) rfl _ _ z j).trans ?_
  rw [hz, zero_add]
  exact (sum_range fun k => f (j 0).val k * g k (j 1).val).symm

/-- The matrix product contracting both factors' columns. -/
theorem nt_dot {M K N : ℕ} (wf : DotDims.WF ⟨2, ![M, K]⟩ ⟨2, ![N, K]⟩ ⟨2, ![M, N]⟩ [1] [1] [0] [0] [] []) (f g : ℕ → ℕ → EReal)
    (z : Ix M N → EReal) (hz : ∀ j, z j = 0) :
    Ideal.matmul ⟨[1], [1], [0], [0], [], [], wf⟩ (tab f) (tab g) z = tab (nt K f g) := by
  funext j
  refine (Ideal.matmul_apply₁ _ (a := 1) rfl (K := K) rfl _ _ z j).trans ?_
  rw [hz, zero_add]
  exact (sum_range fun k => f (j 0).val k * g (j 1).val k).symm

/-- The matrix product contracting both factors' rows. -/
theorem tn_dot {M K N : ℕ} (wf : DotDims.WF ⟨2, ![K, M]⟩ ⟨2, ![K, N]⟩ ⟨2, ![M, N]⟩ [0] [0] [1] [1] [] []) (f g : ℕ → ℕ → EReal)
    (z : Ix M N → EReal) (hz : ∀ j, z j = 0) :
    Ideal.matmul ⟨[0], [0], [1], [1], [], [], wf⟩ (tab f) (tab g) z = tab (tn K f g) := by
  funext j
  refine (Ideal.matmul_apply₁ _ (a := 0) rfl (K := K) rfl _ _ z j).trans ?_
  rw [hz, zero_add]
  exact (sum_range fun k => f k (j 0).val * g k (j 1).val).symm

/-- The transpose of the product of the second factor and the first. -/
theorem tn_swap {M N : ℕ} (n : ℕ) (f g : ℕ → ℕ → EReal) (h : (⟨2, ![N, M]⟩ : Shape).Transposes [1, 0] ⟨2, ![M, N]⟩) :
    transpose ⟨2, ![M, N]⟩ [1, 0] (tab (tn n g f) : Ix N M → EReal) h = tab (tn n f g) := by
  funext j
  obtain ⟨p, q, rfl⟩ : ∃ p q, j = ix2 p q := ⟨j 0, j 1, eq_ix2 j⟩
  refine (ValueIdx.transpose_ix2_apply _ h p q).trans ?_
  show (∑ k ∈ range n, g k q.val * f k p.val) = ∑ k ∈ range n, f k p.val * g k q.val
  exact sum_congr rfl fun k _ => mul_comm _ _

/-- Where a matrix begins. -/
theorem zero2 : (![0, 0] : Fin 2 → ℕ) = fun _ => 0 := by decide

/-- The zeros a product is added to. -/
theorem zeros {s : Shape} (j : s.Idx) : (constant (F := Ideal) s .f32 0x00000000#32 : s.Idx → EReal) j = 0 := Ideal.ofBits_zero_f32

/-- A tile of a product, computed from the rows and the columns it takes, is the tile of the whole product. -/
theorem nn_tile {tm tn M N n : ℕ} (out : (Ix tm n → EReal) → (Ix n tn → EReal) → Ix tm tn → EReal)
    (hout : ∀ f g, out (tab f) (tab g) = tab (nn n f g)) (x : Ix M n → EReal) (y : Ix n N → EReal)
    (e0 : Ix tm n → Ix M n) (e1 : Ix n tn → Ix n N) (e2 : Ix tm tn → Ix M N) (r s : ℕ)
    (h00 : ∀ j, (e0 j 0).val = r * tm + 1 * (j 0).val) (h01 : ∀ j, (e0 j 1).val = 0 * n + 1 * (j 1).val)
    (h10 : ∀ j, (e1 j 0).val = 0 * n + 1 * (j 0).val) (h11 : ∀ j, (e1 j 1).val = s * tn + 1 * (j 1).val)
    (h20 : ∀ j, (e2 j 0).val = r * tm + 1 * (j 0).val) (h21 : ∀ j, (e2 j 1).val = s * tn + 1 * (j 1).val) :
    out (fun j => x (e0 j)) (fun j => y (e1 j)) = fun j => (tab (nn n (ent x) (ent y)) : Ix M N → EReal) (e2 j) := by
  rw [block x e0 r 0 h00 h01, block y e1 0 s h10 h11, hout, Nat.mul_zero, nn_off]
  exact block_tab _ e2 r s h20 h21

/-- The same with the second matrix transposed. -/
theorem nt_tile {tm tn M N n : ℕ} (out : (Ix tm n → EReal) → (Ix tn n → EReal) → Ix tm tn → EReal)
    (hout : ∀ f g, out (tab f) (tab g) = tab (nt n f g)) (x : Ix M n → EReal) (y : Ix N n → EReal)
    (e0 : Ix tm n → Ix M n) (e1 : Ix tn n → Ix N n) (e2 : Ix tm tn → Ix M N) (r s : ℕ)
    (h00 : ∀ j, (e0 j 0).val = r * tm + 1 * (j 0).val) (h01 : ∀ j, (e0 j 1).val = 0 * n + 1 * (j 1).val)
    (h10 : ∀ j, (e1 j 0).val = s * tn + 1 * (j 0).val) (h11 : ∀ j, (e1 j 1).val = 0 * n + 1 * (j 1).val)
    (h20 : ∀ j, (e2 j 0).val = r * tm + 1 * (j 0).val) (h21 : ∀ j, (e2 j 1).val = s * tn + 1 * (j 1).val) :
    out (fun j => x (e0 j)) (fun j => y (e1 j)) = fun j => (tab (nt n (ent x) (ent y)) : Ix M N → EReal) (e2 j) := by
  rw [block x e0 r 0 h00 h01, block y e1 s 0 h10 h11, hout, Nat.mul_zero, nt_off]
  exact block_tab _ e2 r s h20 h21

/-- An index lies in the block its quotients name. -/
theorem in_block (p b q : ℕ) (hb : 0 < b) (h : q = p / b) : q * b ≤ p ∧ p < q * b + b := by
  subst h
  exact ⟨Nat.div_mul_le_self p b, Nat.lt_div_mul_add hb⟩

/-- A product over one more block of rows is the product so far and the block's. -/
theorem tn_add (n l s : ℕ) (f g : ℕ → ℕ → EReal) (i j : ℕ) :
    tn (n + l) f (off 0 s g) i j = tn n f (off 0 s g) i j + tn l (off n 0 f) (off n s g) i j := by
  refine (sum_range_add _ n l).trans (congrArg (_ + ·) (sum_congr rfl fun k _ => ?_))
  show f (n + k) i * g (0 + (n + k)) (s + j) = f (n + k) (0 + i) * g (n + k) (s + j)
  rw [Nat.zero_add, Nat.zero_add]

/-- The columns of a product with the first matrix transposed. -/
theorem tn_off (n s : ℕ) (f g : ℕ → ℕ → EReal) : tn n f (off 0 s g) = off 0 s (tn n f g) := by
  funext i j
  refine sum_congr rfl fun k _ => ?_
  show f k i * g (0 + k) (s + j) = f k (0 + i) * g k (s + j)
  rw [Nat.zero_add, Nat.zero_add]

/-- An accumulator over a grid of columns of tiles by blocks of rows, of the products of the blocks x and y: stored at a
    column's first block, added to at the others, it holds the product over the rows seen. -/
theorem tn_acc {a b : ℕ} (N P R : ℕ) (hP : 0 < P) (f g : ℕ → ℕ → EReal) (pay : (Ix R a → EReal) → (Ix R b → EReal) → Ix a b → EReal)
    (hpay : ∀ f g, pay (tab f) (tab g) = tab (tn R f g)) (x : (n : ℕ) → n < N → Ix R a → EReal) (y : (n : ℕ) → n < N → Ix R b → EReal)
    (hx : ∀ n h, x n h = tab (off (R * (n % P)) 0 f)) (hy : ∀ n h, y n h = tab (off (R * (n % P)) (b * (n / P)) g))
    (S : (n : ℕ) → n < N → Ix a b → EReal) (first : ∀ n h, n % P = 0 → S n h = pay (x n h) (y n h))
    (next : ∀ n h, (n + 1) % P ≠ 0 → S (n + 1) h = fun j => S n (Nat.lt_of_succ_lt h) j + pay (x (n + 1) h) (y (n + 1) h) j) :
    ∀ n h, S n h = tab (tn (R * (n % P + 1)) f (off 0 (b * (n / P)) g)) := by
  have start : ∀ n h, n % P = 0 → S n h = tab (tn (R * (n % P + 1)) f (off 0 (b * (n / P)) g)) := by
    intro n h hn
    rw [first n h hn, hx, hy, hpay, hn, Nat.mul_zero, Nat.zero_add, Nat.mul_one]
    congr 1
    funext i j
    refine sum_congr rfl fun k _ => ?_
    show f (0 + k) (0 + i) * _ = _
    rw [Nat.zero_add, Nat.zero_add]
  intro n
  induction n with
  | zero => exact fun h => start 0 h (Nat.zero_mod P)
  | succ n ih =>
    intro h
    by_cases hn : (n + 1) % P = 0
    · exact start _ h hn
    · have hd : (n + 1) / P = n / P := by
        rw [Nat.succ_div, if_neg fun hd => hn (Nat.mod_eq_zero_of_dvd hd), Nat.add_zero]
      have hm : (n + 1) % P = n % P + 1 := by
        have h1 := Nat.div_add_mod n P
        have h2 := Nat.div_add_mod (n + 1) P
        rw [hd] at h2
        omega
      rw [next n h hn, ih (Nat.lt_of_succ_lt h), hx, hy, hpay, hd, hm, Nat.mul_add R (n % P + 1) 1, Nat.mul_one]
      funext j
      exact (tn_add (R * (n % P + 1)) R (b * (n / P)) f g (j 0).val (j 1).val).symm

/-- The accumulator after a column's last block: the columns of the whole product. -/
theorem tn_last {a b : ℕ} (N P R : ℕ) (hP : 0 < P) (f g : ℕ → ℕ → EReal) (S : (n : ℕ) → n < N → Ix a b → EReal)
    (h : ∀ n h, S n h = tab (tn (R * (n % P + 1)) f (off 0 (b * (n / P)) g))) (n : ℕ) (hn : n < N) (hl : n % P = P - 1) :
    S n hn = tab (off (a * 0) (b * (n / P)) (tn (R * P) f g)) := by
  rw [h, hl, Nat.sub_add_cancel hP, Nat.mul_zero, tn_off]

end Cert.Product

end
-- ==== Proof.ProductForward.lean ====
/- The layers' forward products, a product of tiles at each grid point. -/
module

public import proofs.«01_k».proof.Defs
public import proofs.«01_k».proof.Proof.Product
public import proofs.«01_k».proof.Proof.Gen.AttnInIdeal.Value
public import proofs.«01_k».proof.Proof.Gen.AttnInRefIdeal.Run
public import proofs.«01_k».proof.Proof.Gen.AttnOutIdeal.Value
public import proofs.«01_k».proof.Proof.Gen.AttnOutRefIdeal.Run
public import proofs.«01_k».proof.Proof.Gen.SsmInIdeal.Value
public import proofs.«01_k».proof.Proof.Gen.SsmInRefIdeal.Run
public import proofs.«01_k».proof.Proof.Gen.SsmGluIdeal.Value
public import proofs.«01_k».proof.Proof.Gen.SsmGluRefIdeal.Run
public import proofs.«01_k».proof.Proof.Gen.SsmOutIdeal.Value
public import proofs.«01_k».proof.Proof.Gen.SsmOutRefIdeal.Run

@[expose] public section

set_option maxRecDepth 16384

noncomputable section

open Finset Idealize.ShloMosaic Idealize.ShloMosaic.TcCoe Idealize.ShloMosaic.Tactic Idealize.SL.Sem Cert.Product

local notation "𝕀" => Idealize.ShloMosaic.Ideal

namespace Cert.AttnInIdeal.Tiles

open Cert.AttnInIdeal Cert.AttnInIdeal.Gen

/-- The factors' blocks stand at the result's row and column of tiles. -/
theorem index_in : ∀ t : Fin cfg0.N, (win0_0.index t 0 = win0_2.index t 0 ∧ win0_0.index t 1 = 0)
    ∧ (win0_1.index t 0 = 0 ∧ win0_1.index t 1 = win0_2.index t 1) := by
  decide +kernel

/-- Every tile of the result is some point's. -/
theorem index_out : ∀ (p : Fin 11) (q : Fin 4), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x640 .bf16) = tab (nn 1024 f g) := by
  unfold out0_2
  rw [View.canon_unit_zero zero2, View.ld_unit_zero zero2, View.ld_unit_zero zero2]
  exact nn_dot _ f g _ zeros

/-- The array after the run. -/
theorem array (m : (ℓ : Loc nD τ sig) → Buf (Elt 𝕀) ℓ) (c : Dev nD) :
    (dats m 0 c).arrAt 2 cfg0.N = (tab (nn 1024 (ent (V m c main_arg0)) (ent (V m c main_arg1))) : Vec 𝕀 S8448x2560 .bf16) := by
  refine (dats m 0 c).arrAt_eq_of_cover 2 _ (fun t _ => ?_) fun i => ?_
  · obtain ⟨⟨h00, h01⟩, h10, h11⟩ := index_in t
    rw [Value.flushed2]
    exact nn_tile (tm := 768) (tn := 640) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 1024 + 1 * (j 1).val) h01)
      (fun j => congrArg (· * 1024 + 1 * (j 0).val) h10) (fun j => congrArg (· * 640 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 640) (k := 4) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 640 _ (by decide) e1

/-- The reference's product. -/
theorem reference (x : Vec 𝕀 S8448x1024 .bf16) (y : Vec 𝕀 S1024x2560 .bf16) :
    (truncf .bf16 (Host.dotGeneral (F := 𝕀) Cert.AttnInRefIdeal.dot_S8448x1024_S1024x2560_S8448x2560_1_0_0_1_n_n none
      (extf .f32 x Cert.AttnInRefIdeal.Gen.bitsLt_bf16_f32) (extf .f32 y Cert.AttnInRefIdeal.Gen.bitsLt_bf16_f32)) Cert.AttnInRefIdeal.Gen.bitsLt_bf16_f32 : Vec 𝕀 S8448x2560 .bf16)
      = tab (nn 1024 (ent x) (ent y)) := by
  conv_lhs => rw [← tab_ent x, ← tab_ent y]
  exact nn_dot _ (ent x) (ent y) _ fun _ => rfl

/-- The call computes the reference's product. -/
theorem algebraic : Cert.algebraic_AttnInIdeal_AttnInRefIdeal := by
  intro m ρ m' ρ' _ hag
  refine ⟨fun c => tab (nn 1024 (ent (V m c main_arg0)) (ent (V m c main_arg1))), ?_, ?_⟩
  · exact (θ_run Cert.AttnInIdeal.defs _ _).mono (fun r h c => ⟨(h c).1.trans (array m c), (h c).2⟩) (Value.run_blocks (F := 𝕀) m ρ)
  · refine (θ_run Cert.AttnInRefIdeal.defs _ _).mono (fun r h c => ⟨(h c).1.trans ?_, (h c).2⟩) (Cert.AttnInRefIdeal.Value.run (F := 𝕀) m' ρ')
    obtain ⟨a0, a1⟩ := hag c
    show _ = tab (nn 1024 (ent (V m c main_arg0)) (ent (V m c main_arg1)))
    rw [V_main_arg0, V_main_arg1, a0, a1]
    exact reference _ _

/-- The reference terminates with its arguments as they were. -/
theorem frame_reference : Cert.quiescent_AttnInRefIdeal := fun m ρ _ =>
  (θ_run Cert.AttnInRefIdeal.defs _ _).mono (fun r h => ⟨fun c => (h c).2, Idealize.ShloMosaic.sem_eq_zero_of_no_sems (by decide) r.2⟩)
    (Cert.AttnInRefIdeal.Value.run (F := 𝕀) m ρ)

end Cert.AttnInIdeal.Tiles

namespace Cert.AttnOutIdeal.Tiles

open Cert.AttnOutIdeal Cert.AttnOutIdeal.Gen

/-- The factors' blocks stand at the result's row and column of tiles. -/
theorem index_in : ∀ t : Fin cfg0.N, (win0_0.index t 0 = win0_2.index t 0 ∧ win0_0.index t 1 = 0)
    ∧ (win0_1.index t 0 = 0 ∧ win0_1.index t 1 = win0_2.index t 1) := by
  decide +kernel

/-- Every tile of the result is some point's. -/
theorem index_out : ∀ (p : Fin 8) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S1024x1024 .f32) = tab (nn 1024 f g) := by
  unfold out0_2
  rw [View.canon_unit_zero zero2, View.ld_unit_zero zero2, View.ld_unit_zero zero2]
  exact nn_dot _ f g _ zeros

/-- The array after the run. -/
theorem array (m : (ℓ : Loc nD τ sig) → Buf (Elt 𝕀) ℓ) (c : Dev nD) :
    (dats m 0 c).arrAt 2 cfg0.N = (tab (nn 1024 (ent (V m c main_arg0)) (ent (V m c main_arg1))) : Vec 𝕀 S8192x1024 .f32) := by
  refine (dats m 0 c).arrAt_eq_of_cover 2 _ (fun t _ => ?_) fun i => ?_
  · obtain ⟨⟨h00, h01⟩, h10, h11⟩ := index_in t
    rw [Value.flushed2]
    exact nn_tile (tm := 1024) (tn := 1024) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 1024 + 1 * (j 0).val) h00) (fun j => congrArg (· * 1024 + 1 * (j 1).val) h01)
      (fun j => congrArg (· * 1024 + 1 * (j 0).val) h10) (fun j => congrArg (· * 1024 + 1 * (j 1).val) h11) (fun _ => rfl) (fun _ => rfl)
  · obtain ⟨t, e0, e1⟩ := index_out ⟨_, Nat.div_lt_of_lt_mul (n := 1024) (k := 8) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 1024 _ (by decide) e0
      | ⟨1, _⟩ => in_block _ 1024 _ (by decide) e1

/-- The reference's product. -/
theorem reference (x : Vec 𝕀 S8192x1024 .bf16) (y : Vec 𝕀 S1024x1024 .bf16) :
    (Host.dotGeneral (F := 𝕀) Cert.AttnOutRefIdeal.dot_S8192x1024_S1024x1024_S8192x1024_1_0_0_1_n_n none
      (extf .f32 x Cert.AttnOutRefIdeal.Gen.bitsLt_bf16_f32) (extf .f32 y Cert.AttnOutRefIdeal.Gen.bitsLt_bf16_f32) : Vec 𝕀 S8192x1024 .f32)
      = tab (nn 1024 (ent x) (ent y)) := by
  conv_lhs => rw [← tab_ent x, ← tab_ent y]
  exact nn_dot _ (ent x) (ent y) _ fun _ => rfl

/-- The call computes the reference's product. -/
theorem algebraic : Cert.algebraic_AttnOutIdeal_AttnOutRefIdeal := by
  intro m ρ m' ρ' _ hag
  refine ⟨fun c => tab (nn 1024 (ent (V m c main_arg0)) (ent (V m c main_arg1))), ?_, ?_⟩
  · exact (θ_run Cert.AttnOutIdeal.defs _ _).mono (fun r h c => ⟨(h c).1.trans (array m c), (h c).2⟩) (Value.run_blocks (F := 𝕀) m ρ)
  · refine (θ_run Cert.AttnOutRefIdeal.defs _ _).mono (fun r h c => ⟨(h c).1.trans ?_, (h c).2⟩) (Cert.AttnOutRefIdeal.Value.run (F := 𝕀) m' ρ')
    obtain ⟨a0, a1⟩ := hag c
    show _ = tab (nn 1024 (ent (V m c main_arg0)) (ent (V m c main_arg1)))
    rw [V_main_arg0, V_main_arg1, a0, a1]
    exact reference _ _

/-- The reference terminates with its arguments as they were. -/
theorem frame_reference : Cert.quiescent_AttnOutRefIdeal := fun m ρ _ =>
  (θ_run Cert.AttnOutRefIdeal.defs _ _).mono (fun r h => ⟨fun c => (h c).2, Idealize.ShloMosaic.sem_eq_zero_of_no_sems (by decide) r.2⟩)
    (Cert.AttnOutRefIdeal.Value.run (F := 𝕀) m ρ)

end Cert.AttnOutIdeal.Tiles

namespace Cert.SsmInIdeal.Tiles

open Cert.SsmInIdeal Cert.SsmInIdeal.Gen

/-- The factors' blocks stand at the result's row and column of tiles. -/
theorem index_in : ∀ t : Fin cfg0.N, (win0_0.index t 0 = win0_2.index t 0 ∧ win0_0.index t 1 = 0)
    ∧ (win0_1.index t 0 = 0 ∧ win0_1.index t 1 = win0_2.index t 1) := by
  decide +kernel

/-- Every tile of the result is some point's. -/
theorem index_out : ∀ (p : Fin 11) (q : Fin 2), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x1024 .f32) = tab (nn 1024 f g) := by
  unfold out0_2
  rw [View.canon_unit_zero zero2, View.ld_unit_zero zero2, View.ld_unit_zero zero2]
  exact nn_dot _ f g _ zeros

/-- The array after the run. -/
theorem array (m : (ℓ : Loc nD τ sig) → Buf (Elt 𝕀) ℓ) (c : Dev nD) :
    (dats m 0 c).arrAt 2 cfg0.N = (tab (nn 1024 (ent (V m c main_arg0)) (ent (V m c main_arg1))) : Vec 𝕀 S8448x2048 .f32) := by
  refine (dats m 0 c).arrAt_eq_of_cover 2 _ (fun t _ => ?_) fun i => ?_
  · obtain ⟨⟨h00, h01⟩, h10, h11⟩ := index_in t
    rw [Value.flushed2]
    exact nn_tile (tm := 768) (tn := 1024) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 1024 + 1 * (j 1).val) h01)
      (fun j => congrArg (· * 1024 + 1 * (j 0).val) h10) (fun j => congrArg (· * 1024 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 1024) (k := 2) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 1024 _ (by decide) e1

/-- The reference's product. -/
theorem reference (x : Vec 𝕀 S8448x1024 .bf16) (y : Vec 𝕀 S1024x2048 .bf16) :
    (Host.dotGeneral (F := 𝕀) Cert.SsmInRefIdeal.dot_S8448x1024_S1024x2048_S8448x2048_1_0_0_1_n_n none
      (extf .f32 x Cert.SsmInRefIdeal.Gen.bitsLt_bf16_f32) (extf .f32 y Cert.SsmInRefIdeal.Gen.bitsLt_bf16_f32) : Vec 𝕀 S8448x2048 .f32)
      = tab (nn 1024 (ent x) (ent y)) := by
  conv_lhs => rw [← tab_ent x, ← tab_ent y]
  exact nn_dot _ (ent x) (ent y) _ fun _ => rfl

/-- The call computes the reference's product. -/
theorem algebraic : Cert.algebraic_SsmInIdeal_SsmInRefIdeal := by
  intro m ρ m' ρ' _ hag
  refine ⟨fun c => tab (nn 1024 (ent (V m c main_arg0)) (ent (V m c main_arg1))), ?_, ?_⟩
  · exact (θ_run Cert.SsmInIdeal.defs _ _).mono (fun r h c => ⟨(h c).1.trans (array m c), (h c).2⟩) (Value.run_blocks (F := 𝕀) m ρ)
  · refine (θ_run Cert.SsmInRefIdeal.defs _ _).mono (fun r h c => ⟨(h c).1.trans ?_, (h c).2⟩) (Cert.SsmInRefIdeal.Value.run (F := 𝕀) m' ρ')
    obtain ⟨a0, a1⟩ := hag c
    show _ = tab (nn 1024 (ent (V m c main_arg0)) (ent (V m c main_arg1)))
    rw [V_main_arg0, V_main_arg1, a0, a1]
    exact reference _ _

/-- The reference terminates with its arguments as they were. -/
theorem frame_reference : Cert.quiescent_SsmInRefIdeal := fun m ρ _ =>
  (θ_run Cert.SsmInRefIdeal.defs _ _).mono (fun r h => ⟨fun c => (h c).2, Idealize.ShloMosaic.sem_eq_zero_of_no_sems (by decide) r.2⟩)
    (Cert.SsmInRefIdeal.Value.run (F := 𝕀) m ρ)

end Cert.SsmInIdeal.Tiles

namespace Cert.SsmGluIdeal.Tiles

open Cert.SsmGluIdeal Cert.SsmGluIdeal.Gen

/-- The factors' blocks stand at the result's row and column of tiles. -/
theorem index_in : ∀ t : Fin cfg0.N, (win0_0.index t 0 = win0_2.index t 0 ∧ win0_0.index t 1 = 0)
    ∧ (win0_1.index t 0 = 0 ∧ win0_1.index t 1 = win0_2.index t 1) := by
  decide +kernel

/-- Every tile of the result is some point's. -/
theorem index_out : ∀ (p : Fin 11) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x1024 .bf16) = tab (nn 1024 f g) := by
  unfold out0_2
  rw [View.canon_unit_zero zero2, View.ld_unit_zero zero2, View.ld_unit_zero zero2]
  exact nn_dot _ f g _ zeros

/-- The array after the run. -/
theorem array (m : (ℓ : Loc nD τ sig) → Buf (Elt 𝕀) ℓ) (c : Dev nD) :
    (dats m 0 c).arrAt 2 cfg0.N = (tab (nn 1024 (ent (V m c main_arg0)) (ent (V m c main_arg1))) : Vec 𝕀 S8448x1024 .bf16) := by
  refine (dats m 0 c).arrAt_eq_of_cover 2 _ (fun t _ => ?_) fun i => ?_
  · obtain ⟨⟨h00, h01⟩, h10, h11⟩ := index_in t
    rw [Value.flushed2]
    exact nn_tile (tm := 768) (tn := 1024) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 1024 + 1 * (j 1).val) h01)
      (fun j => congrArg (· * 1024 + 1 * (j 0).val) h10) (fun j => congrArg (· * 1024 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 1024 _ (by decide) e1

/-- The reference's product. -/
theorem reference (x : Vec 𝕀 S8448x1024 .bf16) (y : Vec 𝕀 S1024x1024 .bf16) :
    (truncf .bf16 (Host.dotGeneral (F := 𝕀) Cert.SsmGluRefIdeal.dot_S8448x1024_S1024x1024_S8448x1024_1_0_0_1_n_n none
      (extf .f32 x Cert.SsmGluRefIdeal.Gen.bitsLt_bf16_f32) (extf .f32 y Cert.SsmGluRefIdeal.Gen.bitsLt_bf16_f32)) Cert.SsmGluRefIdeal.Gen.bitsLt_bf16_f32 : Vec 𝕀 S8448x1024 .bf16)
      = tab (nn 1024 (ent x) (ent y)) := by
  conv_lhs => rw [← tab_ent x, ← tab_ent y]
  exact nn_dot _ (ent x) (ent y) _ fun _ => rfl

/-- The call computes the reference's product. -/
theorem algebraic : Cert.algebraic_SsmGluIdeal_SsmGluRefIdeal := by
  intro m ρ m' ρ' _ hag
  refine ⟨fun c => tab (nn 1024 (ent (V m c main_arg0)) (ent (V m c main_arg1))), ?_, ?_⟩
  · exact (θ_run Cert.SsmGluIdeal.defs _ _).mono (fun r h c => ⟨(h c).1.trans (array m c), (h c).2⟩) (Value.run_blocks (F := 𝕀) m ρ)
  · refine (θ_run Cert.SsmGluRefIdeal.defs _ _).mono (fun r h c => ⟨(h c).1.trans ?_, (h c).2⟩) (Cert.SsmGluRefIdeal.Value.run (F := 𝕀) m' ρ')
    obtain ⟨a0, a1⟩ := hag c
    show _ = tab (nn 1024 (ent (V m c main_arg0)) (ent (V m c main_arg1)))
    rw [V_main_arg0, V_main_arg1, a0, a1]
    exact reference _ _

/-- The reference terminates with its arguments as they were. -/
theorem frame_reference : Cert.quiescent_SsmGluRefIdeal := fun m ρ _ =>
  (θ_run Cert.SsmGluRefIdeal.defs _ _).mono (fun r h => ⟨fun c => (h c).2, Idealize.ShloMosaic.sem_eq_zero_of_no_sems (by decide) r.2⟩)
    (Cert.SsmGluRefIdeal.Value.run (F := 𝕀) m ρ)

end Cert.SsmGluIdeal.Tiles

namespace Cert.SsmOutIdeal.Tiles

open Cert.SsmOutIdeal Cert.SsmOutIdeal.Gen

/-- The factors' blocks stand at the result's row and column of tiles. -/
theorem index_in : ∀ t : Fin cfg0.N, (win0_0.index t 0 = win0_2.index t 0 ∧ win0_0.index t 1 = 0)
    ∧ (win0_1.index t 0 = 0 ∧ win0_1.index t 1 = win0_2.index t 1) := by
  decide +kernel

/-- Every tile of the result is some point's. -/
theorem index_out : ∀ (p : Fin 11) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x1024 .f32) = tab (nn 1024 f g) := by
  unfold out0_2
  rw [View.canon_unit_zero zero2, View.ld_unit_zero zero2, View.ld_unit_zero zero2]
  exact nn_dot _ f g _ zeros

/-- The array after the run. -/
theorem array (m : (ℓ : Loc nD τ sig) → Buf (Elt 𝕀) ℓ) (c : Dev nD) :
    (dats m 0 c).arrAt 2 cfg0.N = (tab (nn 1024 (ent (V m c main_arg0)) (ent (V m c main_arg1))) : Vec 𝕀 S8448x1024 .f32) := by
  refine (dats m 0 c).arrAt_eq_of_cover 2 _ (fun t _ => ?_) fun i => ?_
  · obtain ⟨⟨h00, h01⟩, h10, h11⟩ := index_in t
    rw [Value.flushed2]
    exact nn_tile (tm := 768) (tn := 1024) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 1024 + 1 * (j 1).val) h01)
      (fun j => congrArg (· * 1024 + 1 * (j 0).val) h10) (fun j => congrArg (· * 1024 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 1024 _ (by decide) e1

/-- The reference's product. -/
theorem reference (x : Vec 𝕀 S8448x1024 .bf16) (y : Vec 𝕀 S1024x1024 .bf16) :
    (Host.dotGeneral (F := 𝕀) Cert.SsmOutRefIdeal.dot_S8448x1024_S1024x1024_S8448x1024_1_0_0_1_n_n none
      (extf .f32 x Cert.SsmOutRefIdeal.Gen.bitsLt_bf16_f32) (extf .f32 y Cert.SsmOutRefIdeal.Gen.bitsLt_bf16_f32) : Vec 𝕀 S8448x1024 .f32)
      = tab (nn 1024 (ent x) (ent y)) := by
  conv_lhs => rw [← tab_ent x, ← tab_ent y]
  exact nn_dot _ (ent x) (ent y) _ fun _ => rfl

/-- The call computes the reference's product. -/
theorem algebraic : Cert.algebraic_SsmOutIdeal_SsmOutRefIdeal := by
  intro m ρ m' ρ' _ hag
  refine ⟨fun c => tab (nn 1024 (ent (V m c main_arg0)) (ent (V m c main_arg1))), ?_, ?_⟩
  · exact (θ_run Cert.SsmOutIdeal.defs _ _).mono (fun r h c => ⟨(h c).1.trans (array m c), (h c).2⟩) (Value.run_blocks (F := 𝕀) m ρ)
  · refine (θ_run Cert.SsmOutRefIdeal.defs _ _).mono (fun r h c => ⟨(h c).1.trans ?_, (h c).2⟩) (Cert.SsmOutRefIdeal.Value.run (F := 𝕀) m' ρ')
    obtain ⟨a0, a1⟩ := hag c
    show _ = tab (nn 1024 (ent (V m c main_arg0)) (ent (V m c main_arg1)))
    rw [V_main_arg0, V_main_arg1, a0, a1]
    exact reference _ _

/-- The reference terminates with its arguments as they were. -/
theorem frame_reference : Cert.quiescent_SsmOutRefIdeal := fun m ρ _ =>
  (θ_run Cert.SsmOutRefIdeal.defs _ _).mono (fun r h => ⟨fun c => (h c).2, Idealize.ShloMosaic.sem_eq_zero_of_no_sems (by decide) r.2⟩)
    (Cert.SsmOutRefIdeal.Value.run (F := 𝕀) m ρ)

end Cert.SsmOutIdeal.Tiles

end
-- ==== Proof.ProductDx.lean ====
/- The products with the second factor transposed, a product of tiles at each grid point: the gradients of the layers'
   products in their first factors. -/
module

public import proofs.«01_k».proof.Defs
public import proofs.«01_k».proof.Proof.Product
public import proofs.«01_k».proof.Proof.Gen.AttnInDxIdeal.Value
public import proofs.«01_k».proof.Proof.Gen.AttnInDxRefIdeal.Run
public import proofs.«01_k».proof.Proof.Gen.AttnOutDxIdeal.Value
public import proofs.«01_k».proof.Proof.Gen.AttnOutDxRefIdeal.Run
public import proofs.«01_k».proof.Proof.Gen.SsmInDxIdeal.Value
public import proofs.«01_k».proof.Proof.Gen.SsmInDxRefIdeal.Run
public import proofs.«01_k».proof.Proof.Gen.SsmOutDxIdeal.Value
public import proofs.«01_k».proof.Proof.Gen.SsmOutDxRefIdeal.Run

@[expose] public section

set_option maxRecDepth 16384

noncomputable section

open Finset Idealize.ShloMosaic Idealize.ShloMosaic.TcCoe Idealize.ShloMosaic.Tactic Idealize.SL.Sem Cert.Product

local notation "𝕀" => Idealize.ShloMosaic.Ideal

namespace Cert.AttnInDxIdeal.Tiles

open Cert.AttnInDxIdeal Cert.AttnInDxIdeal.Gen

/-- The factors' blocks stand at the result's row and column of tiles. -/
theorem index_in : ∀ t : Fin cfg0.N, (win0_0.index t 0 = win0_2.index t 0 ∧ win0_0.index t 1 = 0)
    ∧ (win0_1.index t 0 = win0_2.index t 1 ∧ win0_1.index t 1 = 0) := by
  decide +kernel

/-- Every tile of the result is some point's. -/
theorem index_out : ∀ (p : Fin 11) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x1024 .bf16) = tab (nt 2560 f g) := by
  unfold out0_2
  rw [View.canon_unit_zero zero2, View.ld_unit_zero zero2, View.ld_unit_zero zero2]
  exact nt_dot _ f g _ zeros

/-- The array after the run. -/
theorem array (m : (ℓ : Loc nD τ sig) → Buf (Elt 𝕀) ℓ) (c : Dev nD) :
    (dats m 0 c).arrAt 2 cfg0.N = (tab (nt 2560 (ent (V m c main_arg0)) (ent (V m c main_arg1))) : Vec 𝕀 S8448x1024 .bf16) := by
  refine (dats m 0 c).arrAt_eq_of_cover 2 _ (fun t _ => ?_) fun i => ?_
  · obtain ⟨⟨h00, h01⟩, h10, h11⟩ := index_in t
    rw [Value.flushed2]
    exact nt_tile (tm := 768) (tn := 1024) (n := 2560) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 2560 + 1 * (j 1).val) h01)
      (fun j => congrArg (· * 1024 + 1 * (j 0).val) h10) (fun j => congrArg (· * 2560 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 1024 _ (by decide) e1

/-- The reference's product. -/
theorem reference (x : Vec 𝕀 S8448x2560 .bf16) (y : Vec 𝕀 S1024x2560 .bf16) :
    (truncf .bf16 (Host.dotGeneral (F := 𝕀) Cert.AttnInDxRefIdeal.dot_S8448x2560_S1024x2560_S8448x1024_1_1_0_0_n_n none
      (extf .f32 x Cert.AttnInDxRefIdeal.Gen.bitsLt_bf16_f32) (extf .f32 y Cert.AttnInDxRefIdeal.Gen.bitsLt_bf16_f32)) Cert.AttnInDxRefIdeal.Gen.bitsLt_bf16_f32 : Vec 𝕀 S8448x1024 .bf16)
      = tab (nt 2560 (ent x) (ent y)) := by
  conv_lhs => rw [← tab_ent x, ← tab_ent y]
  exact nt_dot _ (ent x) (ent y) _ fun _ => rfl

/-- The call computes the reference's product. -/
theorem algebraic : Cert.algebraic_AttnInDxIdeal_AttnInDxRefIdeal := by
  intro m ρ m' ρ' _ hag
  refine ⟨fun c => tab (nt 2560 (ent (V m c main_arg0)) (ent (V m c main_arg1))), ?_, ?_⟩
  · exact (θ_run Cert.AttnInDxIdeal.defs _ _).mono (fun r h c => ⟨(h c).1.trans (array m c), (h c).2⟩) (Value.run_blocks (F := 𝕀) m ρ)
  · refine (θ_run Cert.AttnInDxRefIdeal.defs _ _).mono (fun r h c => ⟨(h c).1.trans ?_, (h c).2⟩) (Cert.AttnInDxRefIdeal.Value.run (F := 𝕀) m' ρ')
    obtain ⟨a0, a1⟩ := hag c
    show _ = tab (nt 2560 (ent (V m c main_arg0)) (ent (V m c main_arg1)))
    rw [V_main_arg0, V_main_arg1, a0, a1]
    exact reference _ _

/-- The reference terminates with its arguments as they were. -/
theorem frame_reference : Cert.quiescent_AttnInDxRefIdeal := fun m ρ _ =>
  (θ_run Cert.AttnInDxRefIdeal.defs _ _).mono (fun r h => ⟨fun c => (h c).2, Idealize.ShloMosaic.sem_eq_zero_of_no_sems (by decide) r.2⟩)
    (Cert.AttnInDxRefIdeal.Value.run (F := 𝕀) m ρ)

end Cert.AttnInDxIdeal.Tiles

namespace Cert.AttnOutDxIdeal.Tiles

open Cert.AttnOutDxIdeal Cert.AttnOutDxIdeal.Gen

/-- The factors' blocks stand at the result's row and column of tiles. -/
theorem index_in : ∀ t : Fin cfg0.N, (win0_0.index t 0 = win0_2.index t 0 ∧ win0_0.index t 1 = 0)
    ∧ (win0_1.index t 0 = win0_2.index t 1 ∧ win0_1.index t 1 = 0) := by
  decide +kernel

/-- Every tile of the result is some point's. -/
theorem index_out : ∀ (p : Fin 8) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S1024x1024 .bf16) = tab (nt 1024 f g) := by
  unfold out0_2
  rw [View.canon_unit_zero zero2, View.ld_unit_zero zero2, View.ld_unit_zero zero2]
  exact nt_dot _ f g _ zeros

/-- The array after the run. -/
theorem array (m : (ℓ : Loc nD τ sig) → Buf (Elt 𝕀) ℓ) (c : Dev nD) :
    (dats m 0 c).arrAt 2 cfg0.N = (tab (nt 1024 (ent (V m c main_arg0)) (ent (V m c main_arg1))) : Vec 𝕀 S8192x1024 .bf16) := by
  refine (dats m 0 c).arrAt_eq_of_cover 2 _ (fun t _ => ?_) fun i => ?_
  · obtain ⟨⟨h00, h01⟩, h10, h11⟩ := index_in t
    rw [Value.flushed2]
    exact nt_tile (tm := 1024) (tn := 1024) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 1024 + 1 * (j 0).val) h00) (fun j => congrArg (· * 1024 + 1 * (j 1).val) h01)
      (fun j => congrArg (· * 1024 + 1 * (j 0).val) h10) (fun j => congrArg (· * 1024 + 1 * (j 1).val) h11) (fun _ => rfl) (fun _ => rfl)
  · obtain ⟨t, e0, e1⟩ := index_out ⟨_, Nat.div_lt_of_lt_mul (n := 1024) (k := 8) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 1024 _ (by decide) e0
      | ⟨1, _⟩ => in_block _ 1024 _ (by decide) e1

/-- The reference's product. -/
theorem reference (x : Vec 𝕀 S8192x1024 .bf16) (y : Vec 𝕀 S1024x1024 .bf16) :
    (truncf .bf16 (Host.dotGeneral (F := 𝕀) Cert.AttnOutDxRefIdeal.dot_S8192x1024_S1024x1024_S8192x1024_1_1_0_0_n_n none
      (extf .f32 x Cert.AttnOutDxRefIdeal.Gen.bitsLt_bf16_f32) (extf .f32 y Cert.AttnOutDxRefIdeal.Gen.bitsLt_bf16_f32)) Cert.AttnOutDxRefIdeal.Gen.bitsLt_bf16_f32 : Vec 𝕀 S8192x1024 .bf16)
      = tab (nt 1024 (ent x) (ent y)) := by
  conv_lhs => rw [← tab_ent x, ← tab_ent y]
  exact nt_dot _ (ent x) (ent y) _ fun _ => rfl

/-- The call computes the reference's product. -/
theorem algebraic : Cert.algebraic_AttnOutDxIdeal_AttnOutDxRefIdeal := by
  intro m ρ m' ρ' _ hag
  refine ⟨fun c => tab (nt 1024 (ent (V m c main_arg0)) (ent (V m c main_arg1))), ?_, ?_⟩
  · exact (θ_run Cert.AttnOutDxIdeal.defs _ _).mono (fun r h c => ⟨(h c).1.trans (array m c), (h c).2⟩) (Value.run_blocks (F := 𝕀) m ρ)
  · refine (θ_run Cert.AttnOutDxRefIdeal.defs _ _).mono (fun r h c => ⟨(h c).1.trans ?_, (h c).2⟩) (Cert.AttnOutDxRefIdeal.Value.run (F := 𝕀) m' ρ')
    obtain ⟨a0, a1⟩ := hag c
    show _ = tab (nt 1024 (ent (V m c main_arg0)) (ent (V m c main_arg1)))
    rw [V_main_arg0, V_main_arg1, a0, a1]
    exact reference _ _

/-- The reference terminates with its arguments as they were. -/
theorem frame_reference : Cert.quiescent_AttnOutDxRefIdeal := fun m ρ _ =>
  (θ_run Cert.AttnOutDxRefIdeal.defs _ _).mono (fun r h => ⟨fun c => (h c).2, Idealize.ShloMosaic.sem_eq_zero_of_no_sems (by decide) r.2⟩)
    (Cert.AttnOutDxRefIdeal.Value.run (F := 𝕀) m ρ)

end Cert.AttnOutDxIdeal.Tiles

namespace Cert.SsmInDxIdeal.Tiles

open Cert.SsmInDxIdeal Cert.SsmInDxIdeal.Gen

/-- The factors' blocks stand at the result's row and column of tiles. -/
theorem index_in : ∀ t : Fin cfg0.N, (win0_0.index t 0 = win0_2.index t 0 ∧ win0_0.index t 1 = 0)
    ∧ (win0_1.index t 0 = win0_2.index t 1 ∧ win0_1.index t 1 = 0) := by
  decide +kernel

/-- Every tile of the result is some point's. -/
theorem index_out : ∀ (p : Fin 11) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x1024 .bf16) = tab (nt 2048 f g) := by
  unfold out0_2
  rw [View.canon_unit_zero zero2, View.ld_unit_zero zero2, View.ld_unit_zero zero2]
  exact nt_dot _ f g _ zeros

/-- The array after the run. -/
theorem array (m : (ℓ : Loc nD τ sig) → Buf (Elt 𝕀) ℓ) (c : Dev nD) :
    (dats m 0 c).arrAt 2 cfg0.N = (tab (nt 2048 (ent (V m c main_arg0)) (ent (V m c main_arg1))) : Vec 𝕀 S8448x1024 .bf16) := by
  refine (dats m 0 c).arrAt_eq_of_cover 2 _ (fun t _ => ?_) fun i => ?_
  · obtain ⟨⟨h00, h01⟩, h10, h11⟩ := index_in t
    rw [Value.flushed2]
    exact nt_tile (tm := 768) (tn := 1024) (n := 2048) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 2048 + 1 * (j 1).val) h01)
      (fun j => congrArg (· * 1024 + 1 * (j 0).val) h10) (fun j => congrArg (· * 2048 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 1024 _ (by decide) e1

/-- The reference's product. -/
theorem reference (x : Vec 𝕀 S8448x2048 .bf16) (y : Vec 𝕀 S1024x2048 .bf16) :
    (truncf .bf16 (Host.dotGeneral (F := 𝕀) Cert.SsmInDxRefIdeal.dot_S8448x2048_S1024x2048_S8448x1024_1_1_0_0_n_n none
      (extf .f32 x Cert.SsmInDxRefIdeal.Gen.bitsLt_bf16_f32) (extf .f32 y Cert.SsmInDxRefIdeal.Gen.bitsLt_bf16_f32)) Cert.SsmInDxRefIdeal.Gen.bitsLt_bf16_f32 : Vec 𝕀 S8448x1024 .bf16)
      = tab (nt 2048 (ent x) (ent y)) := by
  conv_lhs => rw [← tab_ent x, ← tab_ent y]
  exact nt_dot _ (ent x) (ent y) _ fun _ => rfl

/-- The call computes the reference's product. -/
theorem algebraic : Cert.algebraic_SsmInDxIdeal_SsmInDxRefIdeal := by
  intro m ρ m' ρ' _ hag
  refine ⟨fun c => tab (nt 2048 (ent (V m c main_arg0)) (ent (V m c main_arg1))), ?_, ?_⟩
  · exact (θ_run Cert.SsmInDxIdeal.defs _ _).mono (fun r h c => ⟨(h c).1.trans (array m c), (h c).2⟩) (Value.run_blocks (F := 𝕀) m ρ)
  · refine (θ_run Cert.SsmInDxRefIdeal.defs _ _).mono (fun r h c => ⟨(h c).1.trans ?_, (h c).2⟩) (Cert.SsmInDxRefIdeal.Value.run (F := 𝕀) m' ρ')
    obtain ⟨a0, a1⟩ := hag c
    show _ = tab (nt 2048 (ent (V m c main_arg0)) (ent (V m c main_arg1)))
    rw [V_main_arg0, V_main_arg1, a0, a1]
    exact reference _ _

/-- The reference terminates with its arguments as they were. -/
theorem frame_reference : Cert.quiescent_SsmInDxRefIdeal := fun m ρ _ =>
  (θ_run Cert.SsmInDxRefIdeal.defs _ _).mono (fun r h => ⟨fun c => (h c).2, Idealize.ShloMosaic.sem_eq_zero_of_no_sems (by decide) r.2⟩)
    (Cert.SsmInDxRefIdeal.Value.run (F := 𝕀) m ρ)

end Cert.SsmInDxIdeal.Tiles

namespace Cert.SsmOutDxIdeal.Tiles

open Cert.SsmOutDxIdeal Cert.SsmOutDxIdeal.Gen

/-- The factors' blocks stand at the result's row and column of tiles. -/
theorem index_in : ∀ t : Fin cfg0.N, (win0_0.index t 0 = win0_2.index t 0 ∧ win0_0.index t 1 = 0)
    ∧ (win0_1.index t 0 = win0_2.index t 1 ∧ win0_1.index t 1 = 0) := by
  decide +kernel

/-- Every tile of the result is some point's. -/
theorem index_out : ∀ (p : Fin 11) (q : Fin 1), ∃ t : Fin cfg0.N, win0_2.index t 0 = p.val ∧ win0_2.index t 1 = q.val := by
  decide +kernel

/-- What a point stores, of two matrices. -/
theorem out_tab (f g : ℕ → ℕ → EReal) : (out0_2 (F := 𝕀) (tab f) (tab g) : Vec 𝕀 S768x1024 .bf16) = tab (nt 1024 f g) := by
  unfold out0_2
  rw [View.canon_unit_zero zero2, View.ld_unit_zero zero2, View.ld_unit_zero zero2]
  exact nt_dot _ f g _ zeros

/-- The array after the run. -/
theorem array (m : (ℓ : Loc nD τ sig) → Buf (Elt 𝕀) ℓ) (c : Dev nD) :
    (dats m 0 c).arrAt 2 cfg0.N = (tab (nt 1024 (ent (V m c main_arg0)) (ent (V m c main_arg1))) : Vec 𝕀 S8448x1024 .bf16) := by
  refine (dats m 0 c).arrAt_eq_of_cover 2 _ (fun t _ => ?_) fun i => ?_
  · obtain ⟨⟨h00, h01⟩, h10, h11⟩ := index_in t
    rw [Value.flushed2]
    exact nt_tile (tm := 768) (tn := 1024) (n := 1024) (fun a b => out0_2 (F := 𝕀) a b) out_tab (V m c main_arg0) (V m c main_arg1) ((cfg0.win 0).blk t).view.emb ((cfg0.win 1).blk t).view.emb
      ((cfg0.win 2).blk t).view.emb _ _ (fun j => congrArg (· * 768 + 1 * (j 0).val) h00) (fun j => congrArg (· * 1024 + 1 * (j 1).val) h01)
      (fun j => congrArg (· * 1024 + 1 * (j 0).val) h10) (fun j => congrArg (· * 1024 + 1 * (j 1).val) h11) (fun _ => rfl) (fun _ => rfl)
  · obtain ⟨t, e0, e1⟩ := index_out ⟨_, Nat.div_lt_of_lt_mul (n := 768) (k := 11) (i 0).isLt⟩ ⟨_, Nat.div_lt_of_lt_mul (n := 1024) (k := 1) (i 1).isLt⟩
    refine ⟨t, flush0_2 t, ?_⟩
    show i ∈ ((View.whole main_v0).slice (win0_2.rect t)).set
    rw [View.set_slice_whole, Rect.mem_set_unit]
    exact fun a => match a with
      | ⟨0, _⟩ => in_block _ 768 _ (by decide) e0
      | ⟨1, _⟩ => in_block _ 1024 _ (by decide) e1

/-- The reference's product. -/
theorem reference (x : Vec 𝕀 S8448x1024 .bf16) (y : Vec 𝕀 S1024x1024 .bf16) :
    (truncf .bf16 (Host.dotGeneral (F := 𝕀) Cert.SsmOutDxRefIdeal.dot_S8448x1024_S1024x1024_S8448x1024_1_1_0_0_n_n none
      (extf .f32 x Cert.SsmOutDxRefIdeal.Gen.bitsLt_bf16_f32) (extf .f32 y Cert.SsmOutDxRefIdeal.Gen.bitsLt_bf16_f32)) Cert.SsmOutDxRefIdeal.Gen.bitsLt_bf16_f32 : Vec 𝕀 S8448x1024 .bf16)
      = tab (nt 1024 (ent x) (ent y)) := by
  conv_lhs => rw [← tab_ent x, ← tab_ent y]
  exact nt_dot _ (ent x) (ent y) _ fun _ => rfl

/-- The call computes the reference's product. -/
theorem algebraic : Cert.algebraic_SsmOutDxIdeal_SsmOutDxRefIdeal := by
  intro m ρ m' ρ' _ hag
  refine ⟨fun c => tab (nt 1024 (ent (V m c main_arg0)) (ent (V m c main_arg1))), ?_, ?_⟩
  · exact (θ_run Cert.SsmOutDxIdeal.defs _ _).mono (fun r h c => ⟨(h c).1.trans (array m c), (h c).2⟩) (Value.run_blocks (F := 𝕀) m ρ)
  · refine (θ_run Cert.SsmOutDxRefIdeal.defs _ _).mono (fun r h c => ⟨(h c).1.trans ?_, (h c).2⟩) (Cert.SsmOutDxRefIdeal.Value.run (F := 𝕀) m' ρ')
    obtain ⟨a0, a1⟩ := hag c
    show _ = tab (nt 1024 (ent (V m c main_arg0)) (ent (V m c main_arg1)))
    rw [V_main_arg0, V_main_arg1, a0, a1]
    exact reference _ _

/-- The reference terminates with its arguments as they were. -/
theorem frame_reference : Cert.quiescent_SsmOutDxRefIdeal := fun m ρ _ =>
  (θ_run Cert.SsmOutDxRefIdeal.defs _ _).mono (fun r h => ⟨fun c => (h c).2, Idealize.ShloMosaic.sem_eq_zero_of_no_sems (by decide) r.2⟩)
    (Cert.SsmOutDxRefIdeal.Value.run (F := 𝕀) m ρ)

end Cert.SsmOutDxIdeal.Tiles

end
-- ==== Proof.ProductDw.lean ====
/- The products with the first factor transposed, summed over blocks of rows in a scratch between grid points and stored
   at a column's last point: the gradients of the layers' products in their second factors. -/
module

public import proofs.«01_k».proof.Defs
public import proofs.«01_k».proof.Proof.Product
public import proofs.«01_k».proof.Proof.Gen.AttnInDwIdeal.Value
public import proofs.«01_k».proof.Proof.Gen.AttnInDwRefIdeal.Run
public import proofs.«01_k».proof.Proof.Gen.AttnOutDwIdeal.Value
public import proofs.«01_k».proof.Proof.Gen.AttnOutDwRefIdeal.Run
public import proofs.«01_k».proof.Proof.Gen.SsmInDwIdeal.Value
public import proofs.«01_k».proof.Proof.Gen.SsmInDwRefIdeal.Run
public import proofs.«01_k».proof.Proof.Gen.SsmOutDwIdeal.Value
public import proofs.«01_k».proof.Proof.Gen.SsmOutDwRefIdeal.Run

@[expose] public section

set_option maxRecDepth 16384

noncomputable section

open Finset Idealize.ShloMosaic Idealize.ShloMosaic.TcCoe Idealize.ShloMosaic.Tactic Idealize.SL.Sem Cert.Product

local notation "𝕀" => Idealize.ShloMosaic.Ideal

namespace Cert.AttnInDwIdeal.Tiles

open Cert.AttnInDwIdeal Cert.AttnInDwIdeal.Gen

/-- Where the windows stand at a grid point. -/
theorem index_facts : ∀ t : Fin cfg0.N, (win0_0.index t 0 = t.val % 11 ∧ win0_0.index t 1 = 0)
    ∧ (win0_1.index t 0 = t.val % 11 ∧ win0_1.index t 1 = t.val / 11) ∧ (win0_2.index t 0 = 0 ∧ win0_2.index t 1 = t.val / 11) := by
  decide +kernel

/-- One block's product. -/
theorem pay_tab (f g : ℕ → ℕ → EReal) : (k0_pay1 (F := 𝕀) (tab f) (tab g) : Vec 𝕀 S1024x640 .f32) = tab (tn 768 f g) :=
  tn_dot _ f g _ zeros

section

variable (c : Dev nD) (i : grid0.Coords) (a2 : Memref sig .tc .vmem S768x1024 .bf16) (h2 : a2.IsWhole)
  (a3 : Memref sig .tc .vmem S768x640 .bf16) (h3 : a3.IsWhole) (a4 : Memref sig .tc .vmem S1024x640 .bf16) (h4 : a4.IsWhole)
  (a5 : Memref sig .tc .vmem S1024x640 .f32) (h5 : a5.IsWhole) (x : Vec 𝕀 S768x1024 .bf16) (y : Vec 𝕀 S768x640 .bf16)
  (s : Vec 𝕀 S1024x640 .f32)

/-- What a column's first point leaves in the scratch: its block's product. -/
theorem first_scratch (c0 : cond0_0 i) (c1 : ¬cond0_1 i) (c2 : ¬cond0_2 i) :
    sout0_A_0 c i a2 h2 a3 h3 a4 h4 a5 h5 c0 c1 c2 x y = k0_pay1 x y := by
  refine (View.read_writes_eq_canon _ _ _ (scover0_A_0 c i a2 h2 a3 h3 a4 h4 a5 h5 c0 c1 c2 x y)).trans ?_
  unfold kernelRun0_A
  dsimp only
  sl_unfold_words
  rw [View.canon_unit_zero zero2]
  unfold k0_pay2
  simp only [View.readAt_eq_ld, h2.read_unread, h3.read_unread, View.ld_unit_zero (S := S768x1024) zero2, View.ld_unit_zero (S := S768x640) zero2, shapeCast_self]

/-- What a point in a column's middle leaves in the scratch: its block's product added. -/
theorem middle_scratch (c0 : ¬cond0_0 i) (c1 : cond0_1 i) (c2 : ¬cond0_2 i) :
    sout0_B_0 c i a2 h2 a3 h3 a4 h4 a5 h5 c0 c1 c2 x y s = addf s (k0_pay1 x y) := by
  refine (View.read_writes_eq_canon _ _ _ (scover0_B_0 c i a2 h2 a3 h3 a4 h4 a5 h5 c0 c1 c2 x y s)).trans ?_
  unfold kernelRun0_B
  dsimp only
  sl_unfold_words
  rw [View.canon_unit_zero zero2]
  unfold k0_pay3
  simp only [View.readAt_eq_ld, h2.read_unread, h3.read_unread, h5.read_unread, View.ld_unit_zero (S := S768x1024) zero2,
    View.ld_unit_zero (S := S768x640) zero2, View.ld_unit_zero (S := S1024x640) zero2, shapeCast_self]

/-- The same at a column's last point. -/
theorem last_scratch (c0 : ¬cond0_0 i) (c1 : cond0_1 i) (c2 : cond0_2 i) :
    sout0_C_0 c i a2 h2 a3 h3 a4 h4 a5 h5 c0 c1 c2 x y s = addf s (k0_pay1 x y) := by
  refine (View.read_writes_eq_canon _ _ _ (scover0_C_0 c i a2 h2 a3 h3 a4 h4 a5 h5 c0 c1 c2 x y s)).trans ?_
  unfold kernelRun0_C
  dsimp only
  sl_unfold_words
  rw [View.canon_unit_zero zero2]
  unfold k0_pay3
  simp only [View.readAt_eq_ld, h2.read_unread, h3.read_unread, h5.read_unread, View.ld_unit_zero (S := S768x1024) zero2,
    View.ld_unit_zero (S := S768x640) zero2, View.ld_unit_zero (S := S1024x640) zero2, shapeCast_self]

/-- The result a column's last point stores: the scratch, rounded to the result's type. -/
theorem last_out (c0 : ¬cond0_0 i) (c1 : cond0_1 i) (c2 : cond0_2 i) :
    out0_C_2 c i a2 h2 a3 h3 a4 h4 a5 h5 c0 c1 c2 x y s = k0_pay4 (addf s (k0_pay1 x y)) := by
  refine (View.read_writes_eq_canon _ _ _ (cover0_C_2 c i a2 h2 a3 h3 a4 h4 a5 h5 c0 c1 c2 x y s)).trans ?_
  unfold kernelRun0_C
  dsimp only
  sl_unfold_words
  rw [View.canon_unit_zero zero2, View.readCov_unit_zero _ zero2]
  unfold k0_pay3
  simp only [View.readAt_eq_ld, h2.read_unread, h3.read_unread, h5.read_unread, View.ld_unit_zero (S := S768x1024) zero2,
    View.ld_unit_zero (S := S768x640) zero2, View.ld_unit_zero (S := S1024x640) zero2, shapeCast_self]

end

section

variable (m : (ℓ : Loc nD τ sig) → Buf (Elt 𝕀) ℓ) (c : Dev nD)

/-- The first factor's block at a point. -/
theorem rows (t : Fin cfg0.N) : iblk m c 0 t = tab (off (768 * (t.val % 11)) 0 (ent (V m c main_arg0))) := by
  have h := (index_facts t).1
  have b : iblk m c 0 t = tab (off (768 * win0_0.index t 0) (1024 * win0_0.index t 1) (ent (V m c main_arg0))) :=
    block (V m c main_arg0) ((cfg0.win 0).blk t).view.emb _ _ (fun j => rfl) (fun j => rfl)
  rwa [h.1, h.2] at b

/-- The second factor's block at a point. -/
theorem cols (t : Fin cfg0.N) : iblk m c 1 t = tab (off (768 * (t.val % 11)) (640 * (t.val / 11)) (ent (V m c main_arg1))) := by
  have h := (index_facts t).2.1
  have b : iblk m c 1 t = tab (off (768 * win0_1.index t 0) (640 * win0_1.index t 1) (ent (V m c main_arg1))) :=
    block (V m c main_arg1) ((cfg0.win 1).blk t).view.emb _ _ (fun j => rfl) (fun j => rfl)
  rwa [h.1, h.2] at b

/-- The scratch after a point: the product over the rows seen in its column. -/
theorem scratch : ∀ n h, (outsAt0 m c n h).2
    = (tab (tn (768 * (n % 11 + 1)) (ent (V m c main_arg0)) (off 0 (640 * (n / 11)) (ent (V m c main_arg1)))) : Vec 𝕀 S1024x640 .f32) := by
  refine tn_acc (a := 1024) cfg0.N 11 768 (by decide) _ _ (k0_pay1 (F := 𝕀)) pay_tab (fun n h => iblk m c 0 ⟨n, h⟩) (fun n h => iblk m c 1 ⟨n, h⟩)
    (fun n h => rows m c ⟨n, h⟩) (fun n h => cols m c ⟨n, h⟩) (fun n h => (outsAt0 m c n h).2) (fun n h hn => ?_) fun n h hn => ?_
  · have hN : n < 44 := lt_of_lt_of_eq h N_0
    rw [outsAt0_A m c ⟨n, h⟩ hn (by dsimp only; omega) (by dsimp only; omega)]
    dsimp only
    rw [first_scratch]
  · by_cases hl : (n + 1) % 11 = 10
    · rw [outsAt0_C m c ⟨n + 1, h⟩ hn (by dsimp only; omega) hl]
      dsimp only
      rw [last_scratch]
      rfl
    · rw [outsAt0_B m c ⟨n + 1, h⟩ hn (by dsimp only; omega) hl]
      dsimp only
      rw [middle_scratch]
      rfl

/-- The result's block at a column's last point. -/
theorem left (t : Fin cfg0.N) (h : t.val % 11 = 10) : (outsAt0 m c t.val t.isLt).1
    = (tab (off (1024 * 0) (640 * (t.val / 11)) (tn 8448 (ent (V m c main_arg0)) (ent (V m c main_arg1)))) : Vec 𝕀 S1024x640 .bf16) := by
  refine Eq.trans ?_ (tn_last (a := 1024) cfg0.N 11 768 (by decide) _ _ _ (scratch m c) t.val t.isLt h)
  rw [outsAt0_C m c t (by omega) (by omega) h]
  dsimp only
  rw [last_out, last_scratch]
  rfl

/-- The array after the run. -/
theorem array : (dats m 0 c).arrAt 2 cfg0.N = (tab (tn 8448 (ent (V m c main_arg0)) (ent (V m c main_arg1))) : Vec 𝕀 S1024x2560 .bf16) := by
  refine (dats m 0 c).arrAt_eq_of_cover 2 _ (fun t hf => ?_) fun i => (Value.covered_iff2 i).mpr ?_
  · have h := (index_facts t).2.2
    show (cfg0.win 2).cut (grid0.coords t) ((dats m 0 c).after 2 t) = _
    rw [after0_2, left m c t ((flush0_2 t).mp hf), ← h.1, ← h.2]
    exact block_tab _ ((cfg0.win 2).blk t).view.emb _ _ (fun j => rfl) (fun j => rfl)
  · exact ⟨Nat.zero_le _, (i 0).isLt, Nat.zero_le _, (i 1).isLt⟩

end

/-- The reference's product. -/
theorem reference (x : Vec 𝕀 S8448x1024 .bf16) (y : Vec 𝕀 S8448x2560 .bf16) :
    (truncf .bf16 (transpose S1024x2560 [1, 0] (Host.dotGeneral (F := 𝕀) Cert.AttnInDwRefIdeal.dot_S8448x2560_S8448x1024_S2560x1024_0_0_1_1_n_n none
      (extf .f32 y Cert.AttnInDwRefIdeal.Gen.bitsLt_bf16_f32) (extf .f32 x Cert.AttnInDwRefIdeal.Gen.bitsLt_bf16_f32)) Cert.AttnInDwRefIdeal.Gen.transposes_S2560x1024_S1024x2560_1_0) Cert.AttnInDwRefIdeal.Gen.bitsLt_bf16_f32 : Vec 𝕀 S1024x2560 .bf16)
      = tab (tn 8448 (ent x) (ent y)) := by
  conv_lhs => rw [← tab_ent x, ← tab_ent y]
  exact (congrArg (transpose S1024x2560 [1, 0] · _) (tn_dot _ (ent y) (ent x) _ fun _ => rfl)).trans (tn_swap _ _ _ _)

/-- The call computes the reference's product. -/
theorem algebraic : Cert.algebraic_AttnInDwIdeal_AttnInDwRefIdeal := by
  intro m ρ m' ρ' _ hag
  refine ⟨fun c => tab (tn 8448 (ent (V m c main_arg0)) (ent (V m c main_arg1))), ?_, ?_⟩
  · exact (θ_run Cert.AttnInDwIdeal.defs _ _).mono (fun r h c => ⟨(h c).1.trans ((Value.final2 m c).symm.trans (array m c)), (h c).2⟩) (Value.run (F := 𝕀) m ρ)
  · refine (θ_run Cert.AttnInDwRefIdeal.defs _ _).mono (fun r h c => ⟨(h c).1.trans ?_, (h c).2⟩) (Cert.AttnInDwRefIdeal.Value.run (F := 𝕀) m' ρ')
    obtain ⟨a0, a1⟩ := hag c
    show _ = tab (tn 8448 (ent (V m c main_arg0)) (ent (V m c main_arg1)))
    rw [V_main_arg0, V_main_arg1, a0, a1]
    exact reference _ _

/-- The reference terminates with its arguments as they were. -/
theorem frame_reference : Cert.quiescent_AttnInDwRefIdeal := fun m ρ _ =>
  (θ_run Cert.AttnInDwRefIdeal.defs _ _).mono (fun r h => ⟨fun c => (h c).2, Idealize.ShloMosaic.sem_eq_zero_of_no_sems (by decide) r.2⟩)
    (Cert.AttnInDwRefIdeal.Value.run (F := 𝕀) m ρ)

end Cert.AttnInDwIdeal.Tiles

namespace Cert.AttnOutDwIdeal.Tiles

open Cert.AttnOutDwIdeal Cert.AttnOutDwIdeal.Gen

/-- Where the windows stand at a grid point. -/
theorem index_facts : ∀ t : Fin cfg0.N, (win0_0.index t 0 = t.val % 8 ∧ win0_0.index t 1 = 0)
    ∧ (win0_1.index t 0 = t.val % 8 ∧ win0_1.index t 1 = t.val / 8) ∧ (win0_2.index t 0 = 0 ∧ win0_2.index t 1 = t.val / 8) := by
  decide +kernel

/-- One block's product. -/
theorem pay_tab (f g : ℕ → ℕ → EReal) : (k0_pay1 (F := 𝕀) (tab f) (tab g) : Vec 𝕀 S1024x1024 .f32) = tab (tn 1024 f g) :=
  tn_dot _ f g _ zeros

section

variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (x : Vec 𝕀 S1024x1024 .bf16) (y : Vec 𝕀 S1024x1024 .bf16)
  (s : Vec 𝕀 S1024x1024 .f32)

/-- What a column's first point leaves in the scratch: its block's product. -/
theorem first_scratch (c0 : cond0_0 i) (c1 : ¬cond0_1 i) (c2 : ¬cond0_2 i) :
    sout0_A_0 c i a2 h2 a3 h3 a4 h4 a5 h5 c0 c1 c2 x y = k0_pay1 x y := by
  refine (View.read_writes_eq_canon _ _ _ (scover0_A_0 c i a2 h2 a3 h3 a4 h4 a5 h5 c0 c1 c2 x y)).trans ?_
  unfold kernelRun0_A
  dsimp only
  sl_unfold_words
  rw [View.canon_unit_zero zero2]
  unfold k0_pay2
  simp only [View.readAt_eq_ld, h2.read_unread, h3.read_unread, View.ld_unit_zero (S := S1024x1024) zero2, View.ld_unit_zero (S := S1024x1024) zero2, shapeCast_self]

/-- What a point in a column's middle leaves in the scratch: its block's product added. -/
theorem middle_scratch (c0 : ¬cond0_0 i) (c1 : cond0_1 i) (c2 : ¬cond0_2 i) :
    sout0_B_0 c i a2 h2 a3 h3 a4 h4 a5 h5 c0 c1 c2 x y s = addf s (k0_pay1 x y) := by
  refine (View.read_writes_eq_canon _ _ _ (scover0_B_0 c i a2 h2 a3 h3 a4 h4 a5 h5 c0 c1 c2 x y s)).trans ?_
  unfold kernelRun0_B
  dsimp only
  sl_unfold_words
  rw [View.canon_unit_zero zero2]
  unfold k0_pay3
  simp only [View.readAt_eq_ld, h2.read_unread, h3.read_unread, h5.read_unread, View.ld_unit_zero (S := S1024x1024) zero2,
    View.ld_unit_zero (S := S1024x1024) zero2, View.ld_unit_zero (S := S1024x1024) zero2, shapeCast_self]

/-- The same at a column's last point. -/
theorem last_scratch (c0 : ¬cond0_0 i) (c1 : cond0_1 i) (c2 : cond0_2 i) :
    sout0_C_0 c i a2 h2 a3 h3 a4 h4 a5 h5 c0 c1 c2 x y s = addf s (k0_pay1 x y) := by
  refine (View.read_writes_eq_canon _ _ _ (scover0_C_0 c i a2 h2 a3 h3 a4 h4 a5 h5 c0 c1 c2 x y s)).trans ?_
  unfold kernelRun0_C
  dsimp only
  sl_unfold_words
  rw [View.canon_unit_zero zero2]
  unfold k0_pay3
  simp only [View.readAt_eq_ld, h2.read_unread, h3.read_unread, h5.read_unread, View.ld_unit_zero (S := S1024x1024) zero2,
    View.ld_unit_zero (S := S1024x1024) zero2, View.ld_unit_zero (S := S1024x1024) zero2, shapeCast_self]

/-- The result a column's last point stores: the scratch, rounded to the result's type. -/
theorem last_out (c0 : ¬cond0_0 i) (c1 : cond0_1 i) (c2 : cond0_2 i) :
    out0_C_2 c i a2 h2 a3 h3 a4 h4 a5 h5 c0 c1 c2 x y s = k0_pay4 (addf s (k0_pay1 x y)) := by
  refine (View.read_writes_eq_canon _ _ _ (cover0_C_2 c i a2 h2 a3 h3 a4 h4 a5 h5 c0 c1 c2 x y s)).trans ?_
  unfold kernelRun0_C
  dsimp only
  sl_unfold_words
  rw [View.canon_unit_zero zero2, View.readCov_unit_zero _ zero2]
  unfold k0_pay3
  simp only [View.readAt_eq_ld, h2.read_unread, h3.read_unread, h5.read_unread, View.ld_unit_zero (S := S1024x1024) zero2,
    View.ld_unit_zero (S := S1024x1024) zero2, View.ld_unit_zero (S := S1024x1024) zero2, shapeCast_self]

end

section

variable (m : (ℓ : Loc nD τ sig) → Buf (Elt 𝕀) ℓ) (c : Dev nD)

/-- The first factor's block at a point. -/
theorem rows (t : Fin cfg0.N) : iblk m c 0 t = tab (off (1024 * (t.val % 8)) 0 (ent (V m c main_arg0))) := by
  have h := (index_facts t).1
  have b : iblk m c 0 t = tab (off (1024 * win0_0.index t 0) (1024 * win0_0.index t 1) (ent (V m c main_arg0))) :=
    block (V m c main_arg0) ((cfg0.win 0).blk t).view.emb _ _ (fun j => rfl) (fun j => rfl)
  rwa [h.1, h.2] at b

/-- The second factor's block at a point. -/
theorem cols (t : Fin cfg0.N) : iblk m c 1 t = tab (off (1024 * (t.val % 8)) (1024 * (t.val / 8)) (ent (V m c main_arg1))) := by
  have h := (index_facts t).2.1
  have b : iblk m c 1 t = tab (off (1024 * win0_1.index t 0) (1024 * win0_1.index t 1) (ent (V m c main_arg1))) :=
    block (V m c main_arg1) ((cfg0.win 1).blk t).view.emb _ _ (fun j => rfl) (fun j => rfl)
  rwa [h.1, h.2] at b

/-- The scratch after a point: the product over the rows seen in its column. -/
theorem scratch : ∀ n h, (outsAt0 m c n h).2
    = (tab (tn (1024 * (n % 8 + 1)) (ent (V m c main_arg0)) (off 0 (1024 * (n / 8)) (ent (V m c main_arg1)))) : Vec 𝕀 S1024x1024 .f32) := by
  refine tn_acc (a := 1024) cfg0.N 8 1024 (by decide) _ _ (k0_pay1 (F := 𝕀)) pay_tab (fun n h => iblk m c 0 ⟨n, h⟩) (fun n h => iblk m c 1 ⟨n, h⟩)
    (fun n h => rows m c ⟨n, h⟩) (fun n h => cols m c ⟨n, h⟩) (fun n h => (outsAt0 m c n h).2) (fun n h hn => ?_) fun n h hn => ?_
  · have hN : n < 8 := lt_of_lt_of_eq h N_0
    rw [outsAt0_A m c ⟨n, h⟩ hn (by dsimp only; omega) (by dsimp only; omega)]
    dsimp only
    rw [first_scratch]
  · by_cases hl : (n + 1) % 8 = 7
    · rw [outsAt0_C m c ⟨n + 1, h⟩ hn (by dsimp only; omega) hl]
      dsimp only
      rw [last_scratch]
      rfl
    · rw [outsAt0_B m c ⟨n + 1, h⟩ hn (by dsimp only; omega) hl]
      dsimp only
      rw [middle_scratch]
      rfl

/-- The result's block at a column's last point. -/
theorem left (t : Fin cfg0.N) (h : t.val % 8 = 7) : (outsAt0 m c t.val t.isLt).1
    = (tab (off (1024 * 0) (1024 * (t.val / 8)) (tn 8192 (ent (V m c main_arg0)) (ent (V m c main_arg1)))) : Vec 𝕀 S1024x1024 .bf16) := by
  refine Eq.trans ?_ (tn_last (a := 1024) cfg0.N 8 1024 (by decide) _ _ _ (scratch m c) t.val t.isLt h)
  rw [outsAt0_C m c t (by omega) (by omega) h]
  dsimp only
  rw [last_out, last_scratch]
  rfl

/-- The array after the run. -/
theorem array : (dats m 0 c).arrAt 2 cfg0.N = (tab (tn 8192 (ent (V m c main_arg0)) (ent (V m c main_arg1))) : Vec 𝕀 S1024x1024 .bf16) := by
  refine (dats m 0 c).arrAt_eq_of_cover 2 _ (fun t hf => ?_) fun i => (Value.covered_iff2 i).mpr ?_
  · have h := (index_facts t).2.2
    show (cfg0.win 2).cut (grid0.coords t) ((dats m 0 c).after 2 t) = _
    rw [after0_2, left m c t ((flush0_2 t).mp hf), ← h.1, ← h.2]
    exact block_tab _ ((cfg0.win 2).blk t).view.emb _ _ (fun j => rfl) (fun j => rfl)
  · exact ⟨Nat.zero_le _, (i 0).isLt, Nat.zero_le _, (i 1).isLt⟩

end

/-- The reference's product. -/
theorem reference (x : Vec 𝕀 S8192x1024 .bf16) (y : Vec 𝕀 S8192x1024 .bf16) :
    (truncf .bf16 (transpose S1024x1024 [1, 0] (Host.dotGeneral (F := 𝕀) Cert.AttnOutDwRefIdeal.dot_S8192x1024_S8192x1024_S1024x1024_0_0_1_1_n_n none
      (extf .f32 y Cert.AttnOutDwRefIdeal.Gen.bitsLt_bf16_f32) (extf .f32 x Cert.AttnOutDwRefIdeal.Gen.bitsLt_bf16_f32)) Cert.AttnOutDwRefIdeal.Gen.transposes_S1024x1024_S1024x1024_1_0) Cert.AttnOutDwRefIdeal.Gen.bitsLt_bf16_f32 : Vec 𝕀 S1024x1024 .bf16)
      = tab (tn 8192 (ent x) (ent y)) := by
  conv_lhs => rw [← tab_ent x, ← tab_ent y]
  exact (congrArg (transpose S1024x1024 [1, 0] · _) (tn_dot _ (ent y) (ent x) _ fun _ => rfl)).trans (tn_swap _ _ _ _)

/-- The call computes the reference's product. -/
theorem algebraic : Cert.algebraic_AttnOutDwIdeal_AttnOutDwRefIdeal := by
  intro m ρ m' ρ' _ hag
  refine ⟨fun c => tab (tn 8192 (ent (V m c main_arg0)) (ent (V m c main_arg1))), ?_, ?_⟩
  · exact (θ_run Cert.AttnOutDwIdeal.defs _ _).mono (fun r h c => ⟨(h c).1.trans ((Value.final2 m c).symm.trans (array m c)), (h c).2⟩) (Value.run (F := 𝕀) m ρ)
  · refine (θ_run Cert.AttnOutDwRefIdeal.defs _ _).mono (fun r h c => ⟨(h c).1.trans ?_, (h c).2⟩) (Cert.AttnOutDwRefIdeal.Value.run (F := 𝕀) m' ρ')
    obtain ⟨a0, a1⟩ := hag c
    show _ = tab (tn 8192 (ent (V m c main_arg0)) (ent (V m c main_arg1)))
    rw [V_main_arg0, V_main_arg1, a0, a1]
    exact reference _ _

/-- The reference terminates with its arguments as they were. -/
theorem frame_reference : Cert.quiescent_AttnOutDwRefIdeal := fun m ρ _ =>
  (θ_run Cert.AttnOutDwRefIdeal.defs _ _).mono (fun r h => ⟨fun c => (h c).2, Idealize.ShloMosaic.sem_eq_zero_of_no_sems (by decide) r.2⟩)
    (Cert.AttnOutDwRefIdeal.Value.run (F := 𝕀) m ρ)

end Cert.AttnOutDwIdeal.Tiles

namespace Cert.SsmInDwIdeal.Tiles

open Cert.SsmInDwIdeal Cert.SsmInDwIdeal.Gen

/-- Where the windows stand at a grid point. -/
theorem index_facts : ∀ t : Fin cfg0.N, (win0_0.index t 0 = t.val % 11 ∧ win0_0.index t 1 = 0)
    ∧ (win0_1.index t 0 = t.val % 11 ∧ win0_1.index t 1 = t.val / 11) ∧ (win0_2.index t 0 = 0 ∧ win0_2.index t 1 = t.val / 11) := by
  decide +kernel

/-- One block's product. -/
theorem pay_tab (f g : ℕ → ℕ → EReal) : (k0_pay1 (F := 𝕀) (tab f) (tab g) : Vec 𝕀 S1024x1024 .f32) = tab (tn 768 f g) :=
  tn_dot _ f g _ zeros

section

variable (c : Dev nD) (i : grid0.Coords) (a2 : Memref sig .tc .vmem S768x1024 .bf16) (h2 : a2.IsWhole)
  (a3 : Memref sig .tc .vmem S768x1024 .bf16) (h3 : a3.IsWhole) (a4 : Memref sig .tc .vmem S1024x1024 .bf16) (h4 : a4.IsWhole)
  (a5 : Memref sig .tc .vmem S1024x1024 .f32) (h5 : a5.IsWhole) (x : Vec 𝕀 S768x1024 .bf16) (y : Vec 𝕀 S768x1024 .bf16)
  (s : Vec 𝕀 S1024x1024 .f32)

/-- What a column's first point leaves in the scratch: its block's product. -/
theorem first_scratch (c0 : cond0_0 i) (c1 : ¬cond0_1 i) (c2 : ¬cond0_2 i) :
    sout0_A_0 c i a2 h2 a3 h3 a4 h4 a5 h5 c0 c1 c2 x y = k0_pay1 x y := by
  refine (View.read_writes_eq_canon _ _ _ (scover0_A_0 c i a2 h2 a3 h3 a4 h4 a5 h5 c0 c1 c2 x y)).trans ?_
  unfold kernelRun0_A
  dsimp only
  sl_unfold_words
  rw [View.canon_unit_zero zero2]
  unfold k0_pay2
  simp only [View.readAt_eq_ld, h2.read_unread, h3.read_unread, View.ld_unit_zero (S := S768x1024) zero2, View.ld_unit_zero (S := S768x1024) zero2, shapeCast_self]

/-- What a point in a column's middle leaves in the scratch: its block's product added. -/
theorem middle_scratch (c0 : ¬cond0_0 i) (c1 : cond0_1 i) (c2 : ¬cond0_2 i) :
    sout0_B_0 c i a2 h2 a3 h3 a4 h4 a5 h5 c0 c1 c2 x y s = addf s (k0_pay1 x y) := by
  refine (View.read_writes_eq_canon _ _ _ (scover0_B_0 c i a2 h2 a3 h3 a4 h4 a5 h5 c0 c1 c2 x y s)).trans ?_
  unfold kernelRun0_B
  dsimp only
  sl_unfold_words
  rw [View.canon_unit_zero zero2]
  unfold k0_pay3
  simp only [View.readAt_eq_ld, h2.read_unread, h3.read_unread, h5.read_unread, View.ld_unit_zero (S := S768x1024) zero2,
    View.ld_unit_zero (S := S768x1024) zero2, View.ld_unit_zero (S := S1024x1024) zero2, shapeCast_self]

/-- The same at a column's last point. -/
theorem last_scratch (c0 : ¬cond0_0 i) (c1 : cond0_1 i) (c2 : cond0_2 i) :
    sout0_C_0 c i a2 h2 a3 h3 a4 h4 a5 h5 c0 c1 c2 x y s = addf s (k0_pay1 x y) := by
  refine (View.read_writes_eq_canon _ _ _ (scover0_C_0 c i a2 h2 a3 h3 a4 h4 a5 h5 c0 c1 c2 x y s)).trans ?_
  unfold kernelRun0_C
  dsimp only
  sl_unfold_words
  rw [View.canon_unit_zero zero2]
  unfold k0_pay3
  simp only [View.readAt_eq_ld, h2.read_unread, h3.read_unread, h5.read_unread, View.ld_unit_zero (S := S768x1024) zero2,
    View.ld_unit_zero (S := S768x1024) zero2, View.ld_unit_zero (S := S1024x1024) zero2, shapeCast_self]

/-- The result a column's last point stores: the scratch, rounded to the result's type. -/
theorem last_out (c0 : ¬cond0_0 i) (c1 : cond0_1 i) (c2 : cond0_2 i) :
    out0_C_2 c i a2 h2 a3 h3 a4 h4 a5 h5 c0 c1 c2 x y s = k0_pay4 (addf s (k0_pay1 x y)) := by
  refine (View.read_writes_eq_canon _ _ _ (cover0_C_2 c i a2 h2 a3 h3 a4 h4 a5 h5 c0 c1 c2 x y s)).trans ?_
  unfold kernelRun0_C
  dsimp only
  sl_unfold_words
  rw [View.canon_unit_zero zero2, View.readCov_unit_zero _ zero2]
  unfold k0_pay3
  simp only [View.readAt_eq_ld, h2.read_unread, h3.read_unread, h5.read_unread, View.ld_unit_zero (S := S768x1024) zero2,
    View.ld_unit_zero (S := S768x1024) zero2, View.ld_unit_zero (S := S1024x1024) zero2, shapeCast_self]

end

section

variable (m : (ℓ : Loc nD τ sig) → Buf (Elt 𝕀) ℓ) (c : Dev nD)

/-- The first factor's block at a point. -/
theorem rows (t : Fin cfg0.N) : iblk m c 0 t = tab (off (768 * (t.val % 11)) 0 (ent (V m c main_arg0))) := by
  have h := (index_facts t).1
  have b : iblk m c 0 t = tab (off (768 * win0_0.index t 0) (1024 * win0_0.index t 1) (ent (V m c main_arg0))) :=
    block (V m c main_arg0) ((cfg0.win 0).blk t).view.emb _ _ (fun j => rfl) (fun j => rfl)
  rwa [h.1, h.2] at b

/-- The second factor's block at a point. -/
theorem cols (t : Fin cfg0.N) : iblk m c 1 t = tab (off (768 * (t.val % 11)) (1024 * (t.val / 11)) (ent (V m c main_arg1))) := by
  have h := (index_facts t).2.1
  have b : iblk m c 1 t = tab (off (768 * win0_1.index t 0) (1024 * win0_1.index t 1) (ent (V m c main_arg1))) :=
    block (V m c main_arg1) ((cfg0.win 1).blk t).view.emb _ _ (fun j => rfl) (fun j => rfl)
  rwa [h.1, h.2] at b

/-- The scratch after a point: the product over the rows seen in its column. -/
theorem scratch : ∀ n h, (outsAt0 m c n h).2
    = (tab (tn (768 * (n % 11 + 1)) (ent (V m c main_arg0)) (off 0 (1024 * (n / 11)) (ent (V m c main_arg1)))) : Vec 𝕀 S1024x1024 .f32) := by
  refine tn_acc (a := 1024) cfg0.N 11 768 (by decide) _ _ (k0_pay1 (F := 𝕀)) pay_tab (fun n h => iblk m c 0 ⟨n, h⟩) (fun n h => iblk m c 1 ⟨n, h⟩)
    (fun n h => rows m c ⟨n, h⟩) (fun n h => cols m c ⟨n, h⟩) (fun n h => (outsAt0 m c n h).2) (fun n h hn => ?_) fun n h hn => ?_
  · have hN : n < 22 := lt_of_lt_of_eq h N_0
    rw [outsAt0_A m c ⟨n, h⟩ hn (by dsimp only; omega) (by dsimp only; omega)]
    dsimp only
    rw [first_scratch]
  · by_cases hl : (n + 1) % 11 = 10
    · rw [outsAt0_C m c ⟨n + 1, h⟩ hn (by dsimp only; omega) hl]
      dsimp only
      rw [last_scratch]
      rfl
    · rw [outsAt0_B m c ⟨n + 1, h⟩ hn (by dsimp only; omega) hl]
      dsimp only
      rw [middle_scratch]
      rfl

/-- The result's block at a column's last point. -/
theorem left (t : Fin cfg0.N) (h : t.val % 11 = 10) : (outsAt0 m c t.val t.isLt).1
    = (tab (off (1024 * 0) (1024 * (t.val / 11)) (tn 8448 (ent (V m c main_arg0)) (ent (V m c main_arg1)))) : Vec 𝕀 S1024x1024 .bf16) := by
  refine Eq.trans ?_ (tn_last (a := 1024) cfg0.N 11 768 (by decide) _ _ _ (scratch m c) t.val t.isLt h)
  rw [outsAt0_C m c t (by omega) (by omega) h]
  dsimp only
  rw [last_out, last_scratch]
  rfl

/-- The array after the run. -/
theorem array : (dats m 0 c).arrAt 2 cfg0.N = (tab (tn 8448 (ent (V m c main_arg0)) (ent (V m c main_arg1))) : Vec 𝕀 S1024x2048 .bf16) := by
  refine (dats m 0 c).arrAt_eq_of_cover 2 _ (fun t hf => ?_) fun i => (Value.covered_iff2 i).mpr ?_
  · have h := (index_facts t).2.2
    show (cfg0.win 2).cut (grid0.coords t) ((dats m 0 c).after 2 t) = _
    rw [after0_2, left m c t ((flush0_2 t).mp hf), ← h.1, ← h.2]
    exact block_tab _ ((cfg0.win 2).blk t).view.emb _ _ (fun j => rfl) (fun j => rfl)
  · exact ⟨Nat.zero_le _, (i 0).isLt, Nat.zero_le _, (i 1).isLt⟩

end

/-- The reference's product. -/
theorem reference (x : Vec 𝕀 S8448x1024 .bf16) (y : Vec 𝕀 S8448x2048 .bf16) :
    (truncf .bf16 (transpose S1024x2048 [1, 0] (Host.dotGeneral (F := 𝕀) Cert.SsmInDwRefIdeal.dot_S8448x2048_S8448x1024_S2048x1024_0_0_1_1_n_n none
      (extf .f32 y Cert.SsmInDwRefIdeal.Gen.bitsLt_bf16_f32) (extf .f32 x Cert.SsmInDwRefIdeal.Gen.bitsLt_bf16_f32)) Cert.SsmInDwRefIdeal.Gen.transposes_S2048x1024_S1024x2048_1_0) Cert.SsmInDwRefIdeal.Gen.bitsLt_bf16_f32 : Vec 𝕀 S1024x2048 .bf16)
      = tab (tn 8448 (ent x) (ent y)) := by
  conv_lhs => rw [← tab_ent x, ← tab_ent y]
  exact (congrArg (transpose S1024x2048 [1, 0] · _) (tn_dot _ (ent y) (ent x) _ fun _ => rfl)).trans (tn_swap _ _ _ _)

/-- The call computes the reference's product. -/
theorem algebraic : Cert.algebraic_SsmInDwIdeal_SsmInDwRefIdeal := by
  intro m ρ m' ρ' _ hag
  refine ⟨fun c => tab (tn 8448 (ent (V m c main_arg0)) (ent (V m c main_arg1))), ?_, ?_⟩
  · exact (θ_run Cert.SsmInDwIdeal.defs _ _).mono (fun r h c => ⟨(h c).1.trans ((Value.final2 m c).symm.trans (array m c)), (h c).2⟩) (Value.run (F := 𝕀) m ρ)
  · refine (θ_run Cert.SsmInDwRefIdeal.defs _ _).mono (fun r h c => ⟨(h c).1.trans ?_, (h c).2⟩) (Cert.SsmInDwRefIdeal.Value.run (F := 𝕀) m' ρ')
    obtain ⟨a0, a1⟩ := hag c
    show _ = tab (tn 8448 (ent (V m c main_arg0)) (ent (V m c main_arg1)))
    rw [V_main_arg0, V_main_arg1, a0, a1]
    exact reference _ _

/-- The reference terminates with its arguments as they were. -/
theorem frame_reference : Cert.quiescent_SsmInDwRefIdeal := fun m ρ _ =>
  (θ_run Cert.SsmInDwRefIdeal.defs _ _).mono (fun r h => ⟨fun c => (h c).2, Idealize.ShloMosaic.sem_eq_zero_of_no_sems (by decide) r.2⟩)
    (Cert.SsmInDwRefIdeal.Value.run (F := 𝕀) m ρ)

end Cert.SsmInDwIdeal.Tiles

namespace Cert.SsmOutDwIdeal.Tiles

open Cert.SsmOutDwIdeal Cert.SsmOutDwIdeal.Gen

/-- Where the windows stand at a grid point. -/
theorem index_facts : ∀ t : Fin cfg0.N, (win0_0.index t 0 = t.val % 11 ∧ win0_0.index t 1 = 0)
    ∧ (win0_1.index t 0 = t.val % 11 ∧ win0_1.index t 1 = t.val / 11) ∧ (win0_2.index t 0 = 0 ∧ win0_2.index t 1 = t.val / 11) := by
  decide +kernel

/-- One block's product. -/
theorem pay_tab (f g : ℕ → ℕ → EReal) : (k0_pay1 (F := 𝕀) (tab f) (tab g) : Vec 𝕀 S1024x1024 .f32) = tab (tn 768 f g) :=
  tn_dot _ f g _ zeros

section

variable (c : Dev nD) (i : grid0.Coords) (a2 : Memref sig .tc .vmem S768x1024 .bf16) (h2 : a2.IsWhole)
  (a3 : Memref sig .tc .vmem S768x1024 .bf16) (h3 : a3.IsWhole) (a4 : Memref sig .tc .vmem S1024x1024 .bf16) (h4 : a4.IsWhole)
  (a5 : Memref sig .tc .vmem S1024x1024 .f32) (h5 : a5.IsWhole) (x : Vec 𝕀 S768x1024 .bf16) (y : Vec 𝕀 S768x1024 .bf16)
  (s : Vec 𝕀 S1024x1024 .f32)

/-- What a column's first point leaves in the scratch: its block's product. -/
theorem first_scratch (c0 : cond0_0 i) (c1 : ¬cond0_1 i) (c2 : ¬cond0_2 i) :
    sout0_A_0 c i a2 h2 a3 h3 a4 h4 a5 h5 c0 c1 c2 x y = k0_pay1 x y := by
  refine (View.read_writes_eq_canon _ _ _ (scover0_A_0 c i a2 h2 a3 h3 a4 h4 a5 h5 c0 c1 c2 x y)).trans ?_
  unfold kernelRun0_A
  dsimp only
  sl_unfold_words
  rw [View.canon_unit_zero zero2]
  unfold k0_pay2
  simp only [View.readAt_eq_ld, h2.read_unread, h3.read_unread, View.ld_unit_zero (S := S768x1024) zero2, View.ld_unit_zero (S := S768x1024) zero2, shapeCast_self]

/-- What a point in a column's middle leaves in the scratch: its block's product added. -/
theorem middle_scratch (c0 : ¬cond0_0 i) (c1 : cond0_1 i) (c2 : ¬cond0_2 i) :
    sout0_B_0 c i a2 h2 a3 h3 a4 h4 a5 h5 c0 c1 c2 x y s = addf s (k0_pay1 x y) := by
  refine (View.read_writes_eq_canon _ _ _ (scover0_B_0 c i a2 h2 a3 h3 a4 h4 a5 h5 c0 c1 c2 x y s)).trans ?_
  unfold kernelRun0_B
  dsimp only
  sl_unfold_words
  rw [View.canon_unit_zero zero2]
  unfold k0_pay3
  simp only [View.readAt_eq_ld, h2.read_unread, h3.read_unread, h5.read_unread, View.ld_unit_zero (S := S768x1024) zero2,
    View.ld_unit_zero (S := S768x1024) zero2, View.ld_unit_zero (S := S1024x1024) zero2, shapeCast_self]

/-- The same at a column's last point. -/
theorem last_scratch (c0 : ¬cond0_0 i) (c1 : cond0_1 i) (c2 : cond0_2 i) :
    sout0_C_0 c i a2 h2 a3 h3 a4 h4 a5 h5 c0 c1 c2 x y s = addf s (k0_pay1 x y) := by
  refine (View.read_writes_eq_canon _ _ _ (scover0_C_0 c i a2 h2 a3 h3 a4 h4 a5 h5 c0 c1 c2 x y s)).trans ?_
  unfold kernelRun0_C
  dsimp only
  sl_unfold_words
  rw [View.canon_unit_zero zero2]
  unfold k0_pay3
  simp only [View.readAt_eq_ld, h2.read_unread, h3.read_unread, h5.read_unread, View.ld_unit_zero (S := S768x1024) zero2,
    View.ld_unit_zero (S := S768x1024) zero2, View.ld_unit_zero (S := S1024x1024) zero2, shapeCast_self]

/-- The result a column's last point stores: the scratch, rounded to the result's type. -/
theorem last_out (c0 : ¬cond0_0 i) (c1 : cond0_1 i) (c2 : cond0_2 i) :
    out0_C_2 c i a2 h2 a3 h3 a4 h4 a5 h5 c0 c1 c2 x y s = k0_pay4 (addf s (k0_pay1 x y)) := by
  refine (View.read_writes_eq_canon _ _ _ (cover0_C_2 c i a2 h2 a3 h3 a4 h4 a5 h5 c0 c1 c2 x y s)).trans ?_
  unfold kernelRun0_C
  dsimp only
  sl_unfold_words
  rw [View.canon_unit_zero zero2, View.readCov_unit_zero _ zero2]
  unfold k0_pay3
  simp only [View.readAt_eq_ld, h2.read_unread, h3.read_unread, h5.read_unread, View.ld_unit_zero (S := S768x1024) zero2,
    View.ld_unit_zero (S := S768x1024) zero2, View.ld_unit_zero (S := S1024x1024) zero2, shapeCast_self]

end

section

variable (m : (ℓ : Loc nD τ sig) → Buf (Elt 𝕀) ℓ) (c : Dev nD)

/-- The first factor's block at a point. -/
theorem rows (t : Fin cfg0.N) : iblk m c 0 t = tab (off (768 * (t.val % 11)) 0 (ent (V m c main_arg0))) := by
  have h := (index_facts t).1
  have b : iblk m c 0 t = tab (off (768 * win0_0.index t 0) (1024 * win0_0.index t 1) (ent (V m c main_arg0))) :=
    block (V m c main_arg0) ((cfg0.win 0).blk t).view.emb _ _ (fun j => rfl) (fun j => rfl)
  rwa [h.1, h.2] at b

/-- The second factor's block at a point. -/
theorem cols (t : Fin cfg0.N) : iblk m c 1 t = tab (off (768 * (t.val % 11)) (1024 * (t.val / 11)) (ent (V m c main_arg1))) := by
  have h := (index_facts t).2.1
  have b : iblk m c 1 t = tab (off (768 * win0_1.index t 0) (1024 * win0_1.index t 1) (ent (V m c main_arg1))) :=
    block (V m c main_arg1) ((cfg0.win 1).blk t).view.emb _ _ (fun j => rfl) (fun j => rfl)
  rwa [h.1, h.2] at b

/-- The scratch after a point: the product over the rows seen in its column. -/
theorem scratch : ∀ n h, (outsAt0 m c n h).2
    = (tab (tn (768 * (n % 11 + 1)) (ent (V m c main_arg0)) (off 0 (1024 * (n / 11)) (ent (V m c main_arg1)))) : Vec 𝕀 S1024x1024 .f32) := by
  refine tn_acc (a := 1024) cfg0.N 11 768 (by decide) _ _ (k0_pay1 (F := 𝕀)) pay_tab (fun n h => iblk m c 0 ⟨n, h⟩) (fun n h => iblk m c 1 ⟨n, h⟩)
    (fun n h => rows m c ⟨n, h⟩) (fun n h => cols m c ⟨n, h⟩) (fun n h => (outsAt0 m c n h).2) (fun n h hn => ?_) fun n h hn => ?_
  · have hN : n < 11 := lt_of_lt_of_eq h N_0
    rw [outsAt0_A m c ⟨n, h⟩ hn (by dsimp only; omega) (by dsimp only; omega)]
    dsimp only
    rw [first_scratch]
  · by_cases hl : (n + 1) % 11 = 10
    · rw [outsAt0_C m c ⟨n + 1, h⟩ hn (by dsimp only; omega) hl]
      dsimp only
      rw [last_scratch]
      rfl
    · rw [outsAt0_B m c ⟨n + 1, h⟩ hn (by dsimp only; omega) hl]
      dsimp only
      rw [middle_scratch]
      rfl

/-- The result's block at a column's last point. -/
theorem left (t : Fin cfg0.N) (h : t.val % 11 = 10) : (outsAt0 m c t.val t.isLt).1
    = (tab (off (1024 * 0) (1024 * (t.val / 11)) (tn 8448 (ent (V m c main_arg0)) (ent (V m c main_arg1)))) : Vec 𝕀 S1024x1024 .bf16) := by
  refine Eq.trans ?_ (tn_last (a := 1024) cfg0.N 11 768 (by decide) _ _ _ (scratch m c) t.val t.isLt h)
  rw [outsAt0_C m c t (by omega) (by omega) h]
  dsimp only
  rw [last_out, last_scratch]
  rfl

/-- The array after the run. -/
theorem array : (dats m 0 c).arrAt 2 cfg0.N = (tab (tn 8448 (ent (V m c main_arg0)) (ent (V m c main_arg1))) : Vec 𝕀 S1024x1024 .bf16) := by
  refine (dats m 0 c).arrAt_eq_of_cover 2 _ (fun t hf => ?_) fun i => (Value.covered_iff2 i).mpr ?_
  · have h := (index_facts t).2.2
    show (cfg0.win 2).cut (grid0.coords t) ((dats m 0 c).after 2 t) = _
    rw [after0_2, left m c t ((flush0_2 t).mp hf), ← h.1, ← h.2]
    exact block_tab _ ((cfg0.win 2).blk t).view.emb _ _ (fun j => rfl) (fun j => rfl)
  · exact ⟨Nat.zero_le _, (i 0).isLt, Nat.zero_le _, (i 1).isLt⟩

end

/-- The reference's product. -/
theorem reference (x : Vec 𝕀 S8448x1024 .bf16) (y : Vec 𝕀 S8448x1024 .bf16) :
    (truncf .bf16 (transpose S1024x1024 [1, 0] (Host.dotGeneral (F := 𝕀) Cert.SsmOutDwRefIdeal.dot_S8448x1024_S8448x1024_S1024x1024_0_0_1_1_n_n none
      (extf .f32 y Cert.SsmOutDwRefIdeal.Gen.bitsLt_bf16_f32) (extf .f32 x Cert.SsmOutDwRefIdeal.Gen.bitsLt_bf16_f32)) Cert.SsmOutDwRefIdeal.Gen.transposes_S1024x1024_S1024x1024_1_0) Cert.SsmOutDwRefIdeal.Gen.bitsLt_bf16_f32 : Vec 𝕀 S1024x1024 .bf16)
      = tab (tn 8448 (ent x) (ent y)) := by
  conv_lhs => rw [← tab_ent x, ← tab_ent y]
  exact (congrArg (transpose S1024x1024 [1, 0] · _) (tn_dot _ (ent y) (ent x) _ fun _ => rfl)).trans (tn_swap _ _ _ _)

/-- The call computes the reference's product. -/
theorem algebraic : Cert.algebraic_SsmOutDwIdeal_SsmOutDwRefIdeal := by
  intro m ρ m' ρ' _ hag
  refine ⟨fun c => tab (tn 8448 (ent (V m c main_arg0)) (ent (V m c main_arg1))), ?_, ?_⟩
  · exact (θ_run Cert.SsmOutDwIdeal.defs _ _).mono (fun r h c => ⟨(h c).1.trans ((Value.final2 m c).symm.trans (array m c)), (h c).2⟩) (Value.run (F := 𝕀) m ρ)
  · refine (θ_run Cert.SsmOutDwRefIdeal.defs _ _).mono (fun r h c => ⟨(h c).1.trans ?_, (h c).2⟩) (Cert.SsmOutDwRefIdeal.Value.run (F := 𝕀) m' ρ')
    obtain ⟨a0, a1⟩ := hag c
    show _ = tab (tn 8448 (ent (V m c main_arg0)) (ent (V m c main_arg1)))
    rw [V_main_arg0, V_main_arg1, a0, a1]
    exact reference _ _

/-- The reference terminates with its arguments as they were. -/
theorem frame_reference : Cert.quiescent_SsmOutDwRefIdeal := fun m ρ _ =>
  (θ_run Cert.SsmOutDwRefIdeal.defs _ _).mono (fun r h => ⟨fun c => (h c).2, Idealize.ShloMosaic.sem_eq_zero_of_no_sems (by decide) r.2⟩)
    (Cert.SsmOutDwRefIdeal.Value.run (F := 𝕀) m ρ)

end Cert.SsmOutDwIdeal.Tiles

end
-- ==== Proof.Modulation.lean ====
/- The products of the conditioning's modulation, its gradients, and the silu before it with its slope. -/
module

public import proofs.«01_k».proof.Defs
public import proofs.«01_k».proof.Proof.Product
public import proofs.«01_k».proof.Proof.Gen.ModIdeal.Value
public import proofs.«01_k».proof.Proof.Gen.ModRefIdeal.Run
public import proofs.«01_k».proof.Proof.Gen.ModDxIdeal.Value
public import proofs.«01_k».proof.Proof.Gen.ModDxRefIdeal.Run
public import proofs.«01_k».proof.Proof.Gen.ModDwIdeal.Value
public import proofs.«01_k».proof.Proof.Gen.ModDwRefIdeal.Run
public import proofs.«01_k».proof.Proof.Gen.CondSiluIdeal.Value
public import proofs.«01_k».proof.Proof.Gen.CondSiluRefIdeal.Run

@[expose] public section

set_option maxRecDepth 16384

noncomputable section

open Finset Idealize.ShloMosaic Idealize.ShloMosaic.TcCoe Idealize.ShloMosaic.Tactic Idealize.SL.Sem Cert.Product

local notation "𝕀" => Idealize.ShloMosaic.Ideal

namespace Cert.ModIdeal.Whole

open Cert.ModIdeal Cert.ModIdeal.Gen

/-- The reference's product. -/
theorem reference (x : Vec 𝕀 S16x1024 .f32) (y : Vec 𝕀 S1024x768 .bf16) :
    (Host.dotGeneral (F := 𝕀) (φ₁ := .f32) (φ₂ := .f32) Cert.ModRefIdeal.dot_S16x1024_S1024x768_S16x768_1_0_0_1_n_n none
      x (extf .f32 y Cert.ModRefIdeal.Gen.bitsLt_bf16_f32) : Vec 𝕀 S16x768 .f32) = tab (nn 1024 (ent x) (ent y)) := by
  conv_lhs => rw [← tab_ent x, ← tab_ent y]
  exact nn_dot _ (ent x) (ent y) _ fun _ => rfl

/-- The call's product. -/
theorem product (x : Vec 𝕀 S16x1024 .f32) (y : Vec 𝕀 S1024x768 .bf16) :
    (k0_pay1 (F := 𝕀) x y : Vec 𝕀 S16x768 .f32) = tab (nn 1024 (ent x) (ent y)) := by
  conv_lhs => rw [← tab_ent x, ← tab_ent y]
  exact nn_dot _ (ent x) (ent y) _ zeros

/-- The call computes the reference's product. -/
theorem algebraic : Cert.algebraic_ModIdeal_ModRefIdeal := by
  intro m ρ m' ρ' _ hag
  refine ⟨_, Value.run (F := 𝕀) m ρ, ?_⟩
  refine (θ_run Cert.ModRefIdeal.defs _ _).mono (fun r h c => ⟨(h c).1.trans ?_, (h c).2⟩) (Cert.ModRefIdeal.Value.run (F := 𝕀) m' ρ')
  obtain ⟨a0, a1⟩ := hag c
  rw [a0, a1]
  exact (reference _ _).trans (product _ _).symm

/-- The reference terminates with its arguments as they were. -/
theorem frame_reference : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run (F := 𝕀) m ρ)

end Cert.ModIdeal.Whole

namespace Cert.ModDxIdeal.Whole

open Cert.ModDxIdeal Cert.ModDxIdeal.Gen

/-- The reference's product. -/
theorem reference (x : Vec 𝕀 S16x768 .f32) (y : Vec 𝕀 S1024x768 .bf16) :
    (Host.dotGeneral (F := 𝕀) (φ₁ := .f32) (φ₂ := .f32) Cert.ModDxRefIdeal.dot_S16x768_S1024x768_S16x1024_1_1_0_0_n_n none
      x (extf .f32 y Cert.ModDxRefIdeal.Gen.bitsLt_bf16_f32) : Vec 𝕀 S16x1024 .f32) = tab (nt 768 (ent x) (ent y)) := by
  conv_lhs => rw [← tab_ent x, ← tab_ent y]
  exact nt_dot _ (ent x) (ent y) _ fun _ => rfl

/-- The call's product. -/
theorem product (x : Vec 𝕀 S16x768 .f32) (y : Vec 𝕀 S1024x768 .bf16) :
    (k0_pay1 (F := 𝕀) x y : Vec 𝕀 S16x1024 .f32) = tab (nt 768 (ent x) (ent y)) := by
  conv_lhs => rw [← tab_ent x, ← tab_ent y]
  exact nt_dot _ (ent x) (ent y) _ zeros

/-- The call computes the reference's product. -/
theorem algebraic : Cert.algebraic_ModDxIdeal_ModDxRefIdeal := by
  intro m ρ m' ρ' _ hag
  refine ⟨_, Value.run (F := 𝕀) m ρ, ?_⟩
  refine (θ_run Cert.ModDxRefIdeal.defs _ _).mono (fun r h c => ⟨(h c).1.trans ?_, (h c).2⟩) (Cert.ModDxRefIdeal.Value.run (F := 𝕀) m' ρ')
  obtain ⟨a0, a1⟩ := hag c
  rw [a0, a1]
  exact (reference _ _).trans (product _ _).symm

/-- The reference terminates with its arguments as they were. -/
theorem frame_reference : Cert.quiescent_ModDxRefIdeal := fun m ρ _ =>
  (θ_run Cert.ModDxRefIdeal.defs _ _).mono (fun r h => ⟨fun c => (h c).2, Idealize.ShloMosaic.sem_eq_zero_of_no_sems (by decide) r.2⟩)
    (Cert.ModDxRefIdeal.Value.run (F := 𝕀) m ρ)

end Cert.ModDxIdeal.Whole

namespace Cert.ModDwIdeal.Whole

open Cert.ModDwIdeal Cert.ModDwIdeal.Gen

/-- The grid's one point takes each array whole. -/
theorem index_facts : ∀ t : Fin cfg0.N, (win0_0.index t 0 = 0 ∧ win0_0.index t 1 = 0)
    ∧ (win0_1.index t 0 = 0 ∧ win0_1.index t 1 = 0) ∧ (win0_2.index t 0 = 0 ∧ win0_2.index t 1 = 0) := by
  decide +kernel

/-- Entries from the first row and column on. -/
theorem off_zero (f : ℕ → ℕ → EReal) (a b : ℕ) : off (a * 0) (b * 0) f = f := by
  funext i j
  simp only [off, Nat.mul_zero, Nat.zero_add]

section

variable (c : Dev nD) (i : grid0.Coords) (a2 : Memref sig .tc .vmem S16x1024 .f32) (h2 : a2.IsWhole)
  (a3 : Memref sig .tc .vmem S16x768 .f32) (h3 : a3.IsWhole) (a4 : Memref sig .tc .vmem S1024x768 .f32) (h4 : a4.IsWhole)
  (a5 : Memref sig .tc .vmem S1024x768 .f32) (h5 : a5.IsWhole) (x : Vec 𝕀 S16x1024 .f32) (y : Vec 𝕀 S16x768 .f32)

/-- What the point stores: its blocks' product. -/
theorem out_eq (c0 : cond0_0 i) (c1 : ¬cond0_1 i) (c2 : cond0_2 i) : out0_A_2 c i a2 h2 a3 h3 a4 h4 a5 h5 c0 c1 c2 x y = k0_pay1 x y := by
  refine (View.read_writes_eq_canon _ _ _ (cover0_A_2 c i a2 h2 a3 h3 a4 h4 a5 h5 c0 c1 c2 x y)).trans ?_
  unfold kernelRun0_A
  dsimp only
  sl_unfold_words
  rw [View.canon_unit_zero zero2, View.readCov_unit_zero _ zero2]
  unfold k0_pay2
  simp only [View.readAt_eq_ld, h2.read_unread, h3.read_unread, View.ld_unit_zero (S := S16x1024) zero2, View.ld_unit_zero (S := S16x768) zero2, shapeCast_self]

end

/-- The blocks' product, of two matrices. -/
theorem pay_tab (f g : ℕ → ℕ → EReal) : (k0_pay1 (F := 𝕀) (tab f) (tab g) : Vec 𝕀 S1024x768 .f32) = tab (tn 16 f g) :=
  tn_dot _ f g _ zeros

section

variable (m : (ℓ : Loc nD τ sig) → Buf (Elt 𝕀) ℓ) (c : Dev nD)

/-- The first factor's block. -/
theorem rows (t : Fin cfg0.N) : iblk m c 0 t = tab (ent (V m c main_arg0)) := by
  have h := (index_facts t).1
  have b : iblk m c 0 t = tab (off (16 * win0_0.index t 0) (1024 * win0_0.index t 1) (ent (V m c main_arg0))) :=
    block (V m c main_arg0) ((cfg0.win 0).blk t).view.emb _ _ (fun j => rfl) (fun j => rfl)
  rwa [h.1, h.2, off_zero] at b

/-- The second factor's block. -/
theorem cols (t : Fin cfg0.N) : iblk m c 1 t = tab (ent (V m c main_arg1)) := by
  have h := (index_facts t).2.1
  have b : iblk m c 1 t = tab (off (16 * win0_1.index t 0) (768 * win0_1.index t 1) (ent (V m c main_arg1))) :=
    block (V m c main_arg1) ((cfg0.win 1).blk t).view.emb _ _ (fun j => rfl) (fun j => rfl)
  rwa [h.1, h.2, off_zero] at b

/-- The array after the run. -/
theorem array : (dats m 0 c).arrAt 2 cfg0.N = (tab (tn 16 (ent (V m c main_arg0)) (ent (V m c main_arg1))) : Vec 𝕀 S1024x768 .f32) := by
  refine (dats m 0 c).arrAt_eq_of_cover 2 _ (fun t _ => ?_) fun i => ?_
  · have h := (index_facts t).2.2
    rw [Value.flushed2_A, out_eq, rows, cols, pay_tab, ← off_zero (tn 16 (ent (V m c main_arg0)) (ent (V m c main_arg1))) 1024 768]
    have b : (tab (off (1024 * win0_2.index t 0) (768 * win0_2.index t 1) (tn 16 (ent (V m c main_arg0)) (ent (V m c main_arg1)))) : Vec 𝕀 S1024x768 .f32) = _ :=
      block_tab _ ((cfg0.win 2).blk t).view.emb _ _ (fun j => rfl) (fun j => rfl)
    rw [h.1, h.2] at b
    rw [off_zero] at b ⊢
    exact b
  · refine ⟨t0_0, flush0_2 t0_0, ?_⟩
    show i ∈ ((View.whole main_v0).slice (win0_2.rect t0_0)).set
    rw [View.set_slice_whole, Rect.mem_set_unit]
    have h := (index_facts t0_0).2.2
    exact fun a => match a with
      | ⟨0, _⟩ => in_block _ 1024 _ (by decide) (h.1.trans (Nat.div_eq_of_lt (i 0).isLt).symm)
      | ⟨1, _⟩ => in_block _ 768 _ (by decide) (h.2.trans (Nat.div_eq_of_lt (i 1).isLt).symm)

end

/-- The reference's product. -/
theorem reference (x : Vec 𝕀 S16x1024 .f32) (y : Vec 𝕀 S16x768 .f32) :
    (transpose S1024x768 [1, 0] (Host.dotGeneral (F := 𝕀) (φ₁ := .f32) (φ₂ := .f32) Cert.ModDwRefIdeal.dot_S16x768_S16x1024_S768x1024_0_0_1_1_n_n none y x)
      Cert.ModDwRefIdeal.Gen.transposes_S768x1024_S1024x768_1_0 : Vec 𝕀 S1024x768 .f32) = tab (tn 16 (ent x) (ent y)) := by
  conv_lhs => rw [← tab_ent x, ← tab_ent y]
  exact (congrArg (transpose S1024x768 [1, 0] · _) (tn_dot _ (ent y) (ent x) _ fun _ => rfl)).trans (tn_swap _ _ _ _)

/-- The call computes the reference's product. -/
theorem algebraic : Cert.algebraic_ModDwIdeal_ModDwRefIdeal := by
  intro m ρ m' ρ' _ hag
  refine ⟨fun c => tab (tn 16 (ent (V m c main_arg0)) (ent (V m c main_arg1))), ?_, ?_⟩
  · exact (θ_run Cert.ModDwIdeal.defs _ _).mono (fun r h c => ⟨(h c).1.trans (array m c), (h c).2⟩) (Value.run_blocks (F := 𝕀) m ρ)
  · refine (θ_run Cert.ModDwRefIdeal.defs _ _).mono (fun r h c => ⟨(h c).1.trans ?_, (h c).2⟩) (Cert.ModDwRefIdeal.Value.run (F := 𝕀) m' ρ')
    obtain ⟨a0, a1⟩ := hag c
    show _ = tab (tn 16 (ent (V m c main_arg0)) (ent (V m c main_arg1)))
    rw [V_main_arg0, V_main_arg1, a0, a1]
    exact reference _ _

/-- The reference terminates with its arguments as they were. -/
theorem frame_reference : Cert.quiescent_ModDwRefIdeal := fun m ρ _ =>
  (θ_run Cert.ModDwRefIdeal.defs _ _).mono (fun r h => ⟨fun c => (h c).2, Idealize.ShloMosaic.sem_eq_zero_of_no_sems (by decide) r.2⟩)
    (Cert.ModDwRefIdeal.Value.run (F := 𝕀) m ρ)

end Cert.ModDwIdeal.Whole

namespace Cert.Silu

/-- The logistic function. -/
def logistic (x : EReal) : EReal := Ideal.div 1 (1 + Ideal.exp (-x))

/-- It is a real and not negative. -/
theorem logistic_real (x : EReal) : ∃ r : ℝ, logistic x = (r : EReal) ∧ 0 ≤ r := by
  unfold logistic
  induction x using EReal.rec with
  | bot => exact ⟨0, by rw [EReal.neg_bot]; show Ideal.div 1 (1 + ⊤) = _; rw [show (1 : EReal) + ⊤ = ⊤ from EReal.add_top_of_ne_bot (EReal.coe_ne_bot 1)]; simp [Ideal.div], le_rfl⟩
  | top => exact ⟨1, by rw [EReal.neg_top]; show Ideal.div 1 (1 + 0) = _; simp [Ideal.div], zero_le_one⟩
  | coe x =>
    have hp : (1 + Real.exp (-x)) ≠ 0 := by positivity
    refine ⟨1 * (1 / (1 + Real.exp (-x))), ?_, by positivity⟩
    rw [← EReal.coe_neg, Ideal.exp_coe, ← EReal.coe_one, ← EReal.coe_add, Ideal.div_coe hp, ← EReal.coe_mul]

/-- The slope of the silu: the product of the function and what its factor grows by, or the sum of both factors' shares. -/
theorem slope (x : EReal) : logistic x * (1 + x * (1 - logistic x)) = 1 * logistic x + x * 1 * (logistic x * (1 - logistic x)) := by
  obtain ⟨r, h, h0⟩ := logistic_real x
  rw [h, EReal.left_distrib_of_nonneg_of_ne_top (EReal.coe_nonneg.mpr h0) (EReal.coe_ne_top r), mul_one, mul_one, one_mul, ← mul_assoc, ← mul_assoc,
    mul_comm (r : EReal) x]

/-- The silu's entry, as the reference and as the call write it. -/
theorem value_entry (x : EReal) :
    x * Ideal.div (Ideal.ofBits .f32 0x3F800000#32) (Ideal.ofBits .f32 0x3F800000#32 + Ideal.exp (-x))
      = x * Ideal.div (Ideal.ofBits .f32 0x3F800000#32) (Ideal.ofBits .f32 0x3F800000#32 + Ideal.exp (Ideal.ofBits .f32 0x00000000#32 - x)) := by
  rw [Ideal.ofBits_zero_f32, zero_sub]

/-- The slope's entry, as the reference and as the call write it. -/
theorem slope_entry (x : EReal) :
    Ideal.ofBits .f32 0x3F800000#32 * Ideal.div (Ideal.ofBits .f32 0x3F800000#32) (Ideal.ofBits .f32 0x3F800000#32 + Ideal.exp (-x))
        + x * Ideal.ofBits .f32 0x3F800000#32 * (Ideal.div (Ideal.ofBits .f32 0x3F800000#32) (Ideal.ofBits .f32 0x3F800000#32 + Ideal.exp (-x))
          * (Ideal.ofBits .f32 0x3F800000#32 - Ideal.div (Ideal.ofBits .f32 0x3F800000#32) (Ideal.ofBits .f32 0x3F800000#32 + Ideal.exp (-x))))
      = Ideal.div (Ideal.ofBits .f32 0x3F800000#32) (Ideal.ofBits .f32 0x3F800000#32 + Ideal.exp (Ideal.ofBits .f32 0x00000000#32 - x))
        * (Ideal.ofBits .f32 0x3F800000#32 + x * (Ideal.ofBits .f32 0x3F800000#32
          - Ideal.div (Ideal.ofBits .f32 0x3F800000#32) (Ideal.ofBits .f32 0x3F800000#32 + Ideal.exp (Ideal.ofBits .f32 0x00000000#32 - x)))) := by
  rw [Ideal.ofBits_zero_f32, Ideal.ofBits_one_f32, zero_sub]
  exact (slope x).symm

end Cert.Silu

namespace Cert.CondSiluIdeal.Entries

open Cert.CondSiluIdeal Cert.CondSiluIdeal.Gen

/-- The call's silu and slope are the reference's. -/
theorem algebraic : Cert.algebraic_CondSiluIdeal_CondSiluRefIdeal := by
  intro m ρ m' ρ' _ hag
  refine ⟨_, _, Value.run (F := 𝕀) m ρ, ?_⟩
  refine (θ_run Cert.CondSiluRefIdeal.defs _ _).mono (fun r h c => ⟨(h c).1.trans ?_, (h c).2.1.trans ?_, (h c).2.2⟩)
    (Cert.CondSiluRefIdeal.Value.run (F := 𝕀) m' ρ')
  all_goals
    have a0 := hag c
    rw [a0]
  · exact funext fun i => Cert.Silu.value_entry _
  · exact funext fun i => Cert.Silu.slope_entry _

/-- The reference terminates with its arguments as they were. -/
theorem frame_reference : Cert.quiescent_CondSiluRefIdeal := fun m ρ _ =>
  (θ_run Cert.CondSiluRefIdeal.defs _ _).mono (fun r h => ⟨fun c => (h c).2.2, Idealize.ShloMosaic.sem_eq_zero_of_no_sems (by decide) r.2⟩)
    (Cert.CondSiluRefIdeal.Value.run (F := 𝕀) m ρ)

end Cert.CondSiluIdeal.Entries

end

end
-- ==== Proof.Gate.lean ====
/- The gated branch: each entry is the product of the branch, its logistic gate and the silu of the projection's second half. -/
module

public import proofs.«01_k».proof.Defs
public import proofs.«01_k».proof.Proof.Product
public import proofs.«01_k».proof.Proof.Gen.GateIdeal.Value
public import proofs.«01_k».proof.Proof.Gen.GateRefIdeal.Run

@[expose] public section

set_option maxRecDepth 16384

noncomputable section

open Finset Idealize.ShloMosaic Idealize.ShloMosaic.TcCoe Idealize.ShloMosaic.Tactic Idealize.SL.Sem Cert.Product

local notation "𝕀" => Idealize.ShloMosaic.Ideal

namespace Cert.GateIdeal.Entries

open Cert.GateIdeal Cert.GateIdeal.Gen

/-- An entry of the gated branch, of the branch's entry, its gate's with the bias, and the projection's. -/
def gated (y t b z : EReal) : EReal :=
  y * Ideal.div (Ideal.ofBits .f32 0x3F800000#32) (Ideal.ofBits .f32 0x3F800000#32 + Ideal.exp (-(t + b)))
    * (z * Ideal.div (Ideal.ofBits .f32 0x3F800000#32) (Ideal.ofBits .f32 0x3F800000#32 + Ideal.exp (-z)))

/-- The array of the arguments. -/
def out (y t : Vec 𝕀 S8448x1024 .bf16) (z : Vec 𝕀 S8448x2048 .f32) (b : Vec 𝕀 S1x1x1024 .f32) : Vec 𝕀 S8448x1024 .bf16 :=
  fun i => gated (y i) (t i) (b (ix3 0 0 (i 1))) (z (ix2 (i 0) ⟨1024 + (i 1).val, Nat.add_lt_add_left (i 1).isLt 1024⟩))

/-- What a point stores, entry by entry. -/
theorem point (x0 x1 : Vec 𝕀 S256x1024 .bf16) (x2 : Vec 𝕀 S256x1024 .f32) (x3 : Vec 𝕀 S1x1x1024 .f32) (j : S256x1024.Idx) :
    out0_4 x0 x1 x2 x3 j = gated (x0 j) (x1 j) (x3 (ix3 0 0 (j 1))) (x2 j) := by
  obtain ⟨p, q, rfl⟩ : ∃ p q, j = ix2 p q := ⟨j 0, j 1, eq_ix2 j⟩
  unfold out0_4
  rw [View.canon_unit_zero zero2, View.ld_unit_zero (S := S256x1024) zero2, View.ld_unit_zero (S := S256x1024) zero2, View.ld_unit_zero (S := S256x1024) zero2,
    View.ld_unit_zero (S := S1x1x1024) (by decide)]
  show x0 (ix2 p q) * Ideal.div (Ideal.ofBits .f32 0x3F800000#32) (Ideal.ofBits .f32 0x3F800000#32 + Ideal.exp (Ideal.ofBits .f32 0x00000000#32
      - (x1 (ix2 p q) + broadcastTo S256x1024 (shapeCast S1x1024 x3 shapeCasts_S1x1x1024_S1x1024) broadcasts_S1x1024_S256x1024 (ix2 p q))))
    * (x2 (ix2 p q) * Ideal.div (Ideal.ofBits .f32 0x3F800000#32) (Ideal.ofBits .f32 0x3F800000#32 + Ideal.exp (Ideal.ofBits .f32 0x00000000#32 - x2 (ix2 p q)))) = _
  have hb : broadcastTo S256x1024 (shapeCast S1x1024 x3 shapeCasts_S1x1x1024_S1x1024) broadcasts_S1x1024_S256x1024 (ix2 p q) = x3 (ix3 0 0 q) :=
    (ValueIdx.broadcastTo_1b_ab_apply _ _ p q).trans (ValueIdx.shapeCast_1ab_ab_apply _ _ 0 q)
  rw [hb, Ideal.ofBits_zero_f32, zero_sub, zero_sub]
  rfl

/-- Where the windows stand. -/
theorem index_facts : ∀ t : Fin cfg0.N, (win0_0.index t 0 = win0_4.index t 0 ∧ win0_0.index t 1 = win0_4.index t 1)
    ∧ (win0_1.index t 0 = win0_4.index t 0 ∧ win0_1.index t 1 = win0_4.index t 1) ∧ (win0_2.index t 0 = win0_4.index t 0 ∧ win0_2.index t 1 = 1)
    ∧ (win0_3.index t 0 = 0 ∧ win0_3.index t 1 = 0 ∧ win0_3.index t 2 = 0) ∧ win0_4.index t 1 = 0 := by
  decide +kernel

/-- Every block of the result is some point's. -/
theorem index_out : ∀ p : Fin 33, ∃ t : Fin cfg0.N, win0_4.index t 0 = p.val := by
  decide +kernel

/-- The array after the run. -/
theorem array (m : (ℓ : Loc nD τ sig) → Buf (Elt 𝕀) ℓ) (c : Dev nD) :
    (dats m 0 c).arrAt 4 cfg0.N = out (V m c main_arg0) (V m c main_arg1) (V m c main_arg2) (V m c main_arg3) := by
  refine (dats m 0 c).arrAt_eq_of_cover 4 _ (fun t _ => ?_) fun i => ?_
  · obtain ⟨⟨h00, h01⟩, ⟨h10, h11⟩, ⟨h20, h21⟩, ⟨h30, h31, h32⟩, h41⟩ := index_facts t
    rw [Value.flushed4]
    funext j
    refine (point (iblk m c 0 t) (iblk m c 1 t) (iblk m c 2 t) (iblk m c 3 t) j).trans ?_
    have e0 : ((cfg0.win 0).blk t).view.emb j = ((cfg0.win 4).blk t).view.emb j := funext fun a => Fin.ext (match a with
      | ⟨0, _⟩ => congrArg (· * 256 + 1 * (j 0).val) h00
      | ⟨1, _⟩ => congrArg (· * 1024 + 1 * (j 1).val) h01)
    have e1 : ((cfg0.win 1).blk t).view.emb j = ((cfg0.win 4).blk t).view.emb j := funext fun a => Fin.ext (match a with
      | ⟨0, _⟩ => congrArg (· * 256 + 1 * (j 0).val) h10
      | ⟨1, _⟩ => congrArg (· * 1024 + 1 * (j 1).val) h11)
    have c4 : (((cfg0.win 4).blk t).view.emb j 1).val = (j 1).val := by
      show win0_4.index t 1 * 1024 + 1 * (j 1).val = _
      omega
    have e2 : ((cfg0.win 2).blk t).view.emb j
        = ix2 (((cfg0.win 4).blk t).view.emb j 0) ⟨1024 + (((cfg0.win 4).blk t).view.emb j 1).val, Nat.add_lt_add_left (((cfg0.win 4).blk t).view.emb j 1).isLt 1024⟩ :=
      funext fun a => Fin.ext (match a with
      | ⟨0, _⟩ => congrArg (· * 256 + 1 * (j 0).val) h20
      | ⟨1, _⟩ => by
        show win0_2.index t 1 * 1024 + 1 * (j 1).val = 1024 + (((cfg0.win 4).blk t).view.emb j 1).val
        omega)
    have e3 : ((cfg0.win 3).blk t).view.emb (ix3 0 0 (j 1)) = ix3 0 0 (((cfg0.win 4).blk t).view.emb j 1) := funext fun a => Fin.ext (match a with
      | ⟨0, _⟩ => by show win0_3.index t 0 * 1 + 1 * 0 = 0; omega
      | ⟨1, _⟩ => by show win0_3.index t 1 * 1 + 1 * 0 = 0; omega
      | ⟨2, _⟩ => by show win0_3.index t 2 * 1024 + 1 * (j 1).val = (((cfg0.win 4).blk t).view.emb j 1).val; omega)
    show gated (V m c main_arg0 (((cfg0.win 0).blk t).view.emb j)) (V m c main_arg1 (((cfg0.win 1).blk t).view.emb j))
      (V m c main_arg3 (((cfg0.win 3).blk t).view.emb (ix3 0 0 (j 1)))) (V m c main_arg2 (((cfg0.win 2).blk t).view.emb j)) = _
    rw [e0, e1, e2, e3]
    rfl
  · obtain ⟨t, e⟩ := index_out ⟨_, Nat.div_lt_of_lt_mul (n := 256) (k := 33) (i 0).isLt⟩
    refine ⟨t, flush0_4 t, ?_⟩
    show i ∈ ((View.whole main_v0).slice (win0_4.rect t)).set
    rw [View.set_slice_whole, Rect.mem_set_unit]
    exact fun a => match a with
      | ⟨0, _⟩ => in_block _ 256 _ (by decide) e
      | ⟨1, _⟩ => in_block _ 1024 _ (by decide) ((index_facts t).2.2.2.2.trans (Nat.div_eq_of_lt (i 1).isLt).symm)

/-- The reference's gated branch. -/
theorem reference (y u : Vec 𝕀 S8448x1024 .bf16) (z : Vec 𝕀 S8448x2048 .f32) (b : Vec 𝕀 S1x1x1024 .f32) :
    (truncf .bf16 (mulf (mulf (extf .f32 y Cert.GateRefIdeal.Gen.bitsLt_bf16_f32)
      (Host.divf (broadcastInDim S8448x1024 ![] Cert.GateRefIdeal.Gen.bcast_S_S8448x1024 (constant (F := 𝕀) Cert.GateRefIdeal.S_ .f32 0x3F800000#32)) (addf (broadcastInDim S8448x1024 ![] Cert.GateRefIdeal.Gen.bcast_S_S8448x1024 (constant (F := 𝕀) Cert.GateRefIdeal.S_ .f32 0x3F800000#32)) (Host.exp (Host.negf (addf (extf .f32 u Cert.GateRefIdeal.Gen.bitsLt_bf16_f32) (broadcastInDim S8448x1024 ![0, 1] Cert.GateRefIdeal.Gen.bcast_S1x1024_S8448x1024_0_1 (shapeCast Cert.GateRefIdeal.S1x1024 b Cert.GateRefIdeal.Gen.shapeCasts_S1x1x1024_S1x1024)))))))) (mulf (extractStridedSlice S8448x1024 ![0, 1024] z Cert.GateRefIdeal.Gen.slices_S8448x2048_S8448x1024_0_1024)
      (Host.divf (broadcastInDim S8448x1024 ![] Cert.GateRefIdeal.Gen.bcast_S_S8448x1024 (constant (F := 𝕀) Cert.GateRefIdeal.S_ .f32 0x3F800000#32)) (addf (broadcastInDim S8448x1024 ![] Cert.GateRefIdeal.Gen.bcast_S_S8448x1024 (constant (F := 𝕀) Cert.GateRefIdeal.S_ .f32 0x3F800000#32)) (Host.exp (Host.negf (extractStridedSlice S8448x1024 ![0, 1024] z Cert.GateRefIdeal.Gen.slices_S8448x2048_S8448x1024_0_1024))))))) Cert.GateRefIdeal.Gen.bitsLt_bf16_f32 : Vec 𝕀 S8448x1024 .bf16) = out y u z b := by
  funext i
  obtain ⟨p, q, rfl⟩ : ∃ p q, i = ix2 p q := ⟨i 0, i 1, eq_ix2 i⟩
  show gated (y (ix2 p q)) (u (ix2 p q))
    (broadcastInDim S8448x1024 ![0, 1] Cert.GateRefIdeal.Gen.bcast_S1x1024_S8448x1024_0_1 (shapeCast Cert.GateRefIdeal.S1x1024 b Cert.GateRefIdeal.Gen.shapeCasts_S1x1x1024_S1x1024) (ix2 p q))
    (extractStridedSlice S8448x1024 ![0, 1024] z Cert.GateRefIdeal.Gen.slices_S8448x2048_S8448x1024_0_1024 (ix2 p q)) = _
  have hb : broadcastInDim S8448x1024 ![0, 1] Cert.GateRefIdeal.Gen.bcast_S1x1024_S8448x1024_0_1
      (shapeCast Cert.GateRefIdeal.S1x1024 b Cert.GateRefIdeal.Gen.shapeCasts_S1x1x1024_S1x1024) (ix2 p q) = b (ix3 0 0 q) :=
    ValueIdx.shapeCast_1ab_ab_apply b Cert.GateRefIdeal.Gen.shapeCasts_S1x1x1024_S1x1024 0 q
  rw [hb]
  refine congrArg (gated _ _ _) (congrArg z (funext fun a => Fin.ext ?_))
  match a with
  | ⟨0, _⟩ => exact Nat.zero_add _
  | ⟨1, _⟩ => rfl

/-- The call's gated branch is the reference's. -/
theorem algebraic : Cert.algebraic_GateIdeal_GateRefIdeal := by
  intro m ρ m' ρ' _ hag
  refine ⟨fun c => out (V m c main_arg0) (V m c main_arg1) (V m c main_arg2) (V m c main_arg3), ?_, ?_⟩
  · exact (θ_run Cert.GateIdeal.defs _ _).mono (fun r h c => ⟨(h c).1.trans (array m c), (h c).2⟩) (Value.run_blocks (F := 𝕀) m ρ)
  · refine (θ_run Cert.GateRefIdeal.defs _ _).mono (fun r h c => ⟨(h c).1.trans ?_, (h c).2⟩) (Cert.GateRefIdeal.Value.run (F := 𝕀) m' ρ')
    obtain ⟨a0, a1, a2, a3⟩ := hag c
    show _ = out (V m c main_arg0) (V m c main_arg1) (V m c main_arg2) (V m c main_arg3)
    rw [V_main_arg0, V_main_arg1, V_main_arg2, V_main_arg3, a0, a1, a2, a3]
    generalize (m ((c : Thread nD τ).loc main_arg0) : Vec 𝕀 S8448x1024 .bf16) = y
    generalize (m ((c : Thread nD τ).loc main_arg1) : Vec 𝕀 S8448x1024 .bf16) = u
    generalize (m ((c : Thread nD τ).loc main_arg2) : Vec 𝕀 S8448x2048 .f32) = z
    generalize (m ((c : Thread nD τ).loc main_arg3) : Vec 𝕀 S1x1x1024 .f32) = b
    exact reference y u z b

/-- The reference terminates with its arguments as they were. -/
theorem frame_reference : Cert.quiescent_GateRefIdeal := fun m ρ _ =>
  (θ_run Cert.GateRefIdeal.defs _ _).mono (fun r h => ⟨fun c => (h c).2, Idealize.ShloMosaic.sem_eq_zero_of_no_sems (by decide) r.2⟩)
    (Cert.GateRefIdeal.Value.run (F := 𝕀) m ρ)

end Cert.GateIdeal.Entries

end

end
-- ==== Proof.InGrad.lean ====
/- The gradient of the projection: each entry of its first half is the sum of the three gradients of what reads it, and its second half is the gate's. -/
module

public import proofs.«01_k».proof.Defs
public import proofs.«01_k».proof.Proof.Product
public import proofs.«01_k».proof.Proof.Gen.InGradIdeal.Value
public import proofs.«01_k».proof.Proof.Gen.InGradRefIdeal.Run

@[expose] public section

set_option maxRecDepth 16384

noncomputable section

open Finset Idealize.ShloMosaic Idealize.ShloMosaic.TcCoe Idealize.ShloMosaic.Tactic Idealize.SL.Sem Cert.Product

local notation "𝕀" => Idealize.ShloMosaic.Ideal

namespace Cert.InGradIdeal.Entries

open Cert.InGradIdeal Cert.InGradIdeal.Gen

/-- An array of 1024 columns. -/
abbrev Half (n : ℕ) := (⟨2, ![n, 1024]⟩ : Shape).Idx → EReal

/-- An entry of two arrays side by side. -/
def beside {n : ℕ} (a b : Half n) (p : Fin n) (q : Fin 2048) : EReal :=
  if h : q.val < 1024 then a (ix2 p ⟨q.val, h⟩) else b (ix2 p ⟨q.val - 1024, by have := q.isLt; omega⟩)

/-- A concatenation along the columns, entry by entry. -/
theorem concatenate_beside {n : ℕ} (a b : Half n) (h : Shape.Concatenates [⟨2, ![n, 1024]⟩, ⟨2, ![n, 1024]⟩] ⟨2, ![n, 2048]⟩ 1) (p : Fin n) (q : Fin 2048) :
    concatenate ⟨2, ![n, 2048]⟩ 1 [⟨⟨2, ![n, 1024]⟩, a⟩, ⟨⟨2, ![n, 1024]⟩, b⟩] h (ix2 p q) = beside a b p q := by
  unfold beside
  split
  · next hq =>
    exact concatenate_pair_apply_left 1 a b h (ix2 p q) rfl (ix2 p ⟨q.val, hq⟩) fun x => match x with
      | ⟨0, _⟩ => rfl
      | ⟨1, _⟩ => rfl
  · next hq =>
    exact concatenate_pair_apply_right 1 a b h (ix2 p q) rfl rfl (ix2 p ⟨q.val - 1024, by have := q.isLt; omega⟩) (fun x => match x with
      | ⟨0, _⟩ => fun _ => rfl
      | ⟨1, _⟩ => fun hx => absurd rfl hx) (Nat.sub_add_cancel (Nat.le_of_not_lt hq))

/-- Two rows with the same entries stand side by side to the same row. -/
theorem beside_congr {n n' : ℕ} {a b : Half n} {a' b' : Half n'} {p : Fin n} {p' : Fin n'} {q q' : Fin 2048} (ha : ∀ k, a (ix2 p k) = a' (ix2 p' k))
    (hb : ∀ k, b (ix2 p k) = b' (ix2 p' k)) (hq : q = q') : beside a b p q = beside a' b' p' q' := by
  subst hq
  unfold beside
  split
  · exact ha _
  · exact hb _

/-- The sum of the three gradients. -/
def total {n : ℕ} (y f r : Half n) : Half n := fun i => f i + r i + y i

/-- Equal gradients have equal sums. -/
theorem total_congr {n n' : ℕ} {y f r : Half n} {y' f' r' : Half n'} {i : (⟨2, ![n, 1024]⟩ : Shape).Idx} {i' : (⟨2, ![n', 1024]⟩ : Shape).Idx}
    (hy : y i = y' i') (hf : f i = f' i') (hr : r i = r' i') : total y f r i = total y' f' r' i' := by
  unfold total
  rw [hy, hf, hr]

/-- The array of the arguments. -/
def out (y : Vec 𝕀 S8448x1024 .bf16) (f r : Vec 𝕀 S8448x1024 .f32) (z : Vec 𝕀 S8448x1024 .bf16) : Vec 𝕀 S8448x2048 .bf16 :=
  fun i => beside (total y f r) z (i 0) (i 1)

/-- What a point stores, entry by entry. -/
theorem point (x0 : Vec 𝕀 S256x1024 .bf16) (x1 x2 : Vec 𝕀 S256x1024 .f32) (x3 : Vec 𝕀 S256x1024 .bf16) (j : S256x2048.Idx) :
    out0_4 x0 x1 x2 x3 j = beside (total x0 x1 x2) x3 (j 0) (j 1) := by
  obtain ⟨p, q, rfl⟩ : ∃ p q, j = ix2 p q := ⟨j 0, j 1, eq_ix2 j⟩
  unfold out0_4
  rw [View.canon_unit_zero zero2, View.ld_unit_zero (S := S256x1024) zero2, View.ld_unit_zero (S := S256x1024) zero2, View.ld_unit_zero (S := S256x1024) zero2,
    View.ld_unit_zero (S := S256x1024) zero2]
  refine (concatenate_beside (n := 256) _ _ concatenates_S256x1024_S256x1024_S256x2048_d1 p q).trans (beside_congr (fun k => ?_) (fun _ => rfl) rfl)
  exact (add_assoc (G := EReal) _ _ _).trans (add_comm (G := EReal) _ _)

/-- Where the windows stand. -/
theorem index_facts : ∀ t : Fin cfg0.N, (win0_0.index t 0 = win0_4.index t 0 ∧ win0_0.index t 1 = 0)
    ∧ (win0_1.index t 0 = win0_4.index t 0 ∧ win0_1.index t 1 = 0) ∧ (win0_2.index t 0 = win0_4.index t 0 ∧ win0_2.index t 1 = 0)
    ∧ (win0_3.index t 0 = win0_4.index t 0 ∧ win0_3.index t 1 = 0) ∧ win0_4.index t 1 = 0 := by
  decide +kernel

/-- Every block of the result is some point's. -/
theorem index_out : ∀ p : Fin 33, ∃ t : Fin cfg0.N, win0_4.index t 0 = p.val := by
  decide +kernel

/-- The array after the run. -/
theorem array (m : (ℓ : Loc nD τ sig) → Buf (Elt 𝕀) ℓ) (c : Dev nD) :
    (dats m 0 c).arrAt 4 cfg0.N = out (V m c main_arg0) (V m c main_arg1) (V m c main_arg2) (V m c main_arg3) := by
  refine (dats m 0 c).arrAt_eq_of_cover 4 _ (fun t _ => ?_) fun i => ?_
  · obtain ⟨⟨h00, h01⟩, ⟨h10, h11⟩, ⟨h20, h21⟩, ⟨h30, h31⟩, h41⟩ := index_facts t
    rw [Value.flushed4]
    funext j
    refine (point (iblk m c 0 t) (iblk m c 1 t) (iblk m c 2 t) (iblk m c 3 t) j).trans ?_
    have col : ∀ {b : ℕ} (k : Fin 1024), b = 0 → b * 1024 + 1 * k.val = k.val := by
      intro b k hb
      omega
    have e0 : ∀ k : Fin 1024, ((cfg0.win 0).blk t).view.emb (ix2 (j 0) k) = ix2 (((cfg0.win 4).blk t).view.emb j 0) k := fun k => funext fun a => Fin.ext (match a with
      | ⟨0, _⟩ => congrArg (· * 256 + 1 * (j 0).val) h00
      | ⟨1, _⟩ => col k h01)
    have e1 : ∀ k : Fin 1024, ((cfg0.win 1).blk t).view.emb (ix2 (j 0) k) = ix2 (((cfg0.win 4).blk t).view.emb j 0) k := fun k => funext fun a => Fin.ext (match a with
      | ⟨0, _⟩ => congrArg (· * 256 + 1 * (j 0).val) h10
      | ⟨1, _⟩ => col k h11)
    have e2 : ∀ k : Fin 1024, ((cfg0.win 2).blk t).view.emb (ix2 (j 0) k) = ix2 (((cfg0.win 4).blk t).view.emb j 0) k := fun k => funext fun a => Fin.ext (match a with
      | ⟨0, _⟩ => congrArg (· * 256 + 1 * (j 0).val) h20
      | ⟨1, _⟩ => col k h21)
    have e3 : ∀ k : Fin 1024, ((cfg0.win 3).blk t).view.emb (ix2 (j 0) k) = ix2 (((cfg0.win 4).blk t).view.emb j 0) k := fun k => funext fun a => Fin.ext (match a with
      | ⟨0, _⟩ => congrArg (· * 256 + 1 * (j 0).val) h30
      | ⟨1, _⟩ => col k h31)
    have c4 : j 1 = ((cfg0.win 4).blk t).view.emb j 1 := Fin.ext (by
      show (j 1).val = win0_4.index t 1 * 2048 + 1 * (j 1).val
      omega)
    refine beside_congr (n := 256) (n' := 8448) (p := j 0) (p' := ((cfg0.win 4).blk t).view.emb j 0) (fun k => ?_) (fun k => ?_) c4
    · exact total_congr (congrArg (V m c main_arg0) (e0 k)) (congrArg (V m c main_arg1) (e1 k)) (congrArg (V m c main_arg2) (e2 k))
    · exact congrArg (V m c main_arg3) (e3 k)
  · obtain ⟨t, e⟩ := index_out ⟨_, Nat.div_lt_of_lt_mul (n := 256) (k := 33) (i 0).isLt⟩
    refine ⟨t, flush0_4 t, ?_⟩
    show i ∈ ((View.whole main_v0).slice (win0_4.rect t)).set
    rw [View.set_slice_whole, Rect.mem_set_unit]
    exact fun a => match a with
      | ⟨0, _⟩ => in_block _ 256 _ (by decide) e
      | ⟨1, _⟩ => in_block _ 2048 _ (by decide) ((index_facts t).2.2.2.2.trans (Nat.div_eq_of_lt (i 1).isLt).symm)

/-- The reference's array. -/
theorem reference (y : Vec 𝕀 S8448x1024 .bf16) (f r : Vec 𝕀 S8448x1024 .f32) (z : Vec 𝕀 S8448x1024 .bf16) :
    (truncf (F := 𝕀) .bf16 (concatenate Cert.InGradRefIdeal.S8448x2048 1 [⟨Cert.InGradRefIdeal.S8448x1024, (addf (F := 𝕀) (addf (F := 𝕀) f r) (extf (F := 𝕀) .f32 y Cert.InGradRefIdeal.Gen.bitsLt_bf16_f32))⟩,
      ⟨Cert.InGradRefIdeal.S8448x1024, (extf (F := 𝕀) .f32 z Cert.InGradRefIdeal.Gen.bitsLt_bf16_f32)⟩] Cert.InGradRefIdeal.Gen.concatenates_S8448x1024_S8448x1024_S8448x2048_d1)
      Cert.InGradRefIdeal.Gen.bitsLt_bf16_f32 : Vec 𝕀 S8448x2048 .bf16) = out y f r z := by
  funext i
  obtain ⟨p, q, rfl⟩ : ∃ p q, i = ix2 p q := ⟨i 0, i 1, eq_ix2 i⟩
  exact concatenate_beside (n := 8448) _ _ Cert.InGradRefIdeal.Gen.concatenates_S8448x1024_S8448x1024_S8448x2048_d1 p q

/-- The call's array is the reference's. -/
theorem algebraic : Cert.algebraic_InGradIdeal_InGradRefIdeal := by
  intro m ρ m' ρ' _ hag
  refine ⟨fun c => out (V m c main_arg0) (V m c main_arg1) (V m c main_arg2) (V m c main_arg3), ?_, ?_⟩
  · exact (θ_run Cert.InGradIdeal.defs _ _).mono (fun r h c => ⟨(h c).1.trans (array m c), (h c).2⟩) (Value.run_blocks (F := 𝕀) m ρ)
  · refine (θ_run Cert.InGradRefIdeal.defs _ _).mono (fun r h c => ⟨(h c).1.trans ?_, (h c).2⟩) (Cert.InGradRefIdeal.Value.run (F := 𝕀) m' ρ')
    obtain ⟨a0, a1, a2, a3⟩ := hag c
    show _ = out (V m c main_arg0) (V m c main_arg1) (V m c main_arg2) (V m c main_arg3)
    rw [V_main_arg0, V_main_arg1, V_main_arg2, V_main_arg3, a0, a1, a2, a3]
    generalize (m ((c : Thread nD τ).loc main_arg0) : Vec 𝕀 S8448x1024 .bf16) = y
    generalize (m ((c : Thread nD τ).loc main_arg1) : Vec 𝕀 S8448x1024 .f32) = f
    generalize (m ((c : Thread nD τ).loc main_arg2) : Vec 𝕀 S8448x1024 .f32) = r
    generalize (m ((c : Thread nD τ).loc main_arg3) : Vec 𝕀 S8448x1024 .bf16) = z
    exact reference y f r z

/-- The reference terminates with its arguments as they were. -/
theorem frame_reference : Cert.quiescent_InGradRefIdeal := fun m ρ _ =>
  (θ_run Cert.InGradRefIdeal.defs _ _).mono (fun r h => ⟨fun c => (h c).2, Idealize.ShloMosaic.sem_eq_zero_of_no_sems (by decide) r.2⟩)
    (Cert.InGradRefIdeal.Value.run (F := 𝕀) m ρ)

end Cert.InGradIdeal.Entries

end

end
-- ==== Proof.Adam.lean ====
/- The update of the weights by AdamW, each program's arrays entry by entry. -/
module

public import proofs.«01_k».proof.Defs
public import proofs.«01_k».proof.Proof.Product
public import proofs.«01_k».proof.Proof.Gen.AdamSsmInIdeal.Value
public import proofs.«01_k».proof.Proof.Gen.AdamSsmInRefIdeal.Run
public import proofs.«01_k».proof.Proof.Gen.AdamAttnInIdeal.Value
public import proofs.«01_k».proof.Proof.Gen.AdamAttnInRefIdeal.Run
public import proofs.«01_k».proof.Proof.Gen.AdamRowsIdeal.Value
public import proofs.«01_k».proof.Proof.Gen.AdamRowsRefIdeal.Run
public import proofs.«01_k».proof.Proof.Gen.AdamModIdeal.Value
public import proofs.«01_k».proof.Proof.Gen.AdamModRefIdeal.Run
public import proofs.«01_k».proof.Proof.Gen.AdamSmallIdeal.Value
public import proofs.«01_k».proof.Proof.Gen.AdamSmallRefIdeal.Run

@[expose] public section

set_option maxRecDepth 16384

noncomputable section

open Idealize.ShloMosaic Idealize.ShloMosaic.TcCoe Idealize.ShloMosaic.Tactic Idealize.SL.Sem

local notation "𝕀" => Idealize.ShloMosaic.Ideal

namespace Cert.Adam

/-- The first moment's bias, the word the reference divides by. -/
theorem ofBits_bias1 : Ideal.ofBits .f32 0x3F26BD02#32 = ((5463681 / 8388608 : ℝ) : EReal) := by
  simp [Ideal.ofBits, Ideal.ieee, -EReal.coe_mul]; norm_num

/-- The second moment's bias, the word the reference divides by. -/
theorem ofBits_bias2 : Ideal.ofBits .f32 0x3C231ACC#32 = ((2672307 / 268435456 : ℝ) : EReal) := by
  simp [Ideal.ofBits, Ideal.ieee, -EReal.coe_mul]; norm_num

/-- To divide by the first bias is to multiply by its factor. -/
theorem div_bias1 (x : EReal) : Ideal.div x (Ideal.ofBits .f32 0x3F26BD02#32) = x * ((8388608 / 5463681 : ℝ) : EReal) := by
  rw [ofBits_bias1, Ideal.div_coe (by norm_num)]; norm_num

/-- To divide by the second bias is to multiply by its factor. -/
theorem div_bias2 (x : EReal) : Ideal.div x (Ideal.ofBits .f32 0x3C231ACC#32) = x * ((268435456 / 2672307 : ℝ) : EReal) := by
  rw [ofBits_bias2, Ideal.div_coe (by norm_num)]; norm_num

/-- The step of one weight, of its gradient and moments and of the two factors of the biases. -/
def step (w g m v f₁ f₂ : EReal) : EReal :=
  Ideal.ofBits .f32 0xBA83126F#32 * (Ideal.div ((Ideal.ofBits .f32 0x3F666666#32 * m + Ideal.ofBits .f32 0x3DCCCCCD#32 * g) * f₁)
    (Ideal.sqrt ((Ideal.ofBits .f32 0x3F7FBE77#32 * v + Ideal.ofBits .f32 0x3A83126F#32 * (g * g)) * f₂) + Ideal.ofBits .f32 0x322BCC77#32)
      + Ideal.ofBits .f32 0x3C23D70A#32 * w)

/-- The step with the biases divided by. -/
theorem step_div (w g m v : EReal) :
    Ideal.ofBits .f32 0xBA83126F#32 * (Ideal.div (Ideal.div (Ideal.ofBits .f32 0x3F666666#32 * m + Ideal.ofBits .f32 0x3DCCCCCD#32 * g) (Ideal.ofBits .f32 0x3F26BD02#32))
    (Ideal.sqrt (Ideal.div (Ideal.ofBits .f32 0x3F7FBE77#32 * v + Ideal.ofBits .f32 0x3A83126F#32 * (g * g)) (Ideal.ofBits .f32 0x3C231ACC#32)) + Ideal.ofBits .f32 0x322BCC77#32)
      + Ideal.ofBits .f32 0x3C23D70A#32 * w)
      = step w g m v ((8388608 / 5463681 : ℝ) : EReal) ((268435456 / 2672307 : ℝ) : EReal) := by
  rw [div_bias1, div_bias2, step]

end Cert.Adam

namespace Cert.AdamSsmInIdeal.Entries

open Cert.AdamSsmInIdeal Cert.AdamSsmInIdeal.Gen

/-- The call's steps and moments are the reference's. -/
theorem algebraic : Cert.algebraic_AdamSsmInIdeal_AdamSsmInRefIdeal := by
  intro m ρ m' ρ' _ hag
  refine ⟨_, _, _, Value.run (F := 𝕀) m ρ, ?_⟩
  refine (θ_run Cert.AdamSsmInRefIdeal.defs _ _).mono (fun r h c => ⟨(h c).1.trans ?_, (h c).2.1.trans ?_, (h c).2.2.1.trans ?_, (h c).2.2.2⟩)
    (Cert.AdamSsmInRefIdeal.Value.run (F := 𝕀) m' ρ')
  all_goals obtain ⟨a0, a1, a2, a3⟩ := hag c
  · rw [a0, a1, a2, a3]
    exact funext fun i => Cert.Adam.step_div _ _ _ _
  · rw [a1, a2]
    rfl
  · rw [a1, a3]
    rfl

/-- The reference terminates with its arguments as they were. -/
theorem frame_reference : Cert.quiescent_AdamSsmInRefIdeal := fun m ρ _ =>
  (θ_run Cert.AdamSsmInRefIdeal.defs _ _).mono (fun r h => ⟨fun c => (h c).2.2.2, Idealize.ShloMosaic.sem_eq_zero_of_no_sems (by decide) r.2⟩)
    (Cert.AdamSsmInRefIdeal.Value.run (F := 𝕀) m ρ)

/-- The two named factors stand where the kernel's constants stood. -/
theorem preserves : Cert.preserves_AdamSsmIn_AdamSsmInIdeal :=
  ⟨IdealRules.named_const.statement Cert.AdamSsmInIdeal.κ "factor1" .f32 0x3FC48605#32 ((8388608 / 5463681 : ℝ) : EReal) rfl,
    IdealRules.named_const.statement Cert.AdamSsmInIdeal.κ "factor2" .f32 0x42C8E6D3#32 ((268435456 / 2672307 : ℝ) : EReal) rfl⟩

end Cert.AdamSsmInIdeal.Entries

namespace Cert.AdamAttnInIdeal.Entries

open Cert.AdamAttnInIdeal Cert.AdamAttnInIdeal.Gen

/-- The call's steps and moments are the reference's. -/
theorem algebraic : Cert.algebraic_AdamAttnInIdeal_AdamAttnInRefIdeal := by
  intro m ρ m' ρ' _ hag
  refine ⟨_, _, _, Value.run (F := 𝕀) m ρ, ?_⟩
  refine (θ_run Cert.AdamAttnInRefIdeal.defs _ _).mono (fun r h c => ⟨(h c).1.trans ?_, (h c).2.1.trans ?_, (h c).2.2.1.trans ?_, (h c).2.2.2⟩)
    (Cert.AdamAttnInRefIdeal.Value.run (F := 𝕀) m' ρ')
  all_goals obtain ⟨a0, a1, a2, a3⟩ := hag c
  · rw [a0, a1, a2, a3]
    exact funext fun i => Cert.Adam.step_div _ _ _ _
  · rw [a1, a2]
    rfl
  · rw [a1, a3]
    rfl

/-- The reference terminates with its arguments as they were. -/
theorem frame_reference : Cert.quiescent_AdamAttnInRefIdeal := fun m ρ _ =>
  (θ_run Cert.AdamAttnInRefIdeal.defs _ _).mono (fun r h => ⟨fun c => (h c).2.2.2, Idealize.ShloMosaic.sem_eq_zero_of_no_sems (by decide) r.2⟩)
    (Cert.AdamAttnInRefIdeal.Value.run (F := 𝕀) m ρ)

/-- The two named factors stand where the kernel's constants stood. -/
theorem preserves : Cert.preserves_AdamAttnIn_AdamAttnInIdeal :=
  ⟨IdealRules.named_const.statement Cert.AdamAttnInIdeal.κ "factor1" .f32 0x3FC48605#32 ((8388608 / 5463681 : ℝ) : EReal) rfl,
    IdealRules.named_const.statement Cert.AdamAttnInIdeal.κ "factor2" .f32 0x42C8E6D3#32 ((268435456 / 2672307 : ℝ) : EReal) rfl⟩

end Cert.AdamAttnInIdeal.Entries

namespace Cert.AdamRowsIdeal.Entries

open Cert.AdamRowsIdeal Cert.AdamRowsIdeal.Gen

/-- The call's steps and moments are the reference's. -/
theorem algebraic : Cert.algebraic_AdamRowsIdeal_AdamRowsRefIdeal := by
  intro m ρ m' ρ' _ hag
  refine ⟨_, _, _, Value.run (F := 𝕀) m ρ, ?_⟩
  refine (θ_run Cert.AdamRowsRefIdeal.defs _ _).mono (fun r h c => ⟨(h c).1.trans ?_, (h c).2.1.trans ?_, (h c).2.2.1.trans ?_, (h c).2.2.2⟩)
    (Cert.AdamRowsRefIdeal.Value.run (F := 𝕀) m' ρ')
  all_goals obtain ⟨a0, a1, a2, a3⟩ := hag c
  · rw [a0, a1, a2, a3]
    exact funext fun i => Cert.Adam.step_div _ _ _ _
  · rw [a1, a2]
    rfl
  · rw [a1, a3]
    rfl

/-- The reference terminates with its arguments as they were. -/
theorem frame_reference : Cert.quiescent_AdamRowsRefIdeal := fun m ρ _ =>
  (θ_run Cert.AdamRowsRefIdeal.defs _ _).mono (fun r h => ⟨fun c => (h c).2.2.2, Idealize.ShloMosaic.sem_eq_zero_of_no_sems (by decide) r.2⟩)
    (Cert.AdamRowsRefIdeal.Value.run (F := 𝕀) m ρ)

/-- The two named factors stand where the kernel's constants stood. -/
theorem preserves : Cert.preserves_AdamRows_AdamRowsIdeal :=
  ⟨IdealRules.named_const.statement Cert.AdamRowsIdeal.κ "factor1" .f32 0x3FC48605#32 ((8388608 / 5463681 : ℝ) : EReal) rfl,
    IdealRules.named_const.statement Cert.AdamRowsIdeal.κ "factor2" .f32 0x42C8E6D3#32 ((268435456 / 2672307 : ℝ) : EReal) rfl⟩

end Cert.AdamRowsIdeal.Entries

namespace Cert.AdamModIdeal.Entries

open Cert.AdamModIdeal Cert.AdamModIdeal.Gen

/-- The call's steps and moments are the reference's. -/
theorem algebraic : Cert.algebraic_AdamModIdeal_AdamModRefIdeal := by
  intro m ρ m' ρ' _ hag
  refine ⟨_, _, _, Value.run (F := 𝕀) m ρ, ?_⟩
  refine (θ_run Cert.AdamModRefIdeal.defs _ _).mono (fun r h c => ⟨(h c).1.trans ?_, (h c).2.1.trans ?_, (h c).2.2.1.trans ?_, (h c).2.2.2⟩)
    (Cert.AdamModRefIdeal.Value.run (F := 𝕀) m' ρ')
  all_goals obtain ⟨a0, a1, a2, a3⟩ := hag c
  · rw [a0, a1, a2, a3]
    exact funext fun i => Cert.Adam.step_div _ _ _ _
  · rw [a1, a2]
    rfl
  · rw [a1, a3]
    rfl

/-- The reference terminates with its arguments as they were. -/
theorem frame_reference : Cert.quiescent_AdamModRefIdeal := fun m ρ _ =>
  (θ_run Cert.AdamModRefIdeal.defs _ _).mono (fun r h => ⟨fun c => (h c).2.2.2, Idealize.ShloMosaic.sem_eq_zero_of_no_sems (by decide) r.2⟩)
    (Cert.AdamModRefIdeal.Value.run (F := 𝕀) m ρ)

/-- The two named factors stand where the kernel's constants stood. -/
theorem preserves : Cert.preserves_AdamMod_AdamModIdeal :=
  ⟨IdealRules.named_const.statement Cert.AdamModIdeal.κ "factor1" .f32 0x3FC48605#32 ((8388608 / 5463681 : ℝ) : EReal) rfl,
    IdealRules.named_const.statement Cert.AdamModIdeal.κ "factor2" .f32 0x42C8E6D3#32 ((268435456 / 2672307 : ℝ) : EReal) rfl⟩

end Cert.AdamModIdeal.Entries

namespace Cert.AdamSmallIdeal.Entries

open Cert.AdamSmallIdeal Cert.AdamSmallIdeal.Gen

/-- The call's steps and moments are the reference's. -/
theorem algebraic : Cert.algebraic_AdamSmallIdeal_AdamSmallRefIdeal := by
  intro m ρ m' ρ' _ hag
  refine ⟨_, _, _, Value.run (F := 𝕀) m ρ, ?_⟩
  refine (θ_run Cert.AdamSmallRefIdeal.defs _ _).mono (fun r h c => ⟨(h c).1.trans ?_, (h c).2.1.trans ?_, (h c).2.2.1.trans ?_, (h c).2.2.2⟩)
    (Cert.AdamSmallRefIdeal.Value.run (F := 𝕀) m' ρ')
  all_goals obtain ⟨a0, a1, a2, a3⟩ := hag c
  · rw [a0, a1, a2, a3]
    exact funext fun i => Cert.Adam.step_div _ _ _ _
  · rw [a1, a2]
    rfl
  · rw [a1, a3]
    rfl

/-- The reference terminates with its arguments as they were. -/
theorem frame_reference : Cert.quiescent_AdamSmallRefIdeal := fun m ρ _ =>
  (θ_run Cert.AdamSmallRefIdeal.defs _ _).mono (fun r h => ⟨fun c => (h c).2.2.2, Idealize.ShloMosaic.sem_eq_zero_of_no_sems (by decide) r.2⟩)
    (Cert.AdamSmallRefIdeal.Value.run (F := 𝕀) m ρ)

/-- The two named factors stand where the kernel's constants stood. -/
theorem preserves : Cert.preserves_AdamSmall_AdamSmallIdeal :=
  ⟨IdealRules.named_const.statement Cert.AdamSmallIdeal.κ "factor1" .f32 0x3FC48605#32 ((8388608 / 5463681 : ℝ) : EReal) rfl,
    IdealRules.named_const.statement Cert.AdamSmallIdeal.κ "factor2" .f32 0x42C8E6D3#32 ((268435456 / 2672307 : ℝ) : EReal) rfl⟩

end Cert.AdamSmallIdeal.Entries

end

end
-- ==== Proof.Spec.lean ====
/- The gradient of grouped-query attention and its SiLU gate, as functions of real numbers. Rows and columns are
   natural numbers: column `64 * h + d` of a query array is coordinate `d` of query head `h`, and head `h` reads the
   key/value head `h / 4`. -/
module

public import Mathlib.Analysis.SpecialFunctions.Log.Basic
public import Mathlib.Algebra.BigOperators.Field

@[expose] public section

noncomputable section

namespace Cert.Attn

open Finset

/-- How many keys there are. -/
abbrev nKeys : ℕ := 8448
/-- How many queries there are. -/
abbrev nRows : ℕ := 8192

/-- The logistic function. -/
def logi (x : ℝ) : ℝ := 1 / (1 + Real.exp (-x))

/-- A head's score of query `t` against key `n`. -/
def score (Q K : ℕ → ℕ → ℝ) (h t n : ℕ) : ℝ := ∑ d ∈ range 64, Q t (64 * h + d) * K n (64 * (h / 4) + d)

/-- The sum of the exponentials of a query's scores. -/
def norm (Q K : ℕ → ℕ → ℝ) (h t : ℕ) : ℝ := ∑ n ∈ range nKeys, Real.exp (score Q K h t n)

/-- The attention weight of query `t` on key `n`. -/
def prob (Q K : ℕ → ℕ → ℝ) (h t n : ℕ) : ℝ := Real.exp (score Q K h t n) / norm Q K h t

/-- The attention output at row `t`, column `c`. -/
def outp (Q K V : ℕ → ℕ → ℝ) (t c : ℕ) : ℝ :=
  ∑ n ∈ range nKeys, prob Q K (c / 64) t n * V n (64 * (c / 256) + c % 64)

/-- The logarithm of the sum of the exponentials. -/
def lse (Q K : ℕ → ℕ → ℝ) (h t : ℕ) : ℝ := Real.log (norm Q K h t)

/-- The gradient of the attention output: the incoming gradient times the gate. -/
def dov (Z G : ℕ → ℕ → ℝ) (t c : ℕ) : ℝ := G t c * (Z t c * logi (Z t c))

/-- The gradient of an attention weight. -/
def dp (V Z G : ℕ → ℕ → ℝ) (h t n : ℕ) : ℝ := ∑ d ∈ range 64, dov Z G t (64 * h + d) * V n (64 * (h / 4) + d)

/-- The row sum the gradient of a softmax subtracts, written over the output. -/
def dl (Q K V Z G : ℕ → ℕ → ℝ) (h t : ℕ) : ℝ :=
  ∑ d ∈ range 64, dov Z G t (64 * h + d) * outp Q K V t (64 * h + d)

/-- The gradient of a score. -/
def ds (Q K V Z G : ℕ → ℕ → ℝ) (h t n : ℕ) : ℝ := prob Q K h t n * (dp V Z G h t n - dl Q K V Z G h t)

/-- The gradient of the queries. -/
def dq (Q K V Z G : ℕ → ℕ → ℝ) (t c : ℕ) : ℝ :=
  ∑ n ∈ range nKeys, ds Q K V Z G (c / 64) t n * K n (64 * (c / 256) + c % 64)

/-- The gradient of the keys: the four heads of the group and every query. -/
def dk (Q K V Z G : ℕ → ℕ → ℝ) (n c : ℕ) : ℝ :=
  ∑ r ∈ range 4, ∑ t ∈ range nRows, ds Q K V Z G (4 * (c / 64) + r) t n * Q t (64 * (4 * (c / 64) + r) + c % 64)

/-- The gradient of the values: the four heads of the group and every query. -/
def dv (Q K Z G : ℕ → ℕ → ℝ) (n c : ℕ) : ℝ :=
  ∑ r ∈ range 4, ∑ t ∈ range nRows, prob Q K (4 * (c / 64) + r) t n * dov Z G t (64 * (4 * (c / 64) + r) + c % 64)

/-- The gradient of the gate. -/
def dz (Q K V Z G : ℕ → ℕ → ℝ) (t c : ℕ) : ℝ :=
  G t c * outp Q K V t c * (logi (Z t c) * (1 + Z t c * (1 - logi (Z t c))))

variable (Q K V Z G : ℕ → ℕ → ℝ) (h t n : ℕ)

/-- The sum of the exponentials is positive. -/
theorem norm_pos : 0 < norm Q K h t :=
  sum_pos (fun _ _ => Real.exp_pos _) ⟨0, by simp⟩

/-- The exponential of a score less the logarithm of the sum is the attention weight. -/
theorem exp_score_sub_lse : Real.exp (score Q K h t n - lse Q K h t) = prob Q K h t n := by
  rw [Real.exp_sub, lse, Real.exp_log (norm_pos Q K h t), prob]

/-- The sum of the exponentials after any shift of the scores. -/
theorem sum_exp_shift (m : ℝ) :
    ∑ n ∈ range nKeys, Real.exp (score Q K h t n - m) = norm Q K h t * Real.exp (-m) := by
  rw [norm, sum_mul]
  exact sum_congr rfl fun n _ => by rw [sub_eq_add_neg, Real.exp_add]

/-- The shifted sum is positive. -/
theorem sum_exp_shift_pos (m : ℝ) : 0 < ∑ n ∈ range nKeys, Real.exp (score Q K h t n - m) := by
  rw [sum_exp_shift]; exact mul_pos (norm_pos Q K h t) (Real.exp_pos _)

/-- A softmax taken after any shift of the scores is the attention weight. -/
theorem exp_shift_div (m : ℝ) :
    Real.exp (score Q K h t n - m) / ∑ n ∈ range nKeys, Real.exp (score Q K h t n - m) = prob Q K h t n := by
  rw [sum_exp_shift, sub_eq_add_neg, Real.exp_add, prob, mul_div_mul_right _ _ (Real.exp_pos _).ne']

/-- The logarithm of a shifted sum, the shift added back. -/
theorem log_shift (m : ℝ) :
    Real.log (∑ n ∈ range nKeys, Real.exp (score Q K h t n - m)) + m = lse Q K h t := by
  rw [sum_exp_shift, Real.log_mul (norm_pos Q K h t).ne' (Real.exp_pos _).ne', Real.log_exp, lse]; ring

/-- The row sum over the output's coordinates is the row sum of the weights times their gradients. -/
theorem dl_eq : dl Q K V Z G h t = ∑ n ∈ range nKeys, prob Q K h t n * dp V Z G h t n := by
  have e : ∀ d ∈ range 64, dov Z G t (64 * h + d) * outp Q K V t (64 * h + d)
      = ∑ n ∈ range nKeys, prob Q K h t n * (dov Z G t (64 * h + d) * V n (64 * (h / 4) + d)) := fun d hd => by
    have hd := mem_range.mp hd
    have e1 : (64 * h + d) / 64 = h := by omega
    have e2 : (64 * h + d) / 256 = h / 4 := by omega
    have e3 : (64 * h + d) % 64 = d := by omega
    rw [outp, e1, e2, e3, mul_sum]
    exact sum_congr rfl fun n _ => by ring
  rw [dl, sum_congr rfl e, sum_comm]
  exact sum_congr rfl fun n _ => by rw [dp, mul_sum]

/-- The gradient of a score as the reference writes it: with the exponentials `e` after a shift `m` and their sum
    `l`, `(dp / l - Σ dp · (1 / (l · l)) · e) · e`. -/
theorem ds_shift (m : ℝ) :
    (dp V Z G h t n / (∑ n ∈ range nKeys, Real.exp (score Q K h t n - m))
        + -(∑ n' ∈ range nKeys, dp V Z G h t n' * (1 / ((∑ n ∈ range nKeys, Real.exp (score Q K h t n - m))
            * ∑ n ∈ range nKeys, Real.exp (score Q K h t n - m))) * Real.exp (score Q K h t n' - m)))
      * Real.exp (score Q K h t n - m) = ds Q K V Z G h t n := by
  have hl := (sum_exp_shift_pos Q K h t m).ne'
  have hp : ∀ n, Real.exp (score Q K h t n - m)
      = prob Q K h t n * ∑ n ∈ range nKeys, Real.exp (score Q K h t n - m) := fun n => by
    rw [← exp_shift_div Q K h t n m, div_mul_cancel₀ _ hl]
  generalize hL : (∑ n ∈ range nKeys, Real.exp (score Q K h t n - m)) = l at *
  have hs : ∑ n' ∈ range nKeys, dp V Z G h t n' * (1 / (l * l)) * Real.exp (score Q K h t n' - m)
      = (∑ n' ∈ range nKeys, prob Q K h t n' * dp V Z G h t n') / l := by
    rw [sum_div]
    refine sum_congr rfl fun n' _ => ?_
    rw [hp n']; field_simp
  rw [hs, ← dl_eq, hp n, ds]
  field_simp
  ring

end Cert.Attn

end
-- ==== Proof.Tile.lean ====
/- What one step of the gradient's loop over key tiles computes from its operands, over the real numbers: every operand
   block is a real array, and every block the step computes is the real array written down here. -/
module

public import proofs.«01_k».proof.Proof.Spec
public import proofs.«01_k».proof.Proof.Gen.KernelIdeal.Skeleton
public import Idealize.ShloMosaic.Lib.Pointwise
public import Idealize.ShloMosaic.Lib.IdealHost

@[expose] public section

set_option maxRecDepth 16384

noncomputable section

namespace Cert.Attn

open Finset Idealize.ShloMosaic Idealize.ShloMosaic.Tactic

/-- A real array of two axes as an array of extended reals. -/
def re2 {a b : ℕ} (f : ℕ → ℕ → ℝ) : (⟨2, ![a, b]⟩ : Shape).Idx → EReal := fun j => ((f (j 0).val (j 1).val : ℝ) : EReal)

/-- A real array of three axes as an array of extended reals. -/
def re3 {a b c : ℕ} (f : ℕ → ℕ → ℕ → ℝ) : (⟨3, ![a, b, c]⟩ : Shape).Idx → EReal :=
  fun j => ((f (j 0).val (j 1).val (j 2).val : ℝ) : EReal)

/-- A finite sum of reals, taken in the extended reals. -/
theorem coe_sum_fin (n : ℕ) (f : ℕ → ℝ) : ∑ k : Fin n, ((f k.val : ℝ) : EReal) = ((∑ k ∈ range n, f k : ℝ) : EReal) := by
  rw [Finset.sum_range]
  exact (map_sum (⟨⟨Real.toEReal, EReal.coe_zero⟩, EReal.coe_add⟩ : ℝ →+ EReal) (fun k : Fin n => f k.val) univ).symm

/-- A product of two real vectors, taken in the extended reals. -/
theorem coe_dot (n : ℕ) (f g : ℕ → ℝ) :
    ∑ k : Fin n, ((f k.val : ℝ) : EReal) * ((g k.val : ℝ) : EReal) = ((∑ k ∈ range n, f k * g k : ℝ) : EReal) := by
  rw [← coe_sum_fin]
  exact Finset.sum_congr rfl fun k _ => (EReal.coe_mul _ _).symm

/-- A real array read at an index written by its coordinates. -/
theorem re2_ix2 {a b : ℕ} (f : ℕ → ℕ → ℝ) (i : Fin a) (j : Fin b) : re2 f (ix2 i j) = ((f i.val j.val : ℝ) : EReal) := rfl

/-- A real array read at an index written by its coordinates. -/
theorem re3_ix3 {a b c : ℕ} (f : ℕ → ℕ → ℕ → ℝ) (i : Fin a) (j : Fin b) (k : Fin c) :
    re3 f (ix3 i j k) = ((f i.val j.val k.val : ℝ) : EReal) := rfl

open Cert.KernelIdeal Cert.KernelIdeal.Gen

/-- The weights of a tile: the exponential of the scores less the row's logarithm. -/
def pT (q l k : ℕ → ℕ → ℝ) (r n : ℕ) : ℝ := Real.exp (∑ d ∈ range 64, q r d * k n d - l r 0)

/-- The gradient of a tile's scores. -/
def dsT (q g dl l k v : ℕ → ℕ → ℝ) (r n : ℕ) : ℝ := pT q l k r n * (∑ d ∈ range 64, g r d * v n d - dl r 0)

/-- The gradient of the queries a tile adds. -/
def dqT (q g dl l k v : ℕ → ℕ → ℝ) (r d : ℕ) : ℝ := ∑ n ∈ range 768, dsT q g dl l k v r n * k n d

/-- The gradient of a tile's values from one head. -/
def dvT (q g l k : ℕ → ℕ → ℝ) (n d : ℕ) : ℝ := ∑ r ∈ range 512, pT q l k r n * g r d

/-- The gradient of a tile's keys from one head. -/
def dkT (q g dl l k v : ℕ → ℕ → ℝ) (n d : ℕ) : ℝ := ∑ r ∈ range 512, dsT q g dl l k v r n * q r d

variable (q g dl l k v f : ℕ → ℕ → ℝ)

/-- The step's weights. -/
theorem pay7_eq : k0_pay7 (F := Ideal) (re2 q) (re2 l) (re2 k) = re2 (pT q l k) := by
  funext j
  idx_vars j
  pointwise [k0_pay7]
  simp only [re2_ix2]
  rw [coe_dot 64 (fun d => q _ d) (fun d => k _ d), ← EReal.coe_sub]
  rfl

/-- The step's gradient of the scores. -/
theorem pay8_eq : k0_pay8 (F := Ideal) (re2 q) (re2 g) (re2 dl) (re2 l) (re2 k) (re2 v) = re2 (dsT q g dl l k v) := by
  unfold k0_pay8
  rw [pay7_eq]
  funext j
  idx_vars j
  pointwise []
  simp only [re2_ix2]
  rw [coe_dot 64 (fun d => g _ d) (fun d => v _ d), ← EReal.coe_sub]
  exact (EReal.coe_mul _ _).symm

/-- What the step leaves in an accumulator of the queries' gradient. -/
theorem pay9_eq (A : ℕ → ℕ → ℕ → ℝ) :
    k0_pay9 (F := Ideal) (re2 q) (re2 g) (re2 dl) (re2 l) (re2 k) (re2 v) (re3 A)
      = re3 fun a r d => A a r d + dqT q g dl l k v r d := by
  unfold k0_pay9
  rw [pay8_eq]
  funext j
  idx_vars j
  obtain rfl : j0 = 0 := Subsingleton.elim _ _
  pointwise []
  simp only [re2_ix2, re3_ix3]
  rw [coe_dot 768 (fun n => dsT q g dl l k v _ n) (fun n => k n _)]
  exact (EReal.coe_add _ _).symm

/-- The values' gradient of the step's first head. -/
theorem pay10_eq : k0_pay10 (F := Ideal) (re2 q) (re2 g) (re2 l) (re2 k) = re2 (dvT q g l k) := by
  unfold k0_pay10
  rw [pay7_eq]
  funext j
  idx_vars j
  pointwise []
  simp only [re2_ix2]
  exact coe_dot 512 (fun r => pT q l k r _) (fun r => g r _)

/-- The keys' gradient of the step's first head. -/
theorem pay11_eq : k0_pay11 (F := Ideal) (re2 q) (re2 g) (re2 dl) (re2 l) (re2 k) (re2 v) = re2 (dkT q g dl l k v) := by
  unfold k0_pay11
  rw [pay8_eq]
  funext j
  idx_vars j
  pointwise []
  simp only [re2_ix2]
  exact coe_dot 512 (fun r => dsT q g dl l k v r _) (fun r => q r _)

/-- The second head's accumulator, computed and stored. -/
theorem pay59_eq (A : ℕ → ℕ → ℕ → ℝ) :
    k0_pay59 (F := Ideal) (k0_pay14 (re2 q) (re2 g) (re2 dl) (re2 l) (re2 k) (re2 v) (re3 A))
      = re3 fun a r d => A a r d + dqT q g dl l k v r d :=
  pay9_eq q g dl l k v A

/-- What the step leaves in a tile of the values' gradient. -/
theorem pay60_eq (c p : ℕ → ℕ → ℝ) :
    k0_pay60 (F := Ideal) (re2 g) (re2 c) (re2 p) (re2 f)
      = re2 fun n d => f n d + (c n d + ∑ r ∈ range 512, p r n * g r d) := by
  unfold k0_pay60
  funext j
  idx_vars j
  pointwise []
  simp only [re2_ix2]
  rw [coe_dot 512 (fun r => p r _) (fun r => g r _), ← EReal.coe_add]
  exact (EReal.coe_add _ _).symm

/-- What the step leaves in a tile of the keys' gradient. -/
theorem pay61_eq (c p : ℕ → ℕ → ℝ) :
    k0_pay61 (F := Ideal) (re2 q) (re2 c) (re2 p) (re2 f)
      = re2 fun n d => f n d + (c n d + ∑ r ∈ range 512, p r n * q r d) :=
  pay60_eq q f c p

end Cert.Attn

end
-- ==== Proof.Blocks.lean ====
/- Blocks of real arrays: loading one out of a buffer and storing one into it. -/
module

public import proofs.«01_k».proof.Proof.Tile
public import Idealize.ShloMosaic.Lib.WritesUnit
public import Idealize.ShloMosaic.Lib.Pipeline.Value

@[expose] public section

set_option maxRecDepth 16384

noncomputable section

namespace Cert.Attn

open Finset Idealize.ShloMosaic Idealize.ShloMosaic.Tactic

/-- A real array with a block of it replaced. -/
def put2 (F : ℕ → ℕ → ℝ) (a b m n : ℕ) (H : ℕ → ℕ → ℝ) (r c : ℕ) : ℝ :=
  if (a ≤ r ∧ r < a + m) ∧ (b ≤ c ∧ c < b + n) then H (r - a) (c - b) else F r c

/-- A real array of planes with one plane replaced. -/
def put3 (F : ℕ → ℕ → ℕ → ℝ) (a : ℕ) (H : ℕ → ℕ → ℕ → ℝ) (s r c : ℕ) : ℝ := if s = a then H 0 r c else F s r c

variable {sig : RefSig} {κ : Kind} {sp : Space} {e : EltTy} {Val : EltTy → Type} (φ : ℝ → Val e)

/-- A block of a real array, loaded. -/
theorem readAt_block {M N m n : ℕ} (v : View sig κ sp ⟨2, ![M, N]⟩ e) (f : v.ty.Contents Val) (F : ℕ → ℕ → ℝ)
    (h : v.read Val f = fun j => φ (F (j 0).val (j 1).val)) (a b : ℕ) {off : Fin 2 → ℕ} (hoff : off = ![a, b])
    (inb : ∀ x, off x + (![m, n] : Fin 2 → ℕ) x ≤ (⟨2, ![M, N]⟩ : Shape).size x) :
    v.readAt Val (Rect.unit (s := ⟨2, ![M, N]⟩) off ![m, n] inb).toLoadRect f
      = fun j => φ (F (a + (j 0).val) (b + (j 1).val)) := by
  subst hoff
  funext j
  refine (congrFun h _).trans ?_
  show φ (F (a + 1 * (j 0).val) (b + 1 * (j 1).val)) = _
  rw [Nat.one_mul, Nat.one_mul]

/-- A plane of a real array, loaded. -/
theorem readAt_plane {S M N : ℕ} (v : View sig κ sp ⟨3, ![S, M, N]⟩ e) (f : v.ty.Contents Val) (F : ℕ → ℕ → ℕ → ℝ)
    (h : v.read Val f = fun j => φ (F (j 0).val (j 1).val (j 2).val)) (a b m n c : ℕ) {off : Fin 3 → ℕ} (hoff : off = ![a, b, c])
    (inb : ∀ x, off x + (![1, m, n] : Fin 3 → ℕ) x ≤ (⟨3, ![S, M, N]⟩ : Shape).size x) :
    v.readAt Val (Rect.unit (s := ⟨3, ![S, M, N]⟩) off ![1, m, n] inb).toLoadRect f
      = fun j => φ (F a (b + (j 1).val) (c + (j 2).val)) := by
  subst hoff
  funext j
  refine (congrFun h _).trans ?_
  show φ (F (a + 1 * (j 0).val) (b + 1 * (j 1).val) (c + 1 * (j 2).val)) = _
  rw [show (j 0).val = 0 from Nat.lt_one_iff.mp (j 0).isLt]
  simp only [Nat.one_mul, Nat.add_zero]

/-- A block of a real array, stored. -/
theorem read_put2 {M N m n : ℕ} (v : View sig κ sp ⟨2, ![M, N]⟩ e) (f : v.ty.Contents Val) (F H : ℕ → ℕ → ℝ)
    (L : List (View.Piece Val ⟨2, ![M, N]⟩ e))
    (h : v.read Val (v.writes Val f L) = fun j => φ (F (j 0).val (j 1).val)) (a b : ℕ) {off : Fin 2 → ℕ}
    (hoff : off = ![a, b]) (inb : ∀ x, off x + (![m, n] : Fin 2 → ℕ) x ≤ (⟨2, ![M, N]⟩ : Shape).size x)
    (w : (Rect.unit (s := ⟨2, ![M, N]⟩) off ![m, n] inb).shape.Idx → Val e)
    (hw : w = fun j => φ (H (j 0).val (j 1).val)) :
    v.read Val (v.writes Val f (⟨Rect.unit (s := ⟨2, ![M, N]⟩) off ![m, n] inb, w⟩ :: L))
      = fun j => φ (put2 F a b m n H (j 0).val (j 1).val) := by
  funext y
  rw [View.read_writes_cons_unit v f inb w L y hoff]
  have hiff : (∀ x : Fin 2, (![a, b] : Fin 2 → ℕ) x ≤ (y x).val ∧ (y x).val < (![a, b] : Fin 2 → ℕ) x + (![m, n] : Fin 2 → ℕ) x)
      ↔ (a ≤ (y 0).val ∧ (y 0).val < a + m) ∧ (b ≤ (y 1).val ∧ (y 1).val < b + n) := Fin.forall_fin_two
  by_cases hc : (a ≤ (y 0).val ∧ (y 0).val < a + m) ∧ (b ≤ (y 1).val ∧ (y 1).val < b + n)
  · rw [dif_pos (hiff.mpr hc), hw, put2, if_pos hc]
    show φ (H _ _) = _
    rw [Rect.unitLocal_val, Rect.unitLocal_val]
    rfl
  · rw [dif_neg (fun hh => hc (hiff.mp hh)), h, put2, if_neg hc]

/-- A plane of a real array, stored. -/
theorem read_put3 {S M N : ℕ} (v : View sig κ sp ⟨3, ![S, M, N]⟩ e) (f : v.ty.Contents Val) (F H : ℕ → ℕ → ℕ → ℝ)
    (L : List (View.Piece Val ⟨3, ![S, M, N]⟩ e))
    (h : v.read Val (v.writes Val f L) = fun j => φ (F (j 0).val (j 1).val (j 2).val)) (a : ℕ) {off : Fin 3 → ℕ}
    (hoff : off = ![a, 0, 0]) (inb : ∀ x, off x + (![1, M, N] : Fin 3 → ℕ) x ≤ (⟨3, ![S, M, N]⟩ : Shape).size x)
    (w : (Rect.unit (s := ⟨3, ![S, M, N]⟩) off ![1, M, N] inb).shape.Idx → Val e)
    (hw : w = fun j => φ (H (j 0).val (j 1).val (j 2).val)) :
    v.read Val (v.writes Val f (⟨Rect.unit (s := ⟨3, ![S, M, N]⟩) off ![1, M, N] inb, w⟩ :: L))
      = fun j => φ (put3 F a H (j 0).val (j 1).val (j 2).val) := by
  funext y
  rw [View.read_writes_cons_unit v f inb w L y hoff]
  have h1 : (y 1).val < M := (y 1).isLt
  have h2 : (y 2).val < N := (y 2).isLt
  have hiff : (∀ x : Fin 3, (![a, 0, 0] : Fin 3 → ℕ) x ≤ (y x).val ∧ (y x).val < (![a, 0, 0] : Fin 3 → ℕ) x + (![1, M, N] : Fin 3 → ℕ) x)
      ↔ (y 0).val = a := by
    refine ⟨fun hh => ?_, fun hh x => ?_⟩
    · have := hh 0
      simp only [Matrix.cons_val_zero] at this
      omega
    · match x with
      | 0 => show a ≤ (y 0).val ∧ (y 0).val < a + 1; omega
      | 1 => show 0 ≤ (y 1).val ∧ (y 1).val < 0 + M; omega
      | 2 => show 0 ≤ (y 2).val ∧ (y 2).val < 0 + N; omega
  by_cases hc : (y 0).val = a
  · rw [dif_pos (hiff.mpr hc), hw, put3, if_pos hc]
    show φ (H _ _ _) = _
    rw [Rect.unitLocal_val, Rect.unitLocal_val, Rect.unitLocal_val]
    show φ (H ((y 0).val - a) ((y 1).val - 0) ((y 2).val - 0)) = _
    rw [hc, Nat.sub_self]
    rfl
  · rw [dif_neg (fun hh => hc (hiff.mp hh)), h, put3, if_neg hc]

end Cert.Attn

end
-- ==== Proof.Trip.lean ====
/- One trip of the loop over key tiles, and the whole loop, on the real contents of the memory it writes: the two
   accumulators of the queries' gradient, and the key and value gradients of the block. The four loops of the body
   have the same text up to the column the key/value head starts at, so one statement serves them. -/
module

public import proofs.«01_k».proof.Proof.Blocks
public import proofs.«01_k».proof.Proof.Gen.KernelIdeal.Loops

@[expose] public section

set_option maxRecDepth 16384

noncomputable section

namespace Cert.Attn

open Finset Idealize.ShloMosaic Idealize.ShloMosaic.Tactic
open Cert.KernelIdeal Cert.KernelIdeal.Gen

/-- The elements of an array, over the extended reals. -/
abbrev VI : EltTy → Type := Elt Idealize.ShloMosaic.Ideal

local notation "𝕀" => Idealize.ShloMosaic.Ideal

/-- The real operands one query head brings to a row tile: its queries, the gradient of its output, the row sums and
    the rows' logarithms. -/
structure Head where
  q : ℕ → ℕ → ℝ
  g : ℕ → ℕ → ℝ
  dl : ℕ → ℕ → ℝ
  l : ℕ → ℕ → ℝ

namespace Head

variable (H : Head) (k v : ℕ → ℕ → ℝ)

/-- The head's weights on the keys. -/
def p (r n : ℕ) : ℝ := pT H.q H.l k r n
/-- The gradient of the head's scores. -/
def ds (r n : ℕ) : ℝ := dsT H.q H.g H.dl H.l k v r n
/-- The rows' part of the values' gradient. -/
def dv (n d : ℕ) : ℝ := dvT H.q H.g H.l k n d
/-- The rows' part of the keys' gradient. -/
def dk (n d : ℕ) : ℝ := dkT H.q H.g H.dl H.l k v n d

end Head

section Pieces

variable (a3 : Memref sig .tc .vmem S8448x128 .bf16) (a4 : Memref sig .tc .vmem S8448x128 .bf16)
  (a10 : Memref sig .tc .vmem S8448x128 .f32) (a11 : Memref sig .tc .vmem S8448x128 .f32)
  (a13 : Memref sig .tc .vmem S2x512x64 .f32)
  (off : Fin 2 → ℕ) (inb : ∀ a, off a + S768x64.size a ≤ S8448x128.size a)
  (q0 g0 : FVec 𝕀 S512x64 .bf16) (d0 l0 : FVec 𝕀 S512x1 .f32) (q1 g1 : FVec 𝕀 S512x64 .bf16) (d1 l1 : FVec 𝕀 S512x1 .f32)
  (X3 : BufTy.Contents VI a3.view.ty) (X4 : BufTy.Contents VI a4.view.ty)
  (f10 : BufTy.Contents VI a10.view.ty) (f11 : BufTy.Contents VI a11.view.ty) (f13 : BufTy.Contents VI a13.view.ty)

/-- A tile of key or value rows, loaded. -/
abbrev tileOf {e : EltTy} (a : Memref sig .tc .vmem S8448x128 e) (X : BufTy.Contents VI a.view.ty) : Vec 𝕀 S768x64 e :=
  a.view.readAt VI (Rect.unit (s := S8448x128) off S768x64.size inb).toLoadRect X

/-- An accumulator, loaded. -/
abbrev slotOf (o : Fin 3 → ℕ) (io : ∀ a, o a + S1x512x64.size a ≤ S2x512x64.size a) : Vec 𝕀 S1x512x64 .f32 :=
  a13.view.readAt VI (Rect.unit (s := S2x512x64) o S1x512x64.size io).toLoadRect f13

/-- What a trip writes to the keys' gradient. -/
def trip10 : List (View.Piece VI S8448x128 .f32) :=
  [⟨Rect.unit (s := S8448x128) off S768x64.size inb,
    k0_pay61 q1 (k0_pay11 q0 g0 d0 l0 (tileOf off inb a3 X3) (tileOf off inb a4 X4))
      (k0_pay13 q1 g1 d1 l1 (tileOf off inb a3 X3) (tileOf off inb a4 X4)) (tileOf off inb a10 f10)⟩]

/-- What a trip writes to the values' gradient. -/
def trip11 : List (View.Piece VI S8448x128 .f32) :=
  [⟨Rect.unit (s := S8448x128) off S768x64.size inb,
    k0_pay60 g1 (k0_pay10 q0 g0 l0 (tileOf off inb a3 X3)) (k0_pay12 q1 l1 (tileOf off inb a3 X3)) (tileOf off inb a11 f11)⟩]

/-- What a trip writes to the accumulators. -/
def trip13 : List (View.Piece VI S2x512x64 .f32) :=
  [⟨Rect.unit (s := S2x512x64) ![1, 0, 0] S1x512x64.size inb_S2x512x64_S1x512x64_1_0_0,
      k0_pay59 (k0_pay14 q1 g1 d1 l1 (tileOf off inb a3 X3) (tileOf off inb a4 X4)
        (slotOf a13 f13 ![1, 0, 0] inb_S2x512x64_S1x512x64_1_0_0))⟩,
    ⟨Rect.unit (s := S2x512x64) ![0, 0, 0] S1x512x64.size inb_S2x512x64_S1x512x64_0_0_0,
      k0_pay9 q0 g0 d0 l0 (tileOf off inb a3 X3) (tileOf off inb a4 X4)
        (slotOf a13 f13 ![0, 0, 0] inb_S2x512x64_S1x512x64_0_0_0)⟩]

end Pieces

section Loops

variable (𝒱 : Variants) (c : Dev nD) (bd : Option 𝒱.V) (i : grid0.Coords)
  (a2 : Memref sig .tc .vmem S512x512 .bf16) (h2 : a2.IsWhole)
  (a3 : Memref sig .tc .vmem S8448x128 .bf16) (h3 : a3.IsWhole)
  (a4 : Memref sig .tc .vmem S8448x128 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .f32) (h7 : a7.IsWhole)
  (a8 : Memref sig .tc .vmem S1x512x8 .f32) (h8 : a8.IsWhole)
  (a9 : Memref sig .tc .vmem S512x512 .bf16) (h9 : a9.IsWhole)
  (a10 : Memref sig .tc .vmem S8448x128 .f32) (h10 : a10.IsWhole)
  (a11 : Memref sig .tc .vmem S8448x128 .f32) (h11 : a11.IsWhole)
  (a12 : Memref sig .tc .vmem S512x512 .bf16) (h12 : a12.IsWhole)
  (a13 : Memref sig .tc .vmem S2x512x64 .f32) (h13 : a13.IsWhole)
  (X3 : BufTy.Contents VI a3.view.ty) (X4 : BufTy.Contents VI a4.view.ty)
  (f10 : BufTy.Contents VI a10.view.ty) (f11 : BufTy.Contents VI a11.view.ty) (f13 : BufTy.Contents VI a13.view.ty)

/-- The first loop's trip. -/
theorem trip_t1 (v3 : Vec 𝕀 S512x64 .bf16) (v19 : FVec 𝕀 S512x64 .bf16) (v40 : FVec 𝕀 S512x1 .f32) (v42 : FVec 𝕀 S512x1 .f32) (v47 : Vec 𝕀 S512x64 .bf16) (v49 : FVec 𝕀 S512x64 .f32) (v51 : FVec 𝕀 S512x64 .f32) (v63 : FVec 𝕀 S512x64 .bf16) (v64 : FVec 𝕀 S512x64 .f32) (v71 : FVec 𝕀 S512x64 .f32) (cst_38 : 𝕀 .f32) (v85 : Vec 𝕀 S1x512x1 .f32) (k : Fin k0_t1_loop.trips) :
    tripL_k0_t1 (F := 𝕀) 𝒱 c bd i a2 h2 a3 h3 a4 h4 a5 h5 a6 h6 a7 h7 a8 h8 a9 h9 a10 h10 a11 h11 a12 h12 a13 h13
        v3 v19 v40 v42 v47 v49 v51 v63 v64 v71 cst_38 v85 X3 X4 k f10 f11 f13
      = (trip10 a3 a4 a10 (k0_off1 k) (k0_off1_inb k) v3 v19 v40 v42 v47 v63 (k0_pay56 v49 v63) (k0_pay57 v85) X3 X4 f10,
         trip11 a3 a11 (k0_off1 k) (k0_off1_inb k) v3 v19 v42 v47 v63 (k0_pay57 v85) X3 f11,
         trip13 a3 a4 a13 (k0_off1 k) (k0_off1_inb k) v3 v19 v40 v42 v47 v63 (k0_pay56 v49 v63) (k0_pay57 v85) X3 X4 f13) := by
  unfold tripL_k0_t1 trip_k0_t1
  rfl

/-- The second loop's trip. -/
theorem trip_t2 (v100 : Vec 𝕀 S512x64 .bf16) (v116 : FVec 𝕀 S512x64 .bf16) (v137 : FVec 𝕀 S512x1 .f32) (v139 : FVec 𝕀 S512x1 .f32) (v144 : Vec 𝕀 S512x64 .bf16) (v146 : FVec 𝕀 S512x64 .f32) (v160 : FVec 𝕀 S512x64 .bf16) (v176 : FVec 𝕀 S512x64 .bf16) (v182 : Vec 𝕀 S1x512x1 .f32) (k : Fin k0_t2_loop.trips) :
    tripL_k0_t2 (F := 𝕀) 𝒱 c bd i a2 h2 a3 h3 a4 h4 a5 h5 a6 h6 a7 h7 a8 h8 a9 h9 a10 h10 a11 h11 a12 h12 a13 h13
        v100 v116 v137 v139 v144 v146 v160 v176 v182 X3 X4 k f10 f11 f13
      = (trip10 a3 a4 a10 (k0_off2 k) (k0_off2_inb k) v100 v116 v137 v139 v144 v160 (k0_pay77 v146 v160) (k0_pay78 v182) X3 X4 f10,
         trip11 a3 a11 (k0_off2 k) (k0_off2_inb k) v100 v116 v139 v144 v160 (k0_pay78 v182) X3 f11,
         trip13 a3 a4 a13 (k0_off2 k) (k0_off2_inb k) v100 v116 v137 v139 v144 v160 (k0_pay77 v146 v160) (k0_pay78 v182) X3 X4 f13) := by
  unfold tripL_k0_t2 trip_k0_t2
  rfl

/-- The third loop's trip. -/
theorem trip_t3 (v197 : Vec 𝕀 S512x64 .bf16) (v213 : FVec 𝕀 S512x64 .bf16) (v234 : FVec 𝕀 S512x1 .f32) (v236 : FVec 𝕀 S512x1 .f32) (v241 : Vec 𝕀 S512x64 .bf16) (v257 : FVec 𝕀 S512x64 .bf16) (v278 : FVec 𝕀 S512x1 .f32) (v279 : Vec 𝕀 S1x512x1 .f32) (k : Fin k0_t3_loop.trips) :
    tripL_k0_t3 (F := 𝕀) 𝒱 c bd i a2 h2 a3 h3 a4 h4 a5 h5 a6 h6 a7 h7 a8 h8 a9 h9 a10 h10 a11 h11 a12 h12 a13 h13
        v197 v213 v234 v236 v241 v257 v278 v279 X3 X4 k f10 f11 f13
      = (trip10 a3 a4 a10 (k0_off3 k) (k0_off3_inb k) v197 v213 v234 v236 v241 v257 v278 (k0_pay99 v279) X3 X4 f10,
         trip11 a3 a11 (k0_off3 k) (k0_off3_inb k) v197 v213 v236 v241 v257 (k0_pay99 v279) X3 f11,
         trip13 a3 a4 a13 (k0_off3 k) (k0_off3_inb k) v197 v213 v234 v236 v241 v257 v278 (k0_pay99 v279) X3 X4 f13) := by
  unfold tripL_k0_t3 trip_k0_t3
  rfl

/-- The fourth loop's trip. -/
theorem trip_t4 (v294 : Vec 𝕀 S512x64 .bf16) (v310 : FVec 𝕀 S512x64 .bf16) (v331 : FVec 𝕀 S512x1 .f32) (v333 : FVec 𝕀 S512x1 .f32) (v338 : Vec 𝕀 S512x64 .bf16) (v354 : FVec 𝕀 S512x64 .bf16) (v375 : FVec 𝕀 S512x1 .f32) (v377 : FVec 𝕀 S512x1 .f32) (k : Fin k0_t4_loop.trips) :
    tripL_k0_t4 (F := 𝕀) 𝒱 c bd i a2 h2 a3 h3 a4 h4 a5 h5 a6 h6 a7 h7 a8 h8 a9 h9 a10 h10 a11 h11 a12 h12 a13 h13
        v294 v310 v331 v333 v338 v354 v375 v377 X3 X4 k f10 f11 f13
      = (trip10 a3 a4 a10 (k0_off4 k) (k0_off4_inb k) v294 v310 v331 v333 v338 v354 v375 v377 X3 X4 f10,
         trip11 a3 a11 (k0_off4 k) (k0_off4_inb k) v294 v310 v333 v338 v354 v377 X3 f11,
         trip13 a3 a4 a13 (k0_off4 k) (k0_off4_inb k) v294 v310 v331 v333 v338 v354 v375 v377 X3 X4 f13) := by
  unfold tripL_k0_t4 trip_k0_t4
  rfl

end Loops

end Cert.Attn

end
-- ==== Proof.LoopValue.lean ====
/- The loop over key tiles on real contents: after `k` trips each accumulator has gained the gradient of its head's
   queries over the first `768 k` keys, and the first `768 k` rows of the key and value gradients, in the columns of
   the key/value head, have gained both heads' parts. -/
module

public import proofs.«01_k».proof.Proof.Trip

@[expose] public section

set_option maxRecDepth 16384

noncomputable section

namespace Cert.Attn

open Finset Idealize.ShloMosaic Idealize.ShloMosaic.Tactic
open Cert.KernelIdeal Cert.KernelIdeal.Gen

local notation "𝕀" => Idealize.ShloMosaic.Ideal

/-- Storing a block of reals into an array of reals. -/
theorem store2 {M N m n : ℕ} (a : Memref sig .tc .vmem ⟨2, ![M, N]⟩ .f32) (f : BufTy.Contents VI a.view.ty)
    (F H : ℕ → ℕ → ℝ) (L : List (View.Piece VI ⟨2, ![M, N]⟩ .f32)) (h : a.view.read VI (a.view.writes VI f L) = re2 F)
    (r c : ℕ) {off : Fin 2 → ℕ} (hoff : off = ![r, c])
    (inb : ∀ x, off x + (![m, n] : Fin 2 → ℕ) x ≤ (⟨2, ![M, N]⟩ : Shape).size x)
    (w : (⟨2, ![m, n]⟩ : Shape).Idx → EReal) (hw : w = re2 H) :
    a.view.read VI (a.view.writes VI f (⟨Rect.unit (s := ⟨2, ![M, N]⟩) off ![m, n] inb, w⟩ :: L))
      = re2 (put2 F r c m n H) :=
  read_put2 (Val := VI) (e := .f32) Real.toEReal a.view f F H L h r c hoff inb w hw

/-- Storing a plane of reals into an array of reals. -/
theorem store3 {S M N : ℕ} (a : Memref sig .tc .vmem ⟨3, ![S, M, N]⟩ .f32) (f : BufTy.Contents VI a.view.ty)
    (F H : ℕ → ℕ → ℕ → ℝ) (L : List (View.Piece VI ⟨3, ![S, M, N]⟩ .f32))
    (h : a.view.read VI (a.view.writes VI f L) = re3 F) (s : ℕ) {off : Fin 3 → ℕ} (hoff : off = ![s, 0, 0])
    (inb : ∀ x, off x + (![1, M, N] : Fin 3 → ℕ) x ≤ (⟨3, ![S, M, N]⟩ : Shape).size x)
    (w : (⟨3, ![1, M, N]⟩ : Shape).Idx → EReal) (hw : w = re3 H) :
    a.view.read VI (a.view.writes VI f (⟨Rect.unit (s := ⟨3, ![S, M, N]⟩) off ![1, M, N] inb, w⟩ :: L))
      = re3 (put3 F s H) :=
  read_put3 (Val := VI) (e := .f32) Real.toEReal a.view f F H L h s hoff inb w hw

variable (H0 H1 : Head) (K V : ℕ → ℕ → ℝ) (κ : ℕ)

/-- The columns of a block from `κ` on. -/
def cols (K : ℕ → ℕ → ℝ) (κ : ℕ) (n d : ℕ) : ℝ := K n (κ + d)

/-- The head whose queries' gradient an accumulator holds. -/
def headOf (s : ℕ) : Head := if s = 0 then H0 else H1

/-- The accumulators after `k` trips. -/
def accAt (A : ℕ → ℕ → ℕ → ℝ) (k s r d : ℕ) : ℝ :=
  A s r d + ∑ n ∈ range (768 * k), (headOf H0 H1 s).ds (cols K κ) (cols V κ) r n * cols K κ n d

/-- The values' gradient after `k` trips. -/
def dvAt (D : ℕ → ℕ → ℝ) (k n c : ℕ) : ℝ :=
  D n c + if n < 768 * k ∧ κ ≤ c ∧ c < κ + 64 then H0.dv (cols K κ) n (c - κ) + H1.dv (cols K κ) n (c - κ) else 0

/-- The keys' gradient after `k` trips. -/
def dkAt (D : ℕ → ℕ → ℝ) (k n c : ℕ) : ℝ :=
  D n c + if n < 768 * k ∧ κ ≤ c ∧ c < κ + 64 then
    H0.dk (cols K κ) (cols V κ) n (c - κ) + H1.dk (cols K κ) (cols V κ) n (c - κ) else 0

variable {a3 : Memref sig .tc .vmem S8448x128 .bf16} {a4 : Memref sig .tc .vmem S8448x128 .bf16}
  {a10 : Memref sig .tc .vmem S8448x128 .f32} {a11 : Memref sig .tc .vmem S8448x128 .f32}
  {a13 : Memref sig .tc .vmem S2x512x64 .f32}
  {off : Fin 2 → ℕ} (inb : ∀ a, off a + S768x64.size a ≤ S8448x128.size a)
  {X3 : BufTy.Contents VI a3.view.ty} {X4 : BufTy.Contents VI a4.view.ty}
  {f10 : BufTy.Contents VI a10.view.ty} {f11 : BufTy.Contents VI a11.view.ty} {f13 : BufTy.Contents VI a13.view.ty}

/-- A loaded tile of key or value rows. -/
theorem tile_bf16 {a : Memref sig .tc .vmem S8448x128 .bf16} {X : BufTy.Contents VI a.view.ty}
    (hX : a.view.read VI X = re2 K) (k : ℕ) (hoff : off = ![768 * k, κ]) :
    tileOf off inb a X = re2 fun n d => cols K κ (768 * k + n) d :=
  readAt_block (Val := VI) (e := .bf16) Real.toEReal a.view X K hX (768 * k) κ hoff inb

/-- A loaded tile of a gradient's rows. -/
theorem tile_f32 {a : Memref sig .tc .vmem S8448x128 .f32} {X : BufTy.Contents VI a.view.ty}
    (hX : a.view.read VI X = re2 K) (k : ℕ) (hoff : off = ![768 * k, κ]) :
    tileOf off inb a X = re2 fun n d => cols K κ (768 * k + n) d :=
  readAt_block (Val := VI) (e := .f32) Real.toEReal a.view X K hX (768 * k) κ hoff inb

/-- A loaded accumulator. -/
theorem slot_eq {A : ℕ → ℕ → ℕ → ℝ} (h13 : a13.view.read VI f13 = re3 A) (s : ℕ) {o : Fin 3 → ℕ} (ho : o = ![s, 0, 0])
    (io : ∀ a, o a + S1x512x64.size a ≤ S2x512x64.size a) :
    slotOf a13 f13 o io = re3 fun _ r d => A s (0 + r) (0 + d) :=
  readAt_plane (Val := VI) (e := .f32) Real.toEReal a13.view f13 A h13 s 0 512 64 0 ho io

variable (hX3 : a3.view.read VI X3 = re2 K) (hX4 : a4.view.read VI X4 = re2 V) (k : ℕ) (hoff : off = ![768 * k, κ])

include hX3 hX4 hoff

/-- One trip's effect on the accumulators. -/
theorem trip13_step (A : ℕ → ℕ → ℕ → ℝ) (h13 : a13.view.read VI f13 = re3 (accAt H0 H1 K V κ A k)) :
    a13.view.read VI (a13.view.writes VI f13 (trip13 a3 a4 a13 off inb (re2 H0.q) (re2 H0.g) (re2 H0.dl) (re2 H0.l)
      (re2 H1.q) (re2 H1.g) (re2 H1.dl) (re2 H1.l) X3 X4 f13)) = re3 (accAt H0 H1 K V κ A (k + 1)) := by
  have w (H : Head) (s : ℕ) {o : Fin 3 → ℕ} (ho : o = ![s, 0, 0])
      (io : ∀ a, o a + S1x512x64.size a ≤ S2x512x64.size a) :
      k0_pay9 (F := 𝕀) (re2 H.q) (re2 H.g) (re2 H.dl) (re2 H.l) (tileOf off inb a3 X3) (tileOf off inb a4 X4)
        (slotOf a13 f13 o io)
      = re3 fun _ r d => accAt H0 H1 K V κ A k s (0 + r) (0 + d) + dqT H.q H.g H.dl H.l
          (fun n d => cols K κ (768 * k + n) d) (fun n d => cols V κ (768 * k + n) d) r d := by
    rw [slot_eq h13 s ho, tile_bf16 K κ inb hX3 k hoff, tile_bf16 V κ inb hX4 k hoff, pay9_eq]
  have h0 := store3 a13 f13 _ _ [] h13 0 rfl inb_S2x512x64_S1x512x64_0_0_0 _ (w H0 0 rfl inb_S2x512x64_S1x512x64_0_0_0)
  have h1 := store3 a13 f13 _ _ _ h0 1 rfl inb_S2x512x64_S1x512x64_1_0_0 _ (w H1 1 rfl inb_S2x512x64_S1x512x64_1_0_0)
  refine Eq.trans h1 ?_
  funext y
  refine congrArg Real.toEReal ?_
  have hy : (y 0).val < 2 := (y 0).isLt
  have key : ∀ (s r d : ℕ), accAt H0 H1 K V κ A k s (0 + r) (0 + d)
      + dqT (headOf H0 H1 s).q (headOf H0 H1 s).g (headOf H0 H1 s).dl (headOf H0 H1 s).l
          (fun n d => cols K κ (768 * k + n) d) (fun n d => cols V κ (768 * k + n) d) r d
      = accAt H0 H1 K V κ A (k + 1) s r d := fun s r d => by
    rw [accAt, accAt, Nat.mul_succ, sum_range_add, ← add_assoc, Nat.zero_add, Nat.zero_add]
    rfl
  obtain h | h : (y 0).val = 0 ∨ (y 0).val = 1 := by omega
  · rw [put3, if_neg (by omega), put3, if_pos h, h]
    exact key 0 _ _
  · rw [put3, if_pos h, h]
    exact key 1 _ _

omit hX3 hX4 hoff in
/-- Adding a tile's rows to what the earlier tiles added. -/
theorem put_step (D : ℕ → ℕ → ℝ) (F : ℕ → ℕ → ℝ) (k n c : ℕ) :
    put2 (fun n c => D n c + if n < 768 * k ∧ κ ≤ c ∧ c < κ + 64 then F n (c - κ) else 0) (768 * k) κ 768 64
      (fun n' d => cols (fun n c => D n c + if n < 768 * k ∧ κ ≤ c ∧ c < κ + 64 then F n (c - κ) else 0) κ (768 * k + n') d
        + F (768 * k + n') d) n c
      = D n c + if n < 768 * (k + 1) ∧ κ ≤ c ∧ c < κ + 64 then F n (c - κ) else 0 := by
  rw [put2]
  by_cases h : (768 * k ≤ n ∧ n < 768 * k + 768) ∧ κ ≤ c ∧ c < κ + 64
  · rw [if_pos h, if_pos (by omega), cols, if_neg (by omega), add_zero, Nat.add_sub_cancel' h.1.1,
      Nat.add_sub_cancel' h.2.1]
  · rw [if_neg h]
    by_cases h' : n < 768 * k ∧ κ ≤ c ∧ c < κ + 64
    · rw [if_pos h', if_pos (by omega)]
    · rw [if_neg h', if_neg (by omega)]

omit hX4 in
/-- One trip's effect on the values' gradient. -/
theorem trip11_step (D : ℕ → ℕ → ℝ) (h11 : a11.view.read VI f11 = re2 (dvAt H0 H1 K κ D k)) :
    a11.view.read VI (a11.view.writes VI f11 (trip11 a3 a11 off inb (re2 H0.q) (re2 H0.g) (re2 H0.l)
      (re2 H1.q) (re2 H1.g) (re2 H1.l) X3 f11)) = re2 (dvAt H0 H1 K κ D (k + 1)) := by
  have w : k0_pay60 (F := 𝕀) (re2 H1.g) (k0_pay10 (re2 H0.q) (re2 H0.g) (re2 H0.l) (tileOf off inb a3 X3))
        (k0_pay12 (re2 H1.q) (re2 H1.l) (tileOf off inb a3 X3)) (tileOf off inb a11 f11)
      = re2 fun n d => cols (dvAt H0 H1 K κ D k) κ (768 * k + n) d
          + (H0.dv (cols K κ) (768 * k + n) d + H1.dv (cols K κ) (768 * k + n) d) := by
    rw [tile_f32 _ κ inb h11 k hoff, tile_bf16 K κ inb hX3 k hoff, pay10_eq]
    refine (congrArg (fun x => k0_pay60 (F := 𝕀) (re2 H1.g) _ x _) (pay7_eq H1.q H1.l _)).trans ?_
    exact pay60_eq _ _ _ _
  refine (store2 a11 f11 _ _ [] h11 (768 * k) κ hoff inb _ w).trans ?_
  funext y
  exact congrArg Real.toEReal (put_step κ D (fun n d => H0.dv (cols K κ) n d + H1.dv (cols K κ) n d) k _ _)

/-- One trip's effect on the keys' gradient. -/
theorem trip10_step (D : ℕ → ℕ → ℝ) (h10 : a10.view.read VI f10 = re2 (dkAt H0 H1 K V κ D k)) :
    a10.view.read VI (a10.view.writes VI f10 (trip10 a3 a4 a10 off inb (re2 H0.q) (re2 H0.g) (re2 H0.dl) (re2 H0.l)
      (re2 H1.q) (re2 H1.g) (re2 H1.dl) (re2 H1.l) X3 X4 f10)) = re2 (dkAt H0 H1 K V κ D (k + 1)) := by
  have w : k0_pay61 (F := 𝕀) (re2 H1.q)
        (k0_pay11 (re2 H0.q) (re2 H0.g) (re2 H0.dl) (re2 H0.l) (tileOf off inb a3 X3) (tileOf off inb a4 X4))
        (k0_pay13 (re2 H1.q) (re2 H1.g) (re2 H1.dl) (re2 H1.l) (tileOf off inb a3 X3) (tileOf off inb a4 X4))
        (tileOf off inb a10 f10)
      = re2 fun n d => cols (dkAt H0 H1 K V κ D k) κ (768 * k + n) d
          + (H0.dk (cols K κ) (cols V κ) (768 * k + n) d + H1.dk (cols K κ) (cols V κ) (768 * k + n) d) := by
    rw [tile_f32 _ κ inb h10 k hoff, tile_bf16 K κ inb hX3 k hoff, tile_bf16 V κ inb hX4 k hoff, pay11_eq]
    refine (congrArg (fun x => k0_pay61 (F := 𝕀) (re2 H1.q) _ x _) (pay8_eq H1.q H1.g H1.dl H1.l _ _)).trans ?_
    exact pay61_eq _ _ _ _
  refine (store2 a10 f10 _ _ [] h10 (768 * k) κ hoff inb _ w).trans ?_
  funext y
  exact congrArg Real.toEReal
    (put_step κ D (fun n d => H0.dk (cols K κ) (cols V κ) n d + H1.dk (cols K κ) (cols V κ) n d) k _ _)

end Cert.Attn

end
-- ==== Proof.LoopFold.lean ====
/- The whole loop over key tiles: what each of the four loops of the body leaves, from any real contents it starts at. -/
module

public import proofs.«01_k».proof.Proof.LoopValue

@[expose] public section

set_option maxRecDepth 16384

noncomputable section

namespace Cert.Attn

open Finset Idealize.ShloMosaic Idealize.ShloMosaic.Tactic
open Cert.KernelIdeal Cert.KernelIdeal.Gen

local notation "𝕀" => Idealize.ShloMosaic.Ideal

/-- The operands a loop takes from one head are that head's real arrays. -/
structure Operand (H : Head) (q g : FVec 𝕀 S512x64 .bf16) (d l : FVec 𝕀 S512x1 .f32) : Prop where
  q : q = re2 H.q
  g : g = re2 H.g
  d : d = re2 H.dl
  l : l = re2 H.l

/-- What the key and value gradients and the accumulators hold. -/
structure Holds (a10 : Memref sig .tc .vmem S8448x128 .f32) (a11 : Memref sig .tc .vmem S8448x128 .f32)
    (a13 : Memref sig .tc .vmem S2x512x64 .f32) (f10 : BufTy.Contents VI a10.view.ty) (f11 : BufTy.Contents VI a11.view.ty)
    (f13 : BufTy.Contents VI a13.view.ty) (D E : ℕ → ℕ → ℝ) (A : ℕ → ℕ → ℕ → ℝ) : Prop where
  keys : a10.view.read VI f10 = re2 D
  values : a11.view.read VI f11 = re2 E
  acc : a13.view.read VI f13 = re3 A

variable (H0 H1 : Head) (K V : ℕ → ℕ → ℝ) (κ : ℕ)

/-- Before the first trip nothing is added. -/
theorem at_zero (D E : ℕ → ℕ → ℝ) (A : ℕ → ℕ → ℕ → ℝ) :
    dkAt H0 H1 K V κ D 0 = D ∧ dvAt H0 H1 K κ E 0 = E ∧ accAt H0 H1 K V κ A 0 = A := by
  refine ⟨?_, ?_, ?_⟩
  · funext n c
    rw [dkAt, if_neg (by omega), add_zero]
  · funext n c
    rw [dvAt, if_neg (by omega), add_zero]
  · funext s r d
    rw [accAt, Nat.mul_zero, range_zero, sum_empty, add_zero]

section

variable {a3 : Memref sig .tc .vmem S8448x128 .bf16} {a4 : Memref sig .tc .vmem S8448x128 .bf16}
  {a10 : Memref sig .tc .vmem S8448x128 .f32} {a11 : Memref sig .tc .vmem S8448x128 .f32}
  {a13 : Memref sig .tc .vmem S2x512x64 .f32}
  {X3 : BufTy.Contents VI a3.view.ty} {X4 : BufTy.Contents VI a4.view.ty}
  {f10 : BufTy.Contents VI a10.view.ty} {f11 : BufTy.Contents VI a11.view.ty} {f13 : BufTy.Contents VI a13.view.ty}
  {q0 g0 : FVec 𝕀 S512x64 .bf16} {d0 l0 : FVec 𝕀 S512x1 .f32} {q1 g1 : FVec 𝕀 S512x64 .bf16} {d1 l1 : FVec 𝕀 S512x1 .f32}
  {D E : ℕ → ℕ → ℝ} {A : ℕ → ℕ → ℕ → ℝ}

/-- Trip by trip, what a loop has written. -/
theorem loop_fold (hX3 : a3.view.read VI X3 = re2 K) (hX4 : a4.view.read VI X4 = re2 V) (o0 : Operand H0 q0 g0 d0 l0)
    (o1 : Operand H1 q1 g1 d1 l1) (h : Holds a10 a11 a13 f10 f11 f13 D E A) (T : ℕ)
    (p : ℕ → List (View.Piece VI S8448x128 .f32) × List (View.Piece VI S8448x128 .f32) × List (View.Piece VI S2x512x64 .f32))
    (hz : p 0 = ([], [], []))
    (hs : ∀ k < T, ∃ (off : Fin 2 → ℕ) (inb : ∀ a, off a + S768x64.size a ≤ S8448x128.size a), off = ![768 * k, κ] ∧
      p (k + 1) = (trip10 a3 a4 a10 off inb q0 g0 d0 l0 q1 g1 d1 l1 X3 X4 (a10.view.writes VI f10 (p k).1) ++ (p k).1,
        trip11 a3 a11 off inb q0 g0 l0 q1 g1 l1 X3 (a11.view.writes VI f11 (p k).2.1) ++ (p k).2.1,
        trip13 a3 a4 a13 off inb q0 g0 d0 l0 q1 g1 d1 l1 X3 X4 (a13.view.writes VI f13 (p k).2.2) ++ (p k).2.2)) :
    ∀ k ≤ T, Holds a10 a11 a13 (a10.view.writes VI f10 (p k).1) (a11.view.writes VI f11 (p k).2.1)
      (a13.view.writes VI f13 (p k).2.2) (dkAt H0 H1 K V κ D k) (dvAt H0 H1 K κ E k) (accAt H0 H1 K V κ A k) := by
  obtain ⟨rfl, rfl, rfl, rfl⟩ := o0
  obtain ⟨rfl, rfl, rfl, rfl⟩ := o1
  intro k
  induction k with
  | zero =>
    intro _
    rw [hz, (at_zero H0 H1 K V κ D E A).1, (at_zero H0 H1 K V κ D E A).2.1, (at_zero H0 H1 K V κ D E A).2.2]
    exact h
  | succ k ih =>
    intro hk
    obtain ⟨off, inb, hoff, e⟩ := hs k hk
    obtain ⟨i1, i2, i3⟩ := ih (Nat.le_of_succ_le hk)
    rw [e]
    refine ⟨?_, ?_, ?_⟩
    · rw [View.writes_append]
      exact trip10_step H0 H1 K V κ inb hX3 hX4 k hoff D i1
    · rw [View.writes_append]
      exact trip11_step H0 H1 K κ inb hX3 k hoff E i2
    · rw [View.writes_append]
      exact trip13_step H0 H1 K V κ inb hX3 hX4 k hoff A i3

end

/-- The accumulators after all the key tiles. -/
abbrev accEnd (A : ℕ → ℕ → ℕ → ℝ) : ℕ → ℕ → ℕ → ℝ := accAt H0 H1 K V κ A 11
/-- The values' gradient after all the key tiles. -/
abbrev dvEnd (E : ℕ → ℕ → ℝ) : ℕ → ℕ → ℝ := dvAt H0 H1 K κ E 11
/-- The keys' gradient after all the key tiles. -/
abbrev dkEnd (D : ℕ → ℕ → ℝ) : ℕ → ℕ → ℝ := dkAt H0 H1 K V κ D 11

section Loops

variable (𝒱 : Variants) (c : Dev nD) (bd : Option 𝒱.V) (i : grid0.Coords)
  (a2 : Memref sig .tc .vmem S512x512 .bf16) (h2 : a2.IsWhole)
  (a3 : Memref sig .tc .vmem S8448x128 .bf16) (h3 : a3.IsWhole)
  (a4 : Memref sig .tc .vmem S8448x128 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .f32) (h7 : a7.IsWhole)
  (a8 : Memref sig .tc .vmem S1x512x8 .f32) (h8 : a8.IsWhole)
  (a9 : Memref sig .tc .vmem S512x512 .bf16) (h9 : a9.IsWhole)
  (a10 : Memref sig .tc .vmem S8448x128 .f32) (h10 : a10.IsWhole)
  (a11 : Memref sig .tc .vmem S8448x128 .f32) (h11 : a11.IsWhole)
  (a12 : Memref sig .tc .vmem S512x512 .bf16) (h12 : a12.IsWhole)
  (a13 : Memref sig .tc .vmem S2x512x64 .f32) (h13 : a13.IsWhole)
  (X3 : BufTy.Contents VI a3.view.ty) (X4 : BufTy.Contents VI a4.view.ty) (hX3 : a3.view.read VI X3 = re2 K)
  (hX4 : a4.view.read VI X4 = re2 V)
  (f10 : BufTy.Contents VI a10.view.ty) (f11 : BufTy.Contents VI a11.view.ty) (f13 : BufTy.Contents VI a13.view.ty)
  (D E : ℕ → ℕ → ℝ) (A : ℕ → ℕ → ℕ → ℝ) (h : Holds a10 a11 a13 f10 f11 f13 D E A)

include hX3 hX4 h

/-- The first loop. -/
theorem loop_t1 (v3 : Vec 𝕀 S512x64 .bf16) (v19 : FVec 𝕀 S512x64 .bf16) (v40 : FVec 𝕀 S512x1 .f32) (v42 : FVec 𝕀 S512x1 .f32) (v47 : Vec 𝕀 S512x64 .bf16) (v49 : FVec 𝕀 S512x64 .f32) (v51 : FVec 𝕀 S512x64 .f32) (v63 : FVec 𝕀 S512x64 .bf16) (v64 : FVec 𝕀 S512x64 .f32) (v71 : FVec 𝕀 S512x64 .f32) (cst_38 : 𝕀 .f32) (v85 : Vec 𝕀 S1x512x1 .f32)
    (o0 : Operand H0 v3 v19 v40 v42) (o1 : Operand H1 v47 v63 (k0_pay56 v49 v63) (k0_pay57 v85)) :
    Holds a10 a11 a13
      (a10.view.writes VI f10 (pb_k0_t1 (F := 𝕀) 𝒱 c bd i a2 h2 a3 h3 a4 h4 a5 h5 a6 h6 a7 h7 a8 h8 a9 h9 a10 h10 a11 h11 a12 h12 a13 h13
        v3 v19 v40 v42 v47 v49 v51 v63 v64 v71 cst_38 v85 X3 X4 f10 f11 f13 11).1)
      (a11.view.writes VI f11 (pb_k0_t1 (F := 𝕀) 𝒱 c bd i a2 h2 a3 h3 a4 h4 a5 h5 a6 h6 a7 h7 a8 h8 a9 h9 a10 h10 a11 h11 a12 h12 a13 h13
        v3 v19 v40 v42 v47 v49 v51 v63 v64 v71 cst_38 v85 X3 X4 f10 f11 f13 11).2.1)
      (a13.view.writes VI f13 (pb_k0_t1 (F := 𝕀) 𝒱 c bd i a2 h2 a3 h3 a4 h4 a5 h5 a6 h6 a7 h7 a8 h8 a9 h9 a10 h10 a11 h11 a12 h12 a13 h13
        v3 v19 v40 v42 v47 v49 v51 v63 v64 v71 cst_38 v85 X3 X4 f10 f11 f13 11).2.2)
      (dkEnd H0 H1 K V 0 D) (dvEnd H0 H1 K 0 E) (accEnd H0 H1 K V 0 A) := by
  have ht : k0_t1_loop.trips = 11 := by decide +kernel
  refine loop_fold H0 H1 K V 0 hX3 hX4 o0 o1 h 11
    (fun k => pb_k0_t1 (F := 𝕀) 𝒱 c bd i a2 h2 a3 h3 a4 h4 a5 h5 a6 h6 a7 h7 a8 h8 a9 h9 a10 h10 a11 h11 a12 h12 a13 h13
        v3 v19 v40 v42 v47 v49 v51 v63 v64 v71 cst_38 v85 X3 X4 f10 f11 f13 k) rfl (fun k hk => ?_) 11 (Nat.le_refl _)
  exact ⟨k0_off1 ⟨k, ht ▸ hk⟩, k0_off1_inb _, k0_off1_eq _,
    (pb_k0_t1_succ (F := 𝕀) 𝒱 c bd i a2 h2 a3 h3 a4 h4 a5 h5 a6 h6 a7 h7 a8 h8 a9 h9 a10 h10 a11 h11 a12 h12 a13 h13
      v3 v19 v40 v42 v47 v49 v51 v63 v64 v71 cst_38 v85 X3 X4 f10 f11 f13 ⟨k, ht ▸ hk⟩).trans (by rw [trip_t1])⟩

/-- The second loop. -/
theorem loop_t2 (v100 : Vec 𝕀 S512x64 .bf16) (v116 : FVec 𝕀 S512x64 .bf16) (v137 : FVec 𝕀 S512x1 .f32) (v139 : FVec 𝕀 S512x1 .f32) (v144 : Vec 𝕀 S512x64 .bf16) (v146 : FVec 𝕀 S512x64 .f32) (v160 : FVec 𝕀 S512x64 .bf16) (v176 : FVec 𝕀 S512x64 .bf16) (v182 : Vec 𝕀 S1x512x1 .f32)
    (o0 : Operand H0 v100 v116 v137 v139) (o1 : Operand H1 v144 v160 (k0_pay77 v146 v160) (k0_pay78 v182)) :
    Holds a10 a11 a13
      (a10.view.writes VI f10 (pb_k0_t2 (F := 𝕀) 𝒱 c bd i a2 h2 a3 h3 a4 h4 a5 h5 a6 h6 a7 h7 a8 h8 a9 h9 a10 h10 a11 h11 a12 h12 a13 h13
        v100 v116 v137 v139 v144 v146 v160 v176 v182 X3 X4 f10 f11 f13 11).1)
      (a11.view.writes VI f11 (pb_k0_t2 (F := 𝕀) 𝒱 c bd i a2 h2 a3 h3 a4 h4 a5 h5 a6 h6 a7 h7 a8 h8 a9 h9 a10 h10 a11 h11 a12 h12 a13 h13
        v100 v116 v137 v139 v144 v146 v160 v176 v182 X3 X4 f10 f11 f13 11).2.1)
      (a13.view.writes VI f13 (pb_k0_t2 (F := 𝕀) 𝒱 c bd i a2 h2 a3 h3 a4 h4 a5 h5 a6 h6 a7 h7 a8 h8 a9 h9 a10 h10 a11 h11 a12 h12 a13 h13
        v100 v116 v137 v139 v144 v146 v160 v176 v182 X3 X4 f10 f11 f13 11).2.2)
      (dkEnd H0 H1 K V 0 D) (dvEnd H0 H1 K 0 E) (accEnd H0 H1 K V 0 A) := by
  have ht : k0_t2_loop.trips = 11 := by decide +kernel
  refine loop_fold H0 H1 K V 0 hX3 hX4 o0 o1 h 11
    (fun k => pb_k0_t2 (F := 𝕀) 𝒱 c bd i a2 h2 a3 h3 a4 h4 a5 h5 a6 h6 a7 h7 a8 h8 a9 h9 a10 h10 a11 h11 a12 h12 a13 h13
        v100 v116 v137 v139 v144 v146 v160 v176 v182 X3 X4 f10 f11 f13 k) rfl (fun k hk => ?_) 11 (Nat.le_refl _)
  exact ⟨k0_off2 ⟨k, ht ▸ hk⟩, k0_off2_inb _, k0_off2_eq _,
    (pb_k0_t2_succ (F := 𝕀) 𝒱 c bd i a2 h2 a3 h3 a4 h4 a5 h5 a6 h6 a7 h7 a8 h8 a9 h9 a10 h10 a11 h11 a12 h12 a13 h13
      v100 v116 v137 v139 v144 v146 v160 v176 v182 X3 X4 f10 f11 f13 ⟨k, ht ▸ hk⟩).trans (by rw [trip_t2])⟩

/-- The third loop. -/
theorem loop_t3 (v197 : Vec 𝕀 S512x64 .bf16) (v213 : FVec 𝕀 S512x64 .bf16) (v234 : FVec 𝕀 S512x1 .f32) (v236 : FVec 𝕀 S512x1 .f32) (v241 : Vec 𝕀 S512x64 .bf16) (v257 : FVec 𝕀 S512x64 .bf16) (v278 : FVec 𝕀 S512x1 .f32) (v279 : Vec 𝕀 S1x512x1 .f32)
    (o0 : Operand H0 v197 v213 v234 v236) (o1 : Operand H1 v241 v257 v278 (k0_pay99 v279)) :
    Holds a10 a11 a13
      (a10.view.writes VI f10 (pb_k0_t3 (F := 𝕀) 𝒱 c bd i a2 h2 a3 h3 a4 h4 a5 h5 a6 h6 a7 h7 a8 h8 a9 h9 a10 h10 a11 h11 a12 h12 a13 h13
        v197 v213 v234 v236 v241 v257 v278 v279 X3 X4 f10 f11 f13 11).1)
      (a11.view.writes VI f11 (pb_k0_t3 (F := 𝕀) 𝒱 c bd i a2 h2 a3 h3 a4 h4 a5 h5 a6 h6 a7 h7 a8 h8 a9 h9 a10 h10 a11 h11 a12 h12 a13 h13
        v197 v213 v234 v236 v241 v257 v278 v279 X3 X4 f10 f11 f13 11).2.1)
      (a13.view.writes VI f13 (pb_k0_t3 (F := 𝕀) 𝒱 c bd i a2 h2 a3 h3 a4 h4 a5 h5 a6 h6 a7 h7 a8 h8 a9 h9 a10 h10 a11 h11 a12 h12 a13 h13
        v197 v213 v234 v236 v241 v257 v278 v279 X3 X4 f10 f11 f13 11).2.2)
      (dkEnd H0 H1 K V 64 D) (dvEnd H0 H1 K 64 E) (accEnd H0 H1 K V 64 A) := by
  have ht : k0_t3_loop.trips = 11 := by decide +kernel
  refine loop_fold H0 H1 K V 64 hX3 hX4 o0 o1 h 11
    (fun k => pb_k0_t3 (F := 𝕀) 𝒱 c bd i a2 h2 a3 h3 a4 h4 a5 h5 a6 h6 a7 h7 a8 h8 a9 h9 a10 h10 a11 h11 a12 h12 a13 h13
        v197 v213 v234 v236 v241 v257 v278 v279 X3 X4 f10 f11 f13 k) rfl (fun k hk => ?_) 11 (Nat.le_refl _)
  exact ⟨k0_off3 ⟨k, ht ▸ hk⟩, k0_off3_inb _, k0_off3_eq _,
    (pb_k0_t3_succ (F := 𝕀) 𝒱 c bd i a2 h2 a3 h3 a4 h4 a5 h5 a6 h6 a7 h7 a8 h8 a9 h9 a10 h10 a11 h11 a12 h12 a13 h13
      v197 v213 v234 v236 v241 v257 v278 v279 X3 X4 f10 f11 f13 ⟨k, ht ▸ hk⟩).trans (by rw [trip_t3])⟩

/-- The fourth loop. -/
theorem loop_t4 (v294 : Vec 𝕀 S512x64 .bf16) (v310 : FVec 𝕀 S512x64 .bf16) (v331 : FVec 𝕀 S512x1 .f32) (v333 : FVec 𝕀 S512x1 .f32) (v338 : Vec 𝕀 S512x64 .bf16) (v354 : FVec 𝕀 S512x64 .bf16) (v375 : FVec 𝕀 S512x1 .f32) (v377 : FVec 𝕀 S512x1 .f32)
    (o0 : Operand H0 v294 v310 v331 v333) (o1 : Operand H1 v338 v354 v375 v377) :
    Holds a10 a11 a13
      (a10.view.writes VI f10 (pb_k0_t4 (F := 𝕀) 𝒱 c bd i a2 h2 a3 h3 a4 h4 a5 h5 a6 h6 a7 h7 a8 h8 a9 h9 a10 h10 a11 h11 a12 h12 a13 h13
        v294 v310 v331 v333 v338 v354 v375 v377 X3 X4 f10 f11 f13 11).1)
      (a11.view.writes VI f11 (pb_k0_t4 (F := 𝕀) 𝒱 c bd i a2 h2 a3 h3 a4 h4 a5 h5 a6 h6 a7 h7 a8 h8 a9 h9 a10 h10 a11 h11 a12 h12 a13 h13
        v294 v310 v331 v333 v338 v354 v375 v377 X3 X4 f10 f11 f13 11).2.1)
      (a13.view.writes VI f13 (pb_k0_t4 (F := 𝕀) 𝒱 c bd i a2 h2 a3 h3 a4 h4 a5 h5 a6 h6 a7 h7 a8 h8 a9 h9 a10 h10 a11 h11 a12 h12 a13 h13
        v294 v310 v331 v333 v338 v354 v375 v377 X3 X4 f10 f11 f13 11).2.2)
      (dkEnd H0 H1 K V 64 D) (dvEnd H0 H1 K 64 E) (accEnd H0 H1 K V 64 A) := by
  have ht : k0_t4_loop.trips = 11 := by decide +kernel
  refine loop_fold H0 H1 K V 64 hX3 hX4 o0 o1 h 11
    (fun k => pb_k0_t4 (F := 𝕀) 𝒱 c bd i a2 h2 a3 h3 a4 h4 a5 h5 a6 h6 a7 h7 a8 h8 a9 h9 a10 h10 a11 h11 a12 h12 a13 h13
        v294 v310 v331 v333 v338 v354 v375 v377 X3 X4 f10 f11 f13 k) rfl (fun k hk => ?_) 11 (Nat.le_refl _)
  exact ⟨k0_off4 ⟨k, ht ▸ hk⟩, k0_off4_inb _, k0_off4_eq _,
    (pb_k0_t4_succ (F := 𝕀) 𝒱 c bd i a2 h2 a3 h3 a4 h4 a5 h5 a6 h6 a7 h7 a8 h8 a9 h9 a10 h10 a11 h11 a12 h12 a13 h13
      v294 v310 v331 v333 v338 v354 v375 v377 X3 X4 f10 f11 f13 ⟨k, ht ▸ hk⟩).trans (by rw [trip_t4])⟩

end Loops

end Cert.Attn

end
-- ==== Proof.HeadValue.lean ====
/- What the body of the gradient's call prepares for one head from the blocks it reads: the gradient of the head's output,
   its row sums, the rows' logarithms, and the gradient of the gate. -/
module

public import proofs.«01_k».proof.Proof.LoopFold

@[expose] public section

set_option maxRecDepth 16384

noncomputable section

namespace Cert.Attn

open Finset Idealize.ShloMosaic Idealize.ShloMosaic.Tactic
open Cert.KernelIdeal Cert.KernelIdeal.Gen

local notation "𝕀" => Idealize.ShloMosaic.Ideal

/-- The logistic function over the extended reals, of a real. -/
theorem logi_coe (x : ℝ) : Idealize.ShloMosaic.Ideal.div (1 : EReal) (1 + Idealize.ShloMosaic.Ideal.exp (0 - (x : EReal))) = ((logi x : ℝ) : EReal) := by
  have h : (0 : EReal) - (x : EReal) = ((-x : ℝ) : EReal) := by rw [zero_sub, EReal.coe_neg]
  have hp : (1 + Real.exp (-x)) ≠ 0 := (add_pos one_pos (Real.exp_pos _)).ne'
  rw [h, Ideal.exp_coe, ← EReal.coe_one, ← EReal.coe_add, Ideal.div_coe hp, ← EReal.coe_mul, one_mul, logi]

variable (z g o f : ℕ → ℕ → ℝ)

/-- The gradient of the gate of one head. -/
def dzT (z g o : ℕ → ℕ → ℝ) (r c : ℕ) : ℝ := g r c * o r c * (logi (z r c) * (1 + z r c * (1 - logi (z r c))))

/-- The gradient of a head's output. -/
theorem pay44_eq : k0_pay44 (F := Ideal) (re2 z) (re2 g) = re2 (dov z g) := by
  funext j
  idx_vars j
  pointwise [k0_pay44, k0_pay42, k0_pay43]
  simp only [re2_ix2, Ideal.ofBits_zero_f32, Ideal.ofBits_one_f32]
  rw [logi_coe, ← EReal.coe_mul, ← EReal.coe_mul]
  rfl

/-- The gradient of a head's gate. -/
theorem pay45_eq : k0_pay45 (F := Ideal) (re2 o) (re2 z) (re2 g) = re2 (dzT z g o) := by
  funext j
  idx_vars j
  pointwise [k0_pay45, k0_pay41, k0_pay42, k0_pay43]
  simp only [re2_ix2, Ideal.ofBits_zero_f32, Ideal.ofBits_one_f32]
  rw [logi_coe, ← EReal.coe_one, ← EReal.coe_sub, ← EReal.coe_mul, ← EReal.coe_mul, ← EReal.coe_add, ← EReal.coe_mul, ← EReal.coe_mul]
  rfl

/-- The row sums of a head. -/
theorem pay46_eq : k0_pay46 (F := Ideal) (k0_pay41 (re2 o)) (re2 f) = re2 fun r _ => ∑ d ∈ range 64, f r d * o r d := by
  funext j
  idx_vars j
  obtain rfl : j1 = 0 := Subsingleton.elim _ _
  pointwise [k0_pay46, k0_pay41]
  simp only [re2_ix2]
  exact coe_dot 64 (fun d => f _ d) (fun d => o _ d)

/-- The rows' logarithms of a head. -/
theorem pay47_eq (L : ℕ → ℕ → ℕ → ℝ) : k0_pay47 (F := Ideal) (re3 L) = re2 fun r _ => L 0 r 0 := by
  funext j
  idx_vars j
  obtain rfl : j1 = 0 := Subsingleton.elim _ _
  pointwise [k0_pay47]
  rfl

/-- An accumulator is set to zero. -/
theorem pay48_eq : k0_pay48 (F := Ideal) = re3 fun _ _ _ => 0 := by
  funext j
  idx_vars j
  obtain rfl : j0 = 0 := Subsingleton.elim _ _
  pointwise [k0_pay48]
  rfl

/-- A gradient is set to zero. -/
theorem pay39_eq : k0_pay39 (F := Ideal) = re2 fun _ _ => 0 := by
  funext j
  idx_vars j
  pointwise [k0_pay39]
  rfl

/-- An accumulator, stored. -/
theorem pay62_eq (A : ℕ → ℕ → ℕ → ℝ) : k0_pay62 (F := Ideal) (re3 A) = re2 (A 0) := by
  funext j
  idx_vars j
  pointwise [k0_pay62]
  rfl

end Cert.Attn

end
-- ==== Proof.Body.lean ====
/- The four loops of the body at one grid point, over the blocks the point reads. -/
module

public import proofs.«01_k».proof.Proof.HeadValue
public import proofs.«01_k».proof.Proof.Gen.KernelIdeal.Frame

@[expose] public section

set_option maxRecDepth 16384

noncomputable section

namespace Cert.Attn

open Finset Idealize.ShloMosaic Idealize.ShloMosaic.Tactic
open Cert.KernelIdeal Cert.KernelIdeal.Gen

local notation "𝕀" => Idealize.ShloMosaic.Ideal

/-- The real operands of head `j` of a block: queries, gate, incoming gradient, output and logarithms. -/
def blockHead (Q Z G O : ℕ → ℕ → ℝ) (L : ℕ → ℕ → ℕ → ℝ) (j : ℕ) : Head where
  q := cols Q (64 * j)
  g := cols (dov Z G) (64 * j)
  dl := fun r _ => ∑ d ∈ range 64, cols (dov Z G) (64 * j) r d * cols O (64 * j) r d
  l := fun r _ => L 0 r j

/-- The columns of a head of a block of queries, loaded. -/
theorem head_bf16 (F : ℕ → ℕ → ℝ) {a : Memref sig .tc .vmem S512x512 .bf16} (h : a.IsWhole) (j : ℕ) {off : Fin 2 → ℕ}
    (hoff : off = ![0, 64 * j]) (inb : ∀ x, off x + S512x64.size x ≤ S512x512.size x) :
    a.view.readAt VI (Rect.unit (s := S512x512) off S512x64.size inb).toLoadRect (h.unread (re2 F)) = re2 (cols F (64 * j)) := by
  refine (readAt_block (Val := VI) (e := .bf16) Real.toEReal a.view _ F (h.read_unread _) 0 (64 * j) hoff inb).trans ?_
  funext y
  rw [Nat.zero_add]
  rfl

/-- The columns of a head of a block of outputs, loaded. -/
theorem head_f32 (F : ℕ → ℕ → ℝ) {a : Memref sig .tc .vmem S512x512 .f32} (h : a.IsWhole) (j : ℕ) {off : Fin 2 → ℕ}
    (hoff : off = ![0, 64 * j]) (inb : ∀ x, off x + S512x64.size x ≤ S512x512.size x) :
    a.view.readAt VI (Rect.unit (s := S512x512) off S512x64.size inb).toLoadRect (h.unread (re2 F)) = re2 (cols F (64 * j)) := by
  refine (readAt_block (Val := VI) (e := .f32) Real.toEReal a.view _ F (h.read_unread _) 0 (64 * j) hoff inb).trans ?_
  funext y
  rw [Nat.zero_add]
  rfl

/-- The logarithms of a head, loaded. -/
theorem head_lse (L : ℕ → ℕ → ℕ → ℝ) {a : Memref sig .tc .vmem S1x512x8 .f32} (h : a.IsWhole) (j : ℕ) {off : Fin 3 → ℕ}
    (hoff : off = ![0, 0, j]) (inb : ∀ x, off x + S1x512x1.size x ≤ S1x512x8.size x) :
    a.view.readAt VI (Rect.unit (s := S1x512x8) off S1x512x1.size inb).toLoadRect (h.unread (re3 L))
      = re3 fun _ r d => L 0 r (j + d) := by
  refine (readAt_plane (Val := VI) (e := .f32) Real.toEReal a.view _ L (h.read_unread _) 0 0 512 1 j hoff inb).trans ?_
  funext y
  rw [Nat.zero_add]
  rfl

/-- What the body prepares for head `j` is that head's real operands. -/
theorem operand_of {a2 : Memref sig .tc .vmem S512x512 .bf16} (h2 : a2.IsWhole) {a5 : Memref sig .tc .vmem S512x512 .bf16}
    (h5 : a5.IsWhole) {a6 : Memref sig .tc .vmem S512x512 .bf16} (h6 : a6.IsWhole) {a7 : Memref sig .tc .vmem S512x512 .f32}
    (h7 : a7.IsWhole) {a8 : Memref sig .tc .vmem S1x512x8 .f32} (h8 : a8.IsWhole)
    (Q Z G O : ℕ → ℕ → ℝ) (L : ℕ → ℕ → ℕ → ℝ) (j : ℕ) {off : Fin 2 → ℕ}
    (hoff : off = ![0, 64 * j]) (inb : ∀ x, off x + S512x64.size x ≤ S512x512.size x) {off3 : Fin 3 → ℕ}
    (hoff3 : off3 = ![0, 0, j]) (inb3 : ∀ x, off3 x + S1x512x1.size x ≤ S1x512x8.size x) :
    Operand (blockHead Q Z G O L j)
      (a2.view.readAt VI (Rect.unit (s := S512x512) off S512x64.size inb).toLoadRect (h2.unread (re2 Q)))
      (k0_pay44 (F := 𝕀) (a6.view.readAt VI (Rect.unit (s := S512x512) off S512x64.size inb).toLoadRect (h6.unread (re2 Z)))
        (a5.view.readAt VI (Rect.unit (s := S512x512) off S512x64.size inb).toLoadRect (h5.unread (re2 G))))
      (k0_pay46 (F := 𝕀)
        (k0_pay41 (F := 𝕀) (a7.view.readAt VI (Rect.unit (s := S512x512) off S512x64.size inb).toLoadRect (h7.unread (re2 O))))
        (k0_pay44 (F := 𝕀) (a6.view.readAt VI (Rect.unit (s := S512x512) off S512x64.size inb).toLoadRect (h6.unread (re2 Z)))
          (a5.view.readAt VI (Rect.unit (s := S512x512) off S512x64.size inb).toLoadRect (h5.unread (re2 G)))))
      (k0_pay47 (F := 𝕀) (a8.view.readAt VI (Rect.unit (s := S1x512x8) off3 S1x512x1.size inb3).toLoadRect (h8.unread (re3 L)))) := by
  rw [head_bf16 Q h2 j hoff, head_bf16 Z h6 j hoff, head_bf16 G h5 j hoff, head_f32 O h7 j hoff, head_lse L h8 j hoff3,
    pay44_eq, pay46_eq, pay47_eq]
  exact ⟨rfl, rfl, rfl, rfl⟩

section Loops

variable (c : Dev nD) (i : grid0.Coords)
  (a2 : Memref sig .tc .vmem S512x512 .bf16) (h2 : a2.IsWhole)
  (a3 : Memref sig .tc .vmem S8448x128 .bf16) (h3 : a3.IsWhole)
  (a4 : Memref sig .tc .vmem S8448x128 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .f32) (h7 : a7.IsWhole)
  (a8 : Memref sig .tc .vmem S1x512x8 .f32) (h8 : a8.IsWhole)
  (a9 : Memref sig .tc .vmem S512x512 .bf16) (h9 : a9.IsWhole)
  (a10 : Memref sig .tc .vmem S8448x128 .f32) (h10 : a10.IsWhole)
  (a11 : Memref sig .tc .vmem S8448x128 .f32) (h11 : a11.IsWhole)
  (a12 : Memref sig .tc .vmem S512x512 .bf16) (h12 : a12.IsWhole)
  (a13 : Memref sig .tc .vmem S2x512x64 .f32) (h13 : a13.IsWhole)
  (x0 : Vec 𝕀 S512x512 .bf16) (x1 : Vec 𝕀 S8448x128 .bf16) (x2 : Vec 𝕀 S8448x128 .bf16) (x3 : Vec 𝕀 S512x512 .bf16)
  (x4 : Vec 𝕀 S512x512 .bf16) (x5 : Vec 𝕀 S512x512 .f32) (x6 : Vec 𝕀 S1x512x8 .f32)
  (f10 : BufTy.Contents VI a10.view.ty) (f11 : BufTy.Contents VI a11.view.ty) (f13 : BufTy.Contents VI a13.view.ty)

/-- What the first loop writes. -/
def P1 : List (View.Piece VI S8448x128 .f32) × List (View.Piece VI S8448x128 .f32) × List (View.Piece VI S2x512x64 .f32) :=
  pb_k0_t1 (F := 𝕀) Variants.none c none i a2 h2 a3 h3 a4 h4 a5 h5 a6 h6 a7 h7 a8 h8 a9 h9 a10 h10 a11 h11 a12 h12 a13 h13
    (kernelRun0_A.sl.r c a2 h2 x0) (kernelRun0_A.sl.r_2 c a5 h5 a6 h6 x3 x4) (kernelRun0_A.sl.r_4 c a5 h5 a6 h6 a7 h7 x3 x4 x5) (kernelRun0_A.sl.r_5 c a8 h8 x6) (kernelRun0_A.sl.r_6 c a2 h2 x0) (kernelRun0_A.sl.r_7 c a7 h7 x5) (kernelRun0_A.sl.r_8 c a6 h6 x4) (kernelRun0_A.sl.r_9 c a5 h5 a6 h6 x3 x4) (kernelRun0_A.sl.r_10 c a5 h5 a7 h7 x3 x5) (kernelRun0_A.sl.r_11 c a6 h6 x4) (kernelRun0_A.sl.cst_38 (F := 𝕀)) (View.readAt (Elt 𝕀) a8.view (Rect.unit (s := S1x512x8) ![0, 0, 1] S1x512x1.size inb_S1x512x8_S1x512x1_0_0_1).toLoadRect (h8.unread x6))
    (h3.unread x1) (h4.unread x2) f10 f11 f13 11

/-- What the second loop writes. -/
def P2 : List (View.Piece VI S8448x128 .f32) × List (View.Piece VI S8448x128 .f32) × List (View.Piece VI S2x512x64 .f32) :=
  pb_k0_t2 (F := 𝕀) Variants.none c none i a2 h2 a3 h3 a4 h4 a5 h5 a6 h6 a7 h7 a8 h8 a9 h9 a10 h10 a11 h11 a12 h12 a13 h13
    (kernelRun0_A.sl.r_12 c a2 h2 x0) (kernelRun0_A.sl.r_13 c a5 h5 a6 h6 x3 x4) (kernelRun0_A.sl.r_14 c a5 h5 a6 h6 a7 h7 x3 x4 x5) (kernelRun0_A.sl.r_16 c a8 h8 x6) (kernelRun0_A.sl.r_17 c a2 h2 x0) (kernelRun0_A.sl.r_18 c a7 h7 x5) (kernelRun0_A.sl.r_19 c a5 h5 a6 h6 x3 x4) (kernelRun0_A.sl.r_20 c a5 h5 a6 h6 a7 h7 x3 x4 x5) (View.readAt (Elt 𝕀) a8.view (Rect.unit (s := S1x512x8) ![0, 0, 3] S1x512x1.size inb_S1x512x8_S1x512x1_0_0_3).toLoadRect (h8.unread x6))
    (h3.unread x1) (h4.unread x2) f10 f11 f13 11

/-- What the third loop writes. -/
def P3 : List (View.Piece VI S8448x128 .f32) × List (View.Piece VI S8448x128 .f32) × List (View.Piece VI S2x512x64 .f32) :=
  pb_k0_t3 (F := 𝕀) Variants.none c none i a2 h2 a3 h3 a4 h4 a5 h5 a6 h6 a7 h7 a8 h8 a9 h9 a10 h10 a11 h11 a12 h12 a13 h13
    (kernelRun0_A.sl.r_21 c a2 h2 x0) (kernelRun0_A.sl.r_24 c a5 h5 a6 h6 x3 x4) (kernelRun0_A.sl.r_25 c a5 h5 a6 h6 a7 h7 x3 x4 x5) (kernelRun0_A.sl.r_26 c a8 h8 x6) (kernelRun0_A.sl.r_27 c a2 h2 x0) (kernelRun0_A.sl.r_28 c a5 h5 a6 h6 x3 x4) (kernelRun0_A.sl.r_29 c a5 h5 a6 h6 a7 h7 x3 x4 x5) (View.readAt (Elt 𝕀) a8.view (Rect.unit (s := S1x512x8) ![0, 0, 5] S1x512x1.size inb_S1x512x8_S1x512x1_0_0_5).toLoadRect (h8.unread x6))
    (h3.unread x1) (h4.unread x2) f10 f11 f13 11

/-- What the fourth loop writes. -/
def P4 : List (View.Piece VI S8448x128 .f32) × List (View.Piece VI S8448x128 .f32) × List (View.Piece VI S2x512x64 .f32) :=
  pb_k0_t4 (F := 𝕀) Variants.none c none i a2 h2 a3 h3 a4 h4 a5 h5 a6 h6 a7 h7 a8 h8 a9 h9 a10 h10 a11 h11 a12 h12 a13 h13
    (kernelRun0_A.sl.r_30 c a2 h2 x0) (kernelRun0_A.sl.r_35 c a5 h5 a6 h6 x3 x4) (kernelRun0_A.sl.r_36 c a5 h5 a6 h6 a7 h7 x3 x4 x5) (kernelRun0_A.sl.r_37 c a8 h8 x6) (kernelRun0_A.sl.r_38 c a2 h2 x0) (kernelRun0_A.sl.r_41 c a5 h5 a6 h6 x3 x4) (kernelRun0_A.sl.r_42 c a5 h5 a6 h6 a7 h7 x3 x4 x5) (kernelRun0_A.sl.r_43 c a8 h8 x6)
    (h3.unread x1) (h4.unread x2) f10 f11 f13 11

/-- What the first loop leaves. -/
theorem P1_holds (Q K V Z G O : ℕ → ℕ → ℝ) (L : ℕ → ℕ → ℕ → ℝ) (D E : ℕ → ℕ → ℝ) (A : ℕ → ℕ → ℕ → ℝ)
    (h : Holds a10 a11 a13 f10 f11 f13 D E A) :
    Holds a10 a11 a13
      (a10.view.writes VI f10 (P1 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).1)
      (a11.view.writes VI f11 (P1 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.1)
      (a13.view.writes VI f13 (P1 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.2)
      (dkEnd (blockHead Q Z G O L 0) (blockHead Q Z G O L 1) K V 0 D)
      (dvEnd (blockHead Q Z G O L 0) (blockHead Q Z G O L 1) K 0 E)
      (accEnd (blockHead Q Z G O L 0) (blockHead Q Z G O L 1) K V 0 A) :=
  loop_t1 (blockHead Q Z G O L 0) (blockHead Q Z G O L 1) K V Variants.none c none i a2 h2 a3 h3 a4 h4 a5 h5 a6 h6 a7 h7 a8 h8 a9 h9 a10 h10 a11 h11 a12 h12 a13 h13
    _ _ (h3.read_unread _) (h4.read_unread _) f10 f11 f13 D E A h
    _ _ _ _ _ _ _ _ _ _ _ _
    (operand_of h2 h5 h6 h7 h8 Q Z G O L 0 rfl inb_S512x512_S512x64_0_0 rfl inb_S1x512x8_S1x512x1_0_0_0)
    (operand_of h2 h5 h6 h7 h8 Q Z G O L 1 rfl inb_S512x512_S512x64_0_64 rfl inb_S1x512x8_S1x512x1_0_0_1)

/-- What the second loop leaves. -/
theorem P2_holds (Q K V Z G O : ℕ → ℕ → ℝ) (L : ℕ → ℕ → ℕ → ℝ) (D E : ℕ → ℕ → ℝ) (A : ℕ → ℕ → ℕ → ℝ)
    (h : Holds a10 a11 a13 f10 f11 f13 D E A) :
    Holds a10 a11 a13
      (a10.view.writes VI f10 (P2 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).1)
      (a11.view.writes VI f11 (P2 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.1)
      (a13.view.writes VI f13 (P2 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.2)
      (dkEnd (blockHead Q Z G O L 2) (blockHead Q Z G O L 3) K V 0 D)
      (dvEnd (blockHead Q Z G O L 2) (blockHead Q Z G O L 3) K 0 E)
      (accEnd (blockHead Q Z G O L 2) (blockHead Q Z G O L 3) K V 0 A) :=
  loop_t2 (blockHead Q Z G O L 2) (blockHead Q Z G O L 3) K V Variants.none c none i a2 h2 a3 h3 a4 h4 a5 h5 a6 h6 a7 h7 a8 h8 a9 h9 a10 h10 a11 h11 a12 h12 a13 h13
    _ _ (h3.read_unread _) (h4.read_unread _) f10 f11 f13 D E A h
    _ _ _ _ _ _ _ _ _
    (operand_of h2 h5 h6 h7 h8 Q Z G O L 2 rfl inb_S512x512_S512x64_0_128 rfl inb_S1x512x8_S1x512x1_0_0_2)
    (operand_of h2 h5 h6 h7 h8 Q Z G O L 3 rfl inb_S512x512_S512x64_0_192 rfl inb_S1x512x8_S1x512x1_0_0_3)

/-- What the third loop leaves. -/
theorem P3_holds (Q K V Z G O : ℕ → ℕ → ℝ) (L : ℕ → ℕ → ℕ → ℝ) (D E : ℕ → ℕ → ℝ) (A : ℕ → ℕ → ℕ → ℝ)
    (h : Holds a10 a11 a13 f10 f11 f13 D E A) :
    Holds a10 a11 a13
      (a10.view.writes VI f10 (P3 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).1)
      (a11.view.writes VI f11 (P3 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.1)
      (a13.view.writes VI f13 (P3 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.2)
      (dkEnd (blockHead Q Z G O L 4) (blockHead Q Z G O L 5) K V 64 D)
      (dvEnd (blockHead Q Z G O L 4) (blockHead Q Z G O L 5) K 64 E)
      (accEnd (blockHead Q Z G O L 4) (blockHead Q Z G O L 5) K V 64 A) :=
  loop_t3 (blockHead Q Z G O L 4) (blockHead Q Z G O L 5) K V Variants.none c none i a2 h2 a3 h3 a4 h4 a5 h5 a6 h6 a7 h7 a8 h8 a9 h9 a10 h10 a11 h11 a12 h12 a13 h13
    _ _ (h3.read_unread _) (h4.read_unread _) f10 f11 f13 D E A h
    _ _ _ _ _ _ _ _
    (operand_of h2 h5 h6 h7 h8 Q Z G O L 4 rfl inb_S512x512_S512x64_0_256 rfl inb_S1x512x8_S1x512x1_0_0_4)
    (operand_of h2 h5 h6 h7 h8 Q Z G O L 5 rfl inb_S512x512_S512x64_0_320 rfl inb_S1x512x8_S1x512x1_0_0_5)

/-- What the fourth loop leaves. -/
theorem P4_holds (Q K V Z G O : ℕ → ℕ → ℝ) (L : ℕ → ℕ → ℕ → ℝ) (D E : ℕ → ℕ → ℝ) (A : ℕ → ℕ → ℕ → ℝ)
    (h : Holds a10 a11 a13 f10 f11 f13 D E A) :
    Holds a10 a11 a13
      (a10.view.writes VI f10 (P4 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).1)
      (a11.view.writes VI f11 (P4 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.1)
      (a13.view.writes VI f13 (P4 c i a2 h2 a3 h3 a4 h4 a5 h5 a6 h6 a7 h7 a8 h8 a9 h9 a10 h10 a11 h11 a12 h12 a13 h13 (re2 Q) (re2 K) (re2 V) (re2 G) (re2 Z) (re2 O) (re3 L) f10 f11 f13).2.2)
      (dkEnd (blockHead Q Z G O L 6) (blockHead Q Z G O L 7) K V 64 D)
      (dvEnd (blockHead Q Z G O L 6) (blockHead Q Z G O L 7) K 64 E)
      (accEnd (blockHead Q Z G O L 6) (blockHead Q Z G O L 7) K V 64 A) :=
  loop_t4 (blockHead Q Z G O L 6) (blockHead Q Z G O L 7) K V Variants.none c none i a2 h2 a3 h3 a4 h4 a5 h5 a6 h6 a7 h7 a8 h8 a9 h9 a10 h10 a11 h11 a12 h12 a13 h13
    _ _ (h3.read_unread _) (h4.read_unread _) f10 f11 f13 D E A h
    _ _ _ _ _ _ _ _
    (operand_of h2 h5 h6 h7 h8 Q Z G O L 6 rfl inb_S512x512_S512x64_0_384 rfl inb_S1x512x8_S1x512x1_0_0_6)
    (operand_of h2 h5 h6 h7 h8 Q Z G O L 7 rfl inb_S512x512_S512x64_0_448 rfl inb_S1x512x8_S1x512x1_0_0_7)

end Loops

end Cert.Attn

end
-- ==== Proof.Point.lean ====
/- What the body stores at one grid point, in its two cases, as the four loops' writes one after the other. -/
module

public import proofs.«01_k».proof.Proof.Body

@[expose] public section

set_option maxRecDepth 16384

noncomputable section

namespace Cert.Attn

open Finset Idealize.ShloMosaic Idealize.ShloMosaic.Tactic
open Cert.KernelIdeal Cert.KernelIdeal.Gen

local notation "𝕀" => Idealize.ShloMosaic.Ideal

/-- The stores that set a gradient to zero. -/
def zero2 : List (View.Piece VI S8448x128 .f32) :=
  [⟨Rect.unit (s := S8448x128) ![0, 0] S8448x128.size inb_S8448x128_S8448x128_0_0, k0_pay39 (F := 𝕀)⟩]

/-- The stores that set the two accumulators to zero. -/
def zero3 : List (View.Piece VI S2x512x64 .f32) :=
  [⟨Rect.unit (s := S2x512x64) ![1, 0, 0] S1x512x64.size inb_S2x512x64_S1x512x64_1_0_0, k0_pay48 (F := 𝕀)⟩,
    ⟨Rect.unit (s := S2x512x64) ![0, 0, 0] S1x512x64.size inb_S2x512x64_S1x512x64_0_0_0, k0_pay48 (F := 𝕀)⟩]

section Case

variable (c : Dev nD) (i : grid0.Coords)
  (a2 : Memref sig .tc .vmem S512x512 .bf16) (h2 : a2.IsWhole)
  (a3 : Memref sig .tc .vmem S8448x128 .bf16) (h3 : a3.IsWhole)
  (a4 : Memref sig .tc .vmem S8448x128 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .f32) (h7 : a7.IsWhole)
  (a8 : Memref sig .tc .vmem S1x512x8 .f32) (h8 : a8.IsWhole)
  (a9 : Memref sig .tc .vmem S512x512 .bf16) (h9 : a9.IsWhole)
  (a10 : Memref sig .tc .vmem S8448x128 .f32) (h10 : a10.IsWhole)
  (a11 : Memref sig .tc .vmem S8448x128 .f32) (h11 : a11.IsWhole)
  (a12 : Memref sig .tc .vmem S512x512 .bf16) (h12 : a12.IsWhole)
  (a13 : Memref sig .tc .vmem S2x512x64 .f32) (h13 : a13.IsWhole)
  (x0 : Vec 𝕀 S512x512 .bf16) (x1 : Vec 𝕀 S8448x128 .bf16) (x2 : Vec 𝕀 S8448x128 .bf16) (x3 : Vec 𝕀 S512x512 .bf16)
  (x4 : Vec 𝕀 S512x512 .bf16) (x5 : Vec 𝕀 S512x512 .f32) (x6 : Vec 𝕀 S1x512x8 .f32)

/-- The eight stores of the queries' gradient, from the accumulators after each of the four loops. -/
def dqPieces (A1 A2 A3 A4 : List (View.Piece VI S2x512x64 .f32)) : List (View.Piece VI S512x512 .bf16) :=
  [⟨Rect.unit (s := S512x512) ![0, 448] S512x64.size inb_S512x512_S512x64_0_448, k0_pay62 (F := 𝕀)
      (a13.view.readCov A4 (Rect.unit (s := S2x512x64) ![1, 0, 0] S1x512x64.size inb_S2x512x64_S1x512x64_1_0_0).toLoadRect)⟩,
    ⟨Rect.unit (s := S512x512) ![0, 384] S512x64.size inb_S512x512_S512x64_0_384, k0_pay62 (F := 𝕀)
      (a13.view.readCov A4 (Rect.unit (s := S2x512x64) ![0, 0, 0] S1x512x64.size inb_S2x512x64_S1x512x64_0_0_0).toLoadRect)⟩,
    ⟨Rect.unit (s := S512x512) ![0, 320] S512x64.size inb_S512x512_S512x64_0_320, k0_pay62 (F := 𝕀)
      (a13.view.readCov A3 (Rect.unit (s := S2x512x64) ![1, 0, 0] S1x512x64.size inb_S2x512x64_S1x512x64_1_0_0).toLoadRect)⟩,
    ⟨Rect.unit (s := S512x512) ![0, 256] S512x64.size inb_S512x512_S512x64_0_256, k0_pay62 (F := 𝕀)
      (a13.view.readCov A3 (Rect.unit (s := S2x512x64) ![0, 0, 0] S1x512x64.size inb_S2x512x64_S1x512x64_0_0_0).toLoadRect)⟩,
    ⟨Rect.unit (s := S512x512) ![0, 192] S512x64.size inb_S512x512_S512x64_0_192, k0_pay62 (F := 𝕀)
      (a13.view.readCov A2 (Rect.unit (s := S2x512x64) ![1, 0, 0] S1x512x64.size inb_S2x512x64_S1x512x64_1_0_0).toLoadRect)⟩,
    ⟨Rect.unit (s := S512x512) ![0, 128] S512x64.size inb_S512x512_S512x64_0_128, k0_pay62 (F := 𝕀)
      (a13.view.readCov A2 (Rect.unit (s := S2x512x64) ![0, 0, 0] S1x512x64.size inb_S2x512x64_S1x512x64_0_0_0).toLoadRect)⟩,
    ⟨Rect.unit (s := S512x512) ![0, 64] S512x64.size inb_S512x512_S512x64_0_64, k0_pay62 (F := 𝕀)
      (a13.view.readCov A1 (Rect.unit (s := S2x512x64) ![1, 0, 0] S1x512x64.size inb_S2x512x64_S1x512x64_1_0_0).toLoadRect)⟩,
    ⟨Rect.unit (s := S512x512) ![0, 0] S512x64.size inb_S512x512_S512x64_0_0, k0_pay62 (F := 𝕀)
      (a13.view.readCov A1 (Rect.unit (s := S2x512x64) ![0, 0, 0] S1x512x64.size inb_S2x512x64_S1x512x64_0_0_0).toLoadRect)⟩]

/-- The eight stores of the gate's gradient. -/
def dzPieces : List (View.Piece VI S512x512 .bf16) :=
  [⟨Rect.unit (s := S512x512) ![0, 448] S512x64.size inb_S512x512_S512x64_0_448, k0_pay45 (F := 𝕀)
      (a7.view.readAt VI (Rect.unit (s := S512x512) ![0, 448] S512x64.size inb_S512x512_S512x64_0_448).toLoadRect (h7.unread x5))
      (a6.view.readAt VI (Rect.unit (s := S512x512) ![0, 448] S512x64.size inb_S512x512_S512x64_0_448).toLoadRect (h6.unread x4))
      (a5.view.readAt VI (Rect.unit (s := S512x512) ![0, 448] S512x64.size inb_S512x512_S512x64_0_448).toLoadRect (h5.unread x3))⟩,
    ⟨Rect.unit (s := S512x512) ![0, 384] S512x64.size inb_S512x512_S512x64_0_384, k0_pay45 (F := 𝕀)
      (a7.view.readAt VI (Rect.unit (s := S512x512) ![0, 384] S512x64.size inb_S512x512_S512x64_0_384).toLoadRect (h7.unread x5))
      (a6.view.readAt VI (Rect.unit (s := S512x512) ![0, 384] S512x64.size inb_S512x512_S512x64_0_384).toLoadRect (h6.unread x4))
      (a5.view.readAt VI (Rect.unit (s := S512x512) ![0, 384] S512x64.size inb_S512x512_S512x64_0_384).toLoadRect (h5.unread x3))⟩,
    ⟨Rect.unit (s := S512x512) ![0, 320] S512x64.size inb_S512x512_S512x64_0_320, k0_pay45 (F := 𝕀)
      (a7.view.readAt VI (Rect.unit (s := S512x512) ![0, 320] S512x64.size inb_S512x512_S512x64_0_320).toLoadRect (h7.unread x5))
      (a6.view.readAt VI (Rect.unit (s := S512x512) ![0, 320] S512x64.size inb_S512x512_S512x64_0_320).toLoadRect (h6.unread x4))
      (a5.view.readAt VI (Rect.unit (s := S512x512) ![0, 320] S512x64.size inb_S512x512_S512x64_0_320).toLoadRect (h5.unread x3))⟩,
    ⟨Rect.unit (s := S512x512) ![0, 256] S512x64.size inb_S512x512_S512x64_0_256, k0_pay45 (F := 𝕀)
      (a7.view.readAt VI (Rect.unit (s := S512x512) ![0, 256] S512x64.size inb_S512x512_S512x64_0_256).toLoadRect (h7.unread x5))
      (a6.view.readAt VI (Rect.unit (s := S512x512) ![0, 256] S512x64.size inb_S512x512_S512x64_0_256).toLoadRect (h6.unread x4))
      (a5.view.readAt VI (Rect.unit (s := S512x512) ![0, 256] S512x64.size inb_S512x512_S512x64_0_256).toLoadRect (h5.unread x3))⟩,
    ⟨Rect.unit (s := S512x512) ![0, 192] S512x64.size inb_S512x512_S512x64_0_192, k0_pay45 (F := 𝕀)
      (a7.view.readAt VI (Rect.unit (s := S512x512) ![0, 192] S512x64.size inb_S512x512_S512x64_0_192).toLoadRect (h7.unread x5))
      (a6.view.readAt VI (Rect.unit (s := S512x512) ![0, 192] S512x64.size inb_S512x512_S512x64_0_192).toLoadRect (h6.unread x4))
      (a5.view.readAt VI (Rect.unit (s := S512x512) ![0, 192] S512x64.size inb_S512x512_S512x64_0_192).toLoadRect (h5.unread x3))⟩,
    ⟨Rect.unit (s := S512x512) ![0, 128] S512x64.size inb_S512x512_S512x64_0_128, k0_pay45 (F := 𝕀)
      (a7.view.readAt VI (Rect.unit (s := S512x512) ![0, 128] S512x64.size inb_S512x512_S512x64_0_128).toLoadRect (h7.unread x5))
      (a6.view.readAt VI (Rect.unit (s := S512x512) ![0, 128] S512x64.size inb_S512x512_S512x64_0_128).toLoadRect (h6.unread x4))
      (a5.view.readAt VI (Rect.unit (s := S512x512) ![0, 128] S512x64.size inb_S512x512_S512x64_0_128).toLoadRect (h5.unread x3))⟩,
    ⟨Rect.unit (s := S512x512) ![0, 64] S512x64.size inb_S512x512_S512x64_0_64, k0_pay45 (F := 𝕀)
      (a7.view.readAt VI (Rect.unit (s := S512x512) ![0, 64] S512x64.size inb_S512x512_S512x64_0_64).toLoadRect (h7.unread x5))
      (a6.view.readAt VI (Rect.unit (s := S512x512) ![0, 64] S512x64.size inb_S512x512_S512x64_0_64).toLoadRect (h6.unread x4))
      (a5.view.readAt VI (Rect.unit (s := S512x512) ![0, 64] S512x64.size inb_S512x512_S512x64_0_64).toLoadRect (h5.unread x3))⟩,
    ⟨Rect.unit (s := S512x512) ![0, 0] S512x64.size inb_S512x512_S512x64_0_0, k0_pay45 (F := 𝕀)
      (a7.view.readAt VI (Rect.unit (s := S512x512) ![0, 0] S512x64.size inb_S512x512_S512x64_0_0).toLoadRect (h7.unread x5))
      (a6.view.readAt VI (Rect.unit (s := S512x512) ![0, 0] S512x64.size inb_S512x512_S512x64_0_0).toLoadRect (h6.unread x4))
      (a5.view.readAt VI (Rect.unit (s := S512x512) ![0, 0] S512x64.size inb_S512x512_S512x64_0_0).toLoadRect (h5.unread x3))⟩]

/-! The first point of a block: the gradients start at zero. -/

/-- What the first loop writes. -/
def pA1 : List (View.Piece VI S8448x128 .f32) × List (View.Piece VI S8448x128 .f32) × List (View.Piece VI S2x512x64 .f32) :=
  P1 c i a2 h2 a3 h3 a4 h4 a5 h5 a6 h6 a7 h7 a8 h8 a9 h9 a10 h10 a11 h11 a12 h12 a13 h13 x0 x1 x2 x3 x4 x5 x6
    (a10.view.writes VI a10.view.junk zero2)
    (a11.view.writes VI a11.view.junk zero2)
    (a13.view.writes VI a13.view.junk zero3)

/-- All the stores of the keys' gradient up to the end of the first loop. -/
def keysA1 : List (View.Piece VI S8448x128 .f32) := (pA1 c i a2 h2 a3 h3 a4 h4 a5 h5 a6 h6 a7 h7 a8 h8 a9 h9 a10 h10 a11 h11 a12 h12 a13 h13 x0 x1 x2 x3 x4 x5 x6).1 ++ zero2

/-- All the stores of the values' gradient up to the end of the first loop. -/
def valsA1 : List (View.Piece VI S8448x128 .f32) := (pA1 c i a2 h2 a3 h3 a4 h4 a5 h5 a6 h6 a7 h7 a8 h8 a9 h9 a10 h10 a11 h11 a12 h12 a13 h13 x0 x1 x2 x3 x4 x5 x6).2.1 ++ zero2

/-- All the stores of the accumulators up to the end of the first loop. -/
def accsA1 : List (View.Piece VI S2x512x64 .f32) := (pA1 c i a2 h2 a3 h3 a4 h4 a5 h5 a6 h6 a7 h7 a8 h8 a9 h9 a10 h10 a11 h11 a12 h12 a13 h13 x0 x1 x2 x3 x4 x5 x6).2.2 ++ zero3

/-- What the second loop writes. -/
def pA2 : List (View.Piece VI S8448x128 .f32) × List (View.Piece VI S8448x128 .f32) × List (View.Piece VI S2x512x64 .f32) :=
  P2 c i a2 h2 a3 h3 a4 h4 a5 h5 a6 h6 a7 h7 a8 h8 a9 h9 a10 h10 a11 h11 a12 h12 a13 h13 x0 x1 x2 x3 x4 x5 x6
    (a10.view.writes VI a10.view.junk (keysA1 c i a2 h2 a3 h3 a4 h4 a5 h5 a6 h6 a7 h7 a8 h8 a9 h9 a10 h10 a11 h11 a12 h12 a13 h13 x0 x1 x2 x3 x4 x5 x6))
    (a11.view.writes VI a11.view.junk (valsA1 c i a2 h2 a3 h3 a4 h4 a5 h5 a6 h6 a7 h7 a8 h8 a9 h9 a10 h10 a11 h11 a12 h12 a13 h13 x0 x1 x2 x3 x4 x5 x6))
    (a13.view.writes VI a13.view.junk (zero3 ++ accsA1 c i a2 h2 a3 h3 a4 h4 a5 h5 a6 h6 a7 h7 a8 h8 a9 h9 a10 h10 a11 h11 a12 h12 a13 h13 x0 x1 x2 x3 x4 x5 x6))

/-- All the stores of the keys' gradient up to the end of the second loop. -/
def keysA2 : List (View.Piece VI S8448x128 .f32) := (pA2 c i a2 h2 a3 h3 a4 h4 a5 h5 a6 h6 a7 h7 a8 h8 a9 h9 a10 h10 a11 h11 a12 h12 a13 h13 x0 x1 x2 x3 x4 x5 x6).1 ++ keysA1 c i a2 h2 a3 h3 a4 h4 a5 h5 a6 h6 a7 h7 a8 h8 a9 h9 a10 h10 a11 h11 a12 h12 a13 h13 x0 x1 x2 x3 x4 x5 x6

/-- All the stores of the values' gradient up to the end of the second loop. -/
def valsA2 : List (View.Piece VI S8448x128 .f32) := (pA2 c i a2 h2 a3 h3 a4 h4 a5 h5 a6 h6 a7 h7 a8 h8 a9 h9 a10 h10 a11 h11 a12 h12 a13 h13 x0 x1 x2 x3 x4 x5 x6).2.1 ++ valsA1 c i a2 h2 a3 h3 a4 h4 a5 h5 a6 h6 a7 h7 a8 h8 a9 h9 a10 h10 a11 h11 a12 h12 a13 h13 x0 x1 x2 x3 x4 x5 x6

/-- All the stores of the accumulators up to the end of the second loop. -/
def accsA2 : List (View.Piece VI S2x512x64 .f32) := (pA2 c i a2 h2 a3 h3 a4 h4 a5 h5 a6 h6 a7 h7 a8 h8 a9 h9 a10 h10 a11 h11 a12 h12 a13 h13 x0 x1 x2 x3 x4 x5 x6).2.2 ++ (zero3 ++ accsA1 c i a2 h2 a3 h3 a4 h4 a5 h5 a6 h6 a7 h7 a8 h8 a9 h9 a10 h10 a11 h11 a12 h12 a13 h13 x0 x1 x2 x3 x4 x5 x6)

/-- What the third loop writes. -/
def pA3 : List (View.Piece VI S8448x128 .f32) × List (View.Piece VI S8448x128 .f32) × List (View.Piece VI S2x512x64 .f32) :=
  P3 c i a2 h2 a3 h3 a4 h4 a5 h5 a6 h6 a7 h7 a8 h8 a9 h9 a10 h10 a11 h11 a12 h12 a13 h13 x0 x1 x2 x3 x4 x5 x6
    (a10.view.writes VI a10.view.junk (keysA2 c i a2 h2 a3 h3 a4 h4 a5 h5 a6 h6 a7 h7 a8 h8 a9 h9 a10 h10 a11 h11 a12 h12 a13 h13 x0 x1 x2 x3 x4 x5 x6))
    (a11.view.writes VI a11.view.junk (valsA2 c i a2 h2 a3 h3 a4 h4 a5 h5 a6 h6 a7 h7 a8 h8 a9 h9 a10 h10 a11 h11 a12 h12 a13 h13 x0 x1 x2 x3 x4 x5 x6))
    (a13.view.writes VI a13.view.junk (zero3 ++ accsA2 c i a2 h2 a3 h3 a4 h4 a5 h5 a6 h6 a7 h7 a8 h8 a9 h9 a10 h10 a11 h11 a12 h12 a13 h13 x0 x1 x2 x3 x4 x5 x6))

/-- All the stores of the keys' gradient up to the end of the third loop. -/
def keysA3 : List (View.Piece VI S8448x128 .f32) := (pA3 c i a2 h2 a3 h3 a4 h4 a5 h5 a6 h6 a7 h7 a8 h8 a9 h9 a10 h10 a11 h11 a12 h12 a13 h13 x0 x1 x2 x3 x4 x5 x6).1 ++ keysA2 c i a2 h2 a3 h3 a4 h4 a5 h5 a6 h6 a7 h7 a8 h8 a9 h9 a10 h10 a11 h11 a12 h12 a13 h13 x0 x1 x2 x3 x4 x5 x6

/-- All the stores of the values' gradient up to the end of the third loop. -/
def valsA3 : List (View.Piece VI S8448x128 .f32) := (pA3 c i a2 h2 a3 h3 a4 h4 a5 h5 a6 h6 a7 h7 a8 h8 a9 h9 a10 h10 a11 h11 a12 h12 a13 h13 x0 x1 x2 x3 x4 x5 x6).2.1 ++ valsA2 c i a2 h2 a3 h3 a4 h4 a5 h5 a6 h6 a7 h7 a8 h8 a9 h9 a10 h10 a11 h11 a12 h12 a13 h13 x0 x1 x2 x3 x4 x5 x6

/-- All the stores of the accumulators up to the end of the third loop. -/
def accsA3 : List (View.Piece VI S2x512x64 .f32) := (pA3 c i a2 h2 a3 h3 a4 h4 a5 h5 a6 h6 a7 h7 a8 h8 a9 h9 a10 h10 a11 h11 a12 h12 a13 h13 x0 x1 x2 x3 x4 x5 x6).2.2 ++ (zero3 ++ accsA2 c i a2 h2 a3 h3 a4 h4 a5 h5 a6 h6 a7 h7 a8 h8 a9 h9 a10 h10 a11 h11 a12 h12 a13 h13 x0 x1 x2 x3 x4 x5 x6)

/-- What the fourth loop writes. -/
def pA4 : List (View.Piece VI S8448x128 .f32) × List (View.Piece VI S8448x128 .f32) × List (View.Piece VI S2x512x64 .f32) :=
  P4 c i a2 h2 a3 h3 a4 h4 a5 h5 a6 h6 a7 h7 a8 h8 a9 h9 a10 h10 a11 h11 a12 h12 a13 h13 x0 x1 x2 x3 x4 x5 x6
    (a10.view.writes VI a10.view.junk (keysA3 c i a2 h2 a3 h3 a4 h4 a5 h5 a6 h6 a7 h7 a8 h8 a9 h9 a10 h10 a11 h11 a12 h12 a13 h13 x0 x1 x2 x3 x4 x5 x6))
    (a11.view.writes VI a11.view.junk (valsA3 c i a2 h2 a3 h3 a4 h4 a5 h5 a6 h6 a7 h7 a8 h8 a9 h9 a10 h10 a11 h11 a12 h12 a13 h13 x0 x1 x2 x3 x4 x5 x6))
    (a13.view.writes VI a13.view.junk (zero3 ++ accsA3 c i a2 h2 a3 h3 a4 h4 a5 h5 a6 h6 a7 h7 a8 h8 a9 h9 a10 h10 a11 h11 a12 h12 a13 h13 x0 x1 x2 x3 x4 x5 x6))

/-- All the stores of the keys' gradient up to the end of the fourth loop. -/
def keysA4 : List (View.Piece VI S8448x128 .f32) := (pA4 c i a2 h2 a3 h3 a4 h4 a5 h5 a6 h6 a7 h7 a8 h8 a9 h9 a10 h10 a11 h11 a12 h12 a13 h13 x0 x1 x2 x3 x4 x5 x6).1 ++ keysA3 c i a2 h2 a3 h3 a4 h4 a5 h5 a6 h6 a7 h7 a8 h8 a9 h9 a10 h10 a11 h11 a12 h12 a13 h13 x0 x1 x2 x3 x4 x5 x6

/-- All the stores of the values' gradient up to the end of the fourth loop. -/
def valsA4 : List (View.Piece VI S8448x128 .f32) := (pA4 c i a2 h2 a3 h3 a4 h4 a5 h5 a6 h6 a7 h7 a8 h8 a9 h9 a10 h10 a11 h11 a12 h12 a13 h13 x0 x1 x2 x3 x4 x5 x6).2.1 ++ valsA3 c i a2 h2 a3 h3 a4 h4 a5 h5 a6 h6 a7 h7 a8 h8 a9 h9 a10 h10 a11 h11 a12 h12 a13 h13 x0 x1 x2 x3 x4 x5 x6

/-- All the stores of the accumulators up to the end of the fourth loop. -/
def accsA4 : List (View.Piece VI S2x512x64 .f32) := (pA4 c i a2 h2 a3 h3 a4 h4 a5 h5 a6 h6 a7 h7 a8 h8 a9 h9 a10 h10 a11 h11 a12 h12 a13 h13 x0 x1 x2 x3 x4 x5 x6).2.2 ++ (zero3 ++ accsA3 c i a2 h2 a3 h3 a4 h4 a5 h5 a6 h6 a7 h7 a8 h8 a9 h9 a10 h10 a11 h11 a12 h12 a13 h13 x0 x1 x2 x3 x4 x5 x6)

/-- The case's stores of the queries' gradient. -/
theorem runA_1 (hc0 : cond0_0 i) :
    (kernelRun0_A (F := 𝕀) c i a2 h2 a3 h3 a4 h4 a5 h5 a6 h6 a7 h7 a8 h8 a9 h9 a10 h10 a11 h11 a12 h12 a13 h13 hc0 x0 x1 x2 x3 x4 x5 x6).1 = dqPieces a13 (accsA1 c i a2 h2 a3 h3 a4 h4 a5 h5 a6 h6 a7 h7 a8 h8 a9 h9 a10 h10 a11 h11 a12 h12 a13 h13 x0 x1 x2 x3 x4 x5 x6) (accsA2 c i a2 h2 a3 h3 a4 h4 a5 h5 a6 h6 a7 h7 a8 h8 a9 h9 a10 h10 a11 h11 a12 h12 a13 h13 x0 x1 x2 x3 x4 x5 x6) (accsA3 c i a2 h2 a3 h3 a4 h4 a5 h5 a6 h6 a7 h7 a8 h8 a9 h9 a10 h10 a11 h11 a12 h12 a13 h13 x0 x1 x2 x3 x4 x5 x6) (accsA4 c i a2 h2 a3 h3 a4 h4 a5 h5 a6 h6 a7 h7 a8 h8 a9 h9 a10 h10 a11 h11 a12 h12 a13 h13 x0 x1 x2 x3 x4 x5 x6) := rfl

/-- The case's stores of the keys' gradient. -/
theorem runA_21 (hc0 : cond0_0 i) :
    (kernelRun0_A (F := 𝕀) c i a2 h2 a3 h3 a4 h4 a5 h5 a6 h6 a7 h7 a8 h8 a9 h9 a10 h10 a11 h11 a12 h12 a13 h13 hc0 x0 x1 x2 x3 x4 x5 x6).2.1 = keysA4 c i a2 h2 a3 h3 a4 h4 a5 h5 a6 h6 a7 h7 a8 h8 a9 h9 a10 h10 a11 h11 a12 h12 a13 h13 x0 x1 x2 x3 x4 x5 x6 := rfl

/-- The case's stores of the values' gradient. -/
theorem runA_221 (hc0 : cond0_0 i) :
    (kernelRun0_A (F := 𝕀) c i a2 h2 a3 h3 a4 h4 a5 h5 a6 h6 a7 h7 a8 h8 a9 h9 a10 h10 a11 h11 a12 h12 a13 h13 hc0 x0 x1 x2 x3 x4 x5 x6).2.2.1 = valsA4 c i a2 h2 a3 h3 a4 h4 a5 h5 a6 h6 a7 h7 a8 h8 a9 h9 a10 h10 a11 h11 a12 h12 a13 h13 x0 x1 x2 x3 x4 x5 x6 := rfl

/-- The case's stores of the gate's gradient. -/
theorem runA_2221 (hc0 : cond0_0 i) :
    (kernelRun0_A (F := 𝕀) c i a2 h2 a3 h3 a4 h4 a5 h5 a6 h6 a7 h7 a8 h8 a9 h9 a10 h10 a11 h11 a12 h12 a13 h13 hc0 x0 x1 x2 x3 x4 x5 x6).2.2.2.1 = dzPieces a5 h5 a6 h6 a7 h7 x3 x4 x5 := rfl

/-! A later point of a block: the gradients go on from what the point before it left. -/

variable (xo8 xo9 : Vec 𝕀 S8448x128 .f32)

/-- What the first loop writes. -/
def pB1 : List (View.Piece VI S8448x128 .f32) × List (View.Piece VI S8448x128 .f32) × List (View.Piece VI S2x512x64 .f32) :=
  P1 c i a2 h2 a3 h3 a4 h4 a5 h5 a6 h6 a7 h7 a8 h8 a9 h9 a10 h10 a11 h11 a12 h12 a13 h13 x0 x1 x2 x3 x4 x5 x6
    (h10.unread xo8)
    (h11.unread xo9)
    (a13.view.writes VI a13.view.junk zero3)

/-- All the stores of the keys' gradient up to the end of the first loop. -/
def keysB1 : List (View.Piece VI S8448x128 .f32) := (pB1 c i a2 h2 a3 h3 a4 h4 a5 h5 a6 h6 a7 h7 a8 h8 a9 h9 a10 h10 a11 h11 a12 h12 a13 h13 x0 x1 x2 x3 x4 x5 x6 xo8 xo9).1

/-- All the stores of the values' gradient up to the end of the first loop. -/
def valsB1 : List (View.Piece VI S8448x128 .f32) := (pB1 c i a2 h2 a3 h3 a4 h4 a5 h5 a6 h6 a7 h7 a8 h8 a9 h9 a10 h10 a11 h11 a12 h12 a13 h13 x0 x1 x2 x3 x4 x5 x6 xo8 xo9).2.1

/-- All the stores of the accumulators up to the end of the first loop. -/
def accsB1 : List (View.Piece VI S2x512x64 .f32) := (pB1 c i a2 h2 a3 h3 a4 h4 a5 h5 a6 h6 a7 h7 a8 h8 a9 h9 a10 h10 a11 h11 a12 h12 a13 h13 x0 x1 x2 x3 x4 x5 x6 xo8 xo9).2.2 ++ zero3

/-- What the second loop writes. -/
def pB2 : List (View.Piece VI S8448x128 .f32) × List (View.Piece VI S8448x128 .f32) × List (View.Piece VI S2x512x64 .f32) :=
  P2 c i a2 h2 a3 h3 a4 h4 a5 h5 a6 h6 a7 h7 a8 h8 a9 h9 a10 h10 a11 h11 a12 h12 a13 h13 x0 x1 x2 x3 x4 x5 x6
    (a10.view.writes VI (h10.unread xo8) (keysB1 c i a2 h2 a3 h3 a4 h4 a5 h5 a6 h6 a7 h7 a8 h8 a9 h9 a10 h10 a11 h11 a12 h12 a13 h13 x0 x1 x2 x3 x4 x5 x6 xo8 xo9))
    (a11.view.writes VI (h11.unread xo9) (valsB1 c i a2 h2 a3 h3 a4 h4 a5 h5 a6 h6 a7 h7 a8 h8 a9 h9 a10 h10 a11 h11 a12 h12 a13 h13 x0 x1 x2 x3 x4 x5 x6 xo8 xo9))
    (a13.view.writes VI a13.view.junk (zero3 ++ accsB1 c i a2 h2 a3 h3 a4 h4 a5 h5 a6 h6 a7 h7 a8 h8 a9 h9 a10 h10 a11 h11 a12 h12 a13 h13 x0 x1 x2 x3 x4 x5 x6 xo8 xo9))

/-- All the stores of the keys' gradient up to the end of the second loop. -/
def keysB2 : List (View.Piece VI S8448x128 .f32) := (pB2 c i a2 h2 a3 h3 a4 h4 a5 h5 a6 h6 a7 h7 a8 h8 a9 h9 a10 h10 a11 h11 a12 h12 a13 h13 x0 x1 x2 x3 x4 x5 x6 xo8 xo9).1 ++ keysB1 c i a2 h2 a3 h3 a4 h4 a5 h5 a6 h6 a7 h7 a8 h8 a9 h9 a10 h10 a11 h11 a12 h12 a13 h13 x0 x1 x2 x3 x4 x5 x6 xo8 xo9

/-- All the stores of the values' gradient up to the end of the second loop. -/
def valsB2 : List (View.Piece VI S8448x128 .f32) := (pB2 c i a2 h2 a3 h3 a4 h4 a5 h5 a6 h6 a7 h7 a8 h8 a9 h9 a10 h10 a11 h11 a12 h12 a13 h13 x0 x1 x2 x3 x4 x5 x6 xo8 xo9).2.1 ++ valsB1 c i a2 h2 a3 h3 a4 h4 a5 h5 a6 h6 a7 h7 a8 h8 a9 h9 a10 h10 a11 h11 a12 h12 a13 h13 x0 x1 x2 x3 x4 x5 x6 xo8 xo9

/-- All the stores of the accumulators up to the end of the second loop. -/
def accsB2 : List (View.Piece VI S2x512x64 .f32) := (pB2 c i a2 h2 a3 h3 a4 h4 a5 h5 a6 h6 a7 h7 a8 h8 a9 h9 a10 h10 a11 h11 a12 h12 a13 h13 x0 x1 x2 x3 x4 x5 x6 xo8 xo9).2.2 ++ (zero3 ++ accsB1 c i a2 h2 a3 h3 a4 h4 a5 h5 a6 h6 a7 h7 a8 h8 a9 h9 a10 h10 a11 h11 a12 h12 a13 h13 x0 x1 x2 x3 x4 x5 x6 xo8 xo9)

/-- What the third loop writes. -/
def pB3 : List (View.Piece VI S8448x128 .f32) × List (View.Piece VI S8448x128 .f32) × List (View.Piece VI S2x512x64 .f32) :=
  P3 c i a2 h2 a3 h3 a4 h4 a5 h5 a6 h6 a7 h7 a8 h8 a9 h9 a10 h10 a11 h11 a12 h12 a13 h13 x0 x1 x2 x3 x4 x5 x6
    (a10.view.writes VI (h10.unread xo8) (keysB2 c i a2 h2 a3 h3 a4 h4 a5 h5 a6 h6 a7 h7 a8 h8 a9 h9 a10 h10 a11 h11 a12 h12 a13 h13 x0 x1 x2 x3 x4 x5 x6 xo8 xo9))
    (a11.view.writes VI (h11.unread xo9) (valsB2 c i a2 h2 a3 h3 a4 h4 a5 h5 a6 h6 a7 h7 a8 h8 a9 h9 a10 h10 a11 h11 a12 h12 a13 h13 x0 x1 x2 x3 x4 x5 x6 xo8 xo9))
    (a13.view.writes VI a13.view.junk (zero3 ++ accsB2 c i a2 h2 a3 h3 a4 h4 a5 h5 a6 h6 a7 h7 a8 h8 a9 h9 a10 h10 a11 h11 a12 h12 a13 h13 x0 x1 x2 x3 x4 x5 x6 xo8 xo9))

/-- All the stores of the keys' gradient up to the end of the third loop. -/
def keysB3 : List (View.Piece VI S8448x128 .f32) := (pB3 c i a2 h2 a3 h3 a4 h4 a5 h5 a6 h6 a7 h7 a8 h8 a9 h9 a10 h10 a11 h11 a12 h12 a13 h13 x0 x1 x2 x3 x4 x5 x6 xo8 xo9).1 ++ keysB2 c i a2 h2 a3 h3 a4 h4 a5 h5 a6 h6 a7 h7 a8 h8 a9 h9 a10 h10 a11 h11 a12 h12 a13 h13 x0 x1 x2 x3 x4 x5 x6 xo8 xo9

/-- All the stores of the values' gradient up to the end of the third loop. -/
def valsB3 : List (View.Piece VI S8448x128 .f32) := (pB3 c i a2 h2 a3 h3 a4 h4 a5 h5 a6 h6 a7 h7 a8 h8 a9 h9 a10 h10 a11 h11 a12 h12 a13 h13 x0 x1 x2 x3 x4 x5 x6 xo8 xo9).2.1 ++ valsB2 c i a2 h2 a3 h3 a4 h4 a5 h5 a6 h6 a7 h7 a8 h8 a9 h9 a10 h10 a11 h11 a12 h12 a13 h13 x0 x1 x2 x3 x4 x5 x6 xo8 xo9

/-- All the stores of the accumulators up to the end of the third loop. -/
def accsB3 : List (View.Piece VI S2x512x64 .f32) := (pB3 c i a2 h2 a3 h3 a4 h4 a5 h5 a6 h6 a7 h7 a8 h8 a9 h9 a10 h10 a11 h11 a12 h12 a13 h13 x0 x1 x2 x3 x4 x5 x6 xo8 xo9).2.2 ++ (zero3 ++ accsB2 c i a2 h2 a3 h3 a4 h4 a5 h5 a6 h6 a7 h7 a8 h8 a9 h9 a10 h10 a11 h11 a12 h12 a13 h13 x0 x1 x2 x3 x4 x5 x6 xo8 xo9)

/-- What the fourth loop writes. -/
def pB4 : List (View.Piece VI S8448x128 .f32) × List (View.Piece VI S8448x128 .f32) × List (View.Piece VI S2x512x64 .f32) :=
  P4 c i a2 h2 a3 h3 a4 h4 a5 h5 a6 h6 a7 h7 a8 h8 a9 h9 a10 h10 a11 h11 a12 h12 a13 h13 x0 x1 x2 x3 x4 x5 x6
    (a10.view.writes VI (h10.unread xo8) (keysB3 c i a2 h2 a3 h3 a4 h4 a5 h5 a6 h6 a7 h7 a8 h8 a9 h9 a10 h10 a11 h11 a12 h12 a13 h13 x0 x1 x2 x3 x4 x5 x6 xo8 xo9))
    (a11.view.writes VI (h11.unread xo9) (valsB3 c i a2 h2 a3 h3 a4 h4 a5 h5 a6 h6 a7 h7 a8 h8 a9 h9 a10 h10 a11 h11 a12 h12 a13 h13 x0 x1 x2 x3 x4 x5 x6 xo8 xo9))
    (a13.view.writes VI a13.view.junk (zero3 ++ accsB3 c i a2 h2 a3 h3 a4 h4 a5 h5 a6 h6 a7 h7 a8 h8 a9 h9 a10 h10 a11 h11 a12 h12 a13 h13 x0 x1 x2 x3 x4 x5 x6 xo8 xo9))

/-- All the stores of the keys' gradient up to the end of the fourth loop. -/
def keysB4 : List (View.Piece VI S8448x128 .f32) := (pB4 c i a2 h2 a3 h3 a4 h4 a5 h5 a6 h6 a7 h7 a8 h8 a9 h9 a10 h10 a11 h11 a12 h12 a13 h13 x0 x1 x2 x3 x4 x5 x6 xo8 xo9).1 ++ keysB3 c i a2 h2 a3 h3 a4 h4 a5 h5 a6 h6 a7 h7 a8 h8 a9 h9 a10 h10 a11 h11 a12 h12 a13 h13 x0 x1 x2 x3 x4 x5 x6 xo8 xo9

/-- All the stores of the values' gradient up to the end of the fourth loop. -/
def valsB4 : List (View.Piece VI S8448x128 .f32) := (pB4 c i a2 h2 a3 h3 a4 h4 a5 h5 a6 h6 a7 h7 a8 h8 a9 h9 a10 h10 a11 h11 a12 h12 a13 h13 x0 x1 x2 x3 x4 x5 x6 xo8 xo9).2.1 ++ valsB3 c i a2 h2 a3 h3 a4 h4 a5 h5 a6 h6 a7 h7 a8 h8 a9 h9 a10 h10 a11 h11 a12 h12 a13 h13 x0 x1 x2 x3 x4 x5 x6 xo8 xo9

/-- All the stores of the accumulators up to the end of the fourth loop. -/
def accsB4 : List (View.Piece VI S2x512x64 .f32) := (pB4 c i a2 h2 a3 h3 a4 h4 a5 h5 a6 h6 a7 h7 a8 h8 a9 h9 a10 h10 a11 h11 a12 h12 a13 h13 x0 x1 x2 x3 x4 x5 x6 xo8 xo9).2.2 ++ (zero3 ++ accsB3 c i a2 h2 a3 h3 a4 h4 a5 h5 a6 h6 a7 h7 a8 h8 a9 h9 a10 h10 a11 h11 a12 h12 a13 h13 x0 x1 x2 x3 x4 x5 x6 xo8 xo9)

/-- The case's stores of the queries' gradient. -/
theorem runB_1 (hc0 : ¬cond0_0 i) :
    (kernelRun0_B (F := 𝕀) c i a2 h2 a3 h3 a4 h4 a5 h5 a6 h6 a7 h7 a8 h8 a9 h9 a10 h10 a11 h11 a12 h12 a13 h13 hc0 x0 x1 x2 x3 x4 x5 x6 xo8 xo9).1 = dqPieces a13 (accsB1 c i a2 h2 a3 h3 a4 h4 a5 h5 a6 h6 a7 h7 a8 h8 a9 h9 a10 h10 a11 h11 a12 h12 a13 h13 x0 x1 x2 x3 x4 x5 x6 xo8 xo9) (accsB2 c i a2 h2 a3 h3 a4 h4 a5 h5 a6 h6 a7 h7 a8 h8 a9 h9 a10 h10 a11 h11 a12 h12 a13 h13 x0 x1 x2 x3 x4 x5 x6 xo8 xo9) (accsB3 c i a2 h2 a3 h3 a4 h4 a5 h5 a6 h6 a7 h7 a8 h8 a9 h9 a10 h10 a11 h11 a12 h12 a13 h13 x0 x1 x2 x3 x4 x5 x6 xo8 xo9) (accsB4 c i a2 h2 a3 h3 a4 h4 a5 h5 a6 h6 a7 h7 a8 h8 a9 h9 a10 h10 a11 h11 a12 h12 a13 h13 x0 x1 x2 x3 x4 x5 x6 xo8 xo9) := rfl

/-- The case's stores of the keys' gradient. -/
theorem runB_21 (hc0 : ¬cond0_0 i) :
    (kernelRun0_B (F := 𝕀) c i a2 h2 a3 h3 a4 h4 a5 h5 a6 h6 a7 h7 a8 h8 a9 h9 a10 h10 a11 h11 a12 h12 a13 h13 hc0 x0 x1 x2 x3 x4 x5 x6 xo8 xo9).2.1 = keysB4 c i a2 h2 a3 h3 a4 h4 a5 h5 a6 h6 a7 h7 a8 h8 a9 h9 a10 h10 a11 h11 a12 h12 a13 h13 x0 x1 x2 x3 x4 x5 x6 xo8 xo9 := rfl

/-- The case's stores of the values' gradient. -/
theorem runB_221 (hc0 : ¬cond0_0 i) :
    (kernelRun0_B (F := 𝕀) c i a2 h2 a3 h3 a4 h4 a5 h5 a6 h6 a7 h7 a8 h8 a9 h9 a10 h10 a11 h11 a12 h12 a13 h13 hc0 x0 x1 x2 x3 x4 x5 x6 xo8 xo9).2.2.1 = valsB4 c i a2 h2 a3 h3 a4 h4 a5 h5 a6 h6 a7 h7 a8 h8 a9 h9 a10 h10 a11 h11 a12 h12 a13 h13 x0 x1 x2 x3 x4 x5 x6 xo8 xo9 := rfl

/-- The case's stores of the gate's gradient. -/
theorem runB_2221 (hc0 : ¬cond0_0 i) :
    (kernelRun0_B (F := 𝕀) c i a2 h2 a3 h3 a4 h4 a5 h5 a6 h6 a7 h7 a8 h8 a9 h9 a10 h10 a11 h11 a12 h12 a13 h13 hc0 x0 x1 x2 x3 x4 x5 x6 xo8 xo9).2.2.2.1 = dzPieces a5 h5 a6 h6 a7 h7 x3 x4 x5 := rfl

end Case

end Cert.Attn

end
-- ==== Proof.PointValue.lean ====
/- The values of a grid point's four results, in its two cases, on real blocks. -/
module

public import proofs.«01_k».proof.Proof.Point

@[expose] public section

set_option maxRecDepth 16384

noncomputable section

namespace Cert.Attn

open Finset Idealize.ShloMosaic Idealize.ShloMosaic.Tactic
open Cert.KernelIdeal Cert.KernelIdeal.Gen

local notation "𝕀" => Idealize.ShloMosaic.Ideal

/-- After its zero store a gradient is zero, whatever it held. -/
theorem read_zero2 (a : Memref sig .tc .vmem S8448x128 .f32) (f : BufTy.Contents VI a.view.ty) :
    a.view.read VI (a.view.writes VI f zero2) = re2 fun _ _ => 0 := by
  funext y
  rw [zero2, View.read_writes_cons_unit a.view f inb_S8448x128_S8448x128_0_0 (k0_pay39 (F := 𝕀)) [] y rfl, dif_pos, pay39_eq]
  · rfl
  · have h0 : (y 0).val < 8448 := (y 0).isLt
    have h1 : (y 1).val < 128 := (y 1).isLt
    intro x
    match x with
    | 0 => show 0 ≤ (y 0).val ∧ (y 0).val < 0 + 8448; omega
    | 1 => show 0 ≤ (y 1).val ∧ (y 1).val < 0 + 128; omega

/-- After their zero stores the accumulators are zero, whatever they held. -/
theorem read_zero3 (a : Memref sig .tc .vmem S2x512x64 .f32) (f : BufTy.Contents VI a.view.ty) (M : List (View.Piece VI S2x512x64 .f32)) :
    a.view.read VI (a.view.writes VI f (zero3 ++ M)) = re3 fun _ _ _ => 0 := by
  funext y
  have h0 : (y 0).val < 2 := (y 0).isLt
  have h1 : (y 1).val < 512 := (y 1).isLt
  have h2 : (y 2).val < 64 := (y 2).isLt
  rw [zero3, List.cons_append, View.read_writes_cons_unit a.view f inb_S2x512x64_S1x512x64_1_0_0 (k0_pay48 (F := 𝕀)) _ y rfl]
  by_cases hy : (y 0).val = 1
  · rw [dif_pos, pay48_eq]
    · rfl
    · intro x
      match x with
      | 0 => show 1 ≤ (y 0).val ∧ (y 0).val < 1 + 1; omega
      | 1 => show 0 ≤ (y 1).val ∧ (y 1).val < 0 + 512; omega
      | 2 => show 0 ≤ (y 2).val ∧ (y 2).val < 0 + 64; omega
  · rw [dif_neg, List.cons_append, List.nil_append,
      View.read_writes_cons_unit a.view f inb_S2x512x64_S1x512x64_0_0_0 (k0_pay48 (F := 𝕀)) _ y rfl, dif_pos, pay48_eq]
    · rfl
    · intro x
      match x with
      | 0 => show 0 ≤ (y 0).val ∧ (y 0).val < 0 + 1; omega
      | 1 => show 0 ≤ (y 1).val ∧ (y 1).val < 0 + 512; omega
      | 2 => show 0 ≤ (y 2).val ∧ (y 2).val < 0 + 64; omega
    · intro hh
      have := hh 0
      have h3 : 1 ≤ (y 0).val := this.1
      omega

/-- Storing a block of reals into a block of the queries' or the gate's gradient. -/
theorem store2b (a : Memref sig .tc .vmem S512x512 .bf16) (f : BufTy.Contents VI a.view.ty)
    (F H : ℕ → ℕ → ℝ) (L : List (View.Piece VI S512x512 .bf16)) (h : a.view.read VI (a.view.writes VI f L) = re2 F)
    (r c : ℕ) {off : Fin 2 → ℕ} (hoff : off = ![r, c])
    (inb : ∀ x, off x + S512x64.size x ≤ S512x512.size x)
    (w : S512x64.Idx → EReal) (hw : w = re2 H) :
    a.view.read VI (a.view.writes VI f (⟨Rect.unit (s := S512x512) off S512x64.size inb, w⟩ :: L))
      = re2 (put2 F r c 512 64 H) :=
  read_put2 (Val := VI) (e := .bf16) Real.toEReal a.view f F H L h r c hoff inb w hw

/-- Eight blocks of columns side by side. -/
theorem put_eight (F : ℕ → ℕ → ℝ) (H : ℕ → ℕ → ℕ → ℝ) (r c : ℕ) (hr : r < 512) (hc : c < 512) :
    put2 (put2 (put2 (put2 (put2 (put2 (put2 (put2 F 0 0 512 64 (H 0)) 0 64 512 64 (H 1)) 0 128 512 64 (H 2)) 0 192 512 64 (H 3))
      0 256 512 64 (H 4)) 0 320 512 64 (H 5)) 0 384 512 64 (H 6)) 0 448 512 64 (H 7) r c = H (c / 64) r (c % 64) := by
  have hd : c = 64 * (c / 64) + c % 64 := (Nat.div_add_mod c 64).symm
  have hm : c % 64 < 64 := Nat.mod_lt _ (by norm_num)
  have hq : c / 64 < 8 := by omega
  generalize c / 64 = q at hd hq ⊢
  generalize c % 64 = m at hd hm ⊢
  subst hd
  have key : ∀ (F : ℕ → ℕ → ℝ) (j : ℕ), put2 F 0 (64 * j) 512 64 (H j) r (64 * q + m) = if q = j then H q r m else F r (64 * q + m) := by
    intro F j
    by_cases h : q = j
    · rw [put2, if_pos (by omega), if_pos h, h, Nat.sub_zero, Nat.add_sub_cancel_left]
    · rw [put2, if_neg (by omega), if_neg h]
  rw [key _ 7, key _ 6, key _ 5, key _ 4, key _ 3, key _ 2, key _ 1, key _ 0]
  interval_cases q <;> rfl

/-- Eight stored blocks of columns, whatever was there. -/
theorem canon_eight (a : Memref sig .tc .vmem S512x512 .bf16) (h : a.IsWhole) (H : ℕ → ℕ → ℕ → ℝ) (w : ℕ → (S512x64.Idx → EReal))
    (hw : ∀ j < 8, w j = re2 (H j)) :
    a.view.read VI (a.view.writes VI (h.unread (re2 fun _ _ => 0))
      [⟨Rect.unit (s := S512x512) ![0, 448] S512x64.size inb_S512x512_S512x64_0_448, w 7⟩,
        ⟨Rect.unit (s := S512x512) ![0, 384] S512x64.size inb_S512x512_S512x64_0_384, w 6⟩,
        ⟨Rect.unit (s := S512x512) ![0, 320] S512x64.size inb_S512x512_S512x64_0_320, w 5⟩,
        ⟨Rect.unit (s := S512x512) ![0, 256] S512x64.size inb_S512x512_S512x64_0_256, w 4⟩,
        ⟨Rect.unit (s := S512x512) ![0, 192] S512x64.size inb_S512x512_S512x64_0_192, w 3⟩,
        ⟨Rect.unit (s := S512x512) ![0, 128] S512x64.size inb_S512x512_S512x64_0_128, w 2⟩,
        ⟨Rect.unit (s := S512x512) ![0, 64] S512x64.size inb_S512x512_S512x64_0_64, w 1⟩,
        ⟨Rect.unit (s := S512x512) ![0, 0] S512x64.size inb_S512x512_S512x64_0_0, w 0⟩])
      = re2 fun r c => H (c / 64) r (c % 64) := by
  have hz : a.view.read VI (a.view.writes VI (h.unread (re2 fun _ _ => 0)) []) = re2 fun _ _ => 0 := h.read_unread _
  refine (store2b a _ _ _ _ (store2b a _ _ _ _ (store2b a _ _ _ _ (store2b a _ _ _ _ (store2b a _ _ _ _ (store2b a _ _ _ _
    (store2b a _ _ _ _ (store2b a _ _ _ _ hz 0 0 rfl _ _ (hw 0 (by norm_num))) 0 64 rfl _ _ (hw 1 (by norm_num)))
    0 128 rfl _ _ (hw 2 (by norm_num))) 0 192 rfl _ _ (hw 3 (by norm_num))) 0 256 rfl _ _ (hw 4 (by norm_num)))
    0 320 rfl _ _ (hw 5 (by norm_num))) 0 384 rfl _ _ (hw 6 (by norm_num))) 0 448 rfl _ _ (hw 7 (by norm_num))).trans ?_
  funext y
  exact congrArg Real.toEReal (put_eight _ H _ _ (y 0).isLt (y 1).isLt)

/-- The queries' gradient of a head, stored. -/
theorem dq_slot (a : Memref sig .tc .vmem S2x512x64 .f32) (L : List (View.Piece VI S2x512x64 .f32)) (A : ℕ → ℕ → ℕ → ℝ)
    (h : a.view.read VI (a.view.writes VI a.view.junk L) = re3 A) (s : ℕ) {off : Fin 3 → ℕ} (hoff : off = ![s, 0, 0])
    (inb : ∀ x, off x + S1x512x64.size x ≤ S2x512x64.size x) :
    k0_pay62 (F := 𝕀) (a.view.readCov L (Rect.unit (s := S2x512x64) off S1x512x64.size inb).toLoadRect) = re2 (A s) := by
  have e : a.view.readCov L (Rect.unit (s := S2x512x64) off S1x512x64.size inb).toLoadRect = re3 fun _ r d => A s r d := by
    refine (readAt_plane (Val := VI) (e := .f32) Real.toEReal a.view _ A h s 0 512 64 0 hoff inb).trans ?_
    funext y
    rw [Nat.zero_add, Nat.zero_add]
    rfl
  rw [e, pay62_eq]

/-- What eight stores that cover the block leave, through any buffer. -/
theorem read_swap {s : Shape} {e : EltTy} (v : View sig .tc .vmem s e) (a : View sig .tc .vmem s e) (f : BufTy.Contents VI a.ty)
    (L : List (View.Piece VI s e)) (hL : ∀ y, ∃ p ∈ L, y ∈ p.1.set) :
    v.read VI (v.writes VI v.junk L) = a.read VI (a.writes VI f L) :=
  (View.read_writes_eq_canon v _ L hL).trans (View.read_writes_eq_canon a _ L hL).symm

section Value

variable (Q K V G Z O : ℕ → ℕ → ℝ) (L : ℕ → ℕ → ℕ → ℝ)

/-- The keys' gradient a point leaves, from what it starts with. -/
def keysEnd (D : ℕ → ℕ → ℝ) : ℕ → ℕ → ℝ :=
  dkEnd (blockHead Q Z G O L 6) (blockHead Q Z G O L 7) K V 64 (dkEnd (blockHead Q Z G O L 4) (blockHead Q Z G O L 5) K V 64
    (dkEnd (blockHead Q Z G O L 2) (blockHead Q Z G O L 3) K V 0 (dkEnd (blockHead Q Z G O L 0) (blockHead Q Z G O L 1) K V 0 D)))

/-- The values' gradient a point leaves, from what it starts with. -/
def valsEnd (E : ℕ → ℕ → ℝ) : ℕ → ℕ → ℝ :=
  dvEnd (blockHead Q Z G O L 6) (blockHead Q Z G O L 7) K 64 (dvEnd (blockHead Q Z G O L 4) (blockHead Q Z G O L 5) K 64
    (dvEnd (blockHead Q Z G O L 2) (blockHead Q Z G O L 3) K 0 (dvEnd (blockHead Q Z G O L 0) (blockHead Q Z G O L 1) K 0 E)))

/-- The queries' gradient of head `j`. -/
def dqHead (j : ℕ) : ℕ → ℕ → ℝ :=
  accEnd (blockHead Q Z G O L (2 * (j / 2))) (blockHead Q Z G O L (2 * (j / 2) + 1)) K V (64 * (j / 4)) (fun _ _ _ => 0) (j % 2)

/-- The queries' gradient of a block. -/
def dqBlock (r c : ℕ) : ℝ := dqHead Q K V G Z O L (c / 64) r (c % 64)

variable (c : Dev nD) (i : grid0.Coords)
  (a2 : Memref sig .tc .vmem S512x512 .bf16) (h2 : a2.IsWhole)
  (a3 : Memref sig .tc .vmem S8448x128 .bf16) (h3 : a3.IsWhole)
  (a4 : Memref sig .tc .vmem S8448x128 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .f32) (h7 : a7.IsWhole)
  (a8 : Memref sig .tc .vmem S1x512x8 .f32) (h8 : a8.IsWhole)
  (a9 : Memref sig .tc .vmem S512x512 .bf16) (h9 : a9.IsWhole)
  (a10 : Memref sig .tc .vmem S8448x128 .f32) (h10 : a10.IsWhole)
  (a11 : Memref sig .tc .vmem S8448x128 .f32) (h11 : a11.IsWhole)
  (a12 : Memref sig .tc .vmem S512x512 .bf16) (h12 : a12.IsWhole)
  (a13 : Memref sig .tc .vmem S2x512x64 .f32) (h13 : a13.IsWhole)

/-- The gate's gradient, stored. -/
theorem dz_value : a12.view.read VI (a12.view.writes VI (h12.unread (re2 fun _ _ => 0)) (dzPieces a5 h5 a6 h6 a7 h7 (re2 G) (re2 Z) (re2 O)))
    = re2 (dzT Z G O) := by
  refine (canon_eight a12 h12 (fun j => cols (dzT Z G O) (64 * j)) (fun j => re2 (cols (dzT Z G O) (64 * j))) (fun _ _ => rfl)
    |>.symm.trans ?_).symm.trans ?_
  · rw [dzPieces]
    simp only [head_bf16 G h5 0 rfl, head_bf16 Z h6 0 rfl, head_f32 O h7 0 rfl, head_bf16 G h5 1 rfl, head_bf16 Z h6 1 rfl, head_f32 O h7 1 rfl,
      head_bf16 G h5 2 rfl, head_bf16 Z h6 2 rfl, head_f32 O h7 2 rfl, head_bf16 G h5 3 rfl, head_bf16 Z h6 3 rfl, head_f32 O h7 3 rfl,
      head_bf16 G h5 4 rfl, head_bf16 Z h6 4 rfl, head_f32 O h7 4 rfl, head_bf16 G h5 5 rfl, head_bf16 Z h6 5 rfl, head_f32 O h7 5 rfl,
      head_bf16 G h5 6 rfl, head_bf16 Z h6 6 rfl, head_f32 O h7 6 rfl, head_bf16 G h5 7 rfl, head_bf16 Z h6 7 rfl, head_f32 O h7 7 rfl, pay45_eq]
    rfl
  · funext y
    show ((cols (dzT Z G O) (64 * ((y 1).val / 64)) (y 0).val ((y 1).val % 64) : ℝ) : EReal) = ((dzT Z G O (y 0).val (y 1).val : ℝ) : EReal)
    rw [cols, Nat.div_add_mod]

/-- The queries' gradient, stored. -/
theorem dq_value (A1 A2 A3 A4 : List (View.Piece VI S2x512x64 .f32))
    (hA1 : a13.view.read VI (a13.view.writes VI a13.view.junk A1)
      = re3 (accEnd (blockHead Q Z G O L 0) (blockHead Q Z G O L 1) K V 0 fun _ _ _ => 0))
    (hA2 : a13.view.read VI (a13.view.writes VI a13.view.junk A2)
      = re3 (accEnd (blockHead Q Z G O L 2) (blockHead Q Z G O L 3) K V 0 fun _ _ _ => 0))
    (hA3 : a13.view.read VI (a13.view.writes VI a13.view.junk A3)
      = re3 (accEnd (blockHead Q Z G O L 4) (blockHead Q Z G O L 5) K V 64 fun _ _ _ => 0))
    (hA4 : a13.view.read VI (a13.view.writes VI a13.view.junk A4)
      = re3 (accEnd (blockHead Q Z G O L 6) (blockHead Q Z G O L 7) K V 64 fun _ _ _ => 0)) :
    a9.view.read VI (a9.view.writes VI (h9.unread (re2 fun _ _ => 0)) (dqPieces a13 A1 A2 A3 A4)) = re2 (dqBlock Q K V G Z O L) := by
  refine Eq.trans ?_ (canon_eight a9 h9 (dqHead Q K V G Z O L) (fun j => re2 (dqHead Q K V G Z O L j)) (fun _ _ => rfl))
  rw [dqPieces, dq_slot a13 A1 _ hA1 0 rfl, dq_slot a13 A1 _ hA1 1 rfl, dq_slot a13 A2 _ hA2 0 rfl, dq_slot a13 A2 _ hA2 1 rfl,
    dq_slot a13 A3 _ hA3 0 rfl, dq_slot a13 A3 _ hA3 1 rfl, dq_slot a13 A4 _ hA4 0 rfl, dq_slot a13 A4 _ hA4 1 rfl]
  rfl

/-- What the buffers hold after loop 1 of a first point. -/
theorem hA1 : Holds a10 a11 a13 (a10.view.writes VI a10.view.junk (keysA1 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA1 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (accsA1 c i a2 h2 a3 h3 a4 h4 a5 h5 a6 h6 a7 h7 a8 h8 a9 h9 a10 h10 a11 h11 a12 h12 a13 h13 (re2 Q) (re2 K) (re2 V) (re2 G) (re2 Z) (re2 O) (re3 L)))
    (dkEnd (blockHead Q Z G O L 0) (blockHead Q Z G O L 1) K V 0 (fun _ _ => 0))
    (dvEnd (blockHead Q Z G O L 0) (blockHead Q Z G O L 1) K 0 (fun _ _ => 0))
    (accEnd (blockHead Q Z G O L 0) (blockHead Q Z G O L 1) K V 0 fun _ _ _ => 0) := by
  have h := P1_holds c i a2 h2 a3 h3 a4 h4 a5 h5 a6 h6 a7 h7 a8 h8 a9 h9 a10 h10 a11 h11 a12 h12 a13 h13
    (a10.view.writes VI a10.view.junk zero2)
    (a11.view.writes VI a11.view.junk zero2)
    (a13.view.writes VI a13.view.junk zero3) Q K V Z G O L (fun _ _ => 0) (fun _ _ => 0) (fun _ _ _ => 0)
    ⟨read_zero2 _ _, read_zero2 _ _, read_zero3 a13 a13.view.junk []⟩
  rw [keysA1, valsA1, accsA1, View.writes_append, View.writes_append, View.writes_append]
  exact h

/-- What the buffers hold after loop 2 of a first point. -/
theorem hA2 : Holds a10 a11 a13 (a10.view.writes VI a10.view.junk (keysA2 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA2 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (accsA2 c i a2 h2 a3 h3 a4 h4 a5 h5 a6 h6 a7 h7 a8 h8 a9 h9 a10 h10 a11 h11 a12 h12 a13 h13 (re2 Q) (re2 K) (re2 V) (re2 G) (re2 Z) (re2 O) (re3 L)))
    (dkEnd (blockHead Q Z G O L 2) (blockHead Q Z G O L 3) K V 0 (dkEnd (blockHead Q Z G O L 0) (blockHead Q Z G O L 1) K V 0 (fun _ _ => 0)))
    (dvEnd (blockHead Q Z G O L 2) (blockHead Q Z G O L 3) K 0 (dvEnd (blockHead Q Z G O L 0) (blockHead Q Z G O L 1) K 0 (fun _ _ => 0)))
    (accEnd (blockHead Q Z G O L 2) (blockHead Q Z G O L 3) K V 0 fun _ _ _ => 0) := by
  have h := P2_holds c i a2 h2 a3 h3 a4 h4 a5 h5 a6 h6 a7 h7 a8 h8 a9 h9 a10 h10 a11 h11 a12 h12 a13 h13
    (a10.view.writes VI a10.view.junk (keysA1 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA1 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (zero3 ++ accsA1 c i a2 h2 a3 h3 a4 h4 a5 h5 a6 h6 a7 h7 a8 h8 a9 h9 a10 h10 a11 h11 a12 h12 a13 h13 (re2 Q) (re2 K) (re2 V) (re2 G) (re2 Z) (re2 O) (re3 L))) Q K V Z G O L (dkEnd (blockHead Q Z G O L 0) (blockHead Q Z G O L 1) K V 0 (fun _ _ => 0)) (dvEnd (blockHead Q Z G O L 0) (blockHead Q Z G O L 1) K 0 (fun _ _ => 0)) (fun _ _ _ => 0)
    ⟨(hA1 Q K V G Z O L c i a2 h2 a3 h3 a4 h4 a5 h5 a6 h6 a7 h7 a8 h8 a9 h9 a10 h10 a11 h11 a12 h12 a13 h13).keys, (hA1 Q K V G Z O L c i a2 h2 a3 h3 a4 h4 a5 h5 a6 h6 a7 h7 a8 h8 a9 h9 a10 h10 a11 h11 a12 h12 a13 h13).values, read_zero3 _ _ _⟩
  rw [keysA2, valsA2, accsA2, View.writes_append, View.writes_append, View.writes_append]
  exact h

/-- What the buffers hold after loop 3 of a first point. -/
theorem hA3 : Holds a10 a11 a13 (a10.view.writes VI a10.view.junk (keysA3 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA3 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (accsA3 c i a2 h2 a3 h3 a4 h4 a5 h5 a6 h6 a7 h7 a8 h8 a9 h9 a10 h10 a11 h11 a12 h12 a13 h13 (re2 Q) (re2 K) (re2 V) (re2 G) (re2 Z) (re2 O) (re3 L)))
    (dkEnd (blockHead Q Z G O L 4) (blockHead Q Z G O L 5) K V 64 (dkEnd (blockHead Q Z G O L 2) (blockHead Q Z G O L 3) K V 0 (dkEnd (blockHead Q Z G O L 0) (blockHead Q Z G O L 1) K V 0 (fun _ _ => 0))))
    (dvEnd (blockHead Q Z G O L 4) (blockHead Q Z G O L 5) K 64 (dvEnd (blockHead Q Z G O L 2) (blockHead Q Z G O L 3) K 0 (dvEnd (blockHead Q Z G O L 0) (blockHead Q Z G O L 1) K 0 (fun _ _ => 0))))
    (accEnd (blockHead Q Z G O L 4) (blockHead Q Z G O L 5) K V 64 fun _ _ _ => 0) := by
  have h := P3_holds c i a2 h2 a3 h3 a4 h4 a5 h5 a6 h6 a7 h7 a8 h8 a9 h9 a10 h10 a11 h11 a12 h12 a13 h13
    (a10.view.writes VI a10.view.junk (keysA2 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA2 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (zero3 ++ accsA2 c i a2 h2 a3 h3 a4 h4 a5 h5 a6 h6 a7 h7 a8 h8 a9 h9 a10 h10 a11 h11 a12 h12 a13 h13 (re2 Q) (re2 K) (re2 V) (re2 G) (re2 Z) (re2 O) (re3 L))) Q K V Z G O L (dkEnd (blockHead Q Z G O L 2) (blockHead Q Z G O L 3) K V 0 (dkEnd (blockHead Q Z G O L 0) (blockHead Q Z G O L 1) K V 0 (fun _ _ => 0))) (dvEnd (blockHead Q Z G O L 2) (blockHead Q Z G O L 3) K 0 (dvEnd (blockHead Q Z G O L 0) (blockHead Q Z G O L 1) K 0 (fun _ _ => 0))) (fun _ _ _ => 0)
    ⟨(hA2 Q K V G Z O L c i a2 h2 a3 h3 a4 h4 a5 h5 a6 h6 a7 h7 a8 h8 a9 h9 a10 h10 a11 h11 a12 h12 a13 h13).keys, (hA2 Q K V G Z O L c i a2 h2 a3 h3 a4 h4 a5 h5 a6 h6 a7 h7 a8 h8 a9 h9 a10 h10 a11 h11 a12 h12 a13 h13).values, read_zero3 _ _ _⟩
  rw [keysA3, valsA3, accsA3, View.writes_append, View.writes_append, View.writes_append]
  exact h

/-- What the buffers hold after loop 4 of a first point. -/
theorem hA4 : Holds a10 a11 a13 (a10.view.writes VI a10.view.junk (keysA4 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA4 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (accsA4 c i a2 h2 a3 h3 a4 h4 a5 h5 a6 h6 a7 h7 a8 h8 a9 h9 a10 h10 a11 h11 a12 h12 a13 h13 (re2 Q) (re2 K) (re2 V) (re2 G) (re2 Z) (re2 O) (re3 L)))
    (dkEnd (blockHead Q Z G O L 6) (blockHead Q Z G O L 7) K V 64 (dkEnd (blockHead Q Z G O L 4) (blockHead Q Z G O L 5) K V 64 (dkEnd (blockHead Q Z G O L 2) (blockHead Q Z G O L 3) K V 0 (dkEnd (blockHead Q Z G O L 0) (blockHead Q Z G O L 1) K V 0 (fun _ _ => 0)))))
    (dvEnd (blockHead Q Z G O L 6) (blockHead Q Z G O L 7) K 64 (dvEnd (blockHead Q Z G O L 4) (blockHead Q Z G O L 5) K 64 (dvEnd (blockHead Q Z G O L 2) (blockHead Q Z G O L 3) K 0 (dvEnd (blockHead Q Z G O L 0) (blockHead Q Z G O L 1) K 0 (fun _ _ => 0)))))
    (accEnd (blockHead Q Z G O L 6) (blockHead Q Z G O L 7) K V 64 fun _ _ _ => 0) := by
  have h := P4_holds c i a2 h2 a3 h3 a4 h4 a5 h5 a6 h6 a7 h7 a8 h8 a9 h9 a10 h10 a11 h11 a12 h12 a13 h13
    (a10.view.writes VI a10.view.junk (keysA3 c i a2 h2 a3 h3 a4 h4 a5 h5 a6 h6 a7 h7 a8 h8 a9 h9 a10 h10 a11 h11 a12 h12 a13 h13 (re2 Q) (re2 K) (re2 V) (re2 G) (re2 Z) (re2 O) (re3 L)))
    (a11.view.writes VI a11.view.junk (valsA3 c i a2 h2 a3 h3 a4 h4 a5 h5 a6 h6 a7 h7 a8 h8 a9 h9 a10 h10 a11 h11 a12 h12 a13 h13 (re2 Q) (re2 K) (re2 V) (re2 G) (re2 Z) (re2 O) (re3 L)))
    (a13.view.writes VI a13.view.junk (zero3 ++ accsA3 c i a2 h2 a3 h3 a4 h4 a5 h5 a6 h6 a7 h7 a8 h8 a9 h9 a10 h10 a11 h11 a12 h12 a13 h13 (re2 Q) (re2 K) (re2 V) (re2 G) (re2 Z) (re2 O) (re3 L))) Q K V Z G O L (dkEnd (blockHead Q Z G O L 4) (blockHead Q Z G O L 5) K V 64 (dkEnd (blockHead Q Z G O L 2) (blockHead Q Z G O L 3) K V 0 (dkEnd (blockHead Q Z G O L 0) (blockHead Q Z G O L 1) K V 0 (fun _ _ => 0)))) (dvEnd (blockHead Q Z G O L 4) (blockHead Q Z G O L 5) K 64 (dvEnd (blockHead Q Z G O L 2) (blockHead Q Z G O L 3) K 0 (dvEnd (blockHead Q Z G O L 0) (blockHead Q Z G O L 1) K 0 (fun _ _ => 0)))) (fun _ _ _ => 0)
    ⟨(hA3 Q K V G Z O L c i a2 h2 a3 h3 a4 h4 a5 h5 a6 h6 a7 h7 a8 h8 a9 h9 a10 h10 a11 h11 a12 h12 a13 h13).keys, (hA3 Q K V G Z O L c i a2 h2 a3 h3 a4 h4 a5 h5 a6 h6 a7 h7 a8 h8 a9 h9 a10 h10 a11 h11 a12 h12 a13 h13).values, read_zero3 _ _ _⟩
  rw [keysA4, valsA4, accsA4, View.writes_append, View.writes_append, View.writes_append]
  exact h

/-- The queries' gradient a first point stores. -/
theorem outA_7 (hc0 : cond0_0 i) :
    out0_A_7 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) = re2 (dqBlock Q K V G Z O L) := by
  refine (read_swap _ a9.view (h9.unread (re2 fun _ _ => 0)) _ (cover0_A_7 c i a2 h2 a3 h3 a4 h4 a5 h5 a6 h6 a7 h7 a8 h8 a9 h9 a10 h10 a11 h11 a12 h12 a13 h13 hc0 _ _ _ _ _ _ _)).trans ?_
  rw [runA_1]
  exact dq_value Q K V G Z O L a9 h9 a13 _ _ _ _ (hA1 Q K V G Z O L c i a2 h2 a3 h3 a4 h4 a5 h5 a6 h6 a7 h7 a8 h8 a9 h9 a10 h10 a11 h11 a12 h12 a13 h13).acc (hA2 Q K V G Z O L c i a2 h2 a3 h3 a4 h4 a5 h5 a6 h6 a7 h7 a8 h8 a9 h9 a10 h10 a11 h11 a12 h12 a13 h13).acc (hA3 Q K V G Z O L c i a2 h2 a3 h3 a4 h4 a5 h5 a6 h6 a7 h7 a8 h8 a9 h9 a10 h10 a11 h11 a12 h12 a13 h13).acc (hA4 Q K V G Z O L c i a2 h2 a3 h3 a4 h4 a5 h5 a6 h6 a7 h7 a8 h8 a9 h9 a10 h10 a11 h11 a12 h12 a13 h13).acc

/-- The gate's gradient a first point stores. -/
theorem outA_10 (hc0 : cond0_0 i) :
    out0_A_10 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) = re2 (dzT Z G O) := by
  refine (read_swap _ a12.view (h12.unread (re2 fun _ _ => 0)) _ (cover0_A_10 c i a2 h2 a3 h3 a4 h4 a5 h5 a6 h6 a7 h7 a8 h8 a9 h9 a10 h10 a11 h11 a12 h12 a13 h13 hc0 _ _ _ _ _ _ _)).trans ?_
  rw [runA_2221]
  exact dz_value G Z O a5 h5 a6 h6 a7 h7 a12 h12

/-- The keys' gradient a first point stores. -/
theorem outA_8 (hc0 : cond0_0 i) :
    out0_A_8 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) = re2 (keysEnd Q K V G Z O L fun _ _ => 0) := by
  refine (read_swap _ a10.view a10.view.junk _ (cover0_A_8 c i a2 h2 a3 h3 a4 h4 a5 h5 a6 h6 a7 h7 a8 h8 a9 h9 a10 h10 a11 h11 a12 h12 a13 h13 hc0 _ _ _ _ _ _ _)).trans ?_
  rw [runA_21]
  exact (hA4 Q K V G Z O L c i a2 h2 a3 h3 a4 h4 a5 h5 a6 h6 a7 h7 a8 h8 a9 h9 a10 h10 a11 h11 a12 h12 a13 h13).keys

/-- The values' gradient a first point stores. -/
theorem outA_9 (hc0 : cond0_0 i) :
    out0_A_9 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) = re2 (valsEnd Q K G Z O L fun _ _ => 0) := by
  refine (read_swap _ a11.view a11.view.junk _ (cover0_A_9 c i a2 h2 a3 h3 a4 h4 a5 h5 a6 h6 a7 h7 a8 h8 a9 h9 a10 h10 a11 h11 a12 h12 a13 h13 hc0 _ _ _ _ _ _ _)).trans ?_
  rw [runA_221]
  exact (hA4 Q K V G Z O L c i a2 h2 a3 h3 a4 h4 a5 h5 a6 h6 a7 h7 a8 h8 a9 h9 a10 h10 a11 h11 a12 h12 a13 h13).values

variable (D E : ℕ → ℕ → ℝ)

/-- What the buffers hold after loop 1 of a later point. -/
theorem hB1 : Holds a10 a11 a13 (a10.view.writes VI (h10.unread (re2 D)) (keysB1 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB1 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (accsB1 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (dkEnd (blockHead Q Z G O L 0) (blockHead Q Z G O L 1) K V 0 D)
    (dvEnd (blockHead Q Z G O L 0) (blockHead Q Z G O L 1) K 0 E)
    (accEnd (blockHead Q Z G O L 0) (blockHead Q Z G O L 1) K V 0 fun _ _ _ => 0) := by
  have h := P1_holds c i a2 h2 a3 h3 a4 h4 a5 h5 a6 h6 a7 h7 a8 h8 a9 h9 a10 h10 a11 h11 a12 h12 a13 h13
    (h10.unread (re2 D))
    (h11.unread (re2 E))
    (a13.view.writes VI a13.view.junk zero3) Q K V Z G O L D E (fun _ _ _ => 0)
    ⟨h10.read_unread _, h11.read_unread _, read_zero3 a13 a13.view.junk []⟩
  rw [keysB1, valsB1, accsB1, View.writes_append]
  exact h

/-- What the buffers hold after loop 2 of a later point. -/
theorem hB2 : Holds a10 a11 a13 (a10.view.writes VI (h10.unread (re2 D)) (keysB2 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB2 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (accsB2 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (dkEnd (blockHead Q Z G O L 2) (blockHead Q Z G O L 3) K V 0 (dkEnd (blockHead Q Z G O L 0) (blockHead Q Z G O L 1) K V 0 D))
    (dvEnd (blockHead Q Z G O L 2) (blockHead Q Z G O L 3) K 0 (dvEnd (blockHead Q Z G O L 0) (blockHead Q Z G O L 1) K 0 E))
    (accEnd (blockHead Q Z G O L 2) (blockHead Q Z G O L 3) K V 0 fun _ _ _ => 0) := by
  have h := P2_holds c i a2 h2 a3 h3 a4 h4 a5 h5 a6 h6 a7 h7 a8 h8 a9 h9 a10 h10 a11 h11 a12 h12 a13 h13
    (a10.view.writes VI (h10.unread (re2 D)) (keysB1 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB1 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (zero3 ++ accsB1 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E))) Q K V Z G O L (dkEnd (blockHead Q Z G O L 0) (blockHead Q Z G O L 1) K V 0 D) (dvEnd (blockHead Q Z G O L 0) (blockHead Q Z G O L 1) K 0 E) (fun _ _ _ => 0)
    ⟨(hB1 Q K V G Z O L c i a2 h2 a3 h3 a4 h4 a5 h5 a6 h6 a7 h7 a8 h8 a9 h9 a10 h10 a11 h11 a12 h12 a13 h13 D E).keys, (hB1 Q K V G Z O L c i a2 h2 a3 h3 a4 h4 a5 h5 a6 h6 a7 h7 a8 h8 a9 h9 a10 h10 a11 h11 a12 h12 a13 h13 D E).values, read_zero3 _ _ _⟩
  rw [keysB2, valsB2, accsB2, View.writes_append, View.writes_append, View.writes_append]
  exact h

/-- What the buffers hold after loop 3 of a later point. -/
theorem hB3 : Holds a10 a11 a13 (a10.view.writes VI (h10.unread (re2 D)) (keysB3 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB3 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (accsB3 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (dkEnd (blockHead Q Z G O L 4) (blockHead Q Z G O L 5) K V 64 (dkEnd (blockHead Q Z G O L 2) (blockHead Q Z G O L 3) K V 0 (dkEnd (blockHead Q Z G O L 0) (blockHead Q Z G O L 1) K V 0 D)))
    (dvEnd (blockHead Q Z G O L 4) (blockHead Q Z G O L 5) K 64 (dvEnd (blockHead Q Z G O L 2) (blockHead Q Z G O L 3) K 0 (dvEnd (blockHead Q Z G O L 0) (blockHead Q Z G O L 1) K 0 E)))
    (accEnd (blockHead Q Z G O L 4) (blockHead Q Z G O L 5) K V 64 fun _ _ _ => 0) := by
  have h := P3_holds c i a2 h2 a3 h3 a4 h4 a5 h5 a6 h6 a7 h7 a8 h8 a9 h9 a10 h10 a11 h11 a12 h12 a13 h13
    (a10.view.writes VI (h10.unread (re2 D)) (keysB2 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB2 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (zero3 ++ accsB2 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E))) Q K V Z G O L (dkEnd (blockHead Q Z G O L 2) (blockHead Q Z G O L 3) K V 0 (dkEnd (blockHead Q Z G O L 0) (blockHead Q Z G O L 1) K V 0 D)) (dvEnd (blockHead Q Z G O L 2) (blockHead Q Z G O L 3) K 0 (dvEnd (blockHead Q Z G O L 0) (blockHead Q Z G O L 1) K 0 E)) (fun _ _ _ => 0)
    ⟨(hB2 Q K V G Z O L c i a2 h2 a3 h3 a4 h4 a5 h5 a6 h6 a7 h7 a8 h8 a9 h9 a10 h10 a11 h11 a12 h12 a13 h13 D E).keys, (hB2 Q K V G Z O L c i a2 h2 a3 h3 a4 h4 a5 h5 a6 h6 a7 h7 a8 h8 a9 h9 a10 h10 a11 h11 a12 h12 a13 h13 D E).values, read_zero3 _ _ _⟩
  rw [keysB3, valsB3, accsB3, View.writes_append, View.writes_append, View.writes_append]
  exact h

/-- What the buffers hold after loop 4 of a later point. -/
theorem hB4 : Holds a10 a11 a13 (a10.view.writes VI (h10.unread (re2 D)) (keysB4 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB4 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (accsB4 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (dkEnd (blockHead Q Z G O L 6) (blockHead Q Z G O L 7) K V 64 (dkEnd (blockHead Q Z G O L 4) (blockHead Q Z G O L 5) K V 64 (dkEnd (blockHead Q Z G O L 2) (blockHead Q Z G O L 3) K V 0 (dkEnd (blockHead Q Z G O L 0) (blockHead Q Z G O L 1) K V 0 D))))
    (dvEnd (blockHead Q Z G O L 6) (blockHead Q Z G O L 7) K 64 (dvEnd (blockHead Q Z G O L 4) (blockHead Q Z G O L 5) K 64 (dvEnd (blockHead Q Z G O L 2) (blockHead Q Z G O L 3) K 0 (dvEnd (blockHead Q Z G O L 0) (blockHead Q Z G O L 1) K 0 E))))
    (accEnd (blockHead Q Z G O L 6) (blockHead Q Z G O L 7) K V 64 fun _ _ _ => 0) := by
  have h := P4_holds c i a2 h2 a3 h3 a4 h4 a5 h5 a6 h6 a7 h7 a8 h8 a9 h9 a10 h10 a11 h11 a12 h12 a13 h13
    (a10.view.writes VI (h10.unread (re2 D)) (keysB3 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a11.view.writes VI (h11.unread (re2 E)) (valsB3 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E)))
    (a13.view.writes VI a13.view.junk (zero3 ++ accsB3 c i a2 h2 a3 h3 a4 h4 a5 h5 a6 h6 a7 h7 a8 h8 a9 h9 a10 h10 a11 h11 a12 h12 a13 h13 (re2 Q) (re2 K) (re2 V) (re2 G) (re2 Z) (re2 O) (re3 L) (re2 D) (re2 E))) Q K V Z G O L (dkEnd (blockHead Q Z G O L 4) (blockHead Q Z G O L 5) K V 64 (dkEnd (blockHead Q Z G O L 2) (blockHead Q Z G O L 3) K V 0 (dkEnd (blockHead Q Z G O L 0) (blockHead Q Z G O L 1) K V 0 D))) (dvEnd (blockHead Q Z G O L 4) (blockHead Q Z G O L 5) K 64 (dvEnd (blockHead Q Z G O L 2) (blockHead Q Z G O L 3) K 0 (dvEnd (blockHead Q Z G O L 0) (blockHead Q Z G O L 1) K 0 E))) (fun _ _ _ => 0)
    ⟨(hB3 Q K V G Z O L c i a2 h2 a3 h3 a4 h4 a5 h5 a6 h6 a7 h7 a8 h8 a9 h9 a10 h10 a11 h11 a12 h12 a13 h13 D E).keys, (hB3 Q K V G Z O L c i a2 h2 a3 h3 a4 h4 a5 h5 a6 h6 a7 h7 a8 h8 a9 h9 a10 h10 a11 h11 a12 h12 a13 h13 D E).values, read_zero3 _ _ _⟩
  rw [keysB4, valsB4, accsB4, View.writes_append, View.writes_append, View.writes_append]
  exact h

/-- The queries' gradient a later point stores. -/
theorem outB_7 (hc0 : ¬cond0_0 i) :
    out0_B_7 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) (re2 D) (re2 E) = re2 (dqBlock Q K V G Z O L) := by
  refine (read_swap _ a9.view (h9.unread (re2 fun _ _ => 0)) _ (cover0_B_7 c i a2 h2 a3 h3 a4 h4 a5 h5 a6 h6 a7 h7 a8 h8 a9 h9 a10 h10 a11 h11 a12 h12 a13 h13 hc0 _ _ _ _ _ _ _ _ _)).trans ?_
  rw [runB_1]
  exact dq_value Q K V G Z O L a9 h9 a13 _ _ _ _ (hB1 Q K V G Z O L c i a2 h2 a3 h3 a4 h4 a5 h5 a6 h6 a7 h7 a8 h8 a9 h9 a10 h10 a11 h11 a12 h12 a13 h13 D E).acc (hB2 Q K V G Z O L c i a2 h2 a3 h3 a4 h4 a5 h5 a6 h6 a7 h7 a8 h8 a9 h9 a10 h10 a11 h11 a12 h12 a13 h13 D E).acc (hB3 Q K V G Z O L c i a2 h2 a3 h3 a4 h4 a5 h5 a6 h6 a7 h7 a8 h8 a9 h9 a10 h10 a11 h11 a12 h12 a13 h13 D E).acc (hB4 Q K V G Z O L c i a2 h2 a3 h3 a4 h4 a5 h5 a6 h6 a7 h7 a8 h8 a9 h9 a10 h10 a11 h11 a12 h12 a13 h13 D E).acc

/-- The gate's gradient a later point stores. -/
theorem outB_10 (hc0 : ¬cond0_0 i) :
    out0_B_10 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) (re2 D) (re2 E) = re2 (dzT Z G O) := by
  refine (read_swap _ a12.view (h12.unread (re2 fun _ _ => 0)) _ (cover0_B_10 c i a2 h2 a3 h3 a4 h4 a5 h5 a6 h6 a7 h7 a8 h8 a9 h9 a10 h10 a11 h11 a12 h12 a13 h13 hc0 _ _ _ _ _ _ _ _ _)).trans ?_
  rw [runB_2221]
  exact dz_value G Z O a5 h5 a6 h6 a7 h7 a12 h12

/-- The keys' gradient a later point stores. -/
theorem outB_8 (hc0 : ¬cond0_0 i) :
    out0_B_8 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) (re2 D) (re2 E) = re2 (keysEnd Q K V G Z O L D) := by
  refine (read_swap _ a10.view (h10.unread (re2 D)) _ (cover0_B_8 c i a2 h2 a3 h3 a4 h4 a5 h5 a6 h6 a7 h7 a8 h8 a9 h9 a10 h10 a11 h11 a12 h12 a13 h13 hc0 _ _ _ _ _ _ _ _ _)).trans ?_
  rw [runB_21]
  exact (hB4 Q K V G Z O L c i a2 h2 a3 h3 a4 h4 a5 h5 a6 h6 a7 h7 a8 h8 a9 h9 a10 h10 a11 h11 a12 h12 a13 h13 D E).keys

/-- The values' gradient a later point stores. -/
theorem outB_9 (hc0 : ¬cond0_0 i) :
    out0_B_9 (F := 𝕀) c i a2 h2 a3 h3 a4 h4 a5 h5 a6 h6 a7 h7 a8 h8 a9 h9 a10 h10 a11 h11 a12 h12 a13 h13 hc0 (re2 Q) (re2 K) (re2 V) (re2 G) (re2 Z) (re2 O) (re3 L) (re2 D) (re2 E) = re2 (valsEnd Q K G Z O L E) := by
  refine (read_swap _ a11.view (h11.unread (re2 E)) _ (cover0_B_9 c i a2 h2 a3 h3 a4 h4 a5 h5 a6 h6 a7 h7 a8 h8 a9 h9 a10 h10 a11 h11 a12 h12 a13 h13 hc0 _ _ _ _ _ _ _ _ _)).trans ?_
  rw [runB_221]
  exact (hB4 Q K V G Z O L c i a2 h2 a3 h3 a4 h4 a5 h5 a6 h6 a7 h7 a8 h8 a9 h9 a10 h10 a11 h11 a12 h12 a13 h13 D E).values

end Value

end Cert.Attn

end
-- ==== Proof.Assemble.lean ====
/- The blocks of one grid point put into the whole arrays: what a point computes is its part of the gradient of the
   attention, and the points of a block add up to all of it. -/
module

public import proofs.«01_k».proof.Proof.PointValue
public import proofs.«01_k».proof.Proof.Spec

@[expose] public section

noncomputable section

namespace Cert.Attn

open Finset

/-- Tile `i`, column block `b` of an array of 512-row tiles. -/
def rowBlk (F : ℕ → ℕ → ℝ) (i b r c : ℕ) : ℝ := F (512 * i + r) (512 * b + c)

/-- Column block `b` of an array of keys or values. -/
def keyBlk (F : ℕ → ℕ → ℝ) (b n c : ℕ) : ℝ := F n (128 * b + c)

/-- The logarithms of the eight heads of block `b` at tile `i`. -/
def lseBlk (L : ℕ → ℕ → ℝ) (i b a r j : ℕ) : ℝ := L (8 * b + j) (512 * i + r)

variable (Q K V Z G : ℕ → ℕ → ℝ)

/-- Head `j` of block `b` at tile `i`. -/
def tileHead (i b j : ℕ) : Head :=
  blockHead (rowBlk Q i b) (rowBlk Z i b) (rowBlk G i b) (rowBlk (outp Q K V) i b) (lseBlk (lse Q K) i b) j

section Head

variable (i b j : ℕ)

/-- A tile's weights are the attention weights of its rows. -/
theorem tileHead_p (r n : ℕ) :
    (tileHead Q K V Z G i b j).p (cols (keyBlk K b) (64 * (j / 4))) r n = prob Q K (8 * b + j) (512 * i + r) n := by
  rw [← exp_score_sub_lse]
  refine congrArg Real.exp (congrArg (· - lse Q K (8 * b + j) (512 * i + r)) (sum_congr rfl fun d _ => ?_))
  show Q (512 * i + r) (512 * b + (64 * j + d)) * K n (128 * b + (64 * (j / 4) + d)) = _
  rw [show 512 * b + (64 * j + d) = 64 * (8 * b + j) + d by ring,
    show 128 * b + (64 * (j / 4) + d) = 64 * ((8 * b + j) / 4) + d by omega]

/-- A tile's score gradients are those of its rows. -/
theorem tileHead_ds (r n : ℕ) :
    (tileHead Q K V Z G i b j).ds (cols (keyBlk K b) (64 * (j / 4))) (cols (keyBlk V b) (64 * (j / 4))) r n
      = ds Q K V Z G (8 * b + j) (512 * i + r) n := by
  show (tileHead Q K V Z G i b j).p (cols (keyBlk K b) (64 * (j / 4))) r n
    * (∑ d ∈ range 64, (tileHead Q K V Z G i b j).g r d * cols (keyBlk V b) (64 * (j / 4)) n d
      - ∑ d ∈ range 64, (tileHead Q K V Z G i b j).g r d * cols (rowBlk (outp Q K V) i b) (64 * j) r d)
    = prob Q K (8 * b + j) (512 * i + r) n * (dp V Z G (8 * b + j) (512 * i + r) n - dl Q K V Z G (8 * b + j) (512 * i + r))
  rw [tileHead_p]
  refine congrArg₂ (fun x y => prob Q K (8 * b + j) (512 * i + r) n * (x - y)) (sum_congr rfl fun d _ => ?_) (sum_congr rfl fun d _ => ?_)
  · show dov Z G (512 * i + r) (512 * b + (64 * j + d)) * V n (128 * b + (64 * (j / 4) + d)) = _
    rw [show 512 * b + (64 * j + d) = 64 * (8 * b + j) + d by ring,
      show 128 * b + (64 * (j / 4) + d) = 64 * ((8 * b + j) / 4) + d by omega]
  · show dov Z G (512 * i + r) (512 * b + (64 * j + d)) * outp Q K V (512 * i + r) (512 * b + (64 * j + d)) = _
    rw [show 512 * b + (64 * j + d) = 64 * (8 * b + j) + d by ring]

/-- A tile's part of the values' gradient. -/
theorem tileHead_dv (n d : ℕ) : (tileHead Q K V Z G i b j).dv (cols (keyBlk K b) (64 * (j / 4))) n d
    = ∑ r ∈ range 512, prob Q K (8 * b + j) (512 * i + r) n * dov Z G (512 * i + r) (64 * (8 * b + j) + d) := by
  show ∑ r ∈ range 512, (tileHead Q K V Z G i b j).p (cols (keyBlk K b) (64 * (j / 4))) r n * (tileHead Q K V Z G i b j).g r d = _
  exact sum_congr rfl fun r _ => by
    refine (congrArg₂ (· * ·) (tileHead_p Q K V Z G i b j r n) ?_)
    show dov Z G (512 * i + r) (512 * b + (64 * j + d)) = _
    rw [show 512 * b + (64 * j + d) = 64 * (8 * b + j) + d by ring]

/-- A tile's part of the keys' gradient. -/
theorem tileHead_dk (n d : ℕ) : (tileHead Q K V Z G i b j).dk (cols (keyBlk K b) (64 * (j / 4))) (cols (keyBlk V b) (64 * (j / 4))) n d
    = ∑ r ∈ range 512, ds Q K V Z G (8 * b + j) (512 * i + r) n * Q (512 * i + r) (64 * (8 * b + j) + d) := by
  show ∑ r ∈ range 512, (tileHead Q K V Z G i b j).ds (cols (keyBlk K b) (64 * (j / 4))) (cols (keyBlk V b) (64 * (j / 4))) r n
    * (tileHead Q K V Z G i b j).q r d = _
  exact sum_congr rfl fun r _ => by
    refine (congrArg₂ (· * ·) (tileHead_ds Q K V Z G i b j r n) ?_)
    show Q (512 * i + r) (512 * b + (64 * j + d)) = _
    rw [show 512 * b + (64 * j + d) = 64 * (8 * b + j) + d by ring]

end Head

/-- The keys' gradient over the first `T` rows. -/
def dkUpTo (T n c : ℕ) : ℝ :=
  ∑ a ∈ range 4, ∑ t ∈ range T, ds Q K V Z G (4 * (c / 64) + a) t n * Q t (64 * (4 * (c / 64) + a) + c % 64)

/-- The values' gradient over the first `T` rows. -/
def dvUpTo (T n c : ℕ) : ℝ :=
  ∑ a ∈ range 4, ∑ t ∈ range T, prob Q K (4 * (c / 64) + a) t n * dov Z G t (64 * (4 * (c / 64) + a) + c % 64)

/-- One tile more of the keys' gradient. -/
theorem dkUpTo_step (i n c : ℕ) : dkUpTo Q K V Z G (512 * (i + 1)) n c = dkUpTo Q K V Z G (512 * i) n c
    + ∑ a ∈ range 4, ∑ r ∈ range 512, ds Q K V Z G (4 * (c / 64) + a) (512 * i + r) n * Q (512 * i + r) (64 * (4 * (c / 64) + a) + c % 64) := by
  rw [dkUpTo, dkUpTo, ← sum_add_distrib]
  exact sum_congr rfl fun a _ => by rw [Nat.mul_add, Nat.mul_one, sum_range_add]

/-- One tile more of the values' gradient. -/
theorem dvUpTo_step (i n c : ℕ) : dvUpTo Q K Z G (512 * (i + 1)) n c = dvUpTo Q K Z G (512 * i) n c
    + ∑ a ∈ range 4, ∑ r ∈ range 512, prob Q K (4 * (c / 64) + a) (512 * i + r) n * dov Z G (512 * i + r) (64 * (4 * (c / 64) + a) + c % 64) := by
  rw [dvUpTo, dvUpTo, ← sum_add_distrib]
  exact sum_congr rfl fun a _ => by rw [Nat.mul_add, Nat.mul_one, sum_range_add]

/-- What a tile adds to the keys' gradient. -/
theorem keysEnd_eq (i b : ℕ) (D : ℕ → ℕ → ℝ) (n c : ℕ) (hn : n < 8448) (hc : c < 128)
    (hD : D n c = dkUpTo Q K V Z G (512 * i) n (128 * b + c)) :
    keysEnd (rowBlk Q i b) (keyBlk K b) (keyBlk V b) (rowBlk G i b) (rowBlk Z i b) (rowBlk (outp Q K V) i b) (lseBlk (lse Q K) i b) D n c
      = dkUpTo Q K V Z G (512 * (i + 1)) n (128 * b + c) := by
  rw [dkUpTo_step, ← hD, sum_range_succ, sum_range_succ, sum_range_succ, sum_range_succ, sum_range_zero]
  have hd : (128 * b + c) % 64 = c % 64 := by omega
  rw [hd]
  have e := fun j => tileHead_dk Q K V Z G i b j n (c % 64)
  by_cases h : c < 64
  · have hq : (128 * b + c) / 64 = 2 * b := by omega
    have hm : c % 64 = c := by omega
    rw [hq]
    show _ + ite _ _ _ + ite _ _ _ + ite _ _ _ + ite _ _ _ = _
    rw [if_pos (by omega), if_pos (by omega), if_neg (by omega), if_neg (by omega)]
    have e0 := e 0; have e1 := e 1; have e2 := e 2; have e3 := e 3
    rw [show 4 * (2 * b) = 8 * b by ring, ← e0, ← e1, ← e2, ← e3, hm]
    show D n c + (Head.dk (tileHead Q K V Z G i b 0) _ _ n (c - 0) + Head.dk (tileHead Q K V Z G i b 1) _ _ n (c - 0))
      + (Head.dk (tileHead Q K V Z G i b 2) _ _ n (c - 0) + Head.dk (tileHead Q K V Z G i b 3) _ _ n (c - 0)) + 0 + 0 = _
    simp only [Nat.sub_zero, Nat.reduceDiv, Nat.mul_zero]
    ring
  · have hq : (128 * b + c) / 64 = 2 * b + 1 := by omega
    have hm : c % 64 = c - 64 := by omega
    rw [hq]
    show _ + ite _ _ _ + ite _ _ _ + ite _ _ _ + ite _ _ _ = _
    rw [if_neg (by omega), if_neg (by omega), if_pos (by omega), if_pos (by omega)]
    have e0 := e 4; have e1 := e 5; have e2 := e 6; have e3 := e 7
    rw [show 4 * (2 * b + 1) + 0 = 8 * b + 4 by ring, show 4 * (2 * b + 1) + 1 = 8 * b + 5 by ring,
      show 4 * (2 * b + 1) + 2 = 8 * b + 6 by ring, show 4 * (2 * b + 1) + 3 = 8 * b + 7 by ring, ← e0, ← e1, ← e2, ← e3, hm]
    show D n c + 0 + 0 + (Head.dk (tileHead Q K V Z G i b 4) _ _ n (c - 64) + Head.dk (tileHead Q K V Z G i b 5) _ _ n (c - 64))
      + (Head.dk (tileHead Q K V Z G i b 6) _ _ n (c - 64) + Head.dk (tileHead Q K V Z G i b 7) _ _ n (c - 64)) = _
    simp only [Nat.reduceDiv, Nat.mul_one]
    ring

/-- What a tile adds to the values' gradient. -/
theorem valsEnd_eq (i b : ℕ) (D : ℕ → ℕ → ℝ) (n c : ℕ) (hn : n < 8448) (hc : c < 128)
    (hD : D n c = dvUpTo Q K Z G (512 * i) n (128 * b + c)) :
    valsEnd (rowBlk Q i b) (keyBlk K b) (rowBlk G i b) (rowBlk Z i b) (rowBlk (outp Q K V) i b) (lseBlk (lse Q K) i b) D n c
      = dvUpTo Q K Z G (512 * (i + 1)) n (128 * b + c) := by
  rw [dvUpTo_step, ← hD, sum_range_succ, sum_range_succ, sum_range_succ, sum_range_succ, sum_range_zero]
  have hd : (128 * b + c) % 64 = c % 64 := by omega
  rw [hd]
  have e := fun j => tileHead_dv Q K V Z G i b j n (c % 64)
  by_cases h : c < 64
  · have hq : (128 * b + c) / 64 = 2 * b := by omega
    have hm : c % 64 = c := by omega
    rw [hq]
    show _ + ite _ _ _ + ite _ _ _ + ite _ _ _ + ite _ _ _ = _
    rw [if_pos (by omega), if_pos (by omega), if_neg (by omega), if_neg (by omega)]
    have e0 := e 0; have e1 := e 1; have e2 := e 2; have e3 := e 3
    rw [show 4 * (2 * b) = 8 * b by ring, ← e0, ← e1, ← e2, ← e3, hm]
    show D n c + (Head.dv (tileHead Q K V Z G i b 0) _ n (c - 0) + Head.dv (tileHead Q K V Z G i b 1) _ n (c - 0))
      + (Head.dv (tileHead Q K V Z G i b 2) _ n (c - 0) + Head.dv (tileHead Q K V Z G i b 3) _ n (c - 0)) + 0 + 0 = _
    simp only [Nat.sub_zero, Nat.reduceDiv, Nat.mul_zero]
    ring
  · have hq : (128 * b + c) / 64 = 2 * b + 1 := by omega
    have hm : c % 64 = c - 64 := by omega
    rw [hq]
    show _ + ite _ _ _ + ite _ _ _ + ite _ _ _ + ite _ _ _ = _
    rw [if_neg (by omega), if_neg (by omega), if_pos (by omega), if_pos (by omega)]
    have e0 := e 4; have e1 := e 5; have e2 := e 6; have e3 := e 7
    rw [show 4 * (2 * b + 1) + 0 = 8 * b + 4 by ring, show 4 * (2 * b + 1) + 1 = 8 * b + 5 by ring,
      show 4 * (2 * b + 1) + 2 = 8 * b + 6 by ring, show 4 * (2 * b + 1) + 3 = 8 * b + 7 by ring, ← e0, ← e1, ← e2, ← e3, hm]
    show D n c + 0 + 0 + (Head.dv (tileHead Q K V Z G i b 4) _ n (c - 64) + Head.dv (tileHead Q K V Z G i b 5) _ n (c - 64))
      + (Head.dv (tileHead Q K V Z G i b 6) _ n (c - 64) + Head.dv (tileHead Q K V Z G i b 7) _ n (c - 64)) = _
    simp only [Nat.reduceDiv, Nat.mul_one]
    ring

/-- A block of the queries' gradient. -/
theorem dqBlock_eq (i b r c : ℕ) (hc : c < 512) :
    dqBlock (rowBlk Q i b) (keyBlk K b) (keyBlk V b) (rowBlk G i b) (rowBlk Z i b) (rowBlk (outp Q K V) i b) (lseBlk (lse Q K) i b) r c
      = dq Q K V Z G (512 * i + r) (512 * b + c) := by
  have hh : headOf (tileHead Q K V Z G i b (2 * (c / 64 / 2))) (tileHead Q K V Z G i b (2 * (c / 64 / 2) + 1)) (c / 64 % 2)
      = tileHead Q K V Z G i b (c / 64) := by
    rw [headOf]
    split_ifs with h
    · rw [show 2 * (c / 64 / 2) = c / 64 by omega]
    · rw [show 2 * (c / 64 / 2) + 1 = c / 64 by omega]
  show 0 + ∑ n ∈ range (768 * 11), (headOf (tileHead Q K V Z G i b (2 * (c / 64 / 2))) (tileHead Q K V Z G i b (2 * (c / 64 / 2) + 1))
    (c / 64 % 2)).ds _ _ r n * cols (keyBlk K b) (64 * (c / 64 / 4)) n (c % 64) = _
  rw [hh, zero_add, dq]
  refine sum_congr rfl fun n _ => ?_
  rw [tileHead_ds, show 8 * b + c / 64 = (512 * b + c) / 64 by omega]
  refine congrArg _ ?_
  show K n (128 * b + (64 * (c / 64 / 4) + c % 64)) = _
  rw [show 128 * b + (64 * (c / 64 / 4) + c % 64) = 64 * ((512 * b + c) / 256) + (512 * b + c) % 64 by omega]

end Cert.Attn

end
-- ==== Proof.Arrays.lean ====
/- The blocks a grid point reads, from real contents of the arrays at the call. -/
module

public import proofs.«01_k».proof.Proof.Assemble
public import proofs.«01_k».proof.Proof.Gen.KernelIdeal.Value

@[expose] public section

set_option maxRecDepth 16384

noncomputable section

namespace Cert.Attn

open Finset Idealize.ShloMosaic Idealize.ShloMosaic.TcCoe Idealize.ShloMosaic.Tactic
open Cert.KernelIdeal Cert.KernelIdeal.Gen

local notation "𝕀" => Idealize.ShloMosaic.Ideal

/-- The tile of a grid point and its block of columns, as the first two inputs' windows place them. -/
theorem index_in : ∀ t : Fin cfg0.N,
    (win0_0.index t 0 = t.val % 16 ∧ win0_0.index t 1 = t.val / 16) ∧ (win0_1.index t 0 = 0 ∧ win0_1.index t 1 = t.val / 16)
    ∧ (win0_2.index t 0 = 0 ∧ win0_2.index t 1 = t.val / 16) ∧ (win0_3.index t 0 = t.val % 16 ∧ win0_3.index t 1 = t.val / 16) := by
  decide +kernel

/-- The same of the other inputs' windows. -/
theorem index_in' : ∀ t : Fin cfg0.N,
    (win0_4.index t 0 = t.val % 16 ∧ win0_4.index t 1 = 2 + t.val / 16) ∧ (win0_5.index t 0 = t.val % 16 ∧ win0_5.index t 1 = t.val / 16)
    ∧ (win0_6.index t 0 = t.val / 16 ∧ win0_6.index t 1 = t.val % 16 ∧ win0_6.index t 2 = 0) := by
  decide +kernel

/-- The same of the results' windows. -/
theorem index_out : ∀ t : Fin cfg0.N,
    (win0_7.index t 0 = t.val % 16 ∧ win0_7.index t 1 = t.val / 16) ∧ (win0_8.index t 0 = 0 ∧ win0_8.index t 1 = t.val / 16)
    ∧ (win0_9.index t 0 = 0 ∧ win0_9.index t 1 = t.val / 16) ∧ (win0_10.index t 0 = t.val % 16 ∧ win0_10.index t 1 = t.val / 16) := by
  decide +kernel

/-- What the arrays hold when the call starts: real numbers, the output and the logarithms those of the attention. -/
structure Entry (m : (ℓ : Loc nD τ sig) → Buf (Elt 𝕀) ℓ) (c : Dev nD) (Q K V' Z G : ℕ → ℕ → ℝ) : Prop where
  q : V m c main_arg0 = re2 Q
  k : V m c main_arg1 = re2 K
  v : V m c main_arg2 = re2 V'
  g : V m c main_arg4 = re2 G
  z : ∀ (r : Fin 8448) (d : Fin 2560), r.val < 8192 → 1024 ≤ d.val → d.val < 2048 →
    V m c main_arg3 (ix2 r d) = ((Z r.val (d.val - 1024) : ℝ) : EReal)
  o : V m c main_v29 = re2 (outp Q K V')
  l : V m c main_v31 = re3 fun b r j => lse Q K (8 * b + j) r

section

variable {m : (ℓ : Loc nD τ sig) → Buf (Elt 𝕀) ℓ} {c : Dev nD} {Q K V' Z G : ℕ → ℕ → ℝ} (H : Entry m c Q K V' Z G)
include H

/-- The block of queries a point reads. -/
theorem blk_q (t : Fin cfg0.N) : (iblk m c 0 t : Vec 𝕀 S512x512 .bf16) = re2 (rowBlk Q (t.val % 16) (t.val / 16)) := by
  have hi := (index_in t).1
  funext j
  unfold iblk
  rw [View.read_apply]
  refine (congrFun H.q _).trans ?_
  show ((Q (win0_0.index t 0 * 512 + 1 * (j 0).val) (win0_0.index t 1 * 512 + 1 * (j 1).val) : ℝ) : EReal) = _
  rw [hi.1, hi.2, Nat.one_mul, Nat.one_mul, Nat.mul_comm _ 512, Nat.mul_comm _ 512]
  rfl

/-- The block of keys a point reads. -/
theorem blk_k (t : Fin cfg0.N) : (iblk m c 1 t : Vec 𝕀 S8448x128 .bf16) = re2 (keyBlk K (t.val / 16)) := by
  have hi := (index_in t).2.1
  funext j
  unfold iblk
  rw [View.read_apply]
  refine (congrFun H.k _).trans ?_
  show ((K (win0_1.index t 0 * 8448 + 1 * (j 0).val) (win0_1.index t 1 * 128 + 1 * (j 1).val) : ℝ) : EReal) = _
  rw [hi.1, hi.2, Nat.one_mul, Nat.one_mul, Nat.zero_mul, Nat.zero_add, Nat.mul_comm _ 128]
  rfl

/-- The block of values a point reads. -/
theorem blk_v (t : Fin cfg0.N) : (iblk m c 2 t : Vec 𝕀 S8448x128 .bf16) = re2 (keyBlk V' (t.val / 16)) := by
  have hi := (index_in t).2.2.1
  funext j
  unfold iblk
  rw [View.read_apply]
  refine (congrFun H.v _).trans ?_
  show ((V' (win0_2.index t 0 * 8448 + 1 * (j 0).val) (win0_2.index t 1 * 128 + 1 * (j 1).val) : ℝ) : EReal) = _
  rw [hi.1, hi.2, Nat.one_mul, Nat.one_mul, Nat.zero_mul, Nat.zero_add, Nat.mul_comm _ 128]
  rfl

/-- The block of the incoming gradient a point reads. -/
theorem blk_g (t : Fin cfg0.N) : (iblk m c 3 t : Vec 𝕀 S512x512 .bf16) = re2 (rowBlk G (t.val % 16) (t.val / 16)) := by
  have hi := (index_in t).2.2.2
  funext j
  unfold iblk
  rw [View.read_apply]
  refine (congrFun H.g _).trans ?_
  show ((G (win0_3.index t 0 * 512 + 1 * (j 0).val) (win0_3.index t 1 * 512 + 1 * (j 1).val) : ℝ) : EReal) = _
  rw [hi.1, hi.2, Nat.one_mul, Nat.one_mul, Nat.mul_comm _ 512, Nat.mul_comm _ 512]
  rfl

omit H in
/-- The block of outputs a point reads, whatever real numbers they are. -/
theorem blk_o_of (F : ℕ → ℕ → ℝ) (h : V m c main_v29 = re2 F) (t : Fin cfg0.N) :
    (iblk m c 5 t : Vec 𝕀 S512x512 .f32) = re2 (rowBlk F (t.val % 16) (t.val / 16)) := by
  have hi := (index_in' t).2.1
  funext j
  unfold iblk
  rw [View.read_apply]
  refine (congrFun h _).trans ?_
  show ((F (win0_5.index t 0 * 512 + 1 * (j 0).val) (win0_5.index t 1 * 512 + 1 * (j 1).val) : ℝ) : EReal) = _
  rw [hi.1, hi.2, Nat.one_mul, Nat.one_mul, Nat.mul_comm _ 512, Nat.mul_comm _ 512]
  rfl

/-- The block of outputs a point reads. -/
theorem blk_o (t : Fin cfg0.N) : (iblk m c 5 t : Vec 𝕀 S512x512 .f32) = re2 (rowBlk (outp Q K V') (t.val % 16) (t.val / 16)) :=
  blk_o_of _ H.o t

omit H in
/-- The block of logarithms a point reads, whatever real numbers they are. -/
theorem blk_l_of (L : ℕ → ℕ → ℝ) (h : V m c main_v31 = re3 fun b r j => L (8 * b + j) r) (t : Fin cfg0.N) :
    (iblk m c 6 t : Vec 𝕀 S1x512x8 .f32) = re3 (lseBlk L (t.val % 16) (t.val / 16)) := by
  have hi := (index_in' t).2.2
  have ht : t.val < 32 := t.isLt
  funext j
  have h0 : (j 0).val < 1 := (j 0).isLt
  have h1 : (j 1).val < 512 := (j 1).isLt
  have h2 : (j 2).val < 8 := (j 2).isLt
  have e0 : win0_6.index t 0 * 1 + 1 * (j 0).val = t.val / 16 := by rw [hi.1]; omega
  have e1 : win0_6.index t 1 * 512 + 1 * (j 1).val = 512 * (t.val % 16) + (j 1).val := by rw [hi.2.1]; omega
  have e2 : win0_6.index t 2 * 8 + 1 * (j 2).val = (j 2).val := by rw [hi.2.2]; omega
  have e4 : ((cfg0.win 6).blk t).view.emb j = (ix3 (⟨t.val / 16, by omega⟩ : Fin 2) (⟨512 * (t.val % 16) + (j 1).val, by omega⟩ : Fin 8192) (⟨(j 2).val, h2⟩ : Fin 8) : S2x8192x8.Idx) := by
    funext a
    apply Fin.ext
    match a with
    | ⟨0, _⟩ => exact e0
    | ⟨1, _⟩ => exact e1
    | ⟨2, _⟩ => exact e2
  have h' : V m c (Pipeline.arrRef spec0 6) = re3 fun b r j => L (8 * b + j) r := h
  unfold iblk
  rw [h', View.read_apply]
  exact (congrArg (re3 (a := 2) (b := 8192) (c := 8) fun b r j => L (8 * b + j) r) e4).trans (re3_ix3 _ _ _ _)

/-- The block of logarithms a point reads. -/
theorem blk_l (t : Fin cfg0.N) : (iblk m c 6 t : Vec 𝕀 S1x512x8 .f32) = re3 (lseBlk (lse Q K) (t.val % 16) (t.val / 16)) :=
  blk_l_of _ H.l t

/-- The block of the gate a point reads. -/
theorem blk_z (t : Fin cfg0.N) : (X0_4 m c t : Vec 𝕀 S512x512 .bf16) = re2 (rowBlk Z (t.val % 16) (t.val / 16)) := by
  have hi := (index_in' t).1
  have ht : t.val < 32 := t.isLt
  funext j
  have h0 : (j 0).val < 512 := (j 0).isLt
  have h1 : (j 1).val < 512 := (j 1).isLt
  unfold X0_4 Pipeline.Window.fill
  rw [dif_pos (moved0_4 t j)]
  unfold iblk
  rw [View.read_apply]
  have e0 : win0_4.index t 0 * 512 + 1 * (j 0).val = 512 * (t.val % 16) + (j 0).val := by rw [hi.1]; omega
  have e1 : win0_4.index t 1 * 512 + 1 * (j 1).val = 1024 + (512 * (t.val / 16) + (j 1).val) := by rw [hi.2]; omega
  have key := H.z ⟨512 * (t.val % 16) + (j 0).val, by omega⟩ ⟨1024 + (512 * (t.val / 16) + (j 1).val), by omega⟩
    (by show 512 * (t.val % 16) + (j 0).val < 8192; omega) (by show 1024 ≤ 1024 + (512 * (t.val / 16) + (j 1).val); omega)
    (by show 1024 + (512 * (t.val / 16) + (j 1).val) < 2048; omega)
  refine Eq.trans (congrArg (V m c main_arg3) ?_) (key.trans ?_)
  · funext a
    apply Fin.ext
    match a with
    | ⟨0, _⟩ => exact e0
    | ⟨1, _⟩ => exact e1
  · rw [Nat.add_sub_cancel_left]
    rfl

end

end Cert.Attn

end
-- ==== Proof.PointLeft.lean ====
/- What every grid point leaves in its four results: its blocks of the gradients. -/
module

public import proofs.«01_k».proof.Proof.Arrays

@[expose] public section

set_option maxRecDepth 16384

noncomputable section

namespace Cert.Attn

open Finset Idealize.ShloMosaic Idealize.ShloMosaic.TcCoe Idealize.ShloMosaic.Tactic
open Cert.KernelIdeal Cert.KernelIdeal.Gen

local notation "𝕀" => Idealize.ShloMosaic.Ideal

/-- The block of the queries' gradient a point leaves. -/
def dqAt (Q K V' Z G : ℕ → ℕ → ℝ) (t r d : ℕ) : ℝ := dq Q K V' Z G (512 * (t % 16) + r) (512 * (t / 16) + d)
/-- The block of the keys' gradient a point leaves. -/
def dkAtPoint (Q K V' Z G : ℕ → ℕ → ℝ) (t n d : ℕ) : ℝ := dkUpTo Q K V' Z G (512 * (t % 16 + 1)) n (128 * (t / 16) + d)
/-- The block of the values' gradient a point leaves. -/
def dvAtPoint (Q K Z G : ℕ → ℕ → ℝ) (t n d : ℕ) : ℝ := dvUpTo Q K Z G (512 * (t % 16 + 1)) n (128 * (t / 16) + d)
/-- The block of the gate's gradient a point leaves. -/
def dzAt (Q K V' Z G : ℕ → ℕ → ℝ) (t r d : ℕ) : ℝ := dz Q K V' Z G (512 * (t % 16) + r) (512 * (t / 16) + d)

/-- What a point's four results hold. -/
structure Left (Q K V' Z G : ℕ → ℕ → ℝ) (t : ℕ)
    (x : Vec 𝕀 S512x512 .bf16 × Vec 𝕀 S8448x128 .f32 × Vec 𝕀 S8448x128 .f32 × Vec 𝕀 S512x512 .bf16) : Prop where
  dq : x.1 = re2 (dqAt Q K V' Z G t)
  dk : x.2.1 = re2 (dkAtPoint Q K V' Z G t)
  dv : x.2.2.1 = re2 (dvAtPoint Q K Z G t)
  dz : x.2.2.2 = re2 (dzAt Q K V' Z G t)

/-- Two real arrays that agree in range are one array of extended reals. -/
theorem re2_congr {a b : ℕ} {f g : ℕ → ℕ → ℝ} (h : ∀ r < a, ∀ d < b, f r d = g r d) : (re2 f : (⟨2, ![a, b]⟩ : Shape).Idx → EReal) = re2 g :=
  funext fun j => congrArg Real.toEReal (h _ (j 0).isLt _ (j 1).isLt)

/-- The gate's gradient of one block, whatever the output is. -/
theorem dz_block (Z G O : ℕ → ℕ → ℝ) (i b r d : ℕ) : dzT (rowBlk Z i b) (rowBlk G i b) (rowBlk O i b) r d
    = G (512 * i + r) (512 * b + d) * O (512 * i + r) (512 * b + d)
      * (logi (Z (512 * i + r) (512 * b + d)) * (1 + Z (512 * i + r) (512 * b + d) * (1 - logi (Z (512 * i + r) (512 * b + d))))) := rfl

/-- The gate's gradient of a point's block, as a whole array. -/
theorem dz_array (Q K V' Z G : ℕ → ℕ → ℝ) (t : ℕ) : (re2 (dzT (rowBlk Z (t % 16) (t / 16)) (rowBlk G (t % 16) (t / 16)) (rowBlk (outp Q K V') (t % 16) (t / 16))) : Vec 𝕀 S512x512 .bf16)
    = re2 (dzAt Q K V' Z G t) := by
  refine re2_congr fun r _ d _ => ?_
  unfold dzAt dz
  exact dz_block Z G (outp Q K V') (t % 16) (t / 16) r d

section

variable {m : (ℓ : Loc nD τ sig) → Buf (Elt 𝕀) ℓ} {c : Dev nD} {Q K V' Z G : ℕ → ℕ → ℝ} (H : Entry m c Q K V' Z G)
include H

/-- The first point of a block. -/
theorem left_first (t : Fin cfg0.N) (h0 : t.val % 16 = 0) : Left Q K V' Z G t.val (outsAt0 m c t.val t.isLt) := by
  rw [outsAt0_A m c t h0, blk_q H, blk_k H, blk_v H, blk_g H, blk_z H, blk_o H, blk_l H]
  refine ⟨?_, ?_, ?_, ?_⟩
  · dsimp only
    refine (outA_7 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0)).trans ?_
    exact re2_congr fun r _ d hd => dqBlock_eq Q K V' Z G _ _ r d hd
  · dsimp only
    refine (outA_8 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0)).trans ?_
    exact re2_congr fun n hn d hd => keysEnd_eq Q K V' Z G _ _ _ n d hn hd (by
      rw [h0, Nat.mul_zero, dkUpTo]
      simp only [range_zero, sum_empty, sum_const_zero])
  · dsimp only
    refine (outA_9 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0)).trans ?_
    exact re2_congr fun n hn d hd => valsEnd_eq Q K V' Z G _ _ _ n d hn hd (by
      rw [h0, Nat.mul_zero, dvUpTo]
      simp only [range_zero, sum_empty, sum_const_zero])
  · dsimp only
    refine (outA_10 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0)).trans ?_
    exact dz_array Q K V' Z G t.val

/-- A later point of a block. -/
theorem left_later (t : Fin cfg0.N) (h0 : ¬ t.val % 16 = 0)
    (ih : Left Q K V' Z G (t.val - 1) (outsAt0 m c (t.val - 1) (Nat.lt_of_le_of_lt (Nat.sub_le _ _) t.isLt))) :
    Left Q K V' Z G t.val (outsAt0 m c t.val t.isLt) := by
  rw [outsAt0_B m c t h0, ih.dk, ih.dv, blk_q H, blk_k H, blk_v H, blk_g H, blk_z H, blk_o H, blk_l H]
  have e1 : (t.val - 1) % 16 + 1 = t.val % 16 := by omega
  have e2 : (t.val - 1) / 16 = t.val / 16 := by omega
  refine ⟨?_, ?_, ?_, ?_⟩
  · dsimp only
    refine (outB_7 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (dkAtPoint Q K V' Z G (t.val - 1)) (dvAtPoint Q K Z G (t.val - 1)) fun h => h0 ((hcond0_0 t).mp h)).trans ?_
    exact re2_congr fun r _ d hd => dqBlock_eq Q K V' Z G _ _ r d hd
  · dsimp only
    refine (outB_8 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (dkAtPoint Q K V' Z G (t.val - 1)) (dvAtPoint Q K Z G (t.val - 1)) fun h => h0 ((hcond0_0 t).mp h)).trans ?_
    exact re2_congr fun n hn d hd => keysEnd_eq Q K V' Z G _ _ _ n d hn hd (by rw [dkAtPoint, e1, e2])
  · dsimp only
    refine (outB_9 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (dkAtPoint Q K V' Z G (t.val - 1)) (dvAtPoint Q K Z G (t.val - 1)) fun h => h0 ((hcond0_0 t).mp h)).trans ?_
    exact re2_congr fun n hn d hd => valsEnd_eq Q K V' Z G _ _ _ n d hn hd (by rw [dvAtPoint, e1, e2])
  · dsimp only
    refine (outB_10 (rowBlk Q (t.val % 16) (t.val / 16)) (keyBlk K (t.val / 16)) (keyBlk V' (t.val / 16)) (rowBlk G (t.val % 16) (t.val / 16)) (rowBlk Z (t.val % 16) (t.val / 16)) (rowBlk (outp Q K V') (t.val % 16) (t.val / 16)) (lseBlk (lse Q K) (t.val % 16) (t.val / 16)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (dkAtPoint Q K V' Z G (t.val - 1)) (dvAtPoint Q K Z G (t.val - 1)) fun h => h0 ((hcond0_0 t).mp h)).trans ?_
    exact dz_array Q K V' Z G t.val

/-- Every point leaves its blocks of the gradients. -/
theorem left_all (n : ℕ) (h : n < cfg0.N) : Left Q K V' Z G n (outsAt0 m c n h) := by
  induction n with
  | zero => exact left_first H ⟨0, h⟩ rfl
  | succ n ih =>
    by_cases h0 : (n + 1) % 16 = 0
    · exact left_first H ⟨n + 1, h⟩ h0
    · exact left_later H ⟨n + 1, h⟩ h0 (ih _)

end

end Cert.Attn

end
-- ==== Proof.Final.lean ====
/- The four result arrays after the run: from real contents at the call, each is the gradient of the attention. -/
module

public import proofs.«01_k».proof.Proof.PointLeft

@[expose] public section

set_option maxRecDepth 16384

noncomputable section

namespace Cert.Attn

open Finset Idealize.ShloMosaic Idealize.ShloMosaic.TcCoe Idealize.ShloMosaic.Tactic
open Cert.KernelIdeal Cert.KernelIdeal.Gen

local notation "𝕀" => Idealize.ShloMosaic.Ideal

section

variable {m : (ℓ : Loc nD τ sig) → Buf (Elt 𝕀) ℓ} {c : Dev nD}

/-- The array of the queries' gradient, from the blocks the points leave. -/
theorem array_dq (F : ℕ → ℕ → ℝ)
    (h : ∀ t : Fin cfg0.N, (outsAt0 m c t.val t.isLt).1 = re2 fun r d => F (512 * (t.val % 16) + r) (512 * (t.val / 16) + d)) :
    (dats m 0 c).arrAt 7 cfg0.N = (re2 F : Vec 𝕀 S8192x1024 .bf16) := by
  refine (dats m 0 c).arrAt_eq_of_cover 7 _ (fun t _ => ?_) fun i => ?_
  · have hi := (index_out t).1
    rw [Value.flushed7, h t]
    funext j
    rw [View.read_apply]
    show ((F (512 * (t.val % 16) + (j 0).val) (512 * (t.val / 16) + (j 1).val) : ℝ) : EReal)
      = ((F (win0_7.index t 0 * 512 + 1 * (j 0).val) (win0_7.index t 1 * 512 + 1 * (j 1).val) : ℝ) : EReal)
    rw [hi.1, hi.2, Nat.one_mul, Nat.one_mul, Nat.mul_comm _ 512, Nat.mul_comm _ 512]
  · have h0 : (i 0 : ℕ) < 8192 := (i 0).isLt
    have h1 : (i 1 : ℕ) < 1024 := (i 1).isLt
    let t : Fin cfg0.N := ⟨16 * ((i 1 : ℕ) / 512) + (i 0 : ℕ) / 512, by show _ < 32; omega⟩
    have hi := (index_out t).1
    have ht : t.val = 16 * ((i 1 : ℕ) / 512) + (i 0 : ℕ) / 512 := rfl
    refine ⟨t, flush0_7 t, ?_⟩
    show i ∈ ((View.whole main_v32_0).slice (win0_7.rect t)).set
    rw [View.set_slice_whole, Rect.mem_set_unit]
    intro a
    match a with
    | ⟨0, _⟩ => show win0_7.index t 0 * 512 ≤ (i 0 : ℕ) ∧ (i 0 : ℕ) < win0_7.index t 0 * 512 + 512; rw [hi.1]; omega
    | ⟨1, _⟩ => show win0_7.index t 1 * 512 ≤ (i 1 : ℕ) ∧ (i 1 : ℕ) < win0_7.index t 1 * 512 + 512; rw [hi.2]; omega

/-- The array of the gate's gradient, from the blocks the points leave. -/
theorem array_dz (F : ℕ → ℕ → ℝ)
    (h : ∀ t : Fin cfg0.N, (outsAt0 m c t.val t.isLt).2.2.2 = re2 fun r d => F (512 * (t.val % 16) + r) (512 * (t.val / 16) + d)) :
    (dats m 0 c).arrAt 10 cfg0.N = (re2 F : Vec 𝕀 S8192x1024 .bf16) := by
  refine (dats m 0 c).arrAt_eq_of_cover 10 _ (fun t _ => ?_) fun i => ?_
  · have hi := (index_out t).2.2.2
    rw [Value.flushed10, h t]
    funext j
    rw [View.read_apply]
    show ((F (512 * (t.val % 16) + (j 0).val) (512 * (t.val / 16) + (j 1).val) : ℝ) : EReal)
      = ((F (win0_10.index t 0 * 512 + 1 * (j 0).val) (win0_10.index t 1 * 512 + 1 * (j 1).val) : ℝ) : EReal)
    rw [hi.1, hi.2, Nat.one_mul, Nat.one_mul, Nat.mul_comm _ 512, Nat.mul_comm _ 512]
  · have h0 : (i 0 : ℕ) < 8192 := (i 0).isLt
    have h1 : (i 1 : ℕ) < 1024 := (i 1).isLt
    let t : Fin cfg0.N := ⟨16 * ((i 1 : ℕ) / 512) + (i 0 : ℕ) / 512, by show _ < 32; omega⟩
    have hi := (index_out t).2.2.2
    have ht : t.val = 16 * ((i 1 : ℕ) / 512) + (i 0 : ℕ) / 512 := rfl
    refine ⟨t, flush0_10 t, ?_⟩
    show i ∈ ((View.whole main_v32_3).slice (win0_10.rect t)).set
    rw [View.set_slice_whole, Rect.mem_set_unit]
    intro a
    match a with
    | ⟨0, _⟩ => show win0_10.index t 0 * 512 ≤ (i 0 : ℕ) ∧ (i 0 : ℕ) < win0_10.index t 0 * 512 + 512; rw [hi.1]; omega
    | ⟨1, _⟩ => show win0_10.index t 1 * 512 ≤ (i 1 : ℕ) ∧ (i 1 : ℕ) < win0_10.index t 1 * 512 + 512; rw [hi.2]; omega

/-- The array of the keys' gradient, from the blocks the points leave. -/
theorem array_dk (F : ℕ → ℕ → ℝ)
    (h : ∀ t : Fin cfg0.N, t.val % 16 = 15 → (outsAt0 m c t.val t.isLt).2.1 = re2 fun n d => F n (128 * (t.val / 16) + d)) :
    (dats m 0 c).arrAt 8 cfg0.N = (re2 F : Vec 𝕀 S8448x256 .f32) := by
  refine (dats m 0 c).arrAt_eq_of_cover 8 _ (fun t hf => ?_) fun i => ?_
  · have hi := (index_out t).2.1
    have h15 := (flush0_8 t).mp hf
    rw [Value.flushed8, h t h15]
    funext j
    rw [View.read_apply]
    show ((F (j 0).val (128 * (t.val / 16) + (j 1).val) : ℝ) : EReal)
      = ((F (win0_8.index t 0 * 8448 + 1 * (j 0).val) (win0_8.index t 1 * 128 + 1 * (j 1).val) : ℝ) : EReal)
    rw [hi.1, hi.2, Nat.one_mul, Nat.one_mul, Nat.zero_mul, Nat.zero_add, Nat.mul_comm _ 128]
  · have h0 : (i 0 : ℕ) < 8448 := (i 0).isLt
    have h1 : (i 1 : ℕ) < 256 := (i 1).isLt
    let t : Fin cfg0.N := ⟨16 * ((i 1 : ℕ) / 128) + 15, by show _ < 32; omega⟩
    have hi := (index_out t).2.1
    have ht : t.val = 16 * ((i 1 : ℕ) / 128) + 15 := rfl
    refine ⟨t, (flush0_8 t).mpr (by omega), ?_⟩
    show i ∈ ((View.whole main_v32_1).slice (win0_8.rect t)).set
    rw [View.set_slice_whole, Rect.mem_set_unit]
    intro a
    match a with
    | ⟨0, _⟩ => show win0_8.index t 0 * 8448 ≤ (i 0 : ℕ) ∧ (i 0 : ℕ) < win0_8.index t 0 * 8448 + 8448; rw [hi.1]; omega
    | ⟨1, _⟩ => show win0_8.index t 1 * 128 ≤ (i 1 : ℕ) ∧ (i 1 : ℕ) < win0_8.index t 1 * 128 + 128; rw [hi.2]; omega

/-- The array of the values' gradient, from the blocks the points leave. -/
theorem array_dv (F : ℕ → ℕ → ℝ)
    (h : ∀ t : Fin cfg0.N, t.val % 16 = 15 → (outsAt0 m c t.val t.isLt).2.2.1 = re2 fun n d => F n (128 * (t.val / 16) + d)) :
    (dats m 0 c).arrAt 9 cfg0.N = (re2 F : Vec 𝕀 S8448x256 .f32) := by
  refine (dats m 0 c).arrAt_eq_of_cover 9 _ (fun t hf => ?_) fun i => ?_
  · have hi := (index_out t).2.2.1
    have h15 := (flush0_9 t).mp hf
    rw [Value.flushed9, h t h15]
    funext j
    rw [View.read_apply]
    show ((F (j 0).val (128 * (t.val / 16) + (j 1).val) : ℝ) : EReal)
      = ((F (win0_9.index t 0 * 8448 + 1 * (j 0).val) (win0_9.index t 1 * 128 + 1 * (j 1).val) : ℝ) : EReal)
    rw [hi.1, hi.2, Nat.one_mul, Nat.one_mul, Nat.zero_mul, Nat.zero_add, Nat.mul_comm _ 128]
  · have h0 : (i 0 : ℕ) < 8448 := (i 0).isLt
    have h1 : (i 1 : ℕ) < 256 := (i 1).isLt
    let t : Fin cfg0.N := ⟨16 * ((i 1 : ℕ) / 128) + 15, by show _ < 32; omega⟩
    have hi := (index_out t).2.2.1
    have ht : t.val = 16 * ((i 1 : ℕ) / 128) + 15 := rfl
    refine ⟨t, (flush0_9 t).mpr (by omega), ?_⟩
    show i ∈ ((View.whole main_v32_2).slice (win0_9.rect t)).set
    rw [View.set_slice_whole, Rect.mem_set_unit]
    intro a
    match a with
    | ⟨0, _⟩ => show win0_9.index t 0 * 8448 ≤ (i 0 : ℕ) ∧ (i 0 : ℕ) < win0_9.index t 0 * 8448 + 8448; rw [hi.1]; omega
    | ⟨1, _⟩ => show win0_9.index t 1 * 128 ≤ (i 1 : ℕ) ∧ (i 1 : ℕ) < win0_9.index t 1 * 128 + 128; rw [hi.2]; omega

variable {Q K V' Z G : ℕ → ℕ → ℝ} (H : Entry m c Q K V' Z G)
include H

/-- The queries' gradient after the run. -/
theorem final_dq : (dats m 0 c).arrAt 7 cfg0.N = (re2 (dq Q K V' Z G) : Vec 𝕀 S8192x1024 .bf16) :=
  array_dq _ fun t => (left_all H t.val t.isLt).dq

/-- The gate's gradient after the run. -/
theorem final_dz : (dats m 0 c).arrAt 10 cfg0.N = (re2 (dz Q K V' Z G) : Vec 𝕀 S8192x1024 .bf16) :=
  array_dz _ fun t => (left_all H t.val t.isLt).dz

/-- The keys' gradient after the run. -/
theorem final_dk : (dats m 0 c).arrAt 8 cfg0.N = (re2 (dk Q K V' Z G) : Vec 𝕀 S8448x256 .f32) :=
  array_dk _ fun t h15 => (left_all H t.val t.isLt).dk.trans (re2_congr fun n _ d _ => by
    rw [dkAtPoint, h15]
    rfl)

/-- The values' gradient after the run. -/
theorem final_dv : (dats m 0 c).arrAt 9 cfg0.N = (re2 (dv Q K Z G) : Vec 𝕀 S8448x256 .f32) :=
  array_dv _ fun t h15 => (left_all H t.val t.isLt).dv.trans (re2_congr fun n _ d _ => by
    rw [dvAtPoint, h15]
    rfl)

end

end Cert.Attn

end
-- ==== Proof.HostForward.lean ====
/- The attention as the host writes it, over the real numbers: from real queries, keys and values, the weights, the
   output and the logarithm of the sum of the exponentials are the real arrays of the attention. -/
module

public import proofs.«01_k».proof.Proof.Final
public import proofs.«01_k».proof.Proof.Gen.ReferenceIdeal

@[expose] public section

set_option maxRecDepth 16384

noncomputable section

namespace Cert.Attn

open Finset Idealize.ShloMosaic Idealize.ShloMosaic.TcCoe Idealize.ShloMosaic.Tactic

local notation "𝕀" => Idealize.ShloMosaic.Ideal

/-- A real array of four axes as an array of extended reals. -/
def re4 {a b c d : ℕ} (f : ℕ → ℕ → ℕ → ℕ → ℝ) : (⟨4, ![a, b, c, d]⟩ : Shape).Idx → EReal :=
  fun j => ((f (j 0).val (j 1).val (j 2).val (j 3).val : ℝ) : EReal)

/-- A real array read at an index written by its coordinates. -/
theorem re4_ix4 {a b c d : ℕ} (f : ℕ → ℕ → ℕ → ℕ → ℝ) (i : Fin a) (j : Fin b) (k : Fin c) (l : Fin d) :
    re4 f (ix4 i j k l) = ((f i.val j.val k.val l.val : ℝ) : EReal) := rfl

/-- The greatest of finitely many real numbers, and of none the least extended real. -/
def topE (n : ℕ) (f : ℕ → ℝ) : EReal := (univ : Finset (Fin n)).fold max ⊥ fun k => ((f k.val : ℝ) : EReal)

/-- The greatest of the first `n` values. -/
def topR (n : ℕ) (f : ℕ → ℝ) : ℝ := (topE n f).toReal

/-- The greatest of some real numbers is a real number. -/
theorem topE_eq (n : ℕ) (hn : 0 < n) (f : ℕ → ℝ) : topE n f = ((topR n f : ℝ) : EReal) := by
  have key : ∀ s : Finset (Fin n), s.fold max (⊥ : EReal) (fun k => ((f k.val : ℝ) : EReal)) ≠ ⊤
      ∧ (s.Nonempty → s.fold max (⊥ : EReal) (fun k => ((f k.val : ℝ) : EReal)) ≠ ⊥) := by
    intro s
    induction s using Finset.induction_on with
    | empty => exact ⟨by simp, fun h => absurd h (by simp)⟩
    | insert a s ha ih =>
      rw [fold_insert ha]
      refine ⟨fun h => ?_, fun _ h => ?_⟩
      · rcases max_eq_top.mp h with h | h
        · exact EReal.coe_ne_top _ h
        · exact ih.1 h
      · exact EReal.coe_ne_bot _ (max_eq_bot.mp h).1
  have h := key univ
  exact (EReal.coe_toReal h.1 (h.2 ⟨⟨0, hn⟩, mem_univ _⟩)).symm

open Cert.ReferenceIdeal Cert.ReferenceIdeal.Gen

section Terms

variable (x0 : FVec 𝕀 S8192x1024 .bf16) (x1 x2 : FVec 𝕀 S8448x256 .bf16)

/-- The queries by head. -/
def hQ : FVec 𝕀 S8192x4x4x64 .f32 := shapeCast S8192x4x4x64 (extf .f32 x0 bitsLt_bf16_f32) shapeCasts_S8192x1024_S8192x4x4x64
/-- The keys, or the values, by head. -/
def hK : FVec 𝕀 S8448x4x64 .f32 := shapeCast S8448x4x64 (extf .f32 x1 bitsLt_bf16_f32) shapeCasts_S8448x256_S8448x4x64
/-- The scores. -/
def hS : FVec 𝕀 S4x4x8192x8448 .f32 :=
  transpose S4x4x8192x8448 [0, 3, 2, 1] (Host.dotGeneral dot_S8448x4x64_S8192x4x4x64_S4x8448x8192x4_2_3_0_02_1_1 none (hK x1) (hQ x0))
    transposes_S4x8448x8192x4_S4x4x8192x8448_0_3_2_1
/-- The greatest score of every query. -/
def hT : FVec 𝕀 S4x4x8192 .f32 :=
  Host.reduce FloatOps.maximumf (hS x0 x1) (constant S_ .f32 0xFF800000#32) reducesTo_S4x4x8192x8448_S4x4x8192_d3 h_S_
/-- The exponentials of the scores less the greatest. -/
def hE : FVec 𝕀 S4x4x8192x8448 .f32 :=
  Host.exp (subf (hS x0 x1) (broadcastInDim S4x4x8192x8448 ![0, 1, 2, 3] bcast_S4x4x8192x1_S4x4x8192x8448_0_1_2_3
    (broadcastInDim S4x4x8192x1 ![0, 1, 2] bcast_S4x4x8192_S4x4x8192x1_0_1_2
      (maximumf (broadcastInDim S4x4x8192 ![] bcast_S_S4x4x8192 (constant S_ .f32 0xFF800000#32)) (hT x0 x1)))))
/-- The sum of the exponentials. -/
def hN : FVec 𝕀 S4x4x8192 .f32 :=
  Host.reduceAdd (hE x0 x1) (constant S_ .f32 0x00000000#32) reducesTo_S4x4x8192x8448_S4x4x8192_d3 h_S_
/-- The sum of the exponentials, in a column. -/
def hL : FVec 𝕀 S4x4x8192x1 .f32 := broadcastInDim S4x4x8192x1 ![0, 1, 2] bcast_S4x4x8192_S4x4x8192x1_0_1_2 (hN x0 x1)
/-- The attention weights. -/
def hP : FVec 𝕀 S4x4x8192x8448 .f32 :=
  Host.divf (hE x0 x1) (broadcastInDim S4x4x8192x8448 ![0, 1, 2, 3] bcast_S4x4x8192x1_S4x4x8192x8448_0_1_2_3 (hL x0 x1))
/-- The attention output. -/
def hO : FVec 𝕀 S8192x1024 .f32 :=
  shapeCast S8192x1024 (transpose S8192x4x4x64 [3, 0, 2, 1]
    (Host.dotGeneral dot_S8448x4x64_S4x4x8192x8448_S4x64x4x8192_0_3_2_12_1_0 none (hK x2) (hP x0 x1))
    transposes_S4x64x4x8192_S8192x4x4x64_3_0_2_1) shapeCasts_S8192x4x4x64_S8192x1024

end Terms

variable (Q K V : ℕ → ℕ → ℝ)

/-- The greatest score of query `t` of head `h`. -/
def topS (h t : ℕ) : ℝ := topR nKeys (score Q K h t)
/-- The exponential of a score less the greatest. -/
def expS (h t n : ℕ) : ℝ := Real.exp (score Q K h t n - topS Q K h t)
/-- The sum of those exponentials. -/
def sumS (h t : ℕ) : ℝ := ∑ n ∈ range nKeys, expS Q K h t n

/-- Minus infinity. -/
theorem bits_neg_inf : Ideal.ofBits .f32 0xFF800000#32 = (⊥ : EReal) := by simp [Ideal.ofBits, Ideal.ieee]

/-- The exponential after the shift is the weight times the shifted sum. -/
theorem expS_div (h t n : ℕ) : expS Q K h t n / sumS Q K h t = prob Q K h t n := exp_shift_div Q K h t n _

/-- The shifted sum is positive. -/
theorem sumS_pos (h t : ℕ) : 0 < sumS Q K h t := sum_exp_shift_pos Q K h t _

/-- The queries by head. -/
theorem hQ_eq : hQ (re2 Q) = re4 fun t g r d => Q t (256 * g + 64 * r + d) := by
  funext j
  idx_vars j
  pointwise [hQ]
  simp only [re2_ix2, re4_ix4]
  rw [Nat.mul_comm _ 256, Nat.mul_comm _ 64]

/-- The keys by head. -/
theorem hK_eq : hK (re2 K) = re3 fun n g d => K n (64 * g + d) := by
  funext j
  idx_vars j
  pointwise [hK]
  simp only [re2_ix2, re3_ix3]
  rw [Nat.mul_comm _ 64]

/-- The scores. -/
theorem hS_eq : hS (re2 Q) (re2 K) = re4 fun g r t n => score Q K (4 * g + r) t n := by
  unfold hS
  rw [hQ_eq, hK_eq]
  funext j
  idx_vars j
  pointwise []
  simp only [re4_ix4, re3_ix3]
  rw [coe_dot 64 (fun d => K _ (64 * _ + d)) (fun d => Q _ (256 * _ + 64 * _ + d)), score]
  have h1 : (j1 : ℕ) < 4 := j1.isLt
  refine congrArg Real.toEReal (sum_congr rfl fun d _ => ?_)
  rw [mul_comm, show 64 * (4 * (j0 : ℕ) + j1) = 256 * j0 + 64 * j1 by omega, show (4 * (j0 : ℕ) + j1) / 4 = j0 by omega]

/-- The greatest scores. -/
theorem hT_eq : hT (re2 Q) (re2 K) = re3 fun g r t => topS Q K (4 * g + r) t := by
  unfold hT
  rw [hS_eq]
  funext j
  idx_vars j
  pointwise []
  simp only [re4_ix4, re3_ix3]
  rw [bits_neg_inf]
  exact topE_eq nKeys (by decide) (score Q K (4 * j0 + j1) j2)

/-- The exponentials of the shifted scores. -/
theorem hE_eq : hE (re2 Q) (re2 K) = re4 fun g r t n => expS Q K (4 * g + r) t n := by
  unfold hE
  rw [hS_eq, hT_eq]
  funext j
  idx_vars j
  pointwise []
  simp only [re4_ix4, re3_ix3]
  rw [bits_neg_inf]
  rw [max_eq_right bot_le, ← EReal.coe_sub, Ideal.exp_coe, expS]

/-- The sums of the exponentials. -/
theorem hN_eq : hN (re2 Q) (re2 K) = re3 fun g r t => sumS Q K (4 * g + r) t := by
  unfold hN
  rw [hE_eq]
  funext j
  idx_vars j
  pointwise []
  simp only [re4_ix4, re3_ix3]
  exact coe_sum_fin nKeys fun n => expS Q K (4 * j0 + j1) j2 n

/-- The sums of the exponentials, in a column. -/
theorem hL_eq : hL (re2 Q) (re2 K) = re4 fun g r t _ => sumS Q K (4 * g + r) t := by
  unfold hL
  rw [hN_eq]
  funext j
  obtain ⟨j0, j1, j2, j3, rfl⟩ : ∃ (a : Fin 4) (b : Fin 4) (c : Fin 8192) (d : Fin 1), j = ix4 a b c d := ⟨_, _, _, _, eq_ix4 j⟩
  obtain rfl : j3 = 0 := Subsingleton.elim _ _
  pointwise []
  simp only [re4_ix4, re3_ix3]

/-- The attention weights. -/
theorem hP_eq : hP (re2 Q) (re2 K) = re4 fun g r t n => prob Q K (4 * g + r) t n := by
  unfold hP
  rw [hE_eq, hL_eq]
  funext j
  idx_vars j
  pointwise []
  simp only [re4_ix4, re3_ix3]
  rw [Ideal.div_coe (sumS_pos Q K _ _).ne']
  rw [← EReal.coe_mul, mul_one_div, expS_div]

/-- The attention output. -/
theorem hO_eq : hO (re2 Q) (re2 K) (re2 V) = re2 (outp Q K V) := by
  unfold hO
  rw [hP_eq, hK_eq]
  funext j
  idx_vars j
  pointwise []
  simp only [re4_ix4, re3_ix3, re2_ix2]
  rw [coe_dot nKeys (fun n => V n (64 * (j1 / 256) + j1 % 64)) (fun n => prob Q K (4 * (j1 / 256) + j1 / 64 % 4) j0 n), outp,
    show 4 * ((j1 : ℕ) / 256) + j1 / 64 % 4 = j1 / 64 by omega]
  exact congrArg Real.toEReal (sum_congr rfl fun n _ => mul_comm _ _)

end Cert.Attn

end
-- ==== Proof.Saved.lean ====
/- What the call finds in the output and in the logarithms: the attention of its real arguments. -/
module

public import proofs.«01_k».proof.Proof.HostForward
public import Idealize.ShloMosaic.Lib.Claim

@[expose] public section

set_option maxRecDepth 16384

noncomputable section

namespace Cert.Attn

open Finset Idealize.ShloMosaic Idealize.ShloMosaic.TcCoe Idealize.ShloMosaic.Tactic
open Cert.KernelIdeal Cert.KernelIdeal.Gen

local notation "𝕀" => Idealize.ShloMosaic.Ideal

/-- The logarithms of the sums of the exponentials, as the host writes them. -/
def hLse (x0 : FVec 𝕀 S8192x1024 .bf16) (x1 : FVec 𝕀 S8448x256 .bf16) : FVec 𝕀 S2x8192x8 .f32 :=
  transpose S2x8192x8 [0, 2, 1] (shapeCast S2x8x8192 (addf (hT x0 x1) (Host.log
    (Host.reduceAdd (Host.exp (subf (hS x0 x1) (broadcastInDim S4x4x8192x8448 ![0, 1, 2, 3] bcast_S4x4x8192x1_S4x4x8192x8448_0_1_2_3
      (broadcastInDim S4x4x8192x1 ![0, 1, 2] bcast_S4x4x8192_S4x4x8192x1_0_1_2 (hT x0 x1)))))
      (constant S_ .f32 0x00000000#32) reducesTo_S4x4x8192x8448_S4x4x8192_d3 h_S_))) shapeCasts_S4x4x8192_S2x8x8192)
    transposes_S2x8x8192_S2x8192x8_0_2_1

variable (Q K : ℕ → ℕ → ℝ)

/-- The logarithms of real queries and keys. -/
theorem hLse_eq : hLse (re2 Q) (re2 K) = re3 fun b r j => lse Q K (8 * b + j) r := by
  unfold hLse
  rw [hS_eq, hT_eq]
  funext j
  idx_vars j
  pointwise []
  simp only [re4_ix4, re3_ix3]
  rw [show 4 * ((j0 : ℕ) * 2 + j2 / 4) + j2 % 4 = 8 * j0 + j2 by omega]
  simp only [← EReal.coe_sub, Ideal.exp_coe]
  rw [coe_sum_fin nKeys (fun n => Real.exp (score Q K (8 * j0 + j2) j1 n - topS Q K (8 * j0 + j2) j1)), Ideal.log_coe,
    if_neg (not_le.mpr (sum_exp_shift_pos Q K _ _ _)), ← EReal.coe_add, add_comm, log_shift]

variable (m : (ℓ : Loc nD τ sig) → Buf (Elt 𝕀) ℓ) (c : Dev nD)

/-- The output the call reads is the host's. -/
theorem V_o : V m c main_v29 = hO (m ((c : Thread nD τ).loc main_arg0)) (m ((c : Thread nD τ).loc main_arg1)) (m ((c : Thread nD τ).loc main_arg2)) := by
  entry_read
  rfl

/-- The logarithms the call reads are the host's. -/
theorem V_l : V m c main_v31 = hLse (m ((c : Thread nD τ).loc main_arg0)) (m ((c : Thread nD τ).loc main_arg1)) := by
  entry_read
  rfl

end Cert.Attn

end
-- ==== Proof.HostBackward.lean ====
/- The gradient as the host writes it, over the real numbers. -/
module

public import proofs.«01_k».proof.Proof.Saved
public import proofs.«01_k».proof.Proof.Gen.ReferenceIdeal.Run

@[expose] public section

set_option maxRecDepth 16384

noncomputable section

namespace Cert.Attn

open Finset Idealize.ShloMosaic Idealize.ShloMosaic.TcCoe Idealize.ShloMosaic.Tactic
open Cert.ReferenceIdeal Cert.ReferenceIdeal.Gen

local notation "𝕀" => Idealize.ShloMosaic.Ideal

/-- A product of two real arrays summed over both axes, taken in the extended reals. -/
theorem coe_dot2 (a n : ℕ) (f g : ℕ → ℕ → ℝ) :
    ∑ r : Fin a, ∑ t : Fin n, ((f r.val t.val : ℝ) : EReal) * ((g r.val t.val : ℝ) : EReal)
      = ((∑ r ∈ range a, ∑ t ∈ range n, f r t * g r t : ℝ) : EReal) :=
  (Finset.sum_congr rfl fun r _ => coe_dot n (f r.val) (g r.val)).trans (coe_sum_fin a fun r => ∑ t ∈ range n, f r t * g r t)

section Terms

variable (x0 : FVec 𝕀 S8192x1024 .bf16) (x1 x2 : FVec 𝕀 S8448x256 .bf16) (x3 : FVec 𝕀 S8448x2560 .bf16) (x4 : FVec 𝕀 S8192x1024 .bf16)

/-- The gate's argument. -/
def hZ : FVec 𝕀 S8192x1024 .f32 := extf .f32 (extractStridedSlice S8192x1024 ![0, 1024] x3 slices_S8448x2560_S8192x1024_0_1024) bitsLt_bf16_f32
/-- The logistic function of it. -/
def hSig : FVec 𝕀 S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf (hZ x3))))
/-- The gradient of the attention output, by head. -/
def hD : FVec 𝕀 S4x64x4x8192 .f32 :=
  transpose S4x64x4x8192 [1, 3, 2, 0] (shapeCast S8192x4x4x64 (mulf (extf .f32 x4 bitsLt_bf16_f32) (mulf (hZ x3) (hSig x3)))
    shapeCasts_S8192x1024_S8192x4x4x64) transposes_S8192x4x4x64_S4x64x4x8192_1_3_2_0
/-- The gradient of the weights. -/
def hDP : FVec 𝕀 S4x4x8192x8448 .f32 :=
  Host.dotGeneral dot_S4x64x4x8192_S8448x4x64_S4x4x8192x8448_1_2_23_0_0_1 none (hD x3 x4) (hK x2)
/-- The gradient of the values. -/
def hDV : FVec 𝕀 S8448x256 .f32 :=
  shapeCast S8448x256 (transpose S8448x4x64 [2, 0, 1]
    (Host.dotGeneral dot_S4x64x4x8192_S4x4x8192x8448_S4x64x8448_23_12_1_3_0_0 none (hD x3 x4) (hP x0 x1))
    transposes_S4x64x8448_S8448x4x64_2_0_1) shapeCasts_S8448x4x64_S8448x256
/-- The row sums the gradient of the scores subtracts. -/
def hR : FVec 𝕀 S4x4x8192 .f32 :=
  Host.reduceAdd (mulf (mulf (hDP x2 x3 x4) (broadcastInDim S4x4x8192x8448 ![0, 1, 2, 3] bcast_S4x4x8192x1_S4x4x8192x8448_0_1_2_3
      (Host.divf (broadcastInDim S4x4x8192x1 ![] bcast_S_S4x4x8192x1 (constant S_ .f32 0x3F800000#32)) (mulf (hL x0 x1) (hL x0 x1)))))
      (hE x0 x1)) (constant S_ .f32 0x00000000#32) reducesTo_S4x4x8192x8448_S4x4x8192_d3 h_S_
/-- The gradient of the scores. -/
def hDS : FVec 𝕀 S4x4x8192x8448 .f32 :=
  mulf (addf (Host.divf (hDP x2 x3 x4) (broadcastInDim S4x4x8192x8448 ![0, 1, 2, 3] bcast_S4x4x8192x1_S4x4x8192x8448_0_1_2_3 (hL x0 x1)))
    (broadcastInDim S4x4x8192x8448 ![0, 1, 2] bcast_S4x4x8192_S4x4x8192x8448_0_1_2
      (Host.reduceAdd (Host.negf (shapeCast S4x4x8192x1 (hR x0 x1 x2 x3 x4) shapeCasts_S4x4x8192_S4x4x8192x1))
        (constant S_ .f32 0x00000000#32) reducesTo_S4x4x8192x1_S4x4x8192_d3 h_S_))) (hE x0 x1)
/-- The same with the keys before the queries. -/
def hDST : FVec 𝕀 S4x8448x8192x4 .f32 :=
  transpose S4x8448x8192x4 [0, 3, 2, 1] (hDS x0 x1 x2 x3 x4) transposes_S4x4x8192x8448_S4x8448x8192x4_0_3_2_1
/-- The gradient of the queries. -/
def hDQ : FVec 𝕀 S8192x1024 .bf16 :=
  truncf .bf16 (shapeCast S8192x1024 (transpose S8192x4x4x64 [1, 0, 2, 3]
    (Host.dotGeneral dot_S4x8448x8192x4_S8448x4x64_S4x8192x4x64_1_0_23_2_0_1 none (hDST x0 x1 x2 x3 x4) (hK x1))
    transposes_S4x8192x4x64_S8192x4x4x64_1_0_2_3) shapeCasts_S8192x4x4x64_S8192x1024) bitsLt_bf16_f32
/-- The gradient of the keys. -/
def hDK : FVec 𝕀 S8448x256 .f32 :=
  shapeCast S8448x256 (transpose S8448x4x64 [1, 0, 2]
    (Host.dotGeneral dot_S4x8448x8192x4_S8192x4x4x64_S4x8448x64_23_02_1_3_0_1 none (hDST x0 x1 x2 x3 x4) (hQ x0))
    transposes_S4x8448x64_S8448x4x64_1_0_2) shapeCasts_S8448x4x64_S8448x256
/-- The gradient of the gate. -/
def hDZ : FVec 𝕀 S8192x1024 .bf16 :=
  truncf .bf16 (addf (mulf (mulf (hO x0 x1 x2) (extf .f32 x4 bitsLt_bf16_f32)) (hSig x3))
    (mulf (mulf (hZ x3) (mulf (hO x0 x1 x2) (extf .f32 x4 bitsLt_bf16_f32)))
      (mulf (hSig x3) (subf (broadcastInDim S8192x1024 ![] bcast_S_S8192x1024 (constant S_ .f32 0x3F800000#32)) (hSig x3))))) bitsLt_bf16_f32

end Terms

section Run

variable (m : (ℓ : Loc nD τ sig) → Buf (Elt 𝕀) ℓ) (c : Dev nD)

/-- The queries' gradient the reference returns. -/
theorem res_dq : Value.res_main_v72 m c = hDQ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

/-- The keys' gradient the reference returns. -/
theorem res_dk : Value.res_main_v70 m c = hDK (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

/-- The gate's gradient the reference returns. -/
theorem res_dz : Value.res_main_v73 m c = hDZ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Run

variable (Q K V Z G : ℕ → ℕ → ℝ)

/-- The host's gate argument, from real numbers in the gate's columns. -/
theorem hZ_eq (x : FVec 𝕀 S8448x2560 .bf16) (hx : ∀ (r : Fin 8448) (d : Fin 2560), r.val < 8192 → 1024 ≤ d.val → d.val < 2048 →
    x (ix2 r d) = ((Z r.val (d.val - 1024) : ℝ) : EReal)) : hZ x = re2 Z := by
  funext j
  idx_vars j
  pointwise [hZ]
  simp only [re2_ix2]
  have h0 : (j0 : ℕ) < 8192 := j0.isLt
  have h1 : (j1 : ℕ) < 1024 := j1.isLt
  refine (hx _ _ h0 (by show 1024 ≤ 1024 + (j1 : ℕ); omega) (by show 1024 + (j1 : ℕ) < 2048; omega)).trans ?_
  rw [show 1024 + (j1 : ℕ) - 1024 = j1 from Nat.add_sub_cancel_left _ _]

variable {x : FVec 𝕀 S8448x2560 .bf16} (hx : hZ x = re2 Z)
include hx

/-- The host's logistic function. -/
theorem hSig_eq : hSig x = re2 fun t c => logi (Z t c) := by
  unfold hSig
  rw [hx]
  funext j
  idx_vars j
  pointwise []
  simp only [re2_ix2]
  have hp : (1 : ℝ) + Real.exp (-Z j0 j1) ≠ 0 := (add_pos one_pos (Real.exp_pos _)).ne'
  rw [← EReal.coe_neg, Ideal.exp_coe, ← EReal.coe_one, ← EReal.coe_add, Ideal.div_coe hp, ← EReal.coe_mul, one_mul, logi]

/-- The host's gradient of the attention output. -/
theorem hD_eq : hD x (re2 G) = re4 fun g d r t => dov Z G t (64 * (4 * g + r) + d) := by
  unfold hD
  rw [hSig_eq Z hx, hx]
  funext j
  idx_vars j
  pointwise []
  simp only [re2_ix2, re4_ix4]
  rw [show (j0 : ℕ) * 256 + j2 * 64 + j1 = 64 * (4 * j0 + j2) + j1 by omega, ← EReal.coe_mul, ← EReal.coe_mul, dov]

/-- The host's gradient of the weights. -/
theorem hDP_eq : hDP (re2 V) x (re2 G) = re4 fun g r t n => dp V Z G (4 * g + r) t n := by
  unfold hDP
  rw [hD_eq Z G hx, hK_eq]
  funext j
  idx_vars j
  pointwise []
  simp only [re3_ix3, re4_ix4]
  have h1 : (j1 : ℕ) < 4 := j1.isLt
  rw [coe_dot 64 (fun d => dov Z G j2 (64 * (4 * j0 + j1) + d)) (fun d => V j3 (64 * j0 + d)), dp,
    show (4 * (j0 : ℕ) + j1) / 4 = j0 by omega]

/-- The host's gradient of the values. -/
theorem hDV_eq : hDV (re2 Q) (re2 K) x (re2 G) = re2 (dv Q K Z G) := by
  unfold hDV
  rw [hD_eq Z G hx, hP_eq]
  funext j
  idx_vars j
  pointwise []
  simp only [re2_ix2, re4_ix4]
  refine (coe_dot2 4 nRows (fun r t => dov Z G t (64 * (4 * (j1 / 64) + r) + j1 % 64)) (fun r t => prob Q K (4 * (j1 / 64) + r) t j0)).trans ?_
  rw [dv]
  exact congrArg Real.toEReal (sum_congr rfl fun r _ => sum_congr rfl fun t _ => mul_comm _ _)

/-- The host's row sums. -/
theorem hR_eq : hR (re2 Q) (re2 K) (re2 V) x (re2 G) = re3 fun g r t => ∑ n ∈ range nKeys,
    dp V Z G (4 * g + r) t n * (1 / (sumS Q K (4 * g + r) t * sumS Q K (4 * g + r) t)) * expS Q K (4 * g + r) t n := by
  unfold hR
  rw [hDP_eq V Z G hx, hE_eq, hL_eq]
  funext j
  idx_vars j
  pointwise []
  simp only [re3_ix3, re4_ix4]
  have hp := (mul_pos (sumS_pos Q K (4 * j0 + j1) j2) (sumS_pos Q K (4 * j0 + j1) j2)).ne'
  simp only [← EReal.coe_mul, ← EReal.coe_one, Ideal.div_coe hp, one_mul]
  exact coe_sum_fin nKeys fun n => dp V Z G (4 * j0 + j1) j2 n * (1 / (sumS Q K (4 * j0 + j1) j2 * sumS Q K (4 * j0 + j1) j2)) * expS Q K (4 * j0 + j1) j2 n

/-- The host's gradient of the scores. -/
theorem hDS_eq : hDS (re2 Q) (re2 K) (re2 V) x (re2 G) = re4 fun g r t n => ds Q K V Z G (4 * g + r) t n := by
  unfold hDS
  rw [hDP_eq V Z G hx, hE_eq, hL_eq, hR_eq Q K V Z G hx]
  funext j
  idx_vars j
  pointwise []
  simp only [re3_ix3, re4_ix4]
  rw [Fin.sum_univ_one, Ideal.div_coe (sumS_pos Q K _ _).ne', ← EReal.coe_neg, ← EReal.coe_mul, ← EReal.coe_add, ← EReal.coe_mul, mul_one_div]
  exact congrArg Real.toEReal (ds_shift Q K V Z G (4 * j0 + j1) j2 j3 (topS Q K (4 * j0 + j1) j2))

/-- The same with the keys before the queries. -/
theorem hDST_eq : hDST (re2 Q) (re2 K) (re2 V) x (re2 G) = re4 fun g n t r => ds Q K V Z G (4 * g + r) t n := by
  unfold hDST
  rw [hDS_eq Q K V Z G hx]
  funext j
  idx_vars j
  pointwise []
  simp only [re4_ix4]

/-- The host's gradient of the queries. -/
theorem hDQ_eq : hDQ (re2 Q) (re2 K) (re2 V) x (re2 G) = re2 (dq Q K V Z G) := by
  unfold hDQ
  rw [hDST_eq Q K V Z G hx, hK_eq]
  funext j
  idx_vars j
  pointwise []
  simp only [re2_ix2, re3_ix3, re4_ix4]
  rw [coe_dot nKeys (fun n => ds Q K V Z G (4 * (j1 / 256) + j1 / 64 % 4) j0 n) (fun n => K n (64 * (j1 / 256) + j1 % 64)), dq,
    show 4 * ((j1 : ℕ) / 256) + j1 / 64 % 4 = j1 / 64 by omega]

/-- The host's gradient of the keys. -/
theorem hDK_eq : hDK (re2 Q) (re2 K) (re2 V) x (re2 G) = re2 (dk Q K V Z G) := by
  unfold hDK
  rw [hDST_eq Q K V Z G hx, hQ_eq]
  funext j
  idx_vars j
  pointwise []
  simp only [re2_ix2, re3_ix3, re4_ix4]
  rw [sum_comm]
  refine (coe_dot2 4 nRows (fun r t => ds Q K V Z G (4 * (j1 / 64) + r) t j0) (fun r t => Q t (256 * (j1 / 64) + 64 * r + j1 % 64))).trans ?_
  rw [dk]
  refine congrArg Real.toEReal (sum_congr rfl fun r _ => sum_congr rfl fun t _ => ?_)
  rw [show 256 * ((j1 : ℕ) / 64) + 64 * r + j1 % 64 = 64 * (4 * (j1 / 64) + r) + j1 % 64 by omega]

/-- The host's gradient of the gate. -/
theorem hDZ_eq : hDZ (re2 Q) (re2 K) (re2 V) x (re2 G) = re2 (dz Q K V Z G) := by
  unfold hDZ
  rw [hSig_eq Z hx, hx, hO_eq]
  funext j
  idx_vars j
  pointwise []
  simp only [re2_ix2]
  rw [← EReal.coe_one, ← EReal.coe_sub]
  simp only [← EReal.coe_mul, ← EReal.coe_add]
  refine congrArg Real.toEReal ?_
  rw [dz]
  generalize outp Q K V j0 j1 = o
  ring

end Cert.Attn

end
-- ==== Proof.Finite.lean ====
/- What the precondition says: every element the gradient reads is a real number. -/
module

public import proofs.«01_k».proof.Proof.HostBackward
public import proofs.«01_k».proof.Defs

@[expose] public section

set_option maxRecDepth 16384

noncomputable section

namespace Cert.Attn

open Finset Idealize.ShloMosaic Idealize.ShloMosaic.TcCoe Idealize.ShloMosaic.Tactic

local notation "𝕀" => Idealize.ShloMosaic.Ideal

/-- The precondition's side conditions. -/
theorem preFacts : Cert.Pre_finite.Facts where
  slices_S8448x2560_S8192x1024_0_1024 := by decide
  bitsLt_bf16_f32 := by decide
  bcast_S_S8192x1024 := Cert.ReferenceIdeal.Gen.bcast_S_S8192x1024
  bcast_S_S8448x256 := by decide

/-- The word the precondition compares with is the infinity. -/
theorem bits_inf : Ideal.ofBits .f32 0x7F800000#32 = ⊤ := by
  simp [Ideal.ofBits, Ideal.ieee]

/-- A number whose absolute value is below the infinity is finite. -/
theorem finite_of_lt (a : EReal) (h : max a (-a) < ⊤) : ((a.toReal : ℝ) : EReal) = a := by
  rw [max_lt_iff] at h
  refine EReal.coe_toReal h.1.ne fun hb => ?_
  rw [hb] at h
  exact h.2.ne EReal.neg_bot

/-- The comparison, at an element. -/
theorem real_of_test {s : Shape} (x : FVec 𝕀 s .bf16) (hlt : FTy.bits .bf16 < FTy.bits .f32)
    (hb : Cert.Pre_finite.S_.BroadcastsInDim s (![] : Fin 0 → Fin s.rank))
    (h : cmpf .olt (Host.absf (extf .f32 x hlt)) (broadcastInDim s ![] hb (constant Cert.Pre_finite.S_ .f32 0x7F800000#32)) = fun _ => 1#1)
    (i : s.Idx) : (((x i : EReal).toReal : ℝ) : EReal) = (x i : EReal) := by
  refine finite_of_lt (x i) ?_
  have hi := congrFun h i
  have h2 : BitVec.ofBool (decide (max (x i : EReal) (-(x i : EReal)) < Ideal.ofBits .f32 0x7F800000#32)) = 1#1 := hi
  rw [bits_inf] at h2
  by_contra hn
  rw [decide_eq_false hn] at h2
  exact absurd h2 (by decide)

/-- An array of finite elements holds real numbers. -/
theorem exists_re2 {a b : ℕ} (x : FVec 𝕀 ⟨2, ![a, b]⟩ .bf16)
    (h : ∀ i, (((x i : EReal).toReal : ℝ) : EReal) = (x i : EReal)) : ∃ f : ℕ → ℕ → ℝ, x = re2 f := by
  refine ⟨fun r d => if hh : r < a ∧ d < b then (x (ix2 ⟨r, hh.1⟩ ⟨d, hh.2⟩) : EReal).toReal else 0, ?_⟩
  funext j
  obtain ⟨j0, j1, rfl⟩ : ∃ (j0 : Fin a) (j1 : Fin b), j = ix2 j0 j1 := ⟨j 0, j 1, eq_ix2 j⟩
  rw [re2_ix2]
  have hh : (j0 : ℕ) < a ∧ (j1 : ℕ) < b := ⟨j0.isLt, j1.isLt⟩
  simp only [dif_pos hh]
  exact (h _).symm

section

open Cert.Pre_finite

variable (x0 : FVec 𝕀 S8192x1024 .bf16) (x1 x2 : FVec 𝕀 S8448x256 .bf16) (x3 : FVec 𝕀 S8448x2560 .bf16) (x4 : FVec 𝕀 S8192x1024 .bf16)

/-- The block of the projections that is the gate's argument. -/
def gateBlock : FVec 𝕀 S8192x1024 .bf16 :=
  extractStridedSlice S8192x1024 ![0, 1024] x3 preFacts.slices_S8448x2560_S8192x1024_0_1024

/-- The test of the gate's block. -/
theorem gate_test (h : (letI := preFacts; Cert.Pre_finite.fn (F := 𝕀) x0 x1 x2 x3 x4).2.2.2.1 = fun _ => 1#1) :
    cmpf .olt (Host.absf (extf .f32 (gateBlock x3) preFacts.bitsLt_bf16_f32))
      (broadcastInDim S8192x1024 ![] preFacts.bcast_S_S8192x1024 (constant S_ .f32 0x7F800000#32)) = fun _ => 1#1 := h

end

section

variable (m : (ℓ : Loc Cert.KernelIdeal.nD Cert.KernelIdeal.τ Cert.KernelIdeal.sig) → Buf (Elt 𝕀) ℓ)

open Cert.KernelIdeal in
/-- The real arrays the precondition names. -/
theorem pre_real (h : Cert.Pre_KernelIdeal_finite (hPre_finite := preFacts) m) (c : Dev nD) : ∃ Q K V Z G : ℕ → ℕ → ℝ,
    (m ((c.tc : Thread nD τ).loc main_arg0) : FVec 𝕀 S8192x1024 .bf16) = re2 Q
    ∧ (m ((c.tc : Thread nD τ).loc main_arg1) : FVec 𝕀 S8448x256 .bf16) = re2 K
    ∧ (m ((c.tc : Thread nD τ).loc main_arg2) : FVec 𝕀 S8448x256 .bf16) = re2 V
    ∧ (∀ (r : Fin 8448) (d : Fin 2560), r.val < 8192 → 1024 ≤ d.val → d.val < 2048 →
      (m ((c.tc : Thread nD τ).loc main_arg3) : FVec 𝕀 S8448x2560 .bf16) (ix2 r d) = ((Z r.val (d.val - 1024) : ℝ) : EReal))
    ∧ (m ((c.tc : Thread nD τ).loc main_arg4) : FVec 𝕀 S8192x1024 .bf16) = re2 G := by
  obtain ⟨h0, h1, h2, h3, h4⟩ := h c
  obtain ⟨Q, hQ⟩ := exists_re2 (a := 8192) (b := 1024) (m ((c.tc : Thread nD τ).loc main_arg0)) (real_of_test _ _ _ h0)
  obtain ⟨K, hK⟩ := exists_re2 (a := 8448) (b := 256) (m ((c.tc : Thread nD τ).loc main_arg1)) (real_of_test _ _ _ h1)
  obtain ⟨W, hW⟩ := exists_re2 (a := 8448) (b := 256) (m ((c.tc : Thread nD τ).loc main_arg2)) (real_of_test _ _ _ h2)
  obtain ⟨Z, hZ⟩ := exists_re2 (a := 8192) (b := 1024) (gateBlock (m ((c.tc : Thread nD τ).loc main_arg3)))
    (real_of_test _ _ _ (gate_test _ _ _ _ _ h3))
  obtain ⟨G, hG⟩ := exists_re2 (a := 8192) (b := 1024) (m ((c.tc : Thread nD τ).loc main_arg4)) (real_of_test _ _ _ h4)
  refine ⟨Q, K, W, Z, G, hQ, hK, hW, fun r d hr hd1 hd2 => ?_, hG⟩
  have e := congrFun hZ (ix2 ⟨r.val, hr⟩ ⟨d.val - 1024, by omega⟩)
  rw [re2_ix2] at e
  refine Eq.trans (congrArg _ ?_) e
  funext k
  refine Fin.ext ?_
  fin_cases k
  · show r.val = 0 + r.val
    omega
  · show d.val = 1024 + (d.val - 1024)
    omega

end

end Cert.Attn

end
-- ==== Proof.ForwardItem.lean ====
/- What the forward attention stores for one head on half of a tile's rows, from real queries and keys, whatever the values. -/
module

public import proofs.«01_k».proof.Proof.HostForward
public import proofs.«01_k».proof.Proof.Gen.ForwardIdeal.Frame
public import Idealize.ShloMosaic.Lib.IdealHost
public import Idealize.ShloMosaic.Lib.Pointwise
public import Idealize.ShloMosaic.Lib.ValueLayout
public import Idealize.ShloMosaic.PureOps.Ideal

@[expose] public section

set_option maxRecDepth 16384

noncomputable section

namespace Cert.AttnForward

open Finset Idealize.ShloMosaic Idealize.ShloMosaic.TcCoe Idealize.ShloMosaic.Tactic Idealize.SL.Sem
open Cert.ForwardIdeal Cert.ForwardIdeal.Gen Cert.Attn

local notation "𝕀" => Idealize.ShloMosaic.Ideal
local notation "𝕍" => Elt Idealize.ShloMosaic.Ideal

section Item

variable (q : Vec 𝕀 S256x64 .bf16) (k0 k1 k2 v0 v1 v2 : Vec 𝕀 S2816x64 .bf16)

/-- The running maxima after one more tile of keys. -/
def stepM (k : Vec 𝕀 S2816x64 .bf16) (m : Vec 𝕀 S1x256x128 .f32) : Vec 𝕀 S1x256x128 .f32 :=
  k0_pay6 (F := 𝕀) (k0_pay2 (F := 𝕀) q k) (k0_pay4 (F := 𝕀) q k m) (k0_pay5 (F := 𝕀) q k)

/-- The shift of every row. -/
def shift : Vec 𝕀 S256x1 .f32 := k0_pay19 (F := 𝕀) (stepM q k2 (stepM q k1 (stepM q k0 (k0_pay1 (F := 𝕀)))))

/-- The accumulated products after one more tile of keys. -/
def stepA (mr : Vec 𝕀 S256x1 .f32) (k v : Vec 𝕀 S2816x64 .bf16) (a : Vec 𝕀 S256x128 .f32) : Vec 𝕀 S256x128 .f32 :=
  k0_pay37 (F := 𝕀) (k0_pay36 (F := 𝕀) mr (k0_pay3 (F := 𝕀) q k)) v a

/-- The accumulated products. -/
def acc : Vec 𝕀 S256x128 .f32 :=
  stepA q (shift q k0 k1 k2) k2 v2 (stepA q (shift q k0 k1 k2) k1 v1 (stepA q (shift q k0 k1 k2) k0 v0 (k0_pay20 (F := 𝕀))))

/-- The sums of the exponentials. -/
def accL : Vec 𝕀 S256x1 .f32 := View.ld (acc q k0 k1 k2 v0 v1 v2) (Rect.unit (s := S256x128) ![0, 64] S256x1.size inb_S256x128_S256x1_0_64)

/-- The weighted sums of the values. -/
def accO : Vec 𝕀 S256x64 .f32 := View.ld (acc q k0 k1 k2 v0 v1 v2) (Rect.unit (s := S256x128) ![0, 0] S256x64.size inb_S256x128_S256x64_0_0)

/-- The output of one head on half of the rows. -/
def itemO : Vec 𝕀 S256x64 .f32 := k0_pay38 (F := 𝕀) (accL q k0 k1 k2 v0 v1 v2) (accO q k0 k1 k2 v0 v1 v2)

/-- The logarithms of the sums of the exponentials of one head on half of the rows. -/
def itemL : Vec 𝕀 S1x256x1 .f32 := k0_pay40 (F := 𝕀) (shift q k0 k1 k2) (accL q k0 k1 k2 v0 v1 v2)

/-- The gated output of one head on half of the rows. -/
def itemG (z : Vec 𝕀 S256x64 .bf16) : Vec 𝕀 S256x64 .bf16 := k0_pay39 (F := 𝕀) (accL q k0 k1 k2 v0 v1 v2) (accO q k0 k1 k2 v0 v1 v2) z

end Item

section Value

/-- A number that is real. -/
def IsReal (x : EReal) : Prop := ∃ r : ℝ, x = r

theorem isReal_max {x y : EReal} (hx : x ≠ ⊤) (hy : IsReal y) : IsReal (max x y) := by
  obtain ⟨r, rfl⟩ := hy
  rcases le_total x (r : EReal) with h | h
  · exact ⟨r, max_eq_right h⟩
  · rw [max_eq_left h]
    exact ⟨x.toReal, (EReal.coe_toReal hx fun e => by rw [e] at h; exact absurd (le_bot_iff.mp h) (EReal.coe_ne_bot r)).symm⟩

theorem max_ne_top {x y : EReal} (hx : x ≠ ⊤) (hy : y ≠ ⊤) : max x y ≠ ⊤ := by
  rcases max_choice x y with h | h
  · rwa [h]
  · rwa [h]

theorem IsReal.ne_top {x : EReal} (h : IsReal x) : x ≠ ⊤ := by
  obtain ⟨r, rfl⟩ := h
  exact EReal.coe_ne_top r

/-- An array of real numbers is a real array. -/
theorem eq_re3 {a b c : ℕ} (x : (⟨3, ![a, b, c]⟩ : Shape).Idx → EReal) (h : ∀ j, IsReal (x j)) : ∃ M, x = re3 M := by
  refine ⟨fun i j k => if h : i < a ∧ j < b ∧ k < c then (x (ix3 ⟨i, h.1⟩ ⟨j, h.2.1⟩ ⟨k, h.2.2⟩)).toReal else 0, ?_⟩
  funext j
  obtain ⟨j0, j1, j2, rfl⟩ : ∃ j0 j1 j2, j = ix3 j0 j1 j2 := ⟨j 0, j 1, j 2, eq_ix3 j⟩
  rw [re3_ix3]
  obtain ⟨r, hr⟩ := h (ix3 j0 j1 j2)
  rw [dif_pos ⟨j0.isLt, j1.isLt, j2.isLt⟩]
  show x (ix3 j0 j1 j2) = (((x (ix3 j0 j1 j2)).toReal : ℝ) : EReal)
  rw [hr, EReal.toReal_coe]

/-- An array of extended reals by natural indices. -/
def ex2 {a b : ℕ} (f : ℕ → ℕ → EReal) : (⟨2, ![a, b]⟩ : Shape).Idx → EReal := fun j => f (j 0).val (j 1).val

/-- Such an array read at an index written by its coordinates. -/
theorem ex2_ix2 {a b : ℕ} (f : ℕ → ℕ → EReal) (i : Fin a) (j : Fin b) : ex2 f (ix2 i j) = f i.val j.val := rfl

/-- Such arrays are equal where their values are. -/
theorem ex2_congr {a b : ℕ} {f g : ℕ → ℕ → EReal} (h : ∀ r < a, ∀ d < b, f r d = g r d) : (ex2 f : (⟨2, ![a, b]⟩ : Shape).Idx → EReal) = ex2 g :=
  funext fun j => h _ (j 0).isLt _ (j 1).isLt

/-- Every array is one. -/
theorem exists_ex2 {a b : ℕ} (x : (⟨2, ![a, b]⟩ : Shape).Idx → EReal) : ∃ f, x = ex2 f := by
  refine ⟨fun r d => if h : r < a ∧ d < b then x (ix2 ⟨r, h.1⟩ ⟨d, h.2⟩) else 0, ?_⟩
  funext j
  obtain ⟨j0, j1, rfl⟩ : ∃ (j0 : Fin a) (j1 : Fin b), j = ix2 j0 j1 := ⟨j 0, j 1, eq_ix2 j⟩
  rw [ex2_ix2, dif_pos ⟨j0.isLt, j1.isLt⟩]

/-- A nonnegative real factor goes into a sum of extended reals. -/
theorem sum_mul_coe (n : ℕ) (f : ℕ → EReal) {x : ℝ} (hx : 0 ≤ x) : (∑ k ∈ range n, f k) * (x : EReal) = ∑ k ∈ range n, f k * (x : EReal) := by
  induction n with
  | zero => rw [sum_range_zero, sum_range_zero, zero_mul]
  | succ n ih =>
    rw [sum_range_succ, sum_range_succ, EReal.right_distrib_of_nonneg_of_ne_top (EReal.coe_nonneg.mpr hx) (EReal.coe_ne_top x), ih]

variable (q k : ℕ → ℕ → ℝ) (v : ℕ → ℕ → EReal)

/-- The scores of a tile. -/
def scT (r n : ℕ) : ℝ := ∑ d ∈ range 64, q r d * k n d

/-- The products of a tile. -/
theorem pay2_eq : k0_pay2 (F := 𝕀) (re2 q) (re2 k) = re2 (scT q k) := by
  funext j
  idx_vars j
  pointwise [k0_pay2]
  simp only [re2_ix2]
  exact coe_dot 64 (fun d => q _ d) (fun d => k _ d)

/-- The running maxima after a tile are real. -/
theorem stepM_real (m : Vec 𝕀 S1x256x128 .f32) (hm : ∀ j, m j ≠ ⊤) (j : S1x256x128.Idx) : IsReal (stepM (re2 q) (re2 k) m j) := by
  unfold stepM k0_pay6 k0_pay4 k0_pay5
  rw [pay2_eq]
  idx_vars j
  obtain rfl : j0 = 0 := Subsingleton.elim _ _
  pointwise []
  simp only [re2_ix2]
  repeat' first | exact ⟨_, rfl⟩ | exact hm _ | exact EReal.coe_ne_top _ | apply isReal_max | apply max_ne_top

/-- The least values the maxima start from. -/
theorem pay1_ne_top (j : S1x256x128.Idx) : k0_pay1 (F := 𝕀) j ≠ ⊤ := by
  idx_vars j
  obtain rfl : j0 = 0 := Subsingleton.elim _ _
  pointwise [k0_pay1]
  rw [bits_neg_inf]
  exact bot_ne_top

/-- The shifts of the rows are real. -/
theorem shift_eq (k0 k1 k2 : ℕ → ℕ → ℝ) : ∃ s : ℕ → ℝ, shift (re2 q) (re2 k0) (re2 k1) (re2 k2) = re2 fun r _ => s r := by
  have h1 := stepM_real q k0 _ pay1_ne_top
  have h2 := stepM_real q k1 _ fun j => (h1 j).ne_top
  obtain ⟨M, hM⟩ := eq_re3 _ (stepM_real q k2 _ fun j => (h2 j).ne_top)
  unfold shift
  rw [hM]
  refine ⟨fun r => topR 128 (M 0 r), ?_⟩
  funext j
  obtain ⟨j0, j1, rfl⟩ : ∃ (a : Fin 256) (b : Fin 1), j = ix2 a b := ⟨_, _, eq_ix2 j⟩
  obtain rfl : j1 = 0 := Subsingleton.elim _ _
  pointwise [k0_pay19]
  simp only [re3_ix3, re2_ix2]
  rw [bits_neg_inf]
  exact topE_eq 128 (by decide) (M 0 j0)

/-- The values beside a column block of ones. -/
def withOnes (n c : ℕ) : EReal := if c < 64 then v n c else 1

/-- The exponential of a score less its row's shift. -/
def expT (s : ℕ → ℝ) (r n : ℕ) : ℝ := Real.exp (scT q k r n - s r)

/-- What a tile of keys adds to the accumulated products. -/
theorem stepA_eq (s : ℕ → ℝ) (A : ℕ → ℕ → EReal) : stepA (re2 q) (re2 fun r _ => s r) (re2 k) (ex2 v) (ex2 A)
    = ex2 fun r c => A r c + ∑ n ∈ range 2816, ((expT q k s r n : ℝ) : EReal) * withOnes v n c := by
  unfold stepA k0_pay37 k0_pay36 k0_pay3
  rw [pay2_eq]
  funext j
  idx_vars j
  pointwise []
  simp only [re2_ix2, ex2_ix2]
  rw [Finset.sum_range]
  refine congrArg (_ + ·) (sum_congr rfl fun n _ => ?_)
  rw [← EReal.coe_sub, Ideal.exp_coe, withOnes]
  split_ifs <;> rfl

/-- The accumulated products start from zero. -/
theorem pay20_eq : k0_pay20 (F := 𝕀) = ex2 fun _ _ => 0 := by
  funext j
  idx_vars j
  pointwise [k0_pay20]
  rfl

/-- Rows of an array from a given one on. -/
def rowsFrom {α : Type} (F : ℕ → ℕ → α) (a r c : ℕ) : α := F (a + r) c

/-- A sum over all the keys, by the three tiles. -/
theorem sum_tiles (f : ℕ → EReal) : ∑ n ∈ range 8448, f n
    = 0 + ∑ n ∈ range 2816, f n + ∑ n ∈ range 2816, f (2816 + n) + ∑ n ∈ range 2816, f (5632 + n) := by
  rw [zero_add, show 8448 = 2816 + 2816 + 2816 from rfl, sum_range_add, sum_range_add]

/-- The accumulated products of all the keys and values, and the shifts they were taken with. -/
theorem acc_eq : ∃ s : ℕ → ℝ,
    shift (re2 q) (re2 k) (re2 (rowsFrom k 2816)) (re2 (rowsFrom k 5632)) = re2 (fun r _ => s r)
    ∧ acc (re2 q) (re2 k) (re2 (rowsFrom k 2816)) (re2 (rowsFrom k 5632)) (ex2 v) (ex2 (rowsFrom v 2816)) (ex2 (rowsFrom v 5632))
      = ex2 fun r c => ∑ n ∈ range 8448, ((expT q k s r n : ℝ) : EReal) * withOnes v n c := by
  obtain ⟨s, hs⟩ := shift_eq q k (rowsFrom k 2816) (rowsFrom k 5632)
  refine ⟨s, hs, ?_⟩
  unfold acc
  rw [hs, pay20_eq, stepA_eq, stepA_eq, stepA_eq]
  congr 1
  funext r c
  exact (sum_tiles fun n => ((expT q k s r n : ℝ) : EReal) * withOnes v n c).symm

/-- The sums of the exponentials of the shifted scores. -/
def sumT (s : ℕ → ℝ) (r : ℕ) : ℝ := ∑ n ∈ range 8448, expT q k s r n

theorem sumT_pos (s : ℕ → ℝ) (r : ℕ) : 0 < sumT q k s r := sum_pos (fun _ _ => Real.exp_pos _) ⟨0, by simp⟩

/-- What one head stores, from the shifts its sums were taken with. -/
theorem item_eq : ∃ s : ℕ → ℝ,
    (itemO (re2 q) (re2 k) (re2 (rowsFrom k 2816)) (re2 (rowsFrom k 5632)) (ex2 v) (ex2 (rowsFrom v 2816)) (ex2 (rowsFrom v 5632))
      = ex2 fun r c => ∑ n ∈ range 8448, ((expT q k s r n / sumT q k s r : ℝ) : EReal) * v n c)
    ∧ itemL (re2 q) (re2 k) (re2 (rowsFrom k 2816)) (re2 (rowsFrom k 5632)) (ex2 v) (ex2 (rowsFrom v 2816)) (ex2 (rowsFrom v 5632))
      = re3 fun _ r _ => Real.log (sumT q k s r) + s r := by
  obtain ⟨s, hs, ha⟩ := acc_eq q k v
  have hL : accL (re2 q) (re2 k) (re2 (rowsFrom k 2816)) (re2 (rowsFrom k 5632)) (ex2 v) (ex2 (rowsFrom v 2816)) (ex2 (rowsFrom v 5632))
      = re2 fun r _ => sumT q k s r := by
    unfold accL
    rw [ha]
    funext j
    obtain ⟨j0, j1, rfl⟩ : ∃ (a : Fin 256) (b : Fin 1), j = ix2 a b := ⟨_, _, eq_ix2 j⟩
    obtain rfl : j1 = 0 := Subsingleton.elim _ _
    show ∑ n ∈ range 8448, ((expT q k s (0 + 1 * j0.val) n : ℝ) : EReal) * 1 = ((sumT q k s j0 : ℝ) : EReal)
    rw [Nat.one_mul, Nat.zero_add, sumT, ← coe_sum_fin, Finset.sum_range]
    exact sum_congr rfl fun n _ => mul_one _
  have hO : accO (re2 q) (re2 k) (re2 (rowsFrom k 2816)) (re2 (rowsFrom k 5632)) (ex2 v) (ex2 (rowsFrom v 2816)) (ex2 (rowsFrom v 5632))
      = ex2 fun r c => ∑ n ∈ range 8448, ((expT q k s r n : ℝ) : EReal) * v n c := by
    unfold accO
    rw [ha]
    funext j
    obtain ⟨j0, j1, rfl⟩ : ∃ (a : Fin 256) (b : Fin 64), j = ix2 a b := ⟨_, _, eq_ix2 j⟩
    show ∑ n ∈ range 8448, ((expT q k s (0 + 1 * j0.val) n : ℝ) : EReal) * withOnes v n (0 + 1 * j1.val) = _
    rw [Nat.one_mul, Nat.zero_add, Nat.one_mul, Nat.zero_add]
    exact sum_congr rfl fun n _ => congrArg (_ * ·) (if_pos j1.isLt)
  refine ⟨s, ?_, ?_⟩
  · unfold itemO
    rw [hL, hO]
    funext j
    idx_vars j
    pointwise [k0_pay38]
    simp only [re2_ix2, ex2_ix2]
    rw [Ideal.div_coe (sumT_pos q k s _).ne', sum_mul_coe _ _ (one_div_pos.mpr (sumT_pos q k s _)).le]
    refine sum_congr rfl fun n _ => ?_
    rw [mul_right_comm, ← EReal.coe_mul, mul_one_div]
  · unfold itemL
    rw [hL, hs]
    funext j
    obtain ⟨j0, j1, j2, rfl⟩ : ∃ (a : Fin 1) (b : Fin 256) (c : Fin 1), j = ix3 a b c := ⟨_, _, _, eq_ix3 j⟩
    obtain rfl : j0 = 0 := Subsingleton.elim _ _
    obtain rfl : j2 = 0 := Subsingleton.elim _ _
    pointwise [k0_pay40]
    simp only [re2_ix2, re3_ix3]
    rw [Ideal.log_coe, if_neg (not_le.mpr (sumT_pos q k s _)), ← EReal.coe_add, add_comm]

/-- The gate of a number. -/
def gate (z : EReal) : EReal := z * Ideal.div 1 (1 + Ideal.exp (0 - z))

/-- The gated output of one head. -/
theorem itemG_apply (q : Vec 𝕀 S256x64 .bf16) (k0 k1 k2 v0 v1 v2 : Vec 𝕀 S2816x64 .bf16) (z : Vec 𝕀 S256x64 .bf16) (j : S256x64.Idx) :
    itemG q k0 k1 k2 v0 v1 v2 z j = itemO q k0 k1 k2 v0 v1 v2 j * gate (z j) := by
  unfold itemG k0_pay39
  change k0_pay38 (F := 𝕀) (accL q k0 k1 k2 v0 v1 v2) (accO q k0 k1 k2 v0 v1 v2) j * _ = _
  refine congrArg (_ * ·) ?_
  show z j * Ideal.div (Ideal.ofBits .f32 0x3F800000#32) (Ideal.ofBits .f32 0x3F800000#32 + Ideal.exp (Ideal.ofBits .f32 0x00000000#32 - z j)) = _
  rw [Ideal.ofBits_one_f32, Ideal.ofBits_zero_f32]
  rfl

end Value

end Cert.AttnForward

end
-- ==== Proof.ForwardRun.lean ====
/- What one run of the forward attention's body stores, block by block. -/
module

public import proofs.«01_k».proof.Proof.ForwardItem
public import Idealize.ShloMosaic.Lib.Pipeline.ReadBack

@[expose] public section

set_option maxRecDepth 65536

noncomputable section

namespace Cert.AttnForward

open Finset Idealize.ShloMosaic Idealize.ShloMosaic.TcCoe Idealize.ShloMosaic.Tactic Idealize.SL.Sem
open Cert.ForwardIdeal Cert.ForwardIdeal.Gen Cert.Attn

local notation "𝕀" => Idealize.ShloMosaic.Ideal
local notation "𝕍" => Elt Idealize.ShloMosaic.Ideal

theorem inb_q {a b : ℕ} (ha : a ≤ 256) (hb : b ≤ 448) : ∀ x, (![a, b] : Fin 2 → ℕ) x + S256x64.size x ≤ S512x512.size x :=
  Fin.forall_fin_two.mpr ⟨show a + 256 ≤ 512 by omega, show b + 64 ≤ 512 by omega⟩

theorem inb_k {a b : ℕ} (ha : a ≤ 5632) (hb : b ≤ 64) : ∀ x, (![a, b] : Fin 2 → ℕ) x + S2816x64.size x ≤ S8448x128.size x :=
  Fin.forall_fin_two.mpr ⟨show a + 2816 ≤ 8448 by omega, show b + 64 ≤ 128 by omega⟩

/-- Half of the rows of one head. -/
def cutQ (m : Memref sig .tc .vmem S512x512 .bf16) (h : m.IsWhole) (x : Vec 𝕀 S512x512 .bf16) {a b : ℕ} (ha : a ≤ 256) (hb : b ≤ 448) : Vec 𝕀 S256x64 .bf16 :=
  m.view.readAt 𝕍 (Rect.unit (s := S512x512) ![a, b] S256x64.size (inb_q ha hb)).toLoadRect (h.unread x)

/-- A tile of the keys, or the values, of one head. -/
def cutK (m : Memref sig .tc .vmem S8448x128 .bf16) (h : m.IsWhole) (x : Vec 𝕀 S8448x128 .bf16) {a b : ℕ} (ha : a ≤ 5632) (hb : b ≤ 64) : Vec 𝕀 S2816x64 .bf16 :=
  m.view.readAt 𝕍 (Rect.unit (s := S8448x128) ![a, b] S2816x64.size (inb_k ha hb)).toLoadRect (h.unread x)

/-- The sixteen blocks of the output. -/
def tiles {e : EltTy} (f : ∀ {a b g : ℕ}, a ≤ 256 → b ≤ 448 → g ≤ 64 → S256x64.Idx → 𝕍 e) : List (View.Piece 𝕍 S512x512 e) :=
  [⟨Rect.unit ![256, 448] S256x64.size inb_S512x512_S256x64_256_448, f (a := 256) (b := 448) (g := 64) (by decide) (by decide) (by decide)⟩,
   ⟨Rect.unit ![256, 384] S256x64.size inb_S512x512_S256x64_256_384, f (a := 256) (b := 384) (g := 64) (by decide) (by decide) (by decide)⟩,
   ⟨Rect.unit ![256, 320] S256x64.size inb_S512x512_S256x64_256_320, f (a := 256) (b := 320) (g := 64) (by decide) (by decide) (by decide)⟩,
   ⟨Rect.unit ![256, 256] S256x64.size inb_S512x512_S256x64_256_256, f (a := 256) (b := 256) (g := 64) (by decide) (by decide) (by decide)⟩,
   ⟨Rect.unit ![256, 192] S256x64.size inb_S512x512_S256x64_256_192, f (a := 256) (b := 192) (g := 0) (by decide) (by decide) (by decide)⟩,
   ⟨Rect.unit ![256, 128] S256x64.size inb_S512x512_S256x64_256_128, f (a := 256) (b := 128) (g := 0) (by decide) (by decide) (by decide)⟩,
   ⟨Rect.unit ![256, 64] S256x64.size inb_S512x512_S256x64_256_64, f (a := 256) (b := 64) (g := 0) (by decide) (by decide) (by decide)⟩,
   ⟨Rect.unit ![256, 0] S256x64.size inb_S512x512_S256x64_256_0, f (a := 256) (b := 0) (g := 0) (by decide) (by decide) (by decide)⟩,
   ⟨Rect.unit ![0, 448] S256x64.size inb_S512x512_S256x64_0_448, f (a := 0) (b := 448) (g := 64) (by decide) (by decide) (by decide)⟩,
   ⟨Rect.unit ![0, 384] S256x64.size inb_S512x512_S256x64_0_384, f (a := 0) (b := 384) (g := 64) (by decide) (by decide) (by decide)⟩,
   ⟨Rect.unit ![0, 320] S256x64.size inb_S512x512_S256x64_0_320, f (a := 0) (b := 320) (g := 64) (by decide) (by decide) (by decide)⟩,
   ⟨Rect.unit ![0, 256] S256x64.size inb_S512x512_S256x64_0_256, f (a := 0) (b := 256) (g := 64) (by decide) (by decide) (by decide)⟩,
   ⟨Rect.unit ![0, 192] S256x64.size inb_S512x512_S256x64_0_192, f (a := 0) (b := 192) (g := 0) (by decide) (by decide) (by decide)⟩,
   ⟨Rect.unit ![0, 128] S256x64.size inb_S512x512_S256x64_0_128, f (a := 0) (b := 128) (g := 0) (by decide) (by decide) (by decide)⟩,
   ⟨Rect.unit ![0, 64] S256x64.size inb_S512x512_S256x64_0_64, f (a := 0) (b := 64) (g := 0) (by decide) (by decide) (by decide)⟩,
   ⟨Rect.unit ![0, 0] S256x64.size inb_S512x512_S256x64_0_0, f (a := 0) (b := 0) (g := 0) (by decide) (by decide) (by decide)⟩]

/-- The sixteen blocks of the logarithms. -/
def columns {e : EltTy} (f : ∀ {a b g : ℕ}, a ≤ 256 → b ≤ 448 → g ≤ 64 → S1x256x1.Idx → 𝕍 e) : List (View.Piece 𝕍 S1x512x8 e) :=
  [⟨Rect.unit ![0, 256, 7] S1x256x1.size inb_S1x512x8_S1x256x1_0_256_7, f (a := 256) (b := 448) (g := 64) (by decide) (by decide) (by decide)⟩,
   ⟨Rect.unit ![0, 256, 6] S1x256x1.size inb_S1x512x8_S1x256x1_0_256_6, f (a := 256) (b := 384) (g := 64) (by decide) (by decide) (by decide)⟩,
   ⟨Rect.unit ![0, 256, 5] S1x256x1.size inb_S1x512x8_S1x256x1_0_256_5, f (a := 256) (b := 320) (g := 64) (by decide) (by decide) (by decide)⟩,
   ⟨Rect.unit ![0, 256, 4] S1x256x1.size inb_S1x512x8_S1x256x1_0_256_4, f (a := 256) (b := 256) (g := 64) (by decide) (by decide) (by decide)⟩,
   ⟨Rect.unit ![0, 256, 3] S1x256x1.size inb_S1x512x8_S1x256x1_0_256_3, f (a := 256) (b := 192) (g := 0) (by decide) (by decide) (by decide)⟩,
   ⟨Rect.unit ![0, 256, 2] S1x256x1.size inb_S1x512x8_S1x256x1_0_256_2, f (a := 256) (b := 128) (g := 0) (by decide) (by decide) (by decide)⟩,
   ⟨Rect.unit ![0, 256, 1] S1x256x1.size inb_S1x512x8_S1x256x1_0_256_1, f (a := 256) (b := 64) (g := 0) (by decide) (by decide) (by decide)⟩,
   ⟨Rect.unit ![0, 256, 0] S1x256x1.size inb_S1x512x8_S1x256x1_0_256_0, f (a := 256) (b := 0) (g := 0) (by decide) (by decide) (by decide)⟩,
   ⟨Rect.unit ![0, 0, 7] S1x256x1.size inb_S1x512x8_S1x256x1_0_0_7, f (a := 0) (b := 448) (g := 64) (by decide) (by decide) (by decide)⟩,
   ⟨Rect.unit ![0, 0, 6] S1x256x1.size inb_S1x512x8_S1x256x1_0_0_6, f (a := 0) (b := 384) (g := 64) (by decide) (by decide) (by decide)⟩,
   ⟨Rect.unit ![0, 0, 5] S1x256x1.size inb_S1x512x8_S1x256x1_0_0_5, f (a := 0) (b := 320) (g := 64) (by decide) (by decide) (by decide)⟩,
   ⟨Rect.unit ![0, 0, 4] S1x256x1.size inb_S1x512x8_S1x256x1_0_0_4, f (a := 0) (b := 256) (g := 64) (by decide) (by decide) (by decide)⟩,
   ⟨Rect.unit ![0, 0, 3] S1x256x1.size inb_S1x512x8_S1x256x1_0_0_3, f (a := 0) (b := 192) (g := 0) (by decide) (by decide) (by decide)⟩,
   ⟨Rect.unit ![0, 0, 2] S1x256x1.size inb_S1x512x8_S1x256x1_0_0_2, f (a := 0) (b := 128) (g := 0) (by decide) (by decide) (by decide)⟩,
   ⟨Rect.unit ![0, 0, 1] S1x256x1.size inb_S1x512x8_S1x256x1_0_0_1, f (a := 0) (b := 64) (g := 0) (by decide) (by decide) (by decide)⟩,
   ⟨Rect.unit ![0, 0, 0] S1x256x1.size inb_S1x512x8_S1x256x1_0_0_0, f (a := 0) (b := 0) (g := 0) (by decide) (by decide) (by decide)⟩]

variable (c : Dev nD) (i : grid0.Coords) (arg2 : Memref sig .tc .vmem S512x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S1x512x8 .f32) (harg7 : arg7.IsWhole) (arg8 : Memref sig .tc .vmem S512x512 .bf16) (harg8 : arg8.IsWhole) (arg9 : Memref sig .tc .vmem S2x256x8448 .f32) (harg9 : arg9.IsWhole) (arg10 : Memref sig .tc .vmem S2x256x128 .f32) (harg10 : arg10.IsWhole) (arg11 : Memref sig .tc .vmem S256x128 .f32) (harg11 : arg11.IsWhole)

/-- What the body stores: of the output, of the logarithms and of the gated output one block a head and half. -/
theorem run_eq (x0 : Vec 𝕀 S512x512 .bf16) (x1 x2 : Vec 𝕀 S8448x128 .bf16) (x3 : Vec 𝕀 S512x512 .bf16) :
    (kernelRun0_A c i arg2 harg2 arg3 harg3 arg4 harg4 arg5 harg5 arg6 harg6 arg7 harg7 arg8 harg8 arg9 harg9 arg10 harg10 arg11 harg11 x0 x1 x2 x3).1
        = tiles (fun ha hb hg => itemO (cutQ arg2 harg2 x0 ha hb)
            (cutK arg3 harg3 x1 (Nat.zero_le _) hg) (cutK arg3 harg3 x1 (a := 2816) (by decide) hg) (cutK arg3 harg3 x1 (le_refl _) hg)
            (cutK arg4 harg4 x2 (Nat.zero_le _) hg) (cutK arg4 harg4 x2 (a := 2816) (by decide) hg) (cutK arg4 harg4 x2 (le_refl _) hg))
      ∧ (kernelRun0_A c i arg2 harg2 arg3 harg3 arg4 harg4 arg5 harg5 arg6 harg6 arg7 harg7 arg8 harg8 arg9 harg9 arg10 harg10 arg11 harg11 x0 x1 x2 x3).2.1
        = columns (fun ha hb hg => itemL (cutQ arg2 harg2 x0 ha hb)
            (cutK arg3 harg3 x1 (Nat.zero_le _) hg) (cutK arg3 harg3 x1 (a := 2816) (by decide) hg) (cutK arg3 harg3 x1 (le_refl _) hg)
            (cutK arg4 harg4 x2 (Nat.zero_le _) hg) (cutK arg4 harg4 x2 (a := 2816) (by decide) hg) (cutK arg4 harg4 x2 (le_refl _) hg))
      ∧ (kernelRun0_A c i arg2 harg2 arg3 harg3 arg4 harg4 arg5 harg5 arg6 harg6 arg7 harg7 arg8 harg8 arg9 harg9 arg10 harg10 arg11 harg11 x0 x1 x2 x3).2.2.1
        = tiles (fun ha hb hg => itemG (cutQ arg2 harg2 x0 ha hb)
            (cutK arg3 harg3 x1 (Nat.zero_le _) hg) (cutK arg3 harg3 x1 (a := 2816) (by decide) hg) (cutK arg3 harg3 x1 (le_refl _) hg)
            (cutK arg4 harg4 x2 (Nat.zero_le _) hg) (cutK arg4 harg4 x2 (a := 2816) (by decide) hg) (cutK arg4 harg4 x2 (le_refl _) hg) (cutQ arg5 harg5 x3 ha hb)) := by
  unfold kernelRun0_A
  dsimp only
  sl_unfold_words
  simp (config := { decide := true }) only [↓View.readCov_skip, ↓View.readCov_cons_toLoadRect, ↓View.readCov_fill]
  simp only [tiles, columns, cutQ, cutK, itemO, itemL, itemG, accO, accL, acc, stepA, shift, stepM, and_self,
    k0_pay1, k0_pay2, k0_pay3, k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245, k0_pay246,
    k0_pay247, k0_pay248, k0_pay249, k0_pay250, k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270, k0_pay271, k0_pay272, k0_pay273, k0_pay274,
    k0_pay275, k0_pay276, k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298, k0_pay299, k0_pay300, k0_pay301, k0_pay302,
    k0_pay303, k0_pay304, k0_pay305, k0_pay306, k0_pay307, k0_pay308, k0_pay309, k0_pay310, k0_pay311, k0_pay312, k0_pay313, k0_pay314, k0_pay315, k0_pay316,
    k0_pay317, k0_pay318, k0_pay319, k0_pay320, k0_pay321, k0_pay322, k0_pay323, k0_pay324, k0_pay325, k0_pay326, k0_pay327, k0_pay328, k0_pay329, k0_pay330,
    k0_pay331, k0_pay332, k0_pay333, k0_pay334, k0_pay335, k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353, k0_pay354, k0_pay355, k0_pay356, k0_pay357, k0_pay358,
    k0_pay359, k0_pay360, k0_pay361, k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382]

end Cert.AttnForward

end
-- ==== Proof.ForwardPoint.lean ====
/- The blocks a grid point of the forward attention leaves, from the blocks it reads. -/
module

public import proofs.«01_k».proof.Proof.ForwardRun
public import proofs.«01_k».proof.Proof.Assemble
public import proofs.«01_k».proof.Proof.Gen.ForwardIdeal.Value
public import Idealize.ShloMosaic.Lib.WholeRead
public import Idealize.ShloMosaic.Lib.Pipeline.ReadBack

@[expose] public section

set_option maxRecDepth 16384

noncomputable section

namespace Cert.AttnForward

open Finset Idealize.ShloMosaic Idealize.ShloMosaic.TcCoe Idealize.ShloMosaic.Tactic Idealize.SL.Sem
open Cert.ForwardIdeal Cert.ForwardIdeal.Gen Cert.Attn

local notation "𝕀" => Idealize.ShloMosaic.Ideal
local notation "𝕍" => Elt Idealize.ShloMosaic.Ideal

section Lists

/-- Stores that are blocks of one array and cover it leave it. -/
theorem read_blocks {s : Shape} {e : EltTy} {sp : Space} (v : View sig .tc sp s e) (G : s.Idx → 𝕍 e) (L : List (View.Piece 𝕍 s e))
    (h : View.PiecesOf G L) (hc : ∀ y, ∃ p ∈ L, y ∈ p.1.set) : v.read 𝕍 (v.writes 𝕍 v.junk L) = G := by
  rw [View.read_writes_junk_eq_canon]
  funext y
  have e := View.canon_append_of_piecesOf G [] L h y (hc y)
  rwa [List.append_nil] at e

/-- Sixteen blocks of the output are blocks of one array. -/
theorem tiles_of {e : EltTy} (f : ∀ {a b g : ℕ}, a ≤ 256 → b ≤ 448 → g ≤ 64 → S256x64.Idx → 𝕍 e) (G : S512x512.Idx → 𝕍 e)
    (h : ∀ {a b g : ℕ} (ha : a ≤ 256) (hb : b ≤ 448) (hg : g ≤ 64), b = 64 * (b / 64) → g = 64 * (b / 64 / 4) →
      ∀ (inb : ∀ x, (![a, b] : Fin 2 → ℕ) x + S256x64.size x ≤ S512x512.size x) (x : S256x64.Idx),
        f ha hb hg x = G ((Rect.unit (s := S512x512) ![a, b] S256x64.size inb).emb x)) : View.PiecesOf G (tiles f) := by
  simp only [tiles, View.PiecesOf]
  and_intros <;> first | trivial | exact h _ _ _ (by decide) (by decide) _

/-- Sixteen blocks of the logarithms are blocks of one array. -/
theorem columns_of {e : EltTy} (f : ∀ {a b g : ℕ}, a ≤ 256 → b ≤ 448 → g ≤ 64 → S1x256x1.Idx → 𝕍 e) (G : S1x512x8.Idx → 𝕍 e)
    (h : ∀ {a b g j : ℕ} (ha : a ≤ 256) (hb : b ≤ 448) (hg : g ≤ 64), b = 64 * j → g = 64 * (j / 4) →
      ∀ (inb : ∀ x, (![0, a, j] : Fin 3 → ℕ) x + S1x256x1.size x ≤ S1x512x8.size x) (x : S1x256x1.Idx),
        f ha hb hg x = G ((Rect.unit (s := S1x512x8) ![0, a, j] S1x256x1.size inb).emb x)) : View.PiecesOf G (columns f) := by
  simp only [columns, View.PiecesOf]
  and_intros <;> first | trivial | exact h _ _ _ (by decide) (by decide) _

end Lists

section Loads

/-- Half of the rows of one head, element by element. -/
theorem cutQ_apply (m : Memref sig .tc .vmem S512x512 .bf16) (h : m.IsWhole) (x : Vec 𝕀 S512x512 .bf16) {a b : ℕ} (ha : a ≤ 256) (hb : b ≤ 448)
    (j : S256x64.Idx) : cutQ m h x ha hb j = x ((Rect.unit (s := S512x512) ![a, b] S256x64.size (inb_q ha hb)).emb j) :=
  congrFun (h.read_unread x) _

/-- The rows of one head of a real tile. -/
theorem cutQ_re (m : Memref sig .tc .vmem S512x512 .bf16) (h : m.IsWhole) (F : ℕ → ℕ → ℝ) {a b : ℕ} (ha : a ≤ 256) (hb : b ≤ 448) :
    cutQ m h (re2 F) ha hb = re2 fun r d => F (a + r) (b + d) := by
  funext j
  refine (cutQ_apply m h _ ha hb j).trans ?_
  show ((F (a + 1 * (j 0).val) (b + 1 * (j 1).val) : ℝ) : EReal) = _
  rw [Nat.one_mul, Nat.one_mul]
  rfl

/-- The rows of one head of real keys. -/
theorem cutK_re (m : Memref sig .tc .vmem S8448x128 .bf16) (h : m.IsWhole) (F : ℕ → ℕ → ℝ) {a b : ℕ} (ha : a ≤ 5632) (hb : b ≤ 64) :
    cutK m h (re2 F) ha hb = re2 (rowsFrom (fun n d => F n (b + d)) a) := by
  funext j
  refine (congrFun (h.read_unread (Val := 𝕍) (re2 F)) _).trans ?_
  show ((F (a + 1 * (j 0).val) (b + 1 * (j 1).val) : ℝ) : EReal) = _
  rw [Nat.one_mul, Nat.one_mul]
  rfl

/-- The rows of one head of values. -/
theorem cutK_ex (m : Memref sig .tc .vmem S8448x128 .bf16) (h : m.IsWhole) (F : ℕ → ℕ → EReal) {a b : ℕ} (ha : a ≤ 5632) (hb : b ≤ 64) :
    cutK m h (ex2 F) ha hb = ex2 (rowsFrom (fun n d => F n (b + d)) a) := by
  funext j
  refine (congrFun (h.read_unread (Val := 𝕍) (ex2 F)) _).trans ?_
  show F (a + 1 * (j 0).val) (b + 1 * (j 1).val) = _
  rw [Nat.one_mul, Nat.one_mul]
  rfl

theorem rowsFrom_zero {α : Type} (F : ℕ → ℕ → α) : rowsFrom F 0 = F := by
  funext r c
  show F (0 + r) c = _
  rw [Nat.zero_add]

end Loads

section Point

variable (c : Dev nD) (i : grid0.Coords) (arg2 : Memref sig .tc .vmem S512x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S1x512x8 .f32) (harg7 : arg7.IsWhole) (arg8 : Memref sig .tc .vmem S512x512 .bf16) (harg8 : arg8.IsWhole) (arg9 : Memref sig .tc .vmem S2x256x8448 .f32) (harg9 : arg9.IsWhole) (arg10 : Memref sig .tc .vmem S2x256x128 .f32) (harg10 : arg10.IsWhole) (arg11 : Memref sig .tc .vmem S256x128 .f32) (harg11 : arg11.IsWhole)
variable (Q K : ℕ → ℕ → ℝ) (V' : ℕ → ℕ → EReal) (ti bk : ℕ)

/-- The attention output at row `t`, column `c`, whatever the values. -/
def outE (t c : ℕ) : EReal := ∑ n ∈ range nKeys, ((prob Q K (c / 64) t n : ℝ) : EReal) * V' n (64 * (c / 256) + c % 64)

/-- Its rows of tile `ti` in column block `bk`. -/
def outBlk (r c : ℕ) : EReal := outE Q K V' (512 * ti + r) (512 * bk + c)

/-- Column block `bk` of the values. -/
def valBlk (n c : ℕ) : EReal := V' n (128 * bk + c)

/-- The scores of a head of a tile are the attention's. -/
theorem scT_eq (a j r n : ℕ) : scT (fun r d => rowBlk Q ti bk (a + r) (64 * j + d)) (fun n d => keyBlk K bk n (64 * (j / 4) + d)) r n
    = score Q K (8 * bk + j) (512 * ti + (a + r)) n := by
  refine sum_congr rfl fun d _ => ?_
  show Q _ (512 * bk + (64 * j + d)) * K n (128 * bk + (64 * (j / 4) + d)) = _
  rw [show 512 * bk + (64 * j + d) = 64 * (8 * bk + j) + d by omega,
    show 128 * bk + (64 * (j / 4) + d) = 64 * ((8 * bk + j) / 4) + d by omega]

variable (x0 : Vec 𝕀 S512x512 .bf16) (x1 x2 : Vec 𝕀 S8448x128 .bf16) (x3 : Vec 𝕀 S512x512 .bf16)
  (e0 : x0 = re2 (rowBlk Q ti bk)) (e1 : x1 = re2 (keyBlk K bk)) (e2 : x2 = ex2 (valBlk V' bk))

include e0 e1 e2 in
/-- What a head of a tile stores is the attention's output and the logarithms of its sums. -/
theorem head_eq {a b g j : ℕ} (ha : a ≤ 256) (hb : b ≤ 448) (hg : g ≤ 64) (h0 : 0 ≤ 5632) (h1 : 2816 ≤ 5632) (h2 : 5632 ≤ 5632)
    (hj : b = 64 * j) (hk : g = 64 * (j / 4)) :
    itemO (cutQ arg2 harg2 x0 ha hb)
      (cutK arg3 harg3 x1 h0 hg) (cutK arg3 harg3 x1 h1 hg) (cutK arg3 harg3 x1 h2 hg)
      (cutK arg4 harg4 x2 h0 hg) (cutK arg4 harg4 x2 h1 hg) (cutK arg4 harg4 x2 h2 hg) = ex2 (fun r c => outE Q K V' (512 * ti + (a + r)) (512 * bk + (b + c)))
    ∧ itemL (cutQ arg2 harg2 x0 ha hb)
      (cutK arg3 harg3 x1 h0 hg) (cutK arg3 harg3 x1 h1 hg) (cutK arg3 harg3 x1 h2 hg)
      (cutK arg4 harg4 x2 h0 hg) (cutK arg4 harg4 x2 h1 hg) (cutK arg4 harg4 x2 h2 hg) = re3 (fun _ r _ => lseBlk (lse Q K) ti bk 0 (a + r) j) := by
  subst hj hk e0 e1 e2
  simp only [cutQ_re, cutK_re, cutK_ex, rowsFrom_zero]
  obtain ⟨s, hO, hL⟩ := item_eq (fun r d => rowBlk Q ti bk (a + r) (64 * j + d)) (fun n d => keyBlk K bk n (64 * (j / 4) + d))
    (fun n d => valBlk V' bk n (64 * (j / 4) + d))
  refine ⟨hO.trans (ex2_congr fun r _ c hc => ?_), hL.trans ?_⟩
  · simp only [sumT, expT, scT_eq]
    refine sum_congr rfl fun n _ => ?_
    rw [exp_shift_div Q K (8 * bk + j) (512 * ti + (a + r)) n (s r)]
    show ((prob Q K _ _ n : ℝ) : EReal) * V' n (128 * bk + (64 * (j / 4) + c)) = ((prob Q K ((512 * bk + (64 * j + c)) / 64) _ n : ℝ) : EReal)
      * V' n (64 * ((512 * bk + (64 * j + c)) / 256) + (512 * bk + (64 * j + c)) % 64)
    rw [show (512 * bk + (64 * j + c)) / 64 = 8 * bk + j by omega,
      show 64 * ((512 * bk + (64 * j + c)) / 256) + (512 * bk + (64 * j + c)) % 64 = 128 * bk + (64 * (j / 4) + c) by omega]
  · simp only [sumT, expT, scT_eq]
    congr 1
    funext _ r _
    exact log_shift Q K (8 * bk + j) (512 * ti + (a + r)) (s r)

include e0 e1 e2

/-- The block of the output a point leaves. -/
theorem out_o : out0_A_4 c i arg2 harg2 arg3 harg3 arg4 harg4 arg5 harg5 arg6 harg6 arg7 harg7 arg8 harg8 arg9 harg9 arg10 harg10 arg11 harg11 x0 x1 x2 x3 = ex2 (outBlk Q K V' ti bk) := by
  unfold out0_A_4
  refine read_blocks _ _ _ ?_ (cover0_A_4 c i arg2 harg2 arg3 harg3 arg4 harg4 arg5 harg5 arg6 harg6 arg7 harg7 arg8 harg8 arg9 harg9 arg10 harg10 arg11 harg11 x0 x1 x2 x3)
  rw [(run_eq c i arg2 harg2 arg3 harg3 arg4 harg4 arg5 harg5 arg6 harg6 arg7 harg7 arg8 harg8 arg9 harg9 arg10 harg10 arg11 harg11 x0 x1 x2 x3).1]
  refine tiles_of _ _ fun ha hb hg hj hk inb x => ?_
  refine (congrFun (head_eq arg2 harg2 arg3 harg3 arg4 harg4 Q K V' ti bk x0 x1 x2 e0 e1 e2 ha hb hg (Nat.zero_le _) (by decide) (le_refl _) hj hk).1 x).trans ?_
  show outBlk Q K V' ti bk (_ + (x 0).val) (_ + (x 1).val) = outBlk Q K V' ti bk (_ + 1 * (x 0).val) (_ + 1 * (x 1).val)
  rw [Nat.one_mul, Nat.one_mul]
  rfl

/-- The block of the logarithms a point leaves. -/
theorem out_l : out0_A_5 c i arg2 harg2 arg3 harg3 arg4 harg4 arg5 harg5 arg6 harg6 arg7 harg7 arg8 harg8 arg9 harg9 arg10 harg10 arg11 harg11 x0 x1 x2 x3 = re3 (lseBlk (lse Q K) ti bk) := by
  unfold out0_A_5
  refine read_blocks _ _ _ ?_ (cover0_A_5 c i arg2 harg2 arg3 harg3 arg4 harg4 arg5 harg5 arg6 harg6 arg7 harg7 arg8 harg8 arg9 harg9 arg10 harg10 arg11 harg11 x0 x1 x2 x3)
  rw [(run_eq c i arg2 harg2 arg3 harg3 arg4 harg4 arg5 harg5 arg6 harg6 arg7 harg7 arg8 harg8 arg9 harg9 arg10 harg10 arg11 harg11 x0 x1 x2 x3).2.1]
  refine columns_of _ _ fun ha hb hg hj hk inb x => ?_
  refine (congrFun (head_eq arg2 harg2 arg3 harg3 arg4 harg4 Q K V' ti bk x0 x1 x2 e0 e1 e2 ha hb hg (Nat.zero_le _) (by decide) (le_refl _) hj hk).2 x).trans ?_
  have h2 : (x 2).val = 0 := Nat.lt_one_iff.mp (x 2).isLt
  show ((lseBlk (lse Q K) ti bk 0 (_ + (x 1).val) _ : ℝ) : EReal) = ((lseBlk (lse Q K) ti bk _ (_ + 1 * (x 1).val) (_ + 1 * (x 2).val) : ℝ) : EReal)
  rw [Nat.one_mul, h2]
  rfl

/-- The block of the gated output a point leaves. -/
theorem out_g : out0_A_6 c i arg2 harg2 arg3 harg3 arg4 harg4 arg5 harg5 arg6 harg6 arg7 harg7 arg8 harg8 arg9 harg9 arg10 harg10 arg11 harg11 x0 x1 x2 x3
    = fun y => (ex2 (outBlk Q K V' ti bk) : Vec 𝕀 S512x512 .f32) y * gate (x3 y) := by
  unfold out0_A_6
  refine read_blocks _ _ _ ?_ (cover0_A_6 c i arg2 harg2 arg3 harg3 arg4 harg4 arg5 harg5 arg6 harg6 arg7 harg7 arg8 harg8 arg9 harg9 arg10 harg10 arg11 harg11 x0 x1 x2 x3)
  rw [(run_eq c i arg2 harg2 arg3 harg3 arg4 harg4 arg5 harg5 arg6 harg6 arg7 harg7 arg8 harg8 arg9 harg9 arg10 harg10 arg11 harg11 x0 x1 x2 x3).2.2]
  refine tiles_of _ _ fun ha hb hg hj hk inb x => ?_
  refine (itemG_apply _ _ _ _ _ _ _ _ x).trans ?_
  rw [cutQ_apply]
  refine congrArg (· * _) ((congrFun (head_eq arg2 harg2 arg3 harg3 arg4 harg4 Q K V' ti bk x0 x1 x2 e0 e1 e2 ha hb hg (Nat.zero_le _) (by decide) (le_refl _) hj hk).1 x).trans ?_)
  show outBlk Q K V' ti bk (_ + (x 0).val) (_ + (x 1).val) = outBlk Q K V' ti bk (_ + 1 * (x 0).val) (_ + 1 * (x 1).val)
  rw [Nat.one_mul, Nat.one_mul]
  rfl

end Point

end Cert.AttnForward

end
-- ==== Proof.ForwardFinal.lean ====
/- The forward attention's three result arrays after the run. -/
module

public import proofs.«01_k».proof.Proof.ForwardPoint

@[expose] public section

set_option maxRecDepth 16384

noncomputable section

namespace Cert.AttnForward

open Finset Idealize.ShloMosaic Idealize.ShloMosaic.TcCoe Idealize.ShloMosaic.Tactic Idealize.SL.Sem
open Cert.ForwardIdeal Cert.ForwardIdeal.Gen Cert.Attn

local notation "𝕀" => Idealize.ShloMosaic.Ideal
local notation "𝕍" => Elt Idealize.ShloMosaic.Ideal

/-- The tile of a grid point and its block of columns, as the inputs' windows place them. -/
theorem index_in : ∀ t : Fin cfg0.N,
    (win0_0.index t 0 = t.val % 16 ∧ win0_0.index t 1 = t.val / 16) ∧ (win0_1.index t 0 = 0 ∧ win0_1.index t 1 = t.val / 16)
    ∧ (win0_2.index t 0 = 0 ∧ win0_2.index t 1 = t.val / 16) ∧ (win0_3.index t 0 = t.val % 16 ∧ win0_3.index t 1 = 2 + t.val / 16) := by
  decide +kernel

/-- The same of the results' windows. -/
theorem index_out : ∀ t : Fin cfg0.N,
    (win0_4.index t 0 = t.val % 16 ∧ win0_4.index t 1 = t.val / 16)
    ∧ (win0_5.index t 0 = t.val / 16 ∧ win0_5.index t 1 = t.val % 16 ∧ win0_5.index t 2 = 0)
    ∧ (win0_6.index t 0 = t.val % 16 ∧ win0_6.index t 1 = t.val / 16) := by
  decide +kernel

section

variable {m : (ℓ : Loc nD τ sig) → Buf (Elt 𝕀) ℓ} {c : Dev nD}

/-- The gate's argument: the second block of a thousand and twenty-four columns of the projections. -/
def zOf (x3 : Vec 𝕀 S8448x2560 .bf16) (r d : ℕ) : EReal :=
  if h : r < 8448 ∧ 1024 + d < 2560 then x3 (ix2 ⟨r, h.1⟩ ⟨1024 + d, h.2⟩) else 0

/-- The block of queries a point reads. -/
theorem blk_q (Q : ℕ → ℕ → ℝ) (h : V m c main_arg0 = re2 Q) (t : Fin cfg0.N) :
    (iblk m c 0 t : Vec 𝕀 S512x512 .bf16) = re2 (rowBlk Q (t.val % 16) (t.val / 16)) := by
  have hi := (index_in t).1
  funext j
  unfold iblk
  rw [View.read_apply]
  refine (congrFun h _).trans ?_
  show ((Q (win0_0.index t 0 * 512 + 1 * (j 0).val) (win0_0.index t 1 * 512 + 1 * (j 1).val) : ℝ) : EReal) = _
  rw [hi.1, hi.2, Nat.one_mul, Nat.one_mul, Nat.mul_comm _ 512, Nat.mul_comm _ 512]
  rfl

/-- The block of keys a point reads. -/
theorem blk_k (K : ℕ → ℕ → ℝ) (h : V m c main_arg1 = re2 K) (t : Fin cfg0.N) :
    (iblk m c 1 t : Vec 𝕀 S8448x128 .bf16) = re2 (keyBlk K (t.val / 16)) := by
  have hi := (index_in t).2.1
  funext j
  unfold iblk
  rw [View.read_apply]
  refine (congrFun h _).trans ?_
  show ((K (win0_1.index t 0 * 8448 + 1 * (j 0).val) (win0_1.index t 1 * 128 + 1 * (j 1).val) : ℝ) : EReal) = _
  rw [hi.1, hi.2, Nat.one_mul, Nat.one_mul, Nat.zero_mul, Nat.zero_add, Nat.mul_comm _ 128]
  rfl

/-- The block of values a point reads. -/
theorem blk_v (V' : ℕ → ℕ → EReal) (h : V m c main_arg2 = ex2 V') (t : Fin cfg0.N) :
    (iblk m c 2 t : Vec 𝕀 S8448x128 .bf16) = ex2 (valBlk V' (t.val / 16)) := by
  have hi := (index_in t).2.2.1
  funext j
  unfold iblk
  rw [View.read_apply]
  refine (congrFun h _).trans ?_
  show V' (win0_2.index t 0 * 8448 + 1 * (j 0).val) (win0_2.index t 1 * 128 + 1 * (j 1).val) = _
  rw [hi.1, hi.2, Nat.one_mul, Nat.one_mul, Nat.zero_mul, Nat.zero_add, Nat.mul_comm _ 128]
  rfl

/-- The block of the gate's argument a point reads. -/
theorem blk_z (t : Fin cfg0.N) (j : S512x512.Idx) :
    (X0_3 m c t : Vec 𝕀 S512x512 .bf16) j = zOf (V m c main_arg3) (512 * (t.val % 16) + (j 0).val) (512 * (t.val / 16) + (j 1).val) := by
  have hi := (index_in t).2.2.2
  have ht : t.val < 32 := t.isLt
  have h0 : (j 0).val < 512 := (j 0).isLt
  have h1 : (j 1).val < 512 := (j 1).isLt
  unfold X0_3 Pipeline.Window.fill
  rw [dif_pos (moved0_3 t j), zOf, dif_pos ⟨by omega, by omega⟩]
  unfold iblk
  rw [View.read_apply]
  have e0 : win0_3.index t 0 * 512 + 1 * (j 0).val = 512 * (t.val % 16) + (j 0).val := by rw [hi.1]; omega
  have e1 : win0_3.index t 1 * 512 + 1 * (j 1).val = 1024 + (512 * (t.val / 16) + (j 1).val) := by rw [hi.2]; omega
  refine congrArg (V m c main_arg3) ?_
  funext a
  apply Fin.ext
  match a with
  | ⟨0, _⟩ => exact e0
  | ⟨1, _⟩ => exact e1

/-- The array of the output, from the blocks the points leave. -/
theorem array_o (F : ℕ → ℕ → EReal)
    (h : ∀ t : Fin cfg0.N, (outsAt0 m c t).1 = fun y => F (512 * (t.val % 16) + (y 0).val) (512 * (t.val / 16) + (y 1).val)) :
    (dats m 0 c).arrAt 4 cfg0.N = (fun y => F (y 0).val (y 1).val : Vec 𝕀 S8192x1024 .f32) := by
  refine (dats m 0 c).arrAt_eq_of_cover 4 _ (fun t _ => ?_) fun i => ?_
  · have hi := (index_out t).1
    rw [Value.flushed4, h t]
    funext j
    rw [View.read_apply]
    show F (512 * (t.val % 16) + (j 0).val) (512 * (t.val / 16) + (j 1).val)
      = F (win0_4.index t 0 * 512 + 1 * (j 0).val) (win0_4.index t 1 * 512 + 1 * (j 1).val)
    rw [hi.1, hi.2, Nat.one_mul, Nat.one_mul, Nat.mul_comm _ 512, Nat.mul_comm _ 512]
  · have h0 : (i 0 : ℕ) < 8192 := (i 0).isLt
    have h1 : (i 1 : ℕ) < 1024 := (i 1).isLt
    let t : Fin cfg0.N := ⟨16 * ((i 1 : ℕ) / 512) + (i 0 : ℕ) / 512, by show _ < 32; omega⟩
    have hi := (index_out t).1
    have ht : t.val = 16 * ((i 1 : ℕ) / 512) + (i 0 : ℕ) / 512 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0 : ℕ) ∧ (i 0 : ℕ) < win0_4.index t 0 * 512 + 512; rw [hi.1]; omega
    | ⟨1, _⟩ => show win0_4.index t 1 * 512 ≤ (i 1 : ℕ) ∧ (i 1 : ℕ) < win0_4.index t 1 * 512 + 512; rw [hi.2]; omega

/-- The array of the gated output, from the blocks the points leave. -/
theorem array_g (F : ℕ → ℕ → EReal)
    (h : ∀ t : Fin cfg0.N, (outsAt0 m c t).2.2 = fun y => F (512 * (t.val % 16) + (y 0).val) (512 * (t.val / 16) + (y 1).val)) :
    (dats m 0 c).arrAt 6 cfg0.N = (fun y => F (y 0).val (y 1).val : Vec 𝕀 S8192x1024 .bf16) := by
  refine (dats m 0 c).arrAt_eq_of_cover 6 _ (fun t _ => ?_) fun i => ?_
  · have hi := (index_out t).2.2
    rw [Value.flushed6, h t]
    funext j
    rw [View.read_apply]
    show F (512 * (t.val % 16) + (j 0).val) (512 * (t.val / 16) + (j 1).val)
      = F (win0_6.index t 0 * 512 + 1 * (j 0).val) (win0_6.index t 1 * 512 + 1 * (j 1).val)
    rw [hi.1, hi.2, Nat.one_mul, Nat.one_mul, Nat.mul_comm _ 512, Nat.mul_comm _ 512]
  · have h0 : (i 0 : ℕ) < 8192 := (i 0).isLt
    have h1 : (i 1 : ℕ) < 1024 := (i 1).isLt
    let t : Fin cfg0.N := ⟨16 * ((i 1 : ℕ) / 512) + (i 0 : ℕ) / 512, by show _ < 32; omega⟩
    have hi := (index_out t).2.2
    have ht : t.val = 16 * ((i 1 : ℕ) / 512) + (i 0 : ℕ) / 512 := rfl
    refine ⟨t, flush0_6 t, ?_⟩
    show i ∈ ((View.whole main_v0_2).slice (win0_6.rect t)).set
    rw [View.set_slice_whole, Rect.mem_set_unit]
    intro a
    match a with
    | ⟨0, _⟩ => show win0_6.index t 0 * 512 ≤ (i 0 : ℕ) ∧ (i 0 : ℕ) < win0_6.index t 0 * 512 + 512; rw [hi.1]; omega
    | ⟨1, _⟩ => show win0_6.index t 1 * 512 ≤ (i 1 : ℕ) ∧ (i 1 : ℕ) < win0_6.index t 1 * 512 + 512; rw [hi.2]; omega

/-- The array of the logarithms, from the blocks the points leave. -/
theorem array_l (L : ℕ → ℕ → ℝ) (h : ∀ t : Fin cfg0.N, (outsAt0 m c t).2.1 = re3 (lseBlk L (t.val % 16) (t.val / 16))) :
    (dats m 0 c).arrAt 5 cfg0.N = (re3 fun b r j => L (8 * b + j) r : Vec 𝕀 S2x8192x8 .f32) := by
  refine (dats m 0 c).arrAt_eq_of_cover 5 _ (fun t _ => ?_) fun i => ?_
  · have hi := (index_out t).2.1
    rw [Value.flushed5, h t]
    funext j
    rw [View.read_apply]
    have h0 : (j 0).val < 1 := (j 0).isLt
    have h1 : (j 1).val < 512 := (j 1).isLt
    have h2 : (j 2).val < 8 := (j 2).isLt
    show ((L (8 * (t.val / 16) + (j 2).val) (512 * (t.val % 16) + (j 1).val) : ℝ) : EReal)
      = ((L (8 * (win0_5.index t 0 * 1 + 1 * (j 0).val) + (win0_5.index t 2 * 8 + 1 * (j 2).val)) (win0_5.index t 1 * 512 + 1 * (j 1).val) : ℝ) : EReal)
    rw [hi.1, hi.2.1, hi.2.2]
    congr 2 <;> omega
  · have h0 : (i 0 : ℕ) < 2 := (i 0).isLt
    have h1 : (i 1 : ℕ) < 8192 := (i 1).isLt
    have h2 : (i 2 : ℕ) < 8 := (i 2).isLt
    let t : Fin cfg0.N := ⟨16 * (i 0 : ℕ) + (i 1 : ℕ) / 512, by show _ < 32; omega⟩
    have hi := (index_out t).2.1
    have ht : t.val = 16 * (i 0 : ℕ) + (i 1 : ℕ) / 512 := rfl
    refine ⟨t, flush0_5 t, ?_⟩
    show i ∈ ((View.whole main_v0_1).slice (win0_5.rect t)).set
    rw [View.set_slice_whole, Rect.mem_set_unit]
    intro a
    match a with
    | ⟨0, _⟩ => show win0_5.index t 0 * 1 ≤ (i 0 : ℕ) ∧ (i 0 : ℕ) < win0_5.index t 0 * 1 + 1; rw [hi.1]; omega
    | ⟨1, _⟩ => show win0_5.index t 1 * 512 ≤ (i 1 : ℕ) ∧ (i 1 : ℕ) < win0_5.index t 1 * 512 + 512; rw [hi.2.1]; omega
    | ⟨2, _⟩ => show win0_5.index t 2 * 8 ≤ (i 2 : ℕ) ∧ (i 2 : ℕ) < win0_5.index t 2 * 8 + 8; rw [hi.2.2]; omega

variable (Q K : ℕ → ℕ → ℝ) (V' : ℕ → ℕ → EReal) (hq : V m c main_arg0 = re2 Q) (hk : V m c main_arg1 = re2 K) (hv : V m c main_arg2 = ex2 V')
include hq hk hv

/-- The output after the run. -/
theorem final_o : (dats m 0 c).arrAt 4 cfg0.N = (ex2 (outE Q K V') : Vec 𝕀 S8192x1024 .f32) :=
  array_o (outE Q K V') fun t => by
    simp only [outsAt0]
    exact out_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _)
      Q K V' (t.val % 16) (t.val / 16) (iblk m c 0 t) (iblk m c 1 t) (iblk m c 2 t) (X0_3 m c t) (blk_q Q hq t) (blk_k K hk t) (blk_v V' hv t)

/-- The logarithms after the run. -/
theorem final_l : (dats m 0 c).arrAt 5 cfg0.N = (re3 fun b r j => lse Q K (8 * b + j) r : Vec 𝕀 S2x8192x8 .f32) :=
  array_l (lse Q K) fun t => by
    simp only [outsAt0]
    exact out_l c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _)
      Q K V' (t.val % 16) (t.val / 16) (iblk m c 0 t) (iblk m c 1 t) (iblk m c 2 t) (X0_3 m c t) (blk_q Q hq t) (blk_k K hk t) (blk_v V' hv t)

/-- The gated output after the run. -/
theorem final_g : (dats m 0 c).arrAt 6 cfg0.N
    = (fun y => outE Q K V' (y 0).val (y 1).val * gate (zOf (V m c main_arg3) (y 0).val (y 1).val) : Vec 𝕀 S8192x1024 .bf16) :=
  array_g (fun r d => outE Q K V' r d * gate (zOf (V m c main_arg3) r d)) fun t => by
    simp only [outsAt0]
    exact (out_g c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _)
      Q K V' (t.val % 16) (t.val / 16) (iblk m c 0 t) (iblk m c 1 t) (iblk m c 2 t) (X0_3 m c t) (blk_q Q hq t) (blk_k K hk t) (blk_v V' hv t)).trans
      (funext fun y => congrArg (_ * gate ·) (blk_z t y))

end

end Cert.AttnForward

end
-- ==== Proof.ForwardClaim.lean ====
/- The forward attention's values against its reference: both are the attention's functions of Spec, the gated output the
   output times the gate's argument through the sigmoid. -/
module

public import proofs.«01_k».proof.Proof.ForwardFinal
public import proofs.«01_k».proof.Proof.Finite
public import proofs.«01_k».proof.Proof.Saved
public import proofs.«01_k».proof.Proof.Gen.ForwardIdeal.Value
public import proofs.«01_k».proof.Proof.Gen.ForwardReferenceIdeal
public import proofs.«01_k».proof.Proof.Gen.ForwardReferenceIdeal.Run
public import Idealize.ShloMosaic.Adequacy
public import Idealize.ShloMosaic.Init

@[expose] public section

set_option maxRecDepth 16384

noncomputable section

namespace Cert.AttnForward

open Finset Idealize.ShloMosaic Idealize.SL.Sem Idealize.ShloMosaic.TcCoe Idealize.ShloMosaic.Tactic Cert.Attn

local notation "𝕀" => Idealize.ShloMosaic.Ideal

/-- The precondition's side conditions. -/
theorem preFacts : Cert.Pre_finite2.Facts where
  bitsLt_bf16_f32 := by decide
  bcast_S_S8192x1024 := Cert.ReferenceIdeal.Gen.bcast_S_S8192x1024
  bcast_S_S8448x256 := by decide

section

open Cert.ForwardIdeal

/-- The real arrays the precondition names, beside the values. -/
theorem pre_real (m : (ℓ : Loc nD τ sig) → Buf (Elt 𝕀) ℓ) (h : Cert.Pre_ForwardIdeal_finite2 (hPre_finite2 := preFacts) m) (c : Dev nD) :
    ∃ (Q K : ℕ → ℕ → ℝ) (V : ℕ → ℕ → EReal),
      (m ((c.tc : Thread nD τ).loc main_arg0) : FVec 𝕀 S8192x1024 .bf16) = re2 Q
      ∧ (m ((c.tc : Thread nD τ).loc main_arg1) : FVec 𝕀 S8448x256 .bf16) = re2 K
      ∧ (m ((c.tc : Thread nD τ).loc main_arg2) : FVec 𝕀 S8448x256 .bf16) = ex2 V := by
  obtain ⟨h0, h1⟩ := h c
  obtain ⟨Q, hQ⟩ := exists_re2 (a := 8192) (b := 1024) (m ((c.tc : Thread nD τ).loc main_arg0)) (real_of_test _ _ _ h0)
  obtain ⟨K, hK⟩ := exists_re2 (a := 8448) (b := 256) (m ((c.tc : Thread nD τ).loc main_arg1)) (real_of_test _ _ _ h1)
  obtain ⟨W, hW⟩ := exists_ex2 (a := 8448) (b := 256) (m ((c.tc : Thread nD τ).loc main_arg2))
  exact ⟨Q, K, W, hQ, hK, hW⟩

end

section

open Cert.ForwardReferenceIdeal Cert.ForwardReferenceIdeal.Gen

/-- The attention output, as the host writes it, of real queries and keys. -/
theorem hO_ex (Q K : ℕ → ℕ → ℝ) (V : ℕ → ℕ → EReal) : hO (re2 Q) (re2 K) (ex2 V) = ex2 (outE Q K V) := by
  unfold hO
  rw [hP_eq]
  funext j
  idx_vars j
  pointwise [hK]
  simp only [re4_ix4, ex2_ix2]
  rw [outE, Finset.sum_range]
  refine sum_congr rfl fun n _ => ?_
  rw [mul_comm, show 4 * ((j1 : ℕ) / 256) + j1 / 64 % 4 = j1 / 64 by omega, Nat.mul_comm _ 64]

/-- The gated output as the host writes it, of the output and the projections. -/
def hGated (o : FVec 𝕀 S8192x1024 .f32) (x3 : FVec 𝕀 S8448x2560 .bf16) : FVec 𝕀 S8192x1024 .bf16 :=
  truncf .bf16 (mulf o (mulf (extf .f32 (extractStridedSlice S8192x1024 ![0, 1024] x3 slices_S8448x2560_S8192x1024_0_1024) bitsLt_bf16_f32)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extf .f32 (extractStridedSlice S8192x1024 ![0, 1024] x3 slices_S8448x2560_S8192x1024_0_1024) bitsLt_bf16_f32))))))) bitsLt_bf16_f32

/-- The gate's argument, at an element. -/
theorem slice_z (x3 : FVec 𝕀 S8448x2560 .bf16) (j : S8192x1024.Idx) :
    (extractStridedSlice S8192x1024 ![0, 1024] x3 slices_S8448x2560_S8192x1024_0_1024 j : EReal) = zOf x3 (j 0).val (j 1).val := by
  have h0 : (j 0).val < 8192 := (j 0).isLt
  have h1 : (j 1).val < 1024 := (j 1).isLt
  have h : (j 0).val < 8448 ∧ 1024 + (j 1).val < 2560 := ⟨by omega, by omega⟩
  unfold zOf
  rw [dif_pos h]
  refine congrArg x3 ?_
  funext k
  refine Fin.ext ?_
  fin_cases k
  · show 0 + (j 0).val = (j 0).val
    omega
  · rfl

/-- The gated output is the output times the gate. -/
theorem hGated_eq (o : FVec 𝕀 S8192x1024 .f32) (x3 : FVec 𝕀 S8448x2560 .bf16) :
    hGated o x3 = fun j => (o j : EReal) * gate (zOf x3 (j 0).val (j 1).val) := by
  funext j
  show (o j : EReal) * ((extractStridedSlice S8192x1024 ![0, 1024] x3 slices_S8448x2560_S8192x1024_0_1024 j : EReal)
    * Ideal.div (Ideal.ofBits .f32 0x3F800000#32) (Ideal.ofBits .f32 0x3F800000#32
      + Ideal.exp (-(extractStridedSlice S8192x1024 ![0, 1024] x3 slices_S8448x2560_S8192x1024_0_1024 j : EReal)))) = _
  rw [slice_z, Ideal.ofBits_one_f32, gate, zero_sub]

variable (m : (ℓ : Loc nD τ sig) → Buf (Elt 𝕀) ℓ) (c : Dev nD)

/-- The reference's results are those terms of its arguments. -/
theorem reference_run (ρ : Dev nD → PrngReg) : θ_run (defs (F := 𝕀)) (onTc (τ := τ) (main (F := 𝕀))) ⟨m, fun _ => 0, ρ⟩ fun r => ∀ c : Dev nD,
    (r.2.mem ((c.tc : Thread nD τ).loc main_v29) = hO (m ((c.tc : Thread nD τ).loc main_arg0)) (m ((c.tc : Thread nD τ).loc main_arg1)) (m ((c.tc : Thread nD τ).loc main_arg2))
    ∧ r.2.mem ((c.tc : Thread nD τ).loc main_v31) = hLse (m ((c.tc : Thread nD τ).loc main_arg0)) (m ((c.tc : Thread nD τ).loc main_arg1))
    ∧ r.2.mem ((c.tc : Thread nD τ).loc main_v36) = hGated (hO (m ((c.tc : Thread nD τ).loc main_arg0)) (m ((c.tc : Thread nD τ).loc main_arg1)) (m ((c.tc : Thread nD τ).loc main_arg2)))
        (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨⟨(h c).1, (h c).2.1, (h c).2.2.1⟩, (h c).2.2.2⟩) (Cert.ForwardReferenceIdeal.Value.run (F := 𝕀) m ρ)

end

/-- The algebraic claim: both sides are the attention of real queries and keys, the values and the gate's argument as they are. -/
theorem algebraic : Cert.algebraic_ForwardIdeal_ForwardReferenceIdeal_pre_finite2 (hPre_finite2 := preFacts) := by
  intro m ρ m' ρ' hpre hag
  choose Q K V' hq hk hv using pre_real m hpre
  refine ⟨fun c => ex2 (outE (Q c) (K c) (V' c)), fun c => re3 fun b r j => lse (Q c) (K c) (8 * b + j) r,
    fun c y => outE (Q c) (K c) (V' c) (y 0).val (y 1).val
      * gate (zOf (m ((c.tc : Thread Cert.ForwardIdeal.nD Cert.ForwardIdeal.τ).loc Cert.ForwardIdeal.main_arg3)) (y 0).val (y 1).val), ?_, ?_⟩
  · refine (θ_run Cert.ForwardIdeal.defs _ _).mono (fun r h c => ?_) (Cert.ForwardIdeal.Value.run_blocks (F := 𝕀) m ρ)
    obtain ⟨h0, h1, h2, ha⟩ := h c
    exact ⟨h0.trans (final_o (Q c) (K c) (V' c) (hq c) (hk c) (hv c)), h1.trans (final_l (Q c) (K c) (V' c) (hq c) (hk c) (hv c)),
      h2.trans (final_g (Q c) (K c) (V' c) (hq c) (hk c) (hv c)), ha⟩
  · refine (θ_run Cert.ForwardReferenceIdeal.defs _ _).mono (fun r h c => ?_) (reference_run m' ρ')
    obtain ⟨⟨h0, h1, h2⟩, ha⟩ := h c
    obtain ⟨a0, a1, a2, a3⟩ := hag c
    refine ⟨h0.trans ?_, h1.trans ?_, h2.trans ?_, ha⟩
    · rw [a0, a1, a2, hq c, hk c, hv c]
      exact hO_ex (Q c) (K c) (V' c)
    · rw [a0, a1, hq c, hk c]
      exact hLse_eq (Q c) (K c)
    · rw [a0, a1, a2, a3, hq c, hk c, hv c, hGated_eq, hO_ex]
      rfl

/-- The reference terminates with its arguments as they were; it has no semaphores. -/
theorem frame_reference : Cert.quiescent_ForwardReferenceIdeal := fun m ρ _ =>
  (θ_run Cert.ForwardReferenceIdeal.defs _ _).mono (fun r h => ⟨fun c => (h c).2,
      Idealize.ShloMosaic.sem_eq_zero_of_no_sems (by decide) r.2⟩) (reference_run m ρ)

end Cert.AttnForward

end
-- ==== Proof.lean ====
module

public import proofs.«01_k».proof.Defs
public import proofs.«01_k».proof.Proof.ProductForward
public import proofs.«01_k».proof.Proof.ProductDx
public import proofs.«01_k».proof.Proof.ProductDw
public import proofs.«01_k».proof.Proof.Modulation
public import proofs.«01_k».proof.Proof.Gate
public import proofs.«01_k».proof.Proof.InGrad
public import proofs.«01_k».proof.Proof.Adam
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardIdeal.Value
public import proofs.«01_k».proof.Proof.Gen.ForwardReferenceIdeal
public import proofs.«01_k».proof.Proof.Gen.ForwardReferenceIdeal.Run
public import proofs.«01_k».proof.Proof.Gen.ReferenceIdeal.Run
public import proofs.«01_k».proof.Proof.Gen.AttnInDw
public import proofs.«01_k».proof.Proof.Gen.AttnInDw.Frame
public import proofs.«01_k».proof.Proof.Gen.AttnInDwIdeal
public import proofs.«01_k».proof.Proof.Gen.AttnInDwIdeal.Frame
public import proofs.«01_k».proof.Proof.Gen.AttnInDwIdeal.Value
public import proofs.«01_k».proof.Proof.Gen.AttnInDwRefIdeal
public import proofs.«01_k».proof.Proof.Gen.AttnInDwRefIdeal.Run
public import proofs.«01_k».proof.Proof.Gen.AttnInDx
public import proofs.«01_k».proof.Proof.Gen.AttnInDx.Frame
public import proofs.«01_k».proof.Proof.Gen.AttnInDxIdeal
public import proofs.«01_k».proof.Proof.Gen.AttnInDxIdeal.Frame
public import proofs.«01_k».proof.Proof.Gen.AttnInDxIdeal.Value
public import proofs.«01_k».proof.Proof.Gen.AttnInDxRefIdeal
public import proofs.«01_k».proof.Proof.Gen.AttnInDxRefIdeal.Run
public import proofs.«01_k».proof.Proof.Gen.AttnOutDw
public import proofs.«01_k».proof.Proof.Gen.AttnOutDw.Frame
public import proofs.«01_k».proof.Proof.Gen.AttnOutDwIdeal
public import proofs.«01_k».proof.Proof.Gen.AttnOutDwIdeal.Frame
public import proofs.«01_k».proof.Proof.Gen.AttnOutDwIdeal.Value
public import proofs.«01_k».proof.Proof.Gen.AttnOutDwRefIdeal
public import proofs.«01_k».proof.Proof.Gen.AttnOutDwRefIdeal.Run
public import proofs.«01_k».proof.Proof.Gen.AttnOutDx
public import proofs.«01_k».proof.Proof.Gen.AttnOutDx.Frame
public import proofs.«01_k».proof.Proof.Gen.AttnOutDxIdeal
public import proofs.«01_k».proof.Proof.Gen.AttnOutDxIdeal.Frame
public import proofs.«01_k».proof.Proof.Gen.AttnOutDxIdeal.Value
public import proofs.«01_k».proof.Proof.Gen.AttnOutDxRefIdeal
public import proofs.«01_k».proof.Proof.Gen.AttnOutDxRefIdeal.Run
public import proofs.«01_k».proof.Proof.Gen.SsmInDw
public import proofs.«01_k».proof.Proof.Gen.SsmInDw.Frame
public import proofs.«01_k».proof.Proof.Gen.SsmInDwIdeal
public import proofs.«01_k».proof.Proof.Gen.SsmInDwIdeal.Frame
public import proofs.«01_k».proof.Proof.Gen.SsmInDwIdeal.Value
public import proofs.«01_k».proof.Proof.Gen.SsmInDwRefIdeal
public import proofs.«01_k».proof.Proof.Gen.SsmInDwRefIdeal.Run
public import proofs.«01_k».proof.Proof.Gen.SsmInDx
public import proofs.«01_k».proof.Proof.Gen.SsmInDx.Frame
public import proofs.«01_k».proof.Proof.Gen.SsmInDxIdeal
public import proofs.«01_k».proof.Proof.Gen.SsmInDxIdeal.Frame
public import proofs.«01_k».proof.Proof.Gen.SsmInDxIdeal.Value
public import proofs.«01_k».proof.Proof.Gen.SsmInDxRefIdeal
public import proofs.«01_k».proof.Proof.Gen.SsmInDxRefIdeal.Run
public import proofs.«01_k».proof.Proof.Gen.SsmOutDw
public import proofs.«01_k».proof.Proof.Gen.SsmOutDw.Frame
public import proofs.«01_k».proof.Proof.Gen.SsmOutDwIdeal
public import proofs.«01_k».proof.Proof.Gen.SsmOutDwIdeal.Frame
public import proofs.«01_k».proof.Proof.Gen.SsmOutDwIdeal.Value
public import proofs.«01_k».proof.Proof.Gen.SsmOutDwRefIdeal
public import proofs.«01_k».proof.Proof.Gen.SsmOutDwRefIdeal.Run
public import proofs.«01_k».proof.Proof.Gen.SsmOutDx
public import proofs.«01_k».proof.Proof.Gen.SsmOutDx.Frame
public import proofs.«01_k».proof.Proof.Gen.SsmOutDxIdeal
public import proofs.«01_k».proof.Proof.Gen.SsmOutDxIdeal.Frame
public import proofs.«01_k».proof.Proof.Gen.SsmOutDxIdeal.Value
public import proofs.«01_k».proof.Proof.Gen.SsmOutDxRefIdeal
public import proofs.«01_k».proof.Proof.Gen.SsmOutDxRefIdeal.Run
public import proofs.«01_k».proof.Proof.Gen.AttnIn
public import proofs.«01_k».proof.Proof.Gen.AttnIn.Frame
public import proofs.«01_k».proof.Proof.Gen.AttnInIdeal
public import proofs.«01_k».proof.Proof.Gen.AttnInIdeal.Frame
public import proofs.«01_k».proof.Proof.Gen.AttnInIdeal.Value
public import proofs.«01_k».proof.Proof.Gen.AttnInRefIdeal
public import proofs.«01_k».proof.Proof.Gen.AttnInRefIdeal.Run
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.SsmIn
public import proofs.«01_k».proof.Proof.Gen.SsmIn.Frame
public import proofs.«01_k».proof.Proof.Gen.SsmInIdeal
public import proofs.«01_k».proof.Proof.Gen.SsmInIdeal.Frame
public import proofs.«01_k».proof.Proof.Gen.SsmInIdeal.Value
public import proofs.«01_k».proof.Proof.Gen.SsmInRefIdeal
public import proofs.«01_k».proof.Proof.Gen.SsmInRefIdeal.Run
public import proofs.«01_k».proof.Proof.Gen.SsmGlu
public import proofs.«01_k».proof.Proof.Gen.SsmGlu.Frame
public import proofs.«01_k».proof.Proof.Gen.SsmGluIdeal
public import proofs.«01_k».proof.Proof.Gen.SsmGluIdeal.Frame
public import proofs.«01_k».proof.Proof.Gen.SsmGluIdeal.Value
public import proofs.«01_k».proof.Proof.Gen.SsmGluRefIdeal
public import proofs.«01_k».proof.Proof.Gen.SsmGluRefIdeal.Run
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Frame
public import proofs.«01_k».proof.Proof.Gen.SsmOutIdeal.Value
public import proofs.«01_k».proof.Proof.Gen.SsmOutRefIdeal
public import proofs.«01_k».proof.Proof.Gen.SsmOutRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModDx
public import proofs.«01_k».proof.Proof.Gen.ModDx.Frame
public import proofs.«01_k».proof.Proof.Gen.ModDxIdeal
public import proofs.«01_k».proof.Proof.Gen.ModDxIdeal.Frame
public import proofs.«01_k».proof.Proof.Gen.ModDxIdeal.Value
public import proofs.«01_k».proof.Proof.Gen.ModDxRefIdeal
public import proofs.«01_k».proof.Proof.Gen.ModDxRefIdeal.Run
public import proofs.«01_k».proof.Proof.Gen.ModDw
public import proofs.«01_k».proof.Proof.Gen.ModDw.Frame
public import proofs.«01_k».proof.Proof.Gen.ModDwIdeal
public import proofs.«01_k».proof.Proof.Gen.ModDwIdeal.Frame
public import proofs.«01_k».proof.Proof.Gen.ModDwIdeal.Value
public import proofs.«01_k».proof.Proof.Gen.ModDwRefIdeal
public import proofs.«01_k».proof.Proof.Gen.ModDwRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.InGrad
public import proofs.«01_k».proof.Proof.Gen.InGrad.Frame
public import proofs.«01_k».proof.Proof.Gen.InGradIdeal
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.CondSilu
public import proofs.«01_k».proof.Proof.Gen.CondSilu.Frame
public import proofs.«01_k».proof.Proof.Gen.CondSiluIdeal
public import proofs.«01_k».proof.Proof.Gen.CondSiluIdeal.Frame
public import proofs.«01_k».proof.Proof.Gen.CondSiluIdeal.Value
public import proofs.«01_k».proof.Proof.Gen.CondSiluRefIdeal
public import proofs.«01_k».proof.Proof.Gen.CondSiluRefIdeal.Run
public import proofs.«01_k».proof.Proof.Gen.AdamSsmIn
public import proofs.«01_k».proof.Proof.Gen.AdamSsmIn.Frame
public import proofs.«01_k».proof.Proof.Gen.AdamSsmInIdeal
public import proofs.«01_k».proof.Proof.Gen.AdamSsmInIdeal.Frame
public import proofs.«01_k».proof.Proof.Gen.AdamSsmInIdeal.Value
public import proofs.«01_k».proof.Proof.Gen.AdamSsmInRefIdeal
public import proofs.«01_k».proof.Proof.Gen.AdamSsmInRefIdeal.Run
public import proofs.«01_k».proof.Proof.Gen.AdamAttnIn
public import proofs.«01_k».proof.Proof.Gen.AdamAttnIn.Frame
public import proofs.«01_k».proof.Proof.Gen.AdamAttnInIdeal
public import proofs.«01_k».proof.Proof.Gen.AdamAttnInIdeal.Frame
public import proofs.«01_k».proof.Proof.Gen.AdamAttnInIdeal.Value
public import proofs.«01_k».proof.Proof.Gen.AdamAttnInRefIdeal
public import proofs.«01_k».proof.Proof.Gen.AdamAttnInRefIdeal.Run
public import proofs.«01_k».proof.Proof.Gen.AdamRows
public import proofs.«01_k».proof.Proof.Gen.AdamRows.Frame
public import proofs.«01_k».proof.Proof.Gen.AdamRowsIdeal
public import proofs.«01_k».proof.Proof.Gen.AdamRowsIdeal.Frame
public import proofs.«01_k».proof.Proof.Gen.AdamRowsIdeal.Value
public import proofs.«01_k».proof.Proof.Gen.AdamRowsRefIdeal
public import proofs.«01_k».proof.Proof.Gen.AdamRowsRefIdeal.Run
public import proofs.«01_k».proof.Proof.Gen.AdamMod
public import proofs.«01_k».proof.Proof.Gen.AdamMod.Frame
public import proofs.«01_k».proof.Proof.Gen.AdamModIdeal
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Final
public import proofs.«01_k».proof.Proof.HostBackward
public import proofs.«01_k».proof.Proof.Finite
public import proofs.«01_k».proof.Proof.ForwardClaim
public import Idealize.ShloMosaic.Adequacy
public import Idealize.ShloMosaic.Init

@[expose] public section

set_option maxRecDepth 16384

noncomputable section

namespace Cert.Attn

open Idealize.ShloMosaic Idealize.SL.Sem Idealize.ShloMosaic.TcCoe

local notation "𝕀" => Idealize.ShloMosaic.Ideal

section Kernel

open Cert.KernelIdeal Cert.KernelIdeal.Gen

/-- Under the precondition the call finds real arrays, and the reference the same ones. -/
theorem entry_of_real (m : (ℓ : Loc nD τ sig) → Buf (Elt 𝕀) ℓ) (c : Dev nD) (Q K V' Z G : ℕ → ℕ → ℝ)
    (hq : (m ((c.tc : Thread nD τ).loc main_arg0) : FVec 𝕀 S8192x1024 .bf16) = re2 Q)
    (hk : (m ((c.tc : Thread nD τ).loc main_arg1) : FVec 𝕀 S8448x256 .bf16) = re2 K)
    (hv : (m ((c.tc : Thread nD τ).loc main_arg2) : FVec 𝕀 S8448x256 .bf16) = re2 V')
    (hz : ∀ (r : Fin 8448) (d : Fin 2560), r.val < 8192 → 1024 ≤ d.val → d.val < 2048 →
      (m ((c.tc : Thread nD τ).loc main_arg3) : FVec 𝕀 S8448x2560 .bf16) (ix2 r d) = ((Z r.val (d.val - 1024) : ℝ) : EReal))
    (hg : (m ((c.tc : Thread nD τ).loc main_arg4) : FVec 𝕀 S8192x1024 .bf16) = re2 G) : Entry m c Q K V' Z G where
  q := (V_main_arg0 m c).trans hq
  k := (V_main_arg1 m c).trans hk
  v := (V_main_arg2 m c).trans hv
  g := (V_main_arg4 m c).trans hg
  z := fun r d h1 h2 h3 => (congrFun (V_main_arg3 m c) (ix2 r d)).trans (hz r d h1 h2 h3)
  o := (V_o m c).trans (by rw [hq, hk, hv]; exact hO_eq Q K V')
  l := (V_l m c).trans (by rw [hq, hk]; exact hLse_eq Q K)

end Kernel

/-- The algebraic claim: both sides are the real functions of Spec. -/
theorem algebraic : Cert.algebraic_KernelIdeal_ReferenceIdeal_pre_finite (hPre_finite := preFacts) := by
  intro m ρ m' ρ' hpre hag
  choose Q K V' Z G hq hk hv hz hg using pre_real m hpre
  have H := fun c => entry_of_real m c (Q c) (K c) (V' c) (Z c) (G c) (hq c) (hk c) (hv c) (hz c) (hg c)
  refine ⟨fun c => re2 (dq (Q c) (K c) (V' c) (Z c) (G c)), fun c => re2 (dk (Q c) (K c) (V' c) (Z c) (G c)),
    fun c => re2 (dv (Q c) (K c) (Z c) (G c)), fun c => re2 (dz (Q c) (K c) (V' c) (Z c) (G c)), ?_, ?_⟩
  · refine (θ_run Cert.KernelIdeal.defs _ _).mono (fun r h c => ?_) (Cert.KernelIdeal.Value.run_blocks (F := 𝕀) m ρ)
    obtain ⟨h0, h1, h2, h3, ha⟩ := h c
    exact ⟨h0.trans (final_dq (H c)), h1.trans (final_dk (H c)), h2.trans (final_dv (H c)), h3.trans (final_dz (H c)), ha⟩
  · refine (θ_run Cert.ReferenceIdeal.defs _ _).mono (fun r h c => ?_) (Cert.ReferenceIdeal.Value.run (F := 𝕀) m' ρ')
    obtain ⟨h0, h1, h2, h3, ha⟩ := h c
    obtain ⟨a0, a1, a2, a3, a4⟩ := hag c
    refine ⟨(h0.trans (res_dq m' c)).trans ?_, (h1.trans (res_dk m' c)).trans ?_, h2.trans ?_,
      (h3.trans (res_dz m' c)).trans ?_, ha⟩
    · rw [a0, a1, a2, a3, a4, hq c, hk c, hv c, hg c]
      exact hDQ_eq (Q c) (K c) (V' c) (Z c) (G c) (hZ_eq _ _ (hz c))
    · rw [a0, a1, a2, a3, a4, hq c, hk c, hv c, hg c]
      exact hDK_eq (Q c) (K c) (V' c) (Z c) (G c) (hZ_eq _ _ (hz c))
    · show hDV (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
      rw [a0, a1, a3, a4, hq c, hk c, hg c]
      exact hDV_eq (Q c) (K c) (Z c) (G c) (hZ_eq _ _ (hz c))
    · rw [a0, a1, a2, a3, a4, hq c, hk c, hv c, hg c]
      exact hDZ_eq (Q c) (K c) (V' c) (Z c) (G c) (hZ_eq _ _ (hz c))

/-- The reference terminates with its arguments as they were; it has no semaphores. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := 𝕀) m ρ)

end Cert.Attn

namespace Cert.Proof

/-- Every claim of the certificate. -/
theorem claim : Cert.Claim :=
  ⟨Cert.Kernel.Gen.facts, Cert.KernelIdeal.Gen.facts, Cert.ReferenceIdeal.Gen.facts,
    Cert.Forward.Gen.facts, Cert.ForwardIdeal.Gen.facts, Cert.ForwardReferenceIdeal.Gen.facts,
    Cert.AttnInDw.Gen.facts, Cert.AttnInDwIdeal.Gen.facts, Cert.AttnInDwRefIdeal.Gen.facts,
    Cert.AttnInDx.Gen.facts, Cert.AttnInDxIdeal.Gen.facts, Cert.AttnInDxRefIdeal.Gen.facts,
    Cert.AttnOutDw.Gen.facts, Cert.AttnOutDwIdeal.Gen.facts, Cert.AttnOutDwRefIdeal.Gen.facts,
    Cert.AttnOutDx.Gen.facts, Cert.AttnOutDxIdeal.Gen.facts, Cert.AttnOutDxRefIdeal.Gen.facts,
    Cert.SsmInDw.Gen.facts, Cert.SsmInDwIdeal.Gen.facts, Cert.SsmInDwRefIdeal.Gen.facts,
    Cert.SsmInDx.Gen.facts, Cert.SsmInDxIdeal.Gen.facts, Cert.SsmInDxRefIdeal.Gen.facts,
    Cert.SsmOutDw.Gen.facts, Cert.SsmOutDwIdeal.Gen.facts, Cert.SsmOutDwRefIdeal.Gen.facts,
    Cert.SsmOutDx.Gen.facts, Cert.SsmOutDxIdeal.Gen.facts, Cert.SsmOutDxRefIdeal.Gen.facts,
    Cert.AttnIn.Gen.facts, Cert.AttnInIdeal.Gen.facts, Cert.AttnInRefIdeal.Gen.facts,
    Cert.AttnOut.Gen.facts, Cert.AttnOutIdeal.Gen.facts, Cert.AttnOutRefIdeal.Gen.facts,
    Cert.SsmIn.Gen.facts, Cert.SsmInIdeal.Gen.facts, Cert.SsmInRefIdeal.Gen.facts,
    Cert.SsmGlu.Gen.facts, Cert.SsmGluIdeal.Gen.facts, Cert.SsmGluRefIdeal.Gen.facts,
    Cert.SsmOut.Gen.facts, Cert.SsmOutIdeal.Gen.facts, Cert.SsmOutRefIdeal.Gen.facts,
    Cert.Mod.Gen.facts, Cert.ModIdeal.Gen.facts, Cert.ModRefIdeal.Gen.facts,
    Cert.ModDx.Gen.facts, Cert.ModDxIdeal.Gen.facts, Cert.ModDxRefIdeal.Gen.facts,
    Cert.ModDw.Gen.facts, Cert.ModDwIdeal.Gen.facts, Cert.ModDwRefIdeal.Gen.facts,
    Cert.Gate.Gen.facts, Cert.GateIdeal.Gen.facts, Cert.GateRefIdeal.Gen.facts,
    Cert.InGrad.Gen.facts, Cert.InGradIdeal.Gen.facts, Cert.InGradRefIdeal.Gen.facts,
    Cert.CondSilu.Gen.facts, Cert.CondSiluIdeal.Gen.facts, Cert.CondSiluRefIdeal.Gen.facts,
    Cert.AdamSsmIn.Gen.facts, Cert.AdamSsmInIdeal.Gen.facts, Cert.AdamSsmInRefIdeal.Gen.facts,
    Cert.AdamAttnIn.Gen.facts, Cert.AdamAttnInIdeal.Gen.facts, Cert.AdamAttnInRefIdeal.Gen.facts,
    Cert.AdamRows.Gen.facts, Cert.AdamRowsIdeal.Gen.facts, Cert.AdamRowsRefIdeal.Gen.facts,
    Cert.AdamMod.Gen.facts, Cert.AdamModIdeal.Gen.facts, Cert.AdamModRefIdeal.Gen.facts,
    Cert.AdamSmall.Gen.facts, Cert.AdamSmallIdeal.Gen.facts, Cert.AdamSmallRefIdeal.Gen.facts,
    Cert.Attn.preFacts, Cert.AttnForward.preFacts,
    fun m ρ _ => Cert.Kernel.Gen.frame m ρ, fun m ρ _ => Cert.KernelIdeal.Gen.frame m ρ,
    fun m ρ _ => Cert.KernelIdeal.Gen.frame m ρ, Cert.Attn.frame_reference,
    fun m ρ _ => Cert.Attn.frame_reference m ρ trivial,
    fun m ρ _ => Cert.Forward.Gen.frame m ρ, fun m ρ _ => Cert.ForwardIdeal.Gen.frame m ρ,
    fun m ρ _ => Cert.ForwardIdeal.Gen.frame m ρ, Cert.AttnForward.frame_reference,
    fun m ρ _ => Cert.AttnForward.frame_reference m ρ trivial,
    fun m ρ _ => Cert.AttnInDw.Gen.frame m ρ, fun m ρ _ => Cert.AttnInDwIdeal.Gen.frame m ρ, Cert.AttnInDwIdeal.Tiles.frame_reference,
    fun m ρ _ => Cert.AttnInDx.Gen.frame m ρ, fun m ρ _ => Cert.AttnInDxIdeal.Gen.frame m ρ, Cert.AttnInDxIdeal.Tiles.frame_reference,
    fun m ρ _ => Cert.AttnOutDw.Gen.frame m ρ, fun m ρ _ => Cert.AttnOutDwIdeal.Gen.frame m ρ, Cert.AttnOutDwIdeal.Tiles.frame_reference,
    fun m ρ _ => Cert.AttnOutDx.Gen.frame m ρ, fun m ρ _ => Cert.AttnOutDxIdeal.Gen.frame m ρ, Cert.AttnOutDxIdeal.Tiles.frame_reference,
    fun m ρ _ => Cert.SsmInDw.Gen.frame m ρ, fun m ρ _ => Cert.SsmInDwIdeal.Gen.frame m ρ, Cert.SsmInDwIdeal.Tiles.frame_reference,
    fun m ρ _ => Cert.SsmInDx.Gen.frame m ρ, fun m ρ _ => Cert.SsmInDxIdeal.Gen.frame m ρ, Cert.SsmInDxIdeal.Tiles.frame_reference,
    fun m ρ _ => Cert.SsmOutDw.Gen.frame m ρ, fun m ρ _ => Cert.SsmOutDwIdeal.Gen.frame m ρ, Cert.SsmOutDwIdeal.Tiles.frame_reference,
    fun m ρ _ => Cert.SsmOutDx.Gen.frame m ρ, fun m ρ _ => Cert.SsmOutDxIdeal.Gen.frame m ρ, Cert.SsmOutDxIdeal.Tiles.frame_reference,
    fun m ρ _ => Cert.AttnIn.Gen.frame m ρ, fun m ρ _ => Cert.AttnInIdeal.Gen.frame m ρ, Cert.AttnInIdeal.Tiles.frame_reference,
    fun m ρ _ => Cert.AttnOut.Gen.frame m ρ, fun m ρ _ => Cert.AttnOutIdeal.Gen.frame m ρ, Cert.AttnOutIdeal.Tiles.frame_reference,
    fun m ρ _ => Cert.SsmIn.Gen.frame m ρ, fun m ρ _ => Cert.SsmInIdeal.Gen.frame m ρ, Cert.SsmInIdeal.Tiles.frame_reference,
    fun m ρ _ => Cert.SsmGlu.Gen.frame m ρ, fun m ρ _ => Cert.SsmGluIdeal.Gen.frame m ρ, Cert.SsmGluIdeal.Tiles.frame_reference,
    fun m ρ _ => Cert.SsmOut.Gen.frame m ρ, fun m ρ _ => Cert.SsmOutIdeal.Gen.frame m ρ, Cert.SsmOutIdeal.Tiles.frame_reference,
    fun m ρ _ => Cert.Mod.Gen.frame m ρ, fun m ρ _ => Cert.ModIdeal.Gen.frame m ρ, Cert.ModIdeal.Whole.frame_reference,
    fun m ρ _ => Cert.ModDx.Gen.frame m ρ, fun m ρ _ => Cert.ModDxIdeal.Gen.frame m ρ, Cert.ModDxIdeal.Whole.frame_reference,
    fun m ρ _ => Cert.ModDw.Gen.frame m ρ, fun m ρ _ => Cert.ModDwIdeal.Gen.frame m ρ, Cert.ModDwIdeal.Whole.frame_reference,
    fun m ρ _ => Cert.Gate.Gen.frame m ρ, fun m ρ _ => Cert.GateIdeal.Gen.frame m ρ, Cert.GateIdeal.Entries.frame_reference,
    fun m ρ _ => Cert.InGrad.Gen.frame m ρ, fun m ρ _ => Cert.InGradIdeal.Gen.frame m ρ, Cert.InGradIdeal.Entries.frame_reference,
    fun m ρ _ => Cert.CondSilu.Gen.frame m ρ, fun m ρ _ => Cert.CondSiluIdeal.Gen.frame m ρ, Cert.CondSiluIdeal.Entries.frame_reference,
    fun m ρ _ => Cert.AdamSsmIn.Gen.frame m ρ, fun m ρ _ => Cert.AdamSsmInIdeal.Gen.frame m ρ, Cert.AdamSsmInIdeal.Entries.frame_reference,
    fun m ρ _ => Cert.AdamAttnIn.Gen.frame m ρ, fun m ρ _ => Cert.AdamAttnInIdeal.Gen.frame m ρ, Cert.AdamAttnInIdeal.Entries.frame_reference,
    fun m ρ _ => Cert.AdamRows.Gen.frame m ρ, fun m ρ _ => Cert.AdamRowsIdeal.Gen.frame m ρ, Cert.AdamRowsIdeal.Entries.frame_reference,
    fun m ρ _ => Cert.AdamMod.Gen.frame m ρ, fun m ρ _ => Cert.AdamModIdeal.Gen.frame m ρ, Cert.AdamModIdeal.Entries.frame_reference,
    fun m ρ _ => Cert.AdamSmall.Gen.frame m ρ, fun m ρ _ => Cert.AdamSmallIdeal.Gen.frame m ρ, Cert.AdamSmallIdeal.Entries.frame_reference,
    trivial, Cert.Attn.algebraic,
    trivial, Cert.AttnForward.algebraic,
    trivial, Cert.AttnInDwIdeal.Tiles.algebraic,
    trivial, Cert.AttnInDxIdeal.Tiles.algebraic,
    trivial, Cert.AttnOutDwIdeal.Tiles.algebraic,
    trivial, Cert.AttnOutDxIdeal.Tiles.algebraic,
    trivial, Cert.SsmInDwIdeal.Tiles.algebraic,
    trivial, Cert.SsmInDxIdeal.Tiles.algebraic,
    trivial, Cert.SsmOutDwIdeal.Tiles.algebraic,
    trivial, Cert.SsmOutDxIdeal.Tiles.algebraic,
    trivial, Cert.AttnInIdeal.Tiles.algebraic,
    trivial, Cert.AttnOutIdeal.Tiles.algebraic,
    trivial, Cert.SsmInIdeal.Tiles.algebraic,
    trivial, Cert.SsmGluIdeal.Tiles.algebraic,
    trivial, Cert.SsmOutIdeal.Tiles.algebraic,
    trivial, Cert.ModIdeal.Whole.algebraic,
    trivial, Cert.ModDxIdeal.Whole.algebraic,
    trivial, Cert.ModDwIdeal.Whole.algebraic,
    trivial, Cert.GateIdeal.Entries.algebraic,
    trivial, Cert.InGradIdeal.Entries.algebraic,
    trivial, Cert.CondSiluIdeal.Entries.algebraic,
    Cert.AdamSsmInIdeal.Entries.preserves, Cert.AdamSsmInIdeal.Entries.algebraic,
    Cert.AdamAttnInIdeal.Entries.preserves, Cert.AdamAttnInIdeal.Entries.algebraic,
    Cert.AdamRowsIdeal.Entries.preserves, Cert.AdamRowsIdeal.Entries.algebraic,
    Cert.AdamModIdeal.Entries.preserves, Cert.AdamModIdeal.Entries.algebraic,
    Cert.AdamSmallIdeal.Entries.preserves, Cert.AdamSmallIdeal.Entries.algebraic⟩

end Cert.Proof

end
